-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_dxc [hPre_finite_dxc : Cert.Pre_finite_dxc.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_dxc.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_dxc [hPre_finite_dxc : Cert.Pre_finite_dxc.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_dxc.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Kernel11Ideal_pre_finite_dxc [hKernel11Ideal : Cert.Kernel11Ideal.Facts] [hPre_finite_dxc : Cert.Pre_finite_dxc.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_dxc m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Reference11Ideal_pre_finite_dxc [hReference11Ideal : Cert.Reference11Ideal.Facts] [hPre_finite_dxc : Cert.Pre_finite_dxc.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_dxc m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v264_0)) (v1 : (c : Dev Cert.KernelIdeal.nD) → Buf (Elt Ideal) ((c.tc : Thread Cert.KernelIdeal.nD Cert.KernelIdeal.τ).loc Cert.KernelIdeal.main_v264_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v264_0) = v0 c
          ∧ r.2.mem ((c.tc : Thread Cert.KernelIdeal.nD Cert.KernelIdeal.τ).loc Cert.KernelIdeal.main_v264_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v56) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal_pre_finite_dxc [hKernel11Ideal : Cert.Kernel11Ideal.Facts] [hReference11Ideal : Cert.Reference11Ideal.Facts] [hPre_finite_dxc : Cert.Pre_finite_dxc.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_dxc m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v70) = v0 c
          ∧ r.2.mem ((c.tc : Thread Cert.Reference11Ideal.nD Cert.Reference11Ideal.τ).loc Cert.Reference11Ideal.main_v69) = v1 c
          ∧ r.2.mem ((c.tc : Thread Cert.Reference11Ideal.nD Cert.Reference11Ideal.τ).loc Cert.Reference11Ideal.main_v71) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_dxc : Cert.Pre_finite_dxc.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite_dxc (hKernel11Ideal := hKernel11Ideal) (hPre_finite_dxc := hPre_finite_dxc)
    ∧ quiescent_Reference11Ideal (hReference11Ideal := hReference11Ideal)
    ∧ quiescent_Reference11Ideal_pre_finite_dxc (hReference11Ideal := hReference11Ideal) (hPre_finite_dxc := hPre_finite_dxc)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite_dxc (hKernel11Ideal := hKernel11Ideal) (hReference11Ideal := hReference11Ideal) (hPre_finite_dxc := hPre_finite_dxc)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_dxc.lean ====
abbrev S8192x7168 : Shape := ⟨2, ![8192, 7168]⟩
abbrev S4x3072 : Shape := ⟨2, ![4, 3072]⟩
abbrev S1x3072 : Shape := ⟨2, ![1, 3072]⟩
abbrev S8192x3072 : Shape := ⟨2, ![8192, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel

variable [Facts]

def fn {F : FTy → Type} [FloatOps F] (main_arg0 : FVec F S8192x7168 .f32) (main_arg1 : FVec F S4x3072 .f32) (main_arg2 : FVec F S1x3072 .f32) (main_arg3 : FVec F S8192x3072 .f32) : IVec S_ 1 :=
  let main_v0 : FVec F S8192x3072 .f32 := Host.absf main_arg3
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  main_v3
-- ==== Kernel.lean ====
abbrev S8192x7168 : Shape := ⟨2, ![8192, 7168]⟩
abbrev S128 : Shape := ⟨1, ![128]⟩
abbrev S8192x2048 : Shape := ⟨2, ![8192, 2048]⟩
abbrev S4 : Shape := ⟨1, ![4]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S4x64 : Shape := ⟨2, ![4, 64]⟩
abbrev S4x64x1 : Shape := ⟨3, ![4, 64, 1]⟩
abbrev S8192 : Shape := ⟨1, ![8192]⟩
abbrev S8192x1 : Shape := ⟨2, ![8192, 1]⟩
abbrev S8192x64 : Shape := ⟨2, ![8192, 64]⟩
abbrev S8192x128 : Shape := ⟨2, ![8192, 128]⟩
abbrev S1x128 : Shape := ⟨2, ![1, 128]⟩
abbrev S1x8192x2048 : Shape := ⟨3, ![1, 8192, 2048]⟩
abbrev S1x8192x512 : Shape := ⟨3, ![1, 8192, 512]⟩
abbrev S1x8192x4x128 : Shape := ⟨4, ![1, 8192, 4, 128]⟩
abbrev S1x8192x1x64 : Shape := ⟨4, ![1, 8192, 1, 64]⟩
abbrev S1x8192x4x64 : Shape := ⟨4, ![1, 8192, 4, 64]⟩
abbrev S1x128x64x4x128 : Shape := ⟨5, ![1, 128, 64, 4, 128]⟩
abbrev S128x1x64x4x128 : Shape := ⟨5, ![128, 1, 64, 4, 128]⟩
abbrev S128x64x4x128 : Shape := ⟨4, ![128, 64, 4, 128]⟩
abbrev S1x64x4x1 : Shape := ⟨4, ![1, 64, 4, 1]⟩
abbrev S128x4x128x128 : Shape := ⟨4, ![128, 4, 128, 128]⟩
abbrev S32x4x4x128x128 : Shape := ⟨5, ![32, 4, 4, 128, 128]⟩
abbrev S32x1x4x128x128 : Shape := ⟨5, ![32, 1, 4, 128, 128]⟩
abbrev S32x4x128x128 : Shape := ⟨4, ![32, 4, 128, 128]⟩
abbrev S1x4x1x1 : Shape := ⟨4, ![1, 4, 1, 1]⟩
abbrev S1x4x128x128 : Shape := ⟨4, ![1, 4, 128, 128]⟩
abbrev S16x4x128x128 : Shape := ⟨4, ![16, 4, 128, 128]⟩
abbrev S4x32x128x128 : Shape := ⟨4, ![4, 32, 128, 128]⟩
abbrev S256x512 : Shape := ⟨2, ![256, 512]⟩
abbrev S256x128 : Shape := ⟨2, ![256, 128]⟩
abbrev S4x1x128x128 : Shape := ⟨4, ![4, 1, 128, 128]⟩
abbrev S256x2048 : Shape := ⟨2, ![256, 2048]⟩
abbrev S4x128x128 : Shape := ⟨3, ![4, 128, 128]⟩
abbrev S64x128 : Shape := ⟨2, ![64, 128]⟩
abbrev S1x64x1 : Shape := ⟨3, ![1, 64, 1]⟩
abbrev S1x1x1 : Shape := ⟨3, ![1, 1, 1]⟩
abbrev S1x1 : Shape := ⟨2, ![1, 1]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 293
  | .vmem => 25
  | .smem => 0
  | _ => 0

abbrev hbmTy0_0 (i : Nat) : BufTy := match i % 128 with
  | 0 => ⟨S8192x7168, .f32⟩
  | 1 => ⟨S128, .f32⟩
  | 2 => ⟨S8192x2048, .f32⟩
  | 3 => ⟨S8192x7168, .bf16⟩
  | 4 => ⟨S4, .f32⟩
  | 5 => ⟨S_, .f32⟩
  | 6 => ⟨S4, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S64, .f32⟩
  | 16 => ⟨S64x1, .f32⟩
  | 17 => ⟨S1x64, .f32⟩
  | 18 => ⟨S64x64, .f32⟩
  | 19 => ⟨S64x64, .f32⟩
  | 20 => ⟨S64x64, .f32⟩
  | 21 => ⟨S1x64x64, .f32⟩
  | 22 => ⟨S_, .f32⟩
  | 23 => ⟨S1x64x64, .f32⟩
  | 24 => ⟨S1x64x64, .i1⟩
  | 25 => ⟨S_, .f32⟩
  | 26 => ⟨S64x64, .f32⟩
  | 27 => ⟨S64x64, .f32⟩
  | 28 => ⟨S1x64x64, .f32⟩
  | 29 => ⟨S4x1x1, .f32⟩
  | 30 => ⟨S4x64x64, .f32⟩
  | 31 => ⟨S4x64x64, .f32⟩
  | 32 => ⟨S4x64x64, .f32⟩
  | 33 => ⟨S4x64x64, .f32⟩
  | 34 => ⟨S_, .f32⟩
  | 35 => ⟨S_, .f32⟩
  | 36 => ⟨S4x64x64, .i1⟩
  | 37 => ⟨S4x64x64, .f32⟩
  | 38 => ⟨S4x64x64, .f32⟩
  | 39 => ⟨S64x1, .f32⟩
  | 40 => ⟨S_, .f32⟩
  | 41 => ⟨S64x1, .f32⟩
  | 42 => ⟨S64x1, .f32⟩
  | 43 => ⟨S1x4, .f32⟩
  | 44 => ⟨S64x4, .f32⟩
  | 45 => ⟨S64x4, .f32⟩
  | 46 => ⟨S64x4, .f32⟩
  | 47 => ⟨S64x4, .f32⟩
  | 48 => ⟨S4x64, .f32⟩
  | 49 => ⟨S4x64x1, .f32⟩
  | 50 => ⟨S_, .f32⟩
  | 51 => ⟨S64, .f32⟩
  | 52 => ⟨S64, .f32⟩
  | 53 => ⟨S64x1, .f32⟩
  | 54 => ⟨S1x4, .f32⟩
  | 55 => ⟨S64x4, .f32⟩
  | 56 => ⟨S64x4, .f32⟩
  | 57 => ⟨S64x4, .f32⟩
  | 58 => ⟨S64x4, .f32⟩
  | 59 => ⟨S4x64, .f32⟩
  | 60 => ⟨S4x64x1, .f32⟩
  | 61 => ⟨S_, .f32⟩
  | 62 => ⟨S4, .f32⟩
  | 63 => ⟨S4, .f32⟩
  | 64 => ⟨S4, .f32⟩
  | 65 => ⟨S4x1x1, .f32⟩
  | 66 => ⟨S64, .f32⟩
  | 67 => ⟨S64, .f32⟩
  | 68 => ⟨S_, .f32⟩
  | 69 => ⟨S64, .f32⟩
  | 70 => ⟨S64, .f32⟩
  | 71 => ⟨S_, .f32⟩
  | 72 => ⟨S64, .f32⟩
  | 73 => ⟨S64, .f32⟩
  | 74 => ⟨S8192, .i32⟩
  | 75 => ⟨S8192, .f32⟩
  | 76 => ⟨S8192x1, .f32⟩
  | 77 => ⟨S1x64, .f32⟩
  | 78 => ⟨S8192x64, .f32⟩
  | 79 => ⟨S8192x64, .f32⟩
  | 80 => ⟨S8192x64, .f32⟩
  | 81 => ⟨S8192x64, .f32⟩
  | 82 => ⟨S8192x64, .f32⟩
  | 83 => ⟨S8192x128, .f32⟩
  | 84 => ⟨S8192x64, .f32⟩
  | 85 => ⟨S8192x128, .f32⟩
  | 86 => ⟨S1x128, .f32⟩
  | 87 => ⟨S8192x2048, .f32⟩
  | 88 => ⟨S1x8192x2048, .f32⟩
  | 89 => ⟨S1x8192x512, .f32⟩
  | 90 => ⟨S1x8192x512, .f32⟩
  | 91 => ⟨S1x8192x512, .f32⟩
  | 92 => ⟨S1x8192x512, .f32⟩
  | 93 => ⟨S8192, .i32⟩
  | 94 => ⟨S1x8192x4x128, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | 103 => ⟨S8192, .f32⟩
  | 104 => ⟨S8192x1, .f32⟩
  | 105 => ⟨S1x64, .f32⟩
  | 106 => ⟨S8192x64, .f32⟩
  | 107 => ⟨S8192x64, .f32⟩
  | 108 => ⟨S8192x64, .f32⟩
  | 109 => ⟨S8192x64, .f32⟩
  | 110 => ⟨S1x8192x1x64, .f32⟩
  | 111 => ⟨S8192x64, .f32⟩
  | 112 => ⟨S1x8192x1x64, .f32⟩
  | 113 => ⟨S1x8192x4x64, .f32⟩
  | 114 => ⟨S1x8192x4x64, .f32⟩
  | 115 => ⟨S1x8192x4x64, .f32⟩
  | 116 => ⟨S1x8192x4x64, .f32⟩
  | 117 => ⟨S1x8192x4x64, .f32⟩
  | 118 => ⟨S1x8192x4x64, .f32⟩
  | 119 => ⟨S1x8192x4x64, .f32⟩
  | 120 => ⟨S1x8192x4x64, .f32⟩
  | 121 => ⟨S1x8192x4x64, .f32⟩
  | 122 => ⟨S1x8192x4x64, .f32⟩
  | 123 => ⟨S1x8192x4x64, .f32⟩
  | 124 => ⟨S1x8192x4x64, .f32⟩
  | 125 => ⟨S1x8192x4x128, .f32⟩
  | 126 => ⟨S4, .f32⟩
  | 127 => ⟨S_, .f32⟩
  | _ => ⟨S8192x7168, .f32⟩

abbrev hbmTy0_1 (i : Nat) : BufTy := match i % 128 with
  | 0 => ⟨S4, .f32⟩
  | 1 => ⟨S4, .f32⟩
  | 2 => ⟨S_, .f32⟩
  | 3 => ⟨S4, .f32⟩
  | 4 => ⟨S4, .f32⟩
  | 5 => ⟨S_, .f32⟩
  | 6 => ⟨S4, .f32⟩
  | 7 => ⟨S4, .f32⟩
  | 8 => ⟨S4, .f32⟩
  | 9 => ⟨S64, .f32⟩
  | 10 => ⟨S_, .f32⟩
  | 11 => ⟨S64, .f32⟩
  | 12 => ⟨S64, .f32⟩
  | 13 => ⟨S64x1, .f32⟩
  | 14 => ⟨S1x4, .f32⟩
  | 15 => ⟨S64x4, .f32⟩
  | 16 => ⟨S64x4, .f32⟩
  | 17 => ⟨S64x4, .f32⟩
  | 18 => ⟨S64x4, .f32⟩
  | 19 => ⟨S_, .f32⟩
  | 20 => ⟨S4, .f32⟩
  | 21 => ⟨S4, .f32⟩
  | 22 => ⟨S4, .f32⟩
  | 23 => ⟨S_, .f32⟩
  | 24 => ⟨S1x8192x4x128, .f32⟩
  | 25 => ⟨S1x8192x4x128, .f32⟩
  | 26 => ⟨S1x128x64x4x128, .f32⟩
  | 27 => ⟨S128x1x64x4x128, .f32⟩
  | 28 => ⟨S128x64x4x128, .f32⟩
  | 29 => ⟨S1x8192x4x128, .f32⟩
  | 30 => ⟨S1x128x64x4x128, .f32⟩
  | 31 => ⟨S128x1x64x4x128, .f32⟩
  | 32 => ⟨S128x64x4x128, .f32⟩
  | 33 => ⟨S1x64x4x1, .f32⟩
  | 34 => ⟨S128x64x4x128, .f32⟩
  | 35 => ⟨S128x64x4x128, .f32⟩
  | 36 => ⟨S128x4x128x128, .f32⟩
  | 37 => ⟨S32x4x4x128x128, .f32⟩
  | 38 => ⟨S32x1x4x128x128, .f32⟩
  | 39 => ⟨S32x4x128x128, .f32⟩
  | 40 => ⟨S1x4x1x1, .f32⟩
  | 41 => ⟨S32x4x128x128, .f32⟩
  | 42 => ⟨S32x4x128x128, .f32⟩
  | 43 => ⟨S32x1x4x128x128, .f32⟩
  | 44 => ⟨S32x4x128x128, .f32⟩
  | 45 => ⟨S32x4x128x128, .f32⟩
  | 46 => ⟨S4, .f32⟩
  | 47 => ⟨S1x4x1x1, .f32⟩
  | 48 => ⟨S32x4x128x128, .f32⟩
  | 49 => ⟨S32x4x128x128, .f32⟩
  | 50 => ⟨S32x1x4x128x128, .f32⟩
  | 51 => ⟨S32x4x128x128, .f32⟩
  | 52 => ⟨S32x4x128x128, .f32⟩
  | 53 => ⟨S4, .f32⟩
  | 54 => ⟨S1x4x1x1, .f32⟩
  | 55 => ⟨S32x4x128x128, .f32⟩
  | 56 => ⟨S32x4x128x128, .f32⟩
  | 57 => ⟨S32x1x4x128x128, .f32⟩
  | 58 => ⟨S32x4x128x128, .f32⟩
  | 59 => ⟨S32x4x128x128, .f32⟩
  | 60 => ⟨S4, .f32⟩
  | 61 => ⟨S1x4x1x1, .f32⟩
  | 62 => ⟨S1x4x128x128, .f32⟩
  | 63 => ⟨S1x4x128x128, .f32⟩
  | 64 => ⟨S_, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x4x128x128, .f32⟩
  | 70 => ⟨S1x4x128x128, .f32⟩
  | 71 => ⟨S1x4x128x128, .f32⟩
  | 72 => ⟨S1x4x128x128, .f32⟩
  | 73 => ⟨S1x4x128x128, .f32⟩
  | 74 => ⟨S1x4x128x128, .f32⟩
  | 75 => ⟨S1x4x128x128, .f32⟩
  | 76 => ⟨S1x4x128x128, .f32⟩
  | 77 => ⟨S1x4x128x128, .f32⟩
  | 78 => ⟨S1x4x128x128, .f32⟩
  | 79 => ⟨S1x4x128x128, .f32⟩
  | 80 => ⟨S1x4x128x128, .f32⟩
  | 81 => ⟨S1x4x128x128, .f32⟩
  | 82 => ⟨S1x4x128x128, .f32⟩
  | 83 => ⟨S1x4x128x128, .f32⟩
  | 84 => ⟨S1x4x128x128, .f32⟩
  | 85 => ⟨S1x4x128x128, .f32⟩
  | 86 => ⟨S1x4x128x128, .f32⟩
  | 87 => ⟨S1x4x128x128, .f32⟩
  | 88 => ⟨S1x4x128x128, .f32⟩
  | 89 => ⟨S1x4x128x128, .f32⟩
  | 90 => ⟨S1x4x128x128, .f32⟩
  | 91 => ⟨S1x4x128x128, .f32⟩
  | 92 => ⟨S1x4x128x128, .f32⟩
  | 93 => ⟨S1x4x128x128, .f32⟩
  | 94 => ⟨S1x4x128x128, .f32⟩
  | 95 => ⟨S1x4x128x128, .f32⟩
  | 96 => ⟨S1x4x128x128, .f32⟩
  | 97 => ⟨S1x4x128x128, .f32⟩
  | 98 => ⟨S1x4x128x128, .f32⟩
  | 99 => ⟨S1x4x128x128, .f32⟩
  | 100 => ⟨S1x4x128x128, .f32⟩
  | 101 => ⟨S1x4x128x128, .f32⟩
  | 102 => ⟨S1x4x128x128, .f32⟩
  | 103 => ⟨S1x4x128x128, .f32⟩
  | 104 => ⟨S1x4x128x128, .f32⟩
  | 105 => ⟨S1x4x128x128, .f32⟩
  | 106 => ⟨S1x4x128x128, .f32⟩
  | 107 => ⟨S1x4x128x128, .f32⟩
  | 108 => ⟨S1x4x128x128, .f32⟩
  | 109 => ⟨S1x4x128x128, .f32⟩
  | 110 => ⟨S1x4x128x128, .f32⟩
  | 111 => ⟨S1x4x128x128, .f32⟩
  | 112 => ⟨S1x4x128x128, .f32⟩
  | 113 => ⟨S1x4x128x128, .f32⟩
  | 114 => ⟨S1x4x128x128, .f32⟩
  | 115 => ⟨S1x4x128x128, .f32⟩
  | 116 => ⟨S1x4x128x128, .f32⟩
  | 117 => ⟨S1x4x128x128, .f32⟩
  | 118 => ⟨S1x4x128x128, .f32⟩
  | 119 => ⟨S1x4x128x128, .f32⟩
  | 120 => ⟨S1x4x128x128, .f32⟩
  | 121 => ⟨S1x4x128x128, .f32⟩
  | 122 => ⟨S1x4x128x128, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x128, .f32⟩
  | _ => ⟨S8192x7168, .f32⟩

abbrev hbmTy0_2 (i : Nat) : BufTy := match i % 128 with
  | 0 => ⟨S1x4x128x128, .f32⟩
  | 1 => ⟨S1x4x128x128, .f32⟩
  | 2 => ⟨S1x4x128x128, .f32⟩
  | 3 => ⟨S1x4x128x128, .f32⟩
  | 4 => ⟨S1x4x128x128, .f32⟩
  | 5 => ⟨S1x4x128x128, .f32⟩
  | 6 => ⟨S1x4x128x128, .f32⟩
  | 7 => ⟨S1x4x128x128, .f32⟩
  | 8 => ⟨S1x4x128x128, .f32⟩
  | 9 => ⟨S1x4x128x128, .f32⟩
  | 10 => ⟨S1x4x128x128, .f32⟩
  | 11 => ⟨S1x4x128x128, .f32⟩
  | 12 => ⟨S1x4x128x128, .f32⟩
  | 13 => ⟨S1x4x128x128, .f32⟩
  | 14 => ⟨S1x4x128x128, .f32⟩
  | 15 => ⟨S1x4x128x128, .f32⟩
  | 16 => ⟨S1x4x128x128, .f32⟩
  | 17 => ⟨S1x4x128x128, .f32⟩
  | 18 => ⟨S1x4x128x128, .f32⟩
  | 19 => ⟨S1x4x128x128, .f32⟩
  | 20 => ⟨S1x4x128x128, .f32⟩
  | 21 => ⟨S1x4x128x128, .f32⟩
  | 22 => ⟨S1x4x128x128, .f32⟩
  | 23 => ⟨S1x4x128x128, .f32⟩
  | 24 => ⟨S1x4x128x128, .f32⟩
  | 25 => ⟨S1x4x128x128, .f32⟩
  | 26 => ⟨S1x4x128x128, .f32⟩
  | 27 => ⟨S1x4x128x128, .f32⟩
  | 28 => ⟨S1x4x128x128, .f32⟩
  | 29 => ⟨S1x4x128x128, .f32⟩
  | 30 => ⟨S1x4x128x128, .f32⟩
  | 31 => ⟨S16x4x128x128, .f32⟩
  | 32 => ⟨S16x4x128x128, .f32⟩
  | 33 => ⟨S32x4x128x128, .f32⟩
  | 34 => ⟨S4x32x128x128, .f32⟩
  | 35 => ⟨S8192x7168, .bf16⟩
  | 36 => ⟨S1x128, .f32⟩
  | _ => ⟨S8192x7168, .f32⟩

abbrev hbmTy (i : Nat) : BufTy := match i / 128 with
  | 0 => hbmTy0_0 i
  | 1 => hbmTy0_1 i
  | 2 => hbmTy0_2 i
  | _ => ⟨S8192x7168, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S4x64x64, .f32⟩
  | .local _ .vmem, ⟨13, _⟩ => ⟨S4x64x1, .f32⟩
  | .local _ .vmem, ⟨14, _⟩ => ⟨S4x64x1, .f32⟩
  | .local _ .vmem, ⟨15, _⟩ => ⟨S4x1x1, .f32⟩
  | .local _ .vmem, ⟨16, _⟩ => ⟨S1x128, .f32⟩
  | .local _ .vmem, ⟨17, _⟩ => ⟨S4x1x128x128, .f32⟩
  | .local _ .vmem, ⟨18, _⟩ => ⟨S4x1x128x128, .f32⟩
  | .local _ .vmem, ⟨19, _⟩ => ⟨S256x512, .f32⟩
  | .local _ .vmem, ⟨20, _⟩ => ⟨S256x512, .f32⟩
  | .local _ .vmem, ⟨21, _⟩ => ⟨S256x2048, .bf16⟩
  | .local _ .vmem, ⟨22, _⟩ => ⟨S256x2048, .bf16⟩
  | .local _ .vmem, ⟨23, _⟩ => ⟨S1x128, .f32⟩
  | .local _ .vmem, ⟨24, _⟩ => ⟨S4x128x128, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_cst_11 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_cst_12 : Ref sig .tc := ⟨.hbm, 127, rfl⟩
abbrev main_v107 : Ref sig .tc := ⟨.hbm, 128, rfl⟩
abbrev main_v108 : Ref sig .tc := ⟨.hbm, 129, rfl⟩
abbrev main_cst_13 : Ref sig .tc := ⟨.hbm, 130, rfl⟩
abbrev main_v109 : Ref sig .tc := ⟨.hbm, 131, rfl⟩
abbrev main_v110 : Ref sig .tc := ⟨.hbm, 132, rfl⟩
abbrev main_cst_14 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_15 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_16 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_17 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_cst_18 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_v255 : Ref sig .tc := ⟨.hbm, 282, rfl⟩
abbrev main_v256 : Ref sig .tc := ⟨.hbm, 283, rfl⟩
abbrev main_v257 : Ref sig .tc := ⟨.hbm, 284, rfl⟩
abbrev main_v258 : Ref sig .tc := ⟨.hbm, 285, rfl⟩
abbrev main_v259 : Ref sig .tc := ⟨.hbm, 286, rfl⟩
abbrev main_v260 : Ref sig .tc := ⟨.hbm, 287, rfl⟩
abbrev main_v261 : Ref sig .tc := ⟨.hbm, 288, rfl⟩
abbrev main_v262 : Ref sig .tc := ⟨.hbm, 289, rfl⟩
abbrev main_v263 : Ref sig .tc := ⟨.hbm, 290, rfl⟩
abbrev main_v264_0 : Ref sig .tc := ⟨.hbm, 291, rfl⟩
abbrev main_v264_1 : Ref sig .tc := ⟨.hbm, 292, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x7168 : Shape := ⟨2, ![8192, 7168]⟩
abbrev S128 : Shape := ⟨1, ![128]⟩
abbrev S8192x2048 : Shape := ⟨2, ![8192, 2048]⟩
abbrev S1x8192x2048 : Shape := ⟨3, ![1, 8192, 2048]⟩
abbrev S1x8192x512 : Shape := ⟨3, ![1, 8192, 512]⟩
abbrev S8192 : Shape := ⟨1, ![8192]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S4 : Shape := ⟨1, ![4]⟩
abbrev S64x1 : Shape := ⟨2, ![64, 1]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S1x4 : Shape := ⟨2, ![1, 4]⟩
abbrev S64x4 : Shape := ⟨2, ![64, 4]⟩
abbrev S1x4x128x128 : Shape := ⟨4, ![1, 4, 128, 128]⟩
abbrev S1x128x64x4x128 : Shape := ⟨5, ![1, 128, 64, 4, 128]⟩
abbrev S128x1x64x4x128 : Shape := ⟨5, ![128, 1, 64, 4, 128]⟩
abbrev S1x4x64x64 : Shape := ⟨4, ![1, 4, 64, 64]⟩
abbrev S1x64x4x1 : Shape := ⟨4, ![1, 64, 4, 1]⟩
abbrev S1x4x1x1 : Shape := ⟨4, ![1, 4, 1, 1]⟩
abbrev S128x1x4x64x64 : Shape := ⟨5, ![128, 1, 4, 64, 64]⟩
abbrev S128x1x4x128x128 : Shape := ⟨5, ![128, 1, 4, 128, 128]⟩
abbrev S1x1x64x4x128 : Shape := ⟨5, ![1, 1, 64, 4, 128]⟩
abbrev S1x64x4x128 : Shape := ⟨4, ![1, 64, 4, 128]⟩
abbrev S1x4x128x64 : Shape := ⟨4, ![1, 4, 128, 64]⟩
abbrev S1x1x4x64x64 : Shape := ⟨5, ![1, 1, 4, 64, 64]⟩
abbrev S1x1x4x128x128 : Shape := ⟨5, ![1, 1, 4, 128, 128]⟩
abbrev S1x8192x4 : Shape := ⟨3, ![1, 8192, 4]⟩
abbrev S1x8192x4x1 : Shape := ⟨4, ![1, 8192, 4, 1]⟩
abbrev S1x1x1x128 : Shape := ⟨4, ![1, 1, 1, 128]⟩
abbrev S8192x512 : Shape := ⟨2, ![8192, 512]⟩
abbrev S1x128 : Shape := ⟨2, ![1, 128]⟩
abbrev S8192x4 : Shape := ⟨2, ![8192, 4]⟩
abbrev S1x4x64x128 : Shape := ⟨4, ![1, 4, 64, 128]⟩
abbrev S8192x5120 : Shape := ⟨2, ![8192, 5120]⟩

abbrev nBuf : Space → Nat
  | .hbm => 489
  | .vmem => 0
  | .smem => 0
  | _ => 0

abbrev hbmTy0_0 (i : Nat) : BufTy := match i % 128 with
  | 0 => ⟨S8192x7168, .f32⟩
  | 1 => ⟨S128, .f32⟩
  | 2 => ⟨S8192x2048, .f32⟩
  | 3 => ⟨S8192x7168, .bf16⟩
  | 4 => ⟨S8192x2048, .f32⟩
  | 5 => ⟨S1x8192x2048, .f32⟩
  | 6 => ⟨S1x8192x512, .f32⟩
  | 7 => ⟨S1x8192x512, .f32⟩
  | 8 => ⟨S1x8192x512, .f32⟩
  | 9 => ⟨S1x8192x512, .f32⟩
  | 10 => ⟨S8192, .i32⟩
  | 11 => ⟨S1x8192x4x128, .f32⟩
  | 12 => ⟨S64, .f32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S8192, .f32⟩
  | 21 => ⟨S8192x1, .f32⟩
  | 22 => ⟨S1x64, .f32⟩
  | 23 => ⟨S8192x64, .f32⟩
  | 24 => ⟨S8192x64, .f32⟩
  | 25 => ⟨S8192x64, .f32⟩
  | 26 => ⟨S8192x64, .f32⟩
  | 27 => ⟨S1x8192x1x64, .f32⟩
  | 28 => ⟨S8192x64, .f32⟩
  | 29 => ⟨S1x8192x1x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x64, .f32⟩
  | 40 => ⟨S1x8192x4x64, .f32⟩
  | 41 => ⟨S1x8192x4x64, .f32⟩
  | 42 => ⟨S1x8192x4x128, .f32⟩
  | 43 => ⟨S1x8192x4x128, .f32⟩
  | 44 => ⟨S64, .f32⟩
  | 45 => ⟨S64, .f32⟩
  | 46 => ⟨S_, .f32⟩
  | 47 => ⟨S64, .f32⟩
  | 48 => ⟨S64, .f32⟩
  | 49 => ⟨S_, .f32⟩
  | 50 => ⟨S64, .f32⟩
  | 51 => ⟨S64, .f32⟩
  | 52 => ⟨S8192, .f32⟩
  | 53 => ⟨S8192x1, .f32⟩
  | 54 => ⟨S1x64, .f32⟩
  | 55 => ⟨S8192x64, .f32⟩
  | 56 => ⟨S8192x64, .f32⟩
  | 57 => ⟨S8192x64, .f32⟩
  | 58 => ⟨S8192x64, .f32⟩
  | 59 => ⟨S1x8192x1x64, .f32⟩
  | 60 => ⟨S8192x64, .f32⟩
  | 61 => ⟨S1x8192x1x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x64, .f32⟩
  | 72 => ⟨S1x8192x4x64, .f32⟩
  | 73 => ⟨S1x8192x4x64, .f32⟩
  | 74 => ⟨S1x8192x4x128, .f32⟩
  | 75 => ⟨S1x8192x4x128, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S64, .f32⟩
  | 88 => ⟨S64x1, .f32⟩
  | 89 => ⟨S1x64, .f32⟩
  | 90 => ⟨S64x64, .f32⟩
  | 91 => ⟨S64x64, .f32⟩
  | 92 => ⟨S64x64, .f32⟩
  | 93 => ⟨S1x64x64, .f32⟩
  | 94 => ⟨S_, .f32⟩
  | 95 => ⟨S1x64x64, .f32⟩
  | 96 => ⟨S1x64x64, .i1⟩
  | 97 => ⟨S_, .f32⟩
  | 98 => ⟨S64x64, .f32⟩
  | 99 => ⟨S64x64, .f32⟩
  | 100 => ⟨S1x64x64, .f32⟩
  | 101 => ⟨S4x1x1, .f32⟩
  | 102 => ⟨S4x64x64, .f32⟩
  | 103 => ⟨S4x64x64, .f32⟩
  | 104 => ⟨S4x64x64, .f32⟩
  | 105 => ⟨S4x64x64, .f32⟩
  | 106 => ⟨S_, .f32⟩
  | 107 => ⟨S_, .f32⟩
  | 108 => ⟨S4x64x64, .i1⟩
  | 109 => ⟨S4x64x64, .f32⟩
  | 110 => ⟨S4x64x64, .f32⟩
  | 111 => ⟨S64x1, .f32⟩
  | 112 => ⟨S_, .f32⟩
  | 113 => ⟨S64x1, .f32⟩
  | 114 => ⟨S64x1, .f32⟩
  | 115 => ⟨S1x4, .f32⟩
  | 116 => ⟨S64x4, .f32⟩
  | 117 => ⟨S64x4, .f32⟩
  | 118 => ⟨S64x4, .f32⟩
  | 119 => ⟨S64x4, .f32⟩
  | 120 => ⟨S_, .f32⟩
  | 121 => ⟨S64, .f32⟩
  | 122 => ⟨S64, .f32⟩
  | 123 => ⟨S64x1, .f32⟩
  | 124 => ⟨S1x4, .f32⟩
  | 125 => ⟨S64x4, .f32⟩
  | 126 => ⟨S64x4, .f32⟩
  | 127 => ⟨S64x4, .f32⟩
  | _ => ⟨S8192x7168, .f32⟩

abbrev hbmTy0_1 (i : Nat) : BufTy := match i % 128 with
  | 0 => ⟨S64x4, .f32⟩
  | 1 => ⟨S_, .f32⟩
  | 2 => ⟨S4, .f32⟩
  | 3 => ⟨S4, .f32⟩
  | 4 => ⟨S4, .f32⟩
  | 5 => ⟨S_, .f32⟩
  | 6 => ⟨S1x8192x4x128, .f32⟩
  | 7 => ⟨S1x8192x4x128, .f32⟩
  | 8 => ⟨S_, .f32⟩
  | 9 => ⟨S1x4x128x128, .f32⟩
  | 10 => ⟨S1x128x64x4x128, .f32⟩
  | 11 => ⟨S128x1x64x4x128, .f32⟩
  | 12 => ⟨S1x128x64x4x128, .f32⟩
  | 13 => ⟨S128x1x64x4x128, .f32⟩
  | 14 => ⟨S1x128x64x4x128, .f32⟩
  | 15 => ⟨S128x1x64x4x128, .f32⟩
  | 16 => ⟨S1x4x64x64, .f32⟩
  | 17 => ⟨S1x64x4x1, .f32⟩
  | 18 => ⟨S1x4x1x1, .f32⟩
  | 19 => ⟨S1x64x4x1, .f32⟩
  | 20 => ⟨S_, .f32⟩
  | 21 => ⟨S128x1x64x4x128, .f32⟩
  | 22 => ⟨S_, .f32⟩
  | 23 => ⟨S128x1x4x64x64, .f32⟩
  | 24 => ⟨S_, .f32⟩
  | 25 => ⟨S128x1x4x128x128, .f32⟩
  | 26 => ⟨S_, .f32⟩
  | 27 => ⟨S128x1x64x4x128, .f32⟩
  | 28 => ⟨S_, .i32⟩
  | 29 => ⟨S128x1x64x4x128, .f32⟩
  | 30 => ⟨S128x1x64x4x128, .f32⟩
  | 31 => ⟨S128x1x64x4x128, .f32⟩
  | 32 => ⟨S1x4x1x1, .f32⟩
  | 33 => ⟨S1x64x4x1, .f32⟩
  | 34 => ⟨S1x4x64x64, .f32⟩
  | 35 => ⟨S1x64x4x1, .f32⟩
  | 36 => ⟨S_, .i32⟩
  | 37 => ⟨S1x4x128x128, .f32⟩
  | 38 => ⟨S128x1x64x4x128, .f32⟩
  | 39 => ⟨S128x1x4x64x64, .f32⟩
  | 40 => ⟨S128x1x4x128x128, .f32⟩
  | 41 => ⟨S128x1x64x4x128, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1x1x64x4x128, .f32⟩
  | 49 => ⟨S1x64x4x128, .f32⟩
  | 50 => ⟨S_, .i32⟩
  | 51 => ⟨S_, .i32⟩
  | 52 => ⟨S_, .i32⟩
  | 53 => ⟨S_, .i32⟩
  | 54 => ⟨S1x1x64x4x128, .f32⟩
  | 55 => ⟨S1x64x4x128, .f32⟩
  | 56 => ⟨S_, .i32⟩
  | 57 => ⟨S_, .i32⟩
  | 58 => ⟨S_, .i32⟩
  | 59 => ⟨S_, .i32⟩
  | 60 => ⟨S1x1x64x4x128, .f32⟩
  | 61 => ⟨S1x64x4x128, .f32⟩
  | 62 => ⟨S1x4x64x64, .f32⟩
  | 63 => ⟨S1x4x64x64, .f32⟩
  | 64 => ⟨S1x4x128x64, .f32⟩
  | 65 => ⟨S1x64x4x128, .f32⟩
  | 66 => ⟨S1x4x128x64, .f32⟩
  | 67 => ⟨S1x64x4x128, .f32⟩
  | 68 => ⟨S1x64x4x128, .f32⟩
  | 69 => ⟨S1x64x4x128, .f32⟩
  | 70 => ⟨S1x64x4x128, .f32⟩
  | 71 => ⟨S1x4x128x128, .f32⟩
  | 72 => ⟨S1x4x128x128, .f32⟩
  | 73 => ⟨S1x64x4x128, .f32⟩
  | 74 => ⟨S1x64x4x128, .f32⟩
  | 75 => ⟨S1x4x128x128, .f32⟩
  | 76 => ⟨S1x4x128x128, .f32⟩
  | 77 => ⟨S1x1x64x4x128, .f32⟩
  | 78 => ⟨S_, .i32⟩
  | 79 => ⟨S_, .i32⟩
  | 80 => ⟨S_, .i32⟩
  | 81 => ⟨S_, .i32⟩
  | 82 => ⟨S128x1x64x4x128, .f32⟩
  | 83 => ⟨S1x1x4x64x64, .f32⟩
  | 84 => ⟨S_, .i32⟩
  | 85 => ⟨S_, .i32⟩
  | 86 => ⟨S_, .i32⟩
  | 87 => ⟨S_, .i32⟩
  | 88 => ⟨S128x1x4x64x64, .f32⟩
  | 89 => ⟨S1x1x4x128x128, .f32⟩
  | 90 => ⟨S_, .i32⟩
  | 91 => ⟨S_, .i32⟩
  | 92 => ⟨S_, .i32⟩
  | 93 => ⟨S_, .i32⟩
  | 94 => ⟨S128x1x4x128x128, .f32⟩
  | 95 => ⟨S1x1x64x4x128, .f32⟩
  | 96 => ⟨S_, .i32⟩
  | 97 => ⟨S_, .i32⟩
  | 98 => ⟨S_, .i32⟩
  | 99 => ⟨S_, .i32⟩
  | 100 => ⟨S128x1x64x4x128, .f32⟩
  | 101 => ⟨S_, .i32⟩
  | 102 => ⟨S_, .i32⟩
  | 103 => ⟨S1x128x64x4x128, .f32⟩
  | 104 => ⟨S1x8192x4x128, .f32⟩
  | 105 => ⟨S1x8192x4x128, .f32⟩
  | 106 => ⟨S_, .f32⟩
  | 107 => ⟨S1x8192x4, .f32⟩
  | 108 => ⟨S1x8192x4x1, .f32⟩
  | 109 => ⟨S_, .f32⟩
  | 110 => ⟨S1x8192x4x1, .f32⟩
  | 111 => ⟨S1x8192x4x1, .f32⟩
  | 112 => ⟨S_, .f32⟩
  | 113 => ⟨S1x8192x4x1, .f32⟩
  | 114 => ⟨S1x8192x4x1, .f32⟩
  | 115 => ⟨S1x8192x4x1, .f32⟩
  | 116 => ⟨S1x8192x4x1, .f32⟩
  | 117 => ⟨S_, .f32⟩
  | 118 => ⟨S1x8192x4x1, .f32⟩
  | 119 => ⟨S1x8192x4x1, .f32⟩
  | 120 => ⟨S1x8192x4x128, .f32⟩
  | 121 => ⟨S1x8192x4x128, .f32⟩
  | 122 => ⟨S1x1x1x128, .f32⟩
  | 123 => ⟨S1x8192x4x128, .f32⟩
  | 124 => ⟨S1x8192x4x128, .f32⟩
  | 125 => ⟨S1x8192x4x128, .f32⟩
  | 126 => ⟨S1x8192x4x128, .f32⟩
  | 127 => ⟨S1x8192x4x128, .f32⟩
  | _ => ⟨S8192x7168, .f32⟩

abbrev hbmTy0_2 (i : Nat) : BufTy := match i % 128 with
  | 0 => ⟨S_, .f32⟩
  | 1 => ⟨S1x8192x4x128, .f32⟩
  | 2 => ⟨S1x8192x4x128, .f32⟩
  | 3 => ⟨S_, .f32⟩
  | 4 => ⟨S1x8192x4x128, .f32⟩
  | 5 => ⟨S1x8192x4x128, .f32⟩
  | 6 => ⟨S_, .f32⟩
  | 7 => ⟨S1x8192x4x128, .f32⟩
  | 8 => ⟨S1x8192x4x128, .f32⟩
  | 9 => ⟨S1x8192x4x128, .f32⟩
  | 10 => ⟨S1x8192x4x128, .f32⟩
  | 11 => ⟨S1x8192x4x128, .f32⟩
  | 12 => ⟨S1x8192x512, .f32⟩
  | 13 => ⟨S8192x512, .f32⟩
  | 14 => ⟨S1x8192x512, .f32⟩
  | 15 => ⟨S_, .f32⟩
  | 16 => ⟨S1x4x128x128, .f32⟩
  | 17 => ⟨S1x8192x4x128, .f32⟩
  | 18 => ⟨S1x8192x4x128, .f32⟩
  | 19 => ⟨S1x8192x4x128, .f32⟩
  | 20 => ⟨S1x8192x4x128, .f32⟩
  | 21 => ⟨S1x8192x4x128, .f32⟩
  | 22 => ⟨S1x8192x4x128, .f32⟩
  | 23 => ⟨S1x8192x4x128, .f32⟩
  | 24 => ⟨S1x8192x512, .f32⟩
  | 25 => ⟨S1x8192x4x128, .f32⟩
  | 26 => ⟨S_, .f32⟩
  | 27 => ⟨S1x128, .f32⟩
  | 28 => ⟨S1x1x1x128, .f32⟩
  | 29 => ⟨S1x8192x4x128, .f32⟩
  | 30 => ⟨S1x8192x4x128, .f32⟩
  | 31 => ⟨S_, .f32⟩
  | 32 => ⟨S128, .f32⟩
  | 33 => ⟨S1x8192x4x128, .f32⟩
  | 34 => ⟨S_, .f32⟩
  | 35 => ⟨S1x8192x4, .f32⟩
  | 36 => ⟨S1x8192x4x1, .f32⟩
  | 37 => ⟨S1x8192x4x128, .f32⟩
  | 38 => ⟨S1x8192x4x128, .f32⟩
  | 39 => ⟨S1x8192x4x1, .f32⟩
  | 40 => ⟨S_, .f32⟩
  | 41 => ⟨S1x8192x4x1, .f32⟩
  | 42 => ⟨S1x8192x4x1, .f32⟩
  | 43 => ⟨S_, .f32⟩
  | 44 => ⟨S8192x4, .f32⟩
  | 45 => ⟨S1x8192x4, .f32⟩
  | 46 => ⟨S1x8192x4x128, .f32⟩
  | 47 => ⟨S1x8192x4x128, .f32⟩
  | 48 => ⟨S1x8192x4x128, .f32⟩
  | 49 => ⟨S1x8192x4x128, .f32⟩
  | 50 => ⟨S1x8192x4x128, .f32⟩
  | 51 => ⟨S1x128x64x4x128, .f32⟩
  | 52 => ⟨S128x1x64x4x128, .f32⟩
  | 53 => ⟨S_, .f32⟩
  | 54 => ⟨S1x4x128x128, .f32⟩
  | 55 => ⟨S_, .f32⟩
  | 56 => ⟨S128x1x64x4x128, .f32⟩
  | 57 => ⟨S_, .f32⟩
  | 58 => ⟨S128x1x64x4x128, .f32⟩
  | 59 => ⟨S_, .f32⟩
  | 60 => ⟨S128x1x64x4x128, .f32⟩
  | 61 => ⟨S_, .i32⟩
  | 62 => ⟨S128x1x64x4x128, .f32⟩
  | 63 => ⟨S128x1x64x4x128, .f32⟩
  | 64 => ⟨S128x1x64x4x128, .f32⟩
  | 65 => ⟨S128x1x4x64x64, .f32⟩
  | 66 => ⟨S128x1x64x4x128, .f32⟩
  | 67 => ⟨S128x1x4x128x128, .f32⟩
  | 68 => ⟨S128x1x64x4x128, .f32⟩
  | 69 => ⟨S1x4x64x64, .f32⟩
  | 70 => ⟨S1x64x4x1, .f32⟩
  | 71 => ⟨S1x4x1x1, .f32⟩
  | 72 => ⟨S1x64x4x1, .f32⟩
  | 73 => ⟨S_, .i32⟩
  | 74 => ⟨S1x4x128x128, .f32⟩
  | 75 => ⟨S128x1x64x4x128, .f32⟩
  | 76 => ⟨S128x1x64x4x128, .f32⟩
  | 77 => ⟨S128x1x64x4x128, .f32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S1x1x64x4x128, .f32⟩
  | 89 => ⟨S1x64x4x128, .f32⟩
  | 90 => ⟨S_, .i32⟩
  | 91 => ⟨S_, .i32⟩
  | 92 => ⟨S_, .i32⟩
  | 93 => ⟨S_, .i32⟩
  | 94 => ⟨S1x1x64x4x128, .f32⟩
  | 95 => ⟨S1x64x4x128, .f32⟩
  | 96 => ⟨S_, .i32⟩
  | 97 => ⟨S_, .i32⟩
  | 98 => ⟨S_, .i32⟩
  | 99 => ⟨S_, .i32⟩
  | 100 => ⟨S1x1x64x4x128, .f32⟩
  | 101 => ⟨S1x64x4x128, .f32⟩
  | 102 => ⟨S_, .i32⟩
  | 103 => ⟨S_, .i32⟩
  | 104 => ⟨S_, .i32⟩
  | 105 => ⟨S_, .i32⟩
  | 106 => ⟨S1x1x4x64x64, .f32⟩
  | 107 => ⟨S1x4x64x64, .f32⟩
  | 108 => ⟨S_, .i32⟩
  | 109 => ⟨S_, .i32⟩
  | 110 => ⟨S_, .i32⟩
  | 111 => ⟨S_, .i32⟩
  | 112 => ⟨S1x1x64x4x128, .f32⟩
  | 113 => ⟨S1x64x4x128, .f32⟩
  | 114 => ⟨S_, .i32⟩
  | 115 => ⟨S_, .i32⟩
  | 116 => ⟨S_, .i32⟩
  | 117 => ⟨S_, .i32⟩
  | 118 => ⟨S1x1x4x128x128, .f32⟩
  | 119 => ⟨S1x4x128x128, .f32⟩
  | 120 => ⟨S_, .i32⟩
  | 121 => ⟨S_, .i32⟩
  | 122 => ⟨S_, .i32⟩
  | 123 => ⟨S_, .i32⟩
  | 124 => ⟨S1x1x64x4x128, .f32⟩
  | 125 => ⟨S1x64x4x128, .f32⟩
  | 126 => ⟨S1x4x128x64, .f32⟩
  | 127 => ⟨S1x64x4x128, .f32⟩
  | _ => ⟨S8192x7168, .f32⟩

abbrev hbmTy0_3 (i : Nat) : BufTy := match i % 128 with
  | 0 => ⟨S1x4x128x64, .f32⟩
  | 1 => ⟨S1x64x4x128, .f32⟩
  | 2 => ⟨S1x64x4x128, .f32⟩
  | 3 => ⟨S1x64x4x128, .f32⟩
  | 4 => ⟨S1x4x128x128, .f32⟩
  | 5 => ⟨S1x4x128x128, .f32⟩
  | 6 => ⟨S1x64x4x128, .f32⟩
  | 7 => ⟨S1x64x4x128, .f32⟩
  | 8 => ⟨S1x4x128x64, .f32⟩
  | 9 => ⟨S1x4x64x128, .f32⟩
  | 10 => ⟨S1x64x4x128, .f32⟩
  | 11 => ⟨S1x4x128x128, .f32⟩
  | 12 => ⟨S1x4x128x128, .f32⟩
  | 13 => ⟨S1x4x128x128, .f32⟩
  | 14 => ⟨S1x4x128x64, .f32⟩
  | 15 => ⟨S1x4x64x64, .f32⟩
  | 16 => ⟨S1x4x128x64, .f32⟩
  | 17 => ⟨S1x64x4x128, .f32⟩
  | 18 => ⟨S1x64x4x128, .f32⟩
  | 19 => ⟨S1x4x64x64, .f32⟩
  | 20 => ⟨S1x4x64x128, .f32⟩
  | 21 => ⟨S1x64x4x128, .f32⟩
  | 22 => ⟨S1x64x4x128, .f32⟩
  | 23 => ⟨S1x4x64x128, .f32⟩
  | 24 => ⟨S1x64x4x128, .f32⟩
  | 25 => ⟨S1x64x4x128, .f32⟩
  | 26 => ⟨S1x1x64x4x128, .f32⟩
  | 27 => ⟨S_, .i32⟩
  | 28 => ⟨S_, .i32⟩
  | 29 => ⟨S_, .i32⟩
  | 30 => ⟨S_, .i32⟩
  | 31 => ⟨S128x1x64x4x128, .f32⟩
  | 32 => ⟨S1x1x64x4x128, .f32⟩
  | 33 => ⟨S_, .i32⟩
  | 34 => ⟨S_, .i32⟩
  | 35 => ⟨S_, .i32⟩
  | 36 => ⟨S_, .i32⟩
  | 37 => ⟨S128x1x64x4x128, .f32⟩
  | 38 => ⟨S1x1x64x4x128, .f32⟩
  | 39 => ⟨S_, .i32⟩
  | 40 => ⟨S_, .i32⟩
  | 41 => ⟨S_, .i32⟩
  | 42 => ⟨S_, .i32⟩
  | 43 => ⟨S128x1x64x4x128, .f32⟩
  | 44 => ⟨S_, .i32⟩
  | 45 => ⟨S_, .i32⟩
  | 46 => ⟨S1x128x64x4x128, .f32⟩
  | 47 => ⟨S1x8192x4x128, .f32⟩
  | 48 => ⟨S1x128x64x4x128, .f32⟩
  | 49 => ⟨S1x8192x4x128, .f32⟩
  | 50 => ⟨S1x128x64x4x128, .f32⟩
  | 51 => ⟨S1x8192x4x128, .f32⟩
  | 52 => ⟨S_, .f32⟩
  | 53 => ⟨S1x8192x4x128, .f32⟩
  | 54 => ⟨S1x8192x4x128, .f32⟩
  | 55 => ⟨S1x8192x512, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S_, .f32⟩
  | 70 => ⟨S1x8192x4x128, .f32⟩
  | 71 => ⟨S_, .f32⟩
  | 72 => ⟨S1x8192x4x128, .f32⟩
  | 73 => ⟨S1x8192x4x128, .f32⟩
  | 74 => ⟨S1x8192x512, .f32⟩
  | 75 => ⟨S1x8192x4x64, .f32⟩
  | 76 => ⟨S1x8192x4x64, .f32⟩
  | 77 => ⟨S1x8192x4x64, .f32⟩
  | 78 => ⟨S1x8192x4x64, .f32⟩
  | 79 => ⟨S1x8192x4x64, .f32⟩
  | 80 => ⟨S1x8192x4x64, .f32⟩
  | 81 => ⟨S1x8192x4x64, .f32⟩
  | 82 => ⟨S1x8192x4x64, .f32⟩
  | 83 => ⟨S1x8192x4x64, .f32⟩
  | 84 => ⟨S1x8192x4x64, .f32⟩
  | 85 => ⟨S1x8192x4x64, .f32⟩
  | 86 => ⟨S1x8192x4x64, .f32⟩
  | 87 => ⟨S1x8192x4x64, .f32⟩
  | 88 => ⟨S_, .f32⟩
  | 89 => ⟨S1x8192x4x128, .f32⟩
  | 90 => ⟨S_, .f32⟩
  | 91 => ⟨S1x8192x4x128, .f32⟩
  | 92 => ⟨S1x8192x4x128, .f32⟩
  | 93 => ⟨S1x8192x512, .f32⟩
  | 94 => ⟨S8192x512, .f32⟩
  | 95 => ⟨S8192x512, .bf16⟩
  | 96 => ⟨S8192x512, .f32⟩
  | 97 => ⟨S8192x512, .bf16⟩
  | 98 => ⟨S8192x512, .f32⟩
  | 99 => ⟨S8192x512, .bf16⟩
  | 100 => ⟨S8192x512, .f32⟩
  | 101 => ⟨S8192x512, .bf16⟩
  | 102 => ⟨S8192x5120, .bf16⟩
  | 103 => ⟨S8192x7168, .bf16⟩
  | 104 => ⟨S1x128, .f32⟩
  | _ => ⟨S8192x7168, .f32⟩

abbrev hbmTy (i : Nat) : BufTy := match i / 128 with
  | 0 => hbmTy0_0 i
  | 1 => hbmTy0_1 i
  | 2 => hbmTy0_2 i
  | 3 => hbmTy0_3 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_cst_3 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_v71 : Ref sig .tc := ⟨.hbm, 81, rfl⟩
abbrev main_v72 : Ref sig .tc := ⟨.hbm, 82, rfl⟩
abbrev main_cst_5 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_6 : Ref sig .tc := ⟨.hbm, 94, rfl⟩
abbrev main_v83 : Ref sig .tc := ⟨.hbm, 95, rfl⟩
abbrev main_v84 : Ref sig .tc := ⟨.hbm, 96, rfl⟩
abbrev main_cst_7 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_8 : Ref sig .tc := ⟨.hbm, 106, rfl⟩
abbrev main_call0_v0 : Ref sig .tc := ⟨.hbm, 107, rfl⟩
abbrev main_call0_v1 : Ref sig .tc := ⟨.hbm, 108, rfl⟩
abbrev main_call0_v2 : Ref sig .tc := ⟨.hbm, 109, rfl⟩
abbrev main_v93 : Ref sig .tc := ⟨.hbm, 110, rfl⟩
abbrev main_v94 : Ref sig .tc := ⟨.hbm, 111, rfl⟩
abbrev main_cst_9 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_cst_12 : Ref sig .tc := ⟨.hbm, 133, rfl⟩
abbrev main_v113 : Ref sig .tc := ⟨.hbm, 134, rfl⟩
abbrev main_v114 : Ref sig .tc := ⟨.hbm, 135, rfl⟩
abbrev main_cst_13 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_cst_14 : Ref sig .tc := ⟨.hbm, 148, rfl⟩
abbrev main_v126 : Ref sig .tc := ⟨.hbm, 149, rfl⟩
abbrev main_cst_15 : Ref sig .tc := ⟨.hbm, 150, rfl⟩
abbrev main_v127 : Ref sig .tc := ⟨.hbm, 151, rfl⟩
abbrev main_cst_16 : Ref sig .tc := ⟨.hbm, 152, rfl⟩
abbrev main_v128 : Ref sig .tc := ⟨.hbm, 153, rfl⟩
abbrev main_cst_17 : Ref sig .tc := ⟨.hbm, 154, rfl⟩
abbrev main_v129 : Ref sig .tc := ⟨.hbm, 155, rfl⟩
abbrev main_c : Ref sig .tc := ⟨.hbm, 156, rfl⟩
abbrev main_v130_0 : Ref sig .tc := ⟨.hbm, 157, rfl⟩
abbrev main_v130_1 : Ref sig .tc := ⟨.hbm, 158, rfl⟩
abbrev main_v130_2 : Ref sig .tc := ⟨.hbm, 159, rfl⟩
abbrev main_v130_3 : Ref sig .tc := ⟨.hbm, 160, rfl⟩
abbrev main_v130_4 : Ref sig .tc := ⟨.hbm, 161, rfl⟩
abbrev main_v130_5 : Ref sig .tc := ⟨.hbm, 162, rfl⟩
abbrev main_v130_6 : Ref sig .tc := ⟨.hbm, 163, rfl⟩
abbrev main_v130_7 : Ref sig .tc := ⟨.hbm, 164, rfl⟩
abbrev main_v130_8 : Ref sig .tc := ⟨.hbm, 165, rfl⟩
abbrev main_v130_9 : Ref sig .tc := ⟨.hbm, 166, rfl⟩
abbrev main_v130_10 : Ref sig .tc := ⟨.hbm, 167, rfl⟩
abbrev main_v130_11 : Ref sig .tc := ⟨.hbm, 168, rfl⟩
abbrev main_v130_12 : Ref sig .tc := ⟨.hbm, 169, rfl⟩
abbrev main_while0c_c_50 : Ref sig .tc := ⟨.hbm, 170, rfl⟩
abbrev main_while0c_v243 : Ref sig .tc := ⟨.hbm, 171, rfl⟩
abbrev main_while0b_call1_c : Ref sig .tc := ⟨.hbm, 172, rfl⟩
abbrev main_while0b_call1_c_0 : Ref sig .tc := ⟨.hbm, 173, rfl⟩
abbrev main_while0b_call1_c_1 : Ref sig .tc := ⟨.hbm, 174, rfl⟩
abbrev main_while0b_call1_c_2 : Ref sig .tc := ⟨.hbm, 175, rfl⟩
abbrev main_while0b_call1_v0 : Ref sig .tc := ⟨.hbm, 176, rfl⟩
abbrev main_while0b_v243 : Ref sig .tc := ⟨.hbm, 177, rfl⟩
abbrev main_while0b_call2_c : Ref sig .tc := ⟨.hbm, 178, rfl⟩
abbrev main_while0b_call2_c_0 : Ref sig .tc := ⟨.hbm, 179, rfl⟩
abbrev main_while0b_call2_c_1 : Ref sig .tc := ⟨.hbm, 180, rfl⟩
abbrev main_while0b_call2_c_2 : Ref sig .tc := ⟨.hbm, 181, rfl⟩
abbrev main_while0b_call2_v0 : Ref sig .tc := ⟨.hbm, 182, rfl⟩
abbrev main_while0b_v244 : Ref sig .tc := ⟨.hbm, 183, rfl⟩
abbrev main_while0b_call3_c : Ref sig .tc := ⟨.hbm, 184, rfl⟩
abbrev main_while0b_call3_c_0 : Ref sig .tc := ⟨.hbm, 185, rfl⟩
abbrev main_while0b_call3_c_1 : Ref sig .tc := ⟨.hbm, 186, rfl⟩
abbrev main_while0b_call3_c_2 : Ref sig .tc := ⟨.hbm, 187, rfl⟩
abbrev main_while0b_call3_v0 : Ref sig .tc := ⟨.hbm, 188, rfl⟩
abbrev main_while0b_v245 : Ref sig .tc := ⟨.hbm, 189, rfl⟩
abbrev main_while0b_v246 : Ref sig .tc := ⟨.hbm, 190, rfl⟩
abbrev main_while0b_v247 : Ref sig .tc := ⟨.hbm, 191, rfl⟩
abbrev main_while0b_v248 : Ref sig .tc := ⟨.hbm, 192, rfl⟩
abbrev main_while0b_v249 : Ref sig .tc := ⟨.hbm, 193, rfl⟩
abbrev main_while0b_v250 : Ref sig .tc := ⟨.hbm, 194, rfl⟩
abbrev main_while0b_v251 : Ref sig .tc := ⟨.hbm, 195, rfl⟩
abbrev main_while0b_v252 : Ref sig .tc := ⟨.hbm, 196, rfl⟩
abbrev main_while0b_v253 : Ref sig .tc := ⟨.hbm, 197, rfl⟩
abbrev main_while0b_v254 : Ref sig .tc := ⟨.hbm, 198, rfl⟩
abbrev main_while0b_v255 : Ref sig .tc := ⟨.hbm, 199, rfl⟩
abbrev main_while0b_v256 : Ref sig .tc := ⟨.hbm, 200, rfl⟩
abbrev main_while0b_v257 : Ref sig .tc := ⟨.hbm, 201, rfl⟩
abbrev main_while0b_v258 : Ref sig .tc := ⟨.hbm, 202, rfl⟩
abbrev main_while0b_v259 : Ref sig .tc := ⟨.hbm, 203, rfl⟩
abbrev main_while0b_v260 : Ref sig .tc := ⟨.hbm, 204, rfl⟩
abbrev main_while0b_call4_v0 : Ref sig .tc := ⟨.hbm, 205, rfl⟩
abbrev main_while0b_call4_c : Ref sig .tc := ⟨.hbm, 206, rfl⟩
abbrev main_while0b_call4_c_0 : Ref sig .tc := ⟨.hbm, 207, rfl⟩
abbrev main_while0b_call4_c_1 : Ref sig .tc := ⟨.hbm, 208, rfl⟩
abbrev main_while0b_call4_c_2 : Ref sig .tc := ⟨.hbm, 209, rfl⟩
abbrev main_while0b_v261 : Ref sig .tc := ⟨.hbm, 210, rfl⟩
abbrev main_while0b_call5_v0 : Ref sig .tc := ⟨.hbm, 211, rfl⟩
abbrev main_while0b_call5_c : Ref sig .tc := ⟨.hbm, 212, rfl⟩
abbrev main_while0b_call5_c_0 : Ref sig .tc := ⟨.hbm, 213, rfl⟩
abbrev main_while0b_call5_c_1 : Ref sig .tc := ⟨.hbm, 214, rfl⟩
abbrev main_while0b_call5_c_2 : Ref sig .tc := ⟨.hbm, 215, rfl⟩
abbrev main_while0b_v262 : Ref sig .tc := ⟨.hbm, 216, rfl⟩
abbrev main_while0b_call6_v0 : Ref sig .tc := ⟨.hbm, 217, rfl⟩
abbrev main_while0b_call6_c : Ref sig .tc := ⟨.hbm, 218, rfl⟩
abbrev main_while0b_call6_c_0 : Ref sig .tc := ⟨.hbm, 219, rfl⟩
abbrev main_while0b_call6_c_1 : Ref sig .tc := ⟨.hbm, 220, rfl⟩
abbrev main_while0b_call6_c_2 : Ref sig .tc := ⟨.hbm, 221, rfl⟩
abbrev main_while0b_v263 : Ref sig .tc := ⟨.hbm, 222, rfl⟩
abbrev main_while0b_call7_v0 : Ref sig .tc := ⟨.hbm, 223, rfl⟩
abbrev main_while0b_call7_c : Ref sig .tc := ⟨.hbm, 224, rfl⟩
abbrev main_while0b_call7_c_0 : Ref sig .tc := ⟨.hbm, 225, rfl⟩
abbrev main_while0b_call7_c_1 : Ref sig .tc := ⟨.hbm, 226, rfl⟩
abbrev main_while0b_call7_c_2 : Ref sig .tc := ⟨.hbm, 227, rfl⟩
abbrev main_while0b_v264 : Ref sig .tc := ⟨.hbm, 228, rfl⟩
abbrev main_while0b_c_50 : Ref sig .tc := ⟨.hbm, 229, rfl⟩
abbrev main_while0b_v265 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_18 : Ref sig .tc := ⟨.hbm, 234, rfl⟩
abbrev main_v134 : Ref sig .tc := ⟨.hbm, 235, rfl⟩
abbrev main_v135 : Ref sig .tc := ⟨.hbm, 236, rfl⟩
abbrev main_cst_19 : Ref sig .tc := ⟨.hbm, 237, rfl⟩
abbrev main_v136 : Ref sig .tc := ⟨.hbm, 238, rfl⟩
abbrev main_v137 : Ref sig .tc := ⟨.hbm, 239, rfl⟩
abbrev main_cst_20 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_cst_21 : Ref sig .tc := ⟨.hbm, 245, rfl⟩
abbrev main_v142 : Ref sig .tc := ⟨.hbm, 246, rfl⟩
abbrev main_v143 : Ref sig .tc := ⟨.hbm, 247, rfl⟩
abbrev main_v144 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_call8_v0 : Ref sig .tc := ⟨.hbm, 254, rfl⟩
abbrev main_call8_v1 : Ref sig .tc := ⟨.hbm, 255, rfl⟩
abbrev main_call8_cst : Ref sig .tc := ⟨.hbm, 256, rfl⟩
abbrev main_call8_v2 : Ref sig .tc := ⟨.hbm, 257, rfl⟩
abbrev main_call8_v3 : Ref sig .tc := ⟨.hbm, 258, rfl⟩
abbrev main_call8_cst_0 : Ref sig .tc := ⟨.hbm, 259, rfl⟩
abbrev main_call8_v4 : Ref sig .tc := ⟨.hbm, 260, rfl⟩
abbrev main_v150_2 : Ref sig .tc := ⟨.hbm, 261, rfl⟩
abbrev main_call8_cst_1 : Ref sig .tc := ⟨.hbm, 262, rfl⟩
abbrev main_call8_v6 : Ref sig .tc := ⟨.hbm, 263, rfl⟩
abbrev main_call8_v7 : Ref sig .tc := ⟨.hbm, 264, rfl⟩
abbrev main_v150_1 : Ref sig .tc := ⟨.hbm, 265, rfl⟩
abbrev main_v150_0 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_cst_22 : Ref sig .tc := ⟨.hbm, 271, rfl⟩
abbrev main_v155 : Ref sig .tc := ⟨.hbm, 272, rfl⟩
abbrev main_v156 : Ref sig .tc := ⟨.hbm, 273, rfl⟩
abbrev main_v157 : Ref sig .tc := ⟨.hbm, 274, rfl⟩
abbrev main_v158 : Ref sig .tc := ⟨.hbm, 275, rfl⟩
abbrev main_call9_v0 : Ref sig .tc := ⟨.hbm, 276, rfl⟩
abbrev main_call9_v1 : Ref sig .tc := ⟨.hbm, 277, rfl⟩
abbrev main_call9_v2 : Ref sig .tc := ⟨.hbm, 278, rfl⟩
abbrev main_v159 : Ref sig .tc := ⟨.hbm, 279, rfl⟩
abbrev main_v160 : Ref sig .tc := ⟨.hbm, 280, rfl⟩
abbrev main_v161 : Ref sig .tc := ⟨.hbm, 281, rfl⟩
abbrev main_cst_23 : Ref sig .tc := ⟨.hbm, 282, rfl⟩
abbrev main_v162 : Ref sig .tc := ⟨.hbm, 283, rfl⟩
abbrev main_v163 : Ref sig .tc := ⟨.hbm, 284, rfl⟩
abbrev main_v164 : Ref sig .tc := ⟨.hbm, 285, rfl⟩
abbrev main_v165 : Ref sig .tc := ⟨.hbm, 286, rfl⟩
abbrev main_cst_24 : Ref sig .tc := ⟨.hbm, 287, rfl⟩
abbrev main_v166 : Ref sig .tc := ⟨.hbm, 288, rfl⟩
abbrev main_v167 : Ref sig .tc := ⟨.hbm, 289, rfl⟩
abbrev main_cst_25 : Ref sig .tc := ⟨.hbm, 290, rfl⟩
abbrev main_v168 : Ref sig .tc := ⟨.hbm, 291, rfl⟩
abbrev main_v169 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_cst_26 : Ref sig .tc := ⟨.hbm, 296, rfl⟩
abbrev main_v173 : Ref sig .tc := ⟨.hbm, 297, rfl⟩
abbrev main_v174 : Ref sig .tc := ⟨.hbm, 298, rfl⟩
abbrev main_cst_27 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_28 : Ref sig .tc := ⟨.hbm, 309, rfl⟩
abbrev main_v184 : Ref sig .tc := ⟨.hbm, 310, rfl⟩
abbrev main_cst_29 : Ref sig .tc := ⟨.hbm, 311, rfl⟩
abbrev main_v185 : Ref sig .tc := ⟨.hbm, 312, rfl⟩
abbrev main_cst_30 : Ref sig .tc := ⟨.hbm, 313, rfl⟩
abbrev main_v186 : Ref sig .tc := ⟨.hbm, 314, rfl⟩
abbrev main_cst_31 : Ref sig .tc := ⟨.hbm, 315, rfl⟩
abbrev main_v187 : Ref sig .tc := ⟨.hbm, 316, rfl⟩
abbrev main_c_32 : Ref sig .tc := ⟨.hbm, 317, rfl⟩
abbrev main_v188_0 : Ref sig .tc := ⟨.hbm, 318, rfl⟩
abbrev main_v188_1 : Ref sig .tc := ⟨.hbm, 319, rfl⟩
abbrev main_v188_2 : Ref sig .tc := ⟨.hbm, 320, rfl⟩
abbrev main_v188_3 : Ref sig .tc := ⟨.hbm, 321, rfl⟩
abbrev main_v188_4 : Ref sig .tc := ⟨.hbm, 322, rfl⟩
abbrev main_v188_5 : Ref sig .tc := ⟨.hbm, 323, rfl⟩
abbrev main_v188_6 : Ref sig .tc := ⟨.hbm, 324, rfl⟩
abbrev main_v188_7 : Ref sig .tc := ⟨.hbm, 325, rfl⟩
abbrev main_v188_8 : Ref sig .tc := ⟨.hbm, 326, rfl⟩
abbrev main_v188_9 : Ref sig .tc := ⟨.hbm, 327, rfl⟩
abbrev main_v188_10 : Ref sig .tc := ⟨.hbm, 328, rfl⟩
abbrev main_v188_11 : Ref sig .tc := ⟨.hbm, 329, rfl⟩
abbrev main_v188_12 : Ref sig .tc := ⟨.hbm, 330, rfl⟩
abbrev main_v188_13 : Ref sig .tc := ⟨.hbm, 331, rfl⟩
abbrev main_v188_14 : Ref sig .tc := ⟨.hbm, 332, rfl⟩
abbrev main_v188_15 : Ref sig .tc := ⟨.hbm, 333, rfl⟩
abbrev main_while1c_c_53 : Ref sig .tc := ⟨.hbm, 334, rfl⟩
abbrev main_while1c_v243 : Ref sig .tc := ⟨.hbm, 335, rfl⟩
abbrev main_while1b_c_53 : Ref sig .tc := ⟨.hbm, 336, rfl⟩
abbrev main_while1b_v243 : Ref sig .tc := ⟨.hbm, 337, rfl⟩
abbrev main_while1b_c_54 : Ref sig .tc := ⟨.hbm, 338, rfl⟩
abbrev main_while1b_v244 : Ref sig .tc := ⟨.hbm, 339, rfl⟩
abbrev main_while1b_call10_c : Ref sig .tc := ⟨.hbm, 340, rfl⟩
abbrev main_while1b_call10_c_0 : Ref sig .tc := ⟨.hbm, 341, rfl⟩
abbrev main_while1b_call10_c_1 : Ref sig .tc := ⟨.hbm, 342, rfl⟩
abbrev main_while1b_call10_c_2 : Ref sig .tc := ⟨.hbm, 343, rfl⟩
abbrev main_while1b_call10_v0 : Ref sig .tc := ⟨.hbm, 344, rfl⟩
abbrev main_while1b_v245 : Ref sig .tc := ⟨.hbm, 345, rfl⟩
abbrev main_while1b_call11_c : Ref sig .tc := ⟨.hbm, 346, rfl⟩
abbrev main_while1b_call11_c_0 : Ref sig .tc := ⟨.hbm, 347, rfl⟩
abbrev main_while1b_call11_c_1 : Ref sig .tc := ⟨.hbm, 348, rfl⟩
abbrev main_while1b_call11_c_2 : Ref sig .tc := ⟨.hbm, 349, rfl⟩
abbrev main_while1b_call11_v0 : Ref sig .tc := ⟨.hbm, 350, rfl⟩
abbrev main_while1b_v246 : Ref sig .tc := ⟨.hbm, 351, rfl⟩
abbrev main_while1b_call12_c : Ref sig .tc := ⟨.hbm, 352, rfl⟩
abbrev main_while1b_call12_c_0 : Ref sig .tc := ⟨.hbm, 353, rfl⟩
abbrev main_while1b_call12_c_1 : Ref sig .tc := ⟨.hbm, 354, rfl⟩
abbrev main_while1b_call12_c_2 : Ref sig .tc := ⟨.hbm, 355, rfl⟩
abbrev main_while1b_call12_v0 : Ref sig .tc := ⟨.hbm, 356, rfl⟩
abbrev main_while1b_v247 : Ref sig .tc := ⟨.hbm, 357, rfl⟩
abbrev main_while1b_call13_c : Ref sig .tc := ⟨.hbm, 358, rfl⟩
abbrev main_while1b_call13_c_0 : Ref sig .tc := ⟨.hbm, 359, rfl⟩
abbrev main_while1b_call13_c_1 : Ref sig .tc := ⟨.hbm, 360, rfl⟩
abbrev main_while1b_call13_c_2 : Ref sig .tc := ⟨.hbm, 361, rfl⟩
abbrev main_while1b_call13_v0 : Ref sig .tc := ⟨.hbm, 362, rfl⟩
abbrev main_while1b_v248 : Ref sig .tc := ⟨.hbm, 363, rfl⟩
abbrev main_while1b_call14_c : Ref sig .tc := ⟨.hbm, 364, rfl⟩
abbrev main_while1b_call14_c_0 : Ref sig .tc := ⟨.hbm, 365, rfl⟩
abbrev main_while1b_call14_c_1 : Ref sig .tc := ⟨.hbm, 366, rfl⟩
abbrev main_while1b_call14_c_2 : Ref sig .tc := ⟨.hbm, 367, rfl⟩
abbrev main_while1b_call14_v0 : Ref sig .tc := ⟨.hbm, 368, rfl⟩
abbrev main_while1b_v249 : Ref sig .tc := ⟨.hbm, 369, rfl⟩
abbrev main_while1b_call15_c : Ref sig .tc := ⟨.hbm, 370, rfl⟩
abbrev main_while1b_call15_c_0 : Ref sig .tc := ⟨.hbm, 371, rfl⟩
abbrev main_while1b_call15_c_1 : Ref sig .tc := ⟨.hbm, 372, rfl⟩
abbrev main_while1b_call15_c_2 : Ref sig .tc := ⟨.hbm, 373, rfl⟩
abbrev main_while1b_call15_v0 : Ref sig .tc := ⟨.hbm, 374, rfl⟩
abbrev main_while1b_v250 : Ref sig .tc := ⟨.hbm, 375, rfl⟩
abbrev main_while1b_call16_c : Ref sig .tc := ⟨.hbm, 376, rfl⟩
abbrev main_while1b_call16_c_0 : Ref sig .tc := ⟨.hbm, 377, rfl⟩
abbrev main_while1b_call16_c_1 : Ref sig .tc := ⟨.hbm, 378, rfl⟩
abbrev main_while1b_call16_c_2 : Ref sig .tc := ⟨.hbm, 379, rfl⟩
abbrev main_while1b_call16_v0 : Ref sig .tc := ⟨.hbm, 380, rfl⟩
abbrev main_while1b_v251 : Ref sig .tc := ⟨.hbm, 381, rfl⟩
abbrev main_while1b_v252 : Ref sig .tc := ⟨.hbm, 382, rfl⟩
abbrev main_while1b_v253 : Ref sig .tc := ⟨.hbm, 383, rfl⟩
abbrev main_while1b_v254 : Ref sig .tc := ⟨.hbm, 384, rfl⟩
abbrev main_while1b_v255 : Ref sig .tc := ⟨.hbm, 385, rfl⟩
abbrev main_while1b_v256 : Ref sig .tc := ⟨.hbm, 386, rfl⟩
abbrev main_while1b_v257 : Ref sig .tc := ⟨.hbm, 387, rfl⟩
abbrev main_while1b_v258 : Ref sig .tc := ⟨.hbm, 388, rfl⟩
abbrev main_while1b_v259 : Ref sig .tc := ⟨.hbm, 389, rfl⟩
abbrev main_while1b_v260 : Ref sig .tc := ⟨.hbm, 390, rfl⟩
abbrev main_while1b_v261 : Ref sig .tc := ⟨.hbm, 391, rfl⟩
abbrev main_while1b_v262 : Ref sig .tc := ⟨.hbm, 392, rfl⟩
abbrev main_while1b_v263 : Ref sig .tc := ⟨.hbm, 393, rfl⟩
abbrev main_while1b_v264 : Ref sig .tc := ⟨.hbm, 394, rfl⟩
abbrev main_while1b_v265 : Ref sig .tc := ⟨.hbm, 395, rfl⟩
abbrev main_while1b_v266 : Ref sig .tc := ⟨.hbm, 396, rfl⟩
abbrev main_while1b_v267 : Ref sig .tc := ⟨.hbm, 397, rfl⟩
abbrev main_while1b_v268 : Ref sig .tc := ⟨.hbm, 398, rfl⟩
abbrev main_while1b_v269 : Ref sig .tc := ⟨.hbm, 399, rfl⟩
abbrev main_while1b_v270 : Ref sig .tc := ⟨.hbm, 400, rfl⟩
abbrev main_while1b_v271 : Ref sig .tc := ⟨.hbm, 401, rfl⟩
abbrev main_while1b_v272 : Ref sig .tc := ⟨.hbm, 402, rfl⟩
abbrev main_while1b_v273 : Ref sig .tc := ⟨.hbm, 403, rfl⟩
abbrev main_while1b_v274 : Ref sig .tc := ⟨.hbm, 404, rfl⟩
abbrev main_while1b_v275 : Ref sig .tc := ⟨.hbm, 405, rfl⟩
abbrev main_while1b_v276 : Ref sig .tc := ⟨.hbm, 406, rfl⟩
abbrev main_while1b_v277 : Ref sig .tc := ⟨.hbm, 407, rfl⟩
abbrev main_while1b_v278 : Ref sig .tc := ⟨.hbm, 408, rfl⟩
abbrev main_while1b_v279 : Ref sig .tc := ⟨.hbm, 409, rfl⟩
abbrev main_while1b_call17_v0 : Ref sig .tc := ⟨.hbm, 410, rfl⟩
abbrev main_while1b_call17_c : Ref sig .tc := ⟨.hbm, 411, rfl⟩
abbrev main_while1b_call17_c_0 : Ref sig .tc := ⟨.hbm, 412, rfl⟩
abbrev main_while1b_call17_c_1 : Ref sig .tc := ⟨.hbm, 413, rfl⟩
abbrev main_while1b_call17_c_2 : Ref sig .tc := ⟨.hbm, 414, rfl⟩
abbrev main_while1b_v280 : Ref sig .tc := ⟨.hbm, 415, rfl⟩
abbrev main_while1b_call18_v0 : Ref sig .tc := ⟨.hbm, 416, rfl⟩
abbrev main_while1b_call18_c : Ref sig .tc := ⟨.hbm, 417, rfl⟩
abbrev main_while1b_call18_c_0 : Ref sig .tc := ⟨.hbm, 418, rfl⟩
abbrev main_while1b_call18_c_1 : Ref sig .tc := ⟨.hbm, 419, rfl⟩
abbrev main_while1b_call18_c_2 : Ref sig .tc := ⟨.hbm, 420, rfl⟩
abbrev main_while1b_v281 : Ref sig .tc := ⟨.hbm, 421, rfl⟩
abbrev main_while1b_call19_v0 : Ref sig .tc := ⟨.hbm, 422, rfl⟩
abbrev main_while1b_call19_c : Ref sig .tc := ⟨.hbm, 423, rfl⟩
abbrev main_while1b_call19_c_0 : Ref sig .tc := ⟨.hbm, 424, rfl⟩
abbrev main_while1b_call19_c_1 : Ref sig .tc := ⟨.hbm, 425, rfl⟩
abbrev main_while1b_call19_c_2 : Ref sig .tc := ⟨.hbm, 426, rfl⟩
abbrev main_while1b_v282 : Ref sig .tc := ⟨.hbm, 427, rfl⟩
abbrev main_while1b_c_55 : Ref sig .tc := ⟨.hbm, 428, rfl⟩
abbrev main_while1b_v283 : Ref sig .tc := ⟨.hbm, 429, rfl⟩
abbrev main_v189 : Ref sig .tc := ⟨.hbm, 430, rfl⟩
abbrev main_v190 : Ref sig .tc := ⟨.hbm, 431, rfl⟩
abbrev main_v191 : Ref sig .tc := ⟨.hbm, 432, rfl⟩
abbrev main_v192 : Ref sig .tc := ⟨.hbm, 433, rfl⟩
abbrev main_v193 : Ref sig .tc := ⟨.hbm, 434, rfl⟩
abbrev main_v194 : Ref sig .tc := ⟨.hbm, 435, rfl⟩
abbrev main_cst_33 : Ref sig .tc := ⟨.hbm, 436, rfl⟩
abbrev main_v195 : Ref sig .tc := ⟨.hbm, 437, rfl⟩
abbrev main_v196 : Ref sig .tc := ⟨.hbm, 438, rfl⟩
abbrev main_v197 : Ref sig .tc := ⟨.hbm, 439, rfl⟩
abbrev main_v198 : Ref sig .tc := ⟨.hbm, 440, rfl⟩
abbrev main_v199 : Ref sig .tc := ⟨.hbm, 441, rfl⟩
abbrev main_v200 : Ref sig .tc := ⟨.hbm, 442, rfl⟩
abbrev main_v201 : Ref sig .tc := ⟨.hbm, 443, rfl⟩
abbrev main_v202 : Ref sig .tc := ⟨.hbm, 444, rfl⟩
abbrev main_v203 : Ref sig .tc := ⟨.hbm, 445, rfl⟩
abbrev main_v204 : Ref sig .tc := ⟨.hbm, 446, rfl⟩
abbrev main_v205 : Ref sig .tc := ⟨.hbm, 447, rfl⟩
abbrev main_v206 : Ref sig .tc := ⟨.hbm, 448, rfl⟩
abbrev main_v207 : Ref sig .tc := ⟨.hbm, 449, rfl⟩
abbrev main_v208 : Ref sig .tc := ⟨.hbm, 450, rfl⟩
abbrev main_v209 : Ref sig .tc := ⟨.hbm, 451, rfl⟩
abbrev main_v210 : Ref sig .tc := ⟨.hbm, 452, rfl⟩
abbrev main_cst_34 : Ref sig .tc := ⟨.hbm, 453, rfl⟩
abbrev main_v211 : Ref sig .tc := ⟨.hbm, 454, rfl⟩
abbrev main_cst_35 : Ref sig .tc := ⟨.hbm, 455, rfl⟩
abbrev main_v212 : Ref sig .tc := ⟨.hbm, 456, rfl⟩
abbrev main_v213 : Ref sig .tc := ⟨.hbm, 457, rfl⟩
abbrev main_v214 : Ref sig .tc := ⟨.hbm, 458, rfl⟩
abbrev main_v215 : Ref sig .tc := ⟨.hbm, 459, rfl⟩
abbrev main_v216 : Ref sig .tc := ⟨.hbm, 460, rfl⟩
abbrev main_v217 : Ref sig .tc := ⟨.hbm, 461, rfl⟩
abbrev main_v218 : Ref sig .tc := ⟨.hbm, 462, rfl⟩
abbrev main_v219 : Ref sig .tc := ⟨.hbm, 463, rfl⟩
abbrev main_v220 : Ref sig .tc := ⟨.hbm, 464, rfl⟩
abbrev main_v221 : Ref sig .tc := ⟨.hbm, 465, rfl⟩
abbrev main_v222 : Ref sig .tc := ⟨.hbm, 466, rfl⟩
abbrev main_v223 : Ref sig .tc := ⟨.hbm, 467, rfl⟩
abbrev main_v224 : Ref sig .tc := ⟨.hbm, 468, rfl⟩
abbrev main_v225 : Ref sig .tc := ⟨.hbm, 469, rfl⟩
abbrev main_v226 : Ref sig .tc := ⟨.hbm, 470, rfl⟩
abbrev main_v227 : Ref sig .tc := ⟨.hbm, 471, rfl⟩
abbrev main_cst_36 : Ref sig .tc := ⟨.hbm, 472, rfl⟩
abbrev main_v228 : Ref sig .tc := ⟨.hbm, 473, rfl⟩
abbrev main_cst_37 : Ref sig .tc := ⟨.hbm, 474, rfl⟩
abbrev main_v229 : Ref sig .tc := ⟨.hbm, 475, rfl⟩
abbrev main_v230 : Ref sig .tc := ⟨.hbm, 476, rfl⟩
abbrev main_v231 : Ref sig .tc := ⟨.hbm, 477, rfl⟩
abbrev main_v232 : Ref sig .tc := ⟨.hbm, 478, rfl⟩
abbrev main_v233 : Ref sig .tc := ⟨.hbm, 479, rfl⟩
abbrev main_v234 : Ref sig .tc := ⟨.hbm, 480, rfl⟩
abbrev main_v235 : Ref sig .tc := ⟨.hbm, 481, rfl⟩
abbrev main_v236 : Ref sig .tc := ⟨.hbm, 482, rfl⟩
abbrev main_v237 : Ref sig .tc := ⟨.hbm, 483, rfl⟩
abbrev main_v238 : Ref sig .tc := ⟨.hbm, 484, rfl⟩
abbrev main_v239 : Ref sig .tc := ⟨.hbm, 485, rfl⟩
abbrev main_v240 : Ref sig .tc := ⟨.hbm, 486, rfl⟩
abbrev main_v241 : Ref sig .tc := ⟨.hbm, 487, rfl⟩
abbrev main_v242 : Ref sig .tc := ⟨.hbm, 488, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x1024 : Shape := ⟨2, ![8192, 1024]⟩
abbrev S7168x1024 : Shape := ⟨2, ![7168, 1024]⟩
abbrev S8192x7168 : Shape := ⟨2, ![8192, 7168]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S7168x1024, .bf16⟩
  | .hbm, ⟨2, _⟩ => ⟨S8192x7168, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S7168x1024 : Shape := ⟨2, ![7168, 1024]⟩
abbrev S1024x7168 : Shape := ⟨2, ![1024, 7168]⟩
abbrev S1x8192x1024 : Shape := ⟨3, ![1, 8192, 1024]⟩
abbrev S1x8192x7168 : Shape := ⟨3, ![1, 8192, 7168]⟩
abbrev S8192x7168 : Shape := ⟨2, ![8192, 7168]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S7168x1024, .bf16⟩
  | .hbm, ⟨2, _⟩ => ⟨S1024x7168, .bf16⟩
  | .hbm, ⟨3, _⟩ => ⟨S8192x1024, .f32⟩
  | .hbm, ⟨4, _⟩ => ⟨S1x8192x1024, .f32⟩
  | .hbm, ⟨5, _⟩ => ⟨S1024x7168, .f32⟩
  | .hbm, ⟨6, _⟩ => ⟨S1x8192x7168, .f32⟩
  | .hbm, ⟨7, _⟩ => ⟨S8192x7168, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x1024 : Shape := ⟨2, ![2048, 1024]⟩
abbrev S1x8192x2048 : Shape := ⟨3, ![1, 8192, 2048]⟩
abbrev S1x8192x1024 : Shape := ⟨3, ![1, 8192, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x2048, .f32⟩
  | .hbm, ⟨3, _⟩ => ⟨S1x8192x2048, .f32⟩
  | .hbm, ⟨4, _⟩ => ⟨S2048x1024, .f32⟩
  | .hbm, ⟨5, _⟩ => ⟨S1x8192x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S2048x1024 : Shape := ⟨2, ![2048, 1024]⟩
abbrev S_ : Shape := ⟨0, ![]⟩
abbrev S1x8192x2048 : Shape := ⟨3, ![1, 8192, 2048]⟩
abbrev S1x8192x1024 : Shape := ⟨3, ![1, 8192, 1024]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S1x8192x2048, .f32⟩
  | .hbm, ⟨4, _⟩ => ⟨S2048x1024, .f32⟩
  | .hbm, ⟨5, _⟩ => ⟨S1x8192x1024, .f32⟩
  | .hbm, ⟨6, _⟩ => ⟨S8192x1024, .f32⟩
  | .hbm, ⟨7, _⟩ => ⟨S1x8192x1024, .f32⟩
  | .hbm, ⟨8, _⟩ => ⟨S1x8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1x8192x2048 : Shape := ⟨3, ![1, 8192, 2048]⟩
abbrev S1x8192x1024 : Shape := ⟨3, ![1, 8192, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S1x8192x2048, .f32⟩
  | .hbm, ⟨6, _⟩ => ⟨S1x8192x1024, .f32⟩
  | .hbm, ⟨7, _⟩ => ⟨S8192x1024, .f32⟩
  | .hbm, ⟨8, _⟩ => ⟨S1x8192x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x7168 : Shape := ⟨2, ![8192, 7168]⟩
abbrev S8192x1024 : Shape := ⟨2, ![8192, 1024]⟩
abbrev S7168x1024 : Shape := ⟨2, ![7168, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S7168x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x7168 : Shape := ⟨2, ![8192, 7168]⟩
abbrev S8192x1024 : Shape := ⟨2, ![8192, 1024]⟩
abbrev S_ : Shape := ⟨0, ![]⟩
abbrev S1024x7168 : Shape := ⟨2, ![1024, 7168]⟩
abbrev S1x8192x1024 : Shape := ⟨3, ![1, 8192, 1024]⟩
abbrev S1x8192x7168 : Shape := ⟨3, ![1, 8192, 7168]⟩
abbrev S7168x1024 : Shape := ⟨2, ![7168, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x1024, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S1x8192x1024, .f32⟩
  | .hbm, ⟨6, _⟩ => ⟨S1x8192x7168, .f32⟩
  | .hbm, ⟨7, _⟩ => ⟨S8192x7168, .f32⟩
  | .hbm, ⟨8, _⟩ => ⟨S1x8192x7168, .f32⟩
  | .hbm, ⟨9, _⟩ => ⟨S7168x1024, .f32⟩
  | .hbm, ⟨10, _⟩ => ⟨S1024x7168, .f32⟩
  | .hbm, ⟨11, _⟩ => ⟨S1024x7168, .bf16⟩
  | .hbm, ⟨12, _⟩ => ⟨S7168x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8192x7168 : Shape := ⟨2, ![8192, 7168]⟩
abbrev S7168x1024 : Shape := ⟨2, ![7168, 1024]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x7168, .bf16⟩
  | .hbm, ⟨1, _⟩ => ⟨S7168x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x7168 : Shape := ⟨2, ![8192, 7168]⟩
abbrev S7168x1024 : Shape := ⟨2, ![7168, 1024]⟩
abbrev S1024x7168 : Shape := ⟨2, ![1024, 7168]⟩
abbrev S_ : Shape := ⟨0, ![]⟩
abbrev S1x8192x1024 : Shape := ⟨3, ![1, 8192, 1024]⟩
abbrev S1x8192x7168 : Shape := ⟨3, ![1, 8192, 7168]⟩
abbrev S8192x1024 : Shape := ⟨2, ![8192, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S7168x1024, .bf16⟩
  | .hbm, ⟨2, _⟩ => ⟨S1024x7168, .bf16⟩
  | .hbm, ⟨3, _⟩ => ⟨S_, .f32⟩
  | .hbm, ⟨4, _⟩ => ⟨S1x8192x1024, .f32⟩
  | .hbm, ⟨5, _⟩ => ⟨S1024x7168, .f32⟩
  | .hbm, ⟨6, _⟩ => ⟨S1x8192x7168, .f32⟩
  | .hbm, ⟨7, _⟩ => ⟨S8192x7168, .f32⟩
  | .hbm, ⟨8, _⟩ => ⟨S1x8192x7168, .f32⟩
  | .hbm, ⟨9, _⟩ => ⟨S1x8192x1024, .f32⟩
  | .hbm, ⟨10, _⟩ => ⟨S8192x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference8Ideal.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1024, .f32⟩
  | .hbm, ⟨21, _⟩ => ⟨S1x8192x1024, .f32⟩
  | .hbm, ⟨22, _⟩ => ⟨S1x1x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S_, .f32⟩
  | .hbm, ⟨29, _⟩ => ⟨S1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S_, .f32⟩
  | .hbm, ⟨34, _⟩ => ⟨S1024, .f32⟩
  | .hbm, ⟨35, _⟩ => ⟨S1x8192x1024, .f32⟩
  | .hbm, ⟨36, _⟩ => ⟨S_, .f32⟩
  | .hbm, ⟨37, _⟩ => ⟨S1x8192, .f32⟩
  | .hbm, ⟨38, _⟩ => ⟨S1x8192x1, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S_, .f32⟩
  | .hbm, ⟨47, _⟩ => ⟨S8192, .f32⟩
  | .hbm, ⟨48, _⟩ => ⟨S1x8192, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S8192x1024, .f32⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference9Ideal.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x1024, .f32⟩
  | .hbm, ⟨28, _⟩ => ⟨S1x1x1024, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1024, .f32⟩
  | .hbm, ⟨33, _⟩ => ⟨S1x8192x1024, .f32⟩
  | .hbm, ⟨34, _⟩ => ⟨S_, .f32⟩
  | .hbm, ⟨35, _⟩ => ⟨S1x8192, .f32⟩
  | .hbm, ⟨36, _⟩ => ⟨S1x8192x1, .f32⟩
  | .hbm, ⟨37, _⟩ => ⟨S1x8192x1024, .f32⟩
  | .hbm, ⟨38, _⟩ => ⟨S1x8192x1024, .f32⟩
  | .hbm, ⟨39, _⟩ => ⟨S1x8192x1, .f32⟩
  | .hbm, ⟨40, _⟩ => ⟨S_, .f32⟩
  | .hbm, ⟨41, _⟩ => ⟨S1x8192x1, .f32⟩
  | .hbm, ⟨42, _⟩ => ⟨S1x8192x1, .f32⟩
  | .hbm, ⟨43, _⟩ => ⟨S_, .f32⟩
  | .hbm, ⟨44, _⟩ => ⟨S8192, .f32⟩
  | .hbm, ⟨45, _⟩ => ⟨S1x8192, .f32⟩
  | .hbm, ⟨46, _⟩ => ⟨S1x8192x1024, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S8192x1024, .f32⟩
  | .hbm, ⟨52, _⟩ => ⟨S8192x1024, .bf16⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== Kernel10.lean ====
abbrev S8192x3072 : Shape := ⟨2, ![8192, 3072]⟩
abbrev S4x3072 : Shape := ⟨2, ![4, 3072]⟩
abbrev S8192x7168 : Shape := ⟨2, ![8192, 7168]⟩
abbrev S1024x512 : Shape := ⟨2, ![1024, 512]⟩
abbrev S8x512 : Shape := ⟨2, ![8, 512]⟩
abbrev S4x512 : Shape := ⟨2, ![4, 512]⟩
abbrev S1032x512 : Shape := ⟨2, ![1032, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S8192x7168, .bf16⟩
  | .hbm, ⟨3, _⟩ => ⟨S8192x7168, .bf16⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1024x512, .bf16⟩
  | .local _ .vmem, ⟨7, _⟩ => ⟨S1024x512, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x3072 : Shape := ⟨2, ![8192, 3072]⟩
abbrev S4x3072 : Shape := ⟨2, ![4, 3072]⟩
abbrev S8192x7168 : Shape := ⟨2, ![8192, 7168]⟩
abbrev S_ : Shape := ⟨0, ![]⟩
abbrev S1x8192x3072 : Shape := ⟨3, ![1, 8192, 3072]⟩
abbrev S1x3x3072 : Shape := ⟨3, ![1, 3, 3072]⟩
abbrev S1x8195x3072 : Shape := ⟨3, ![1, 8195, 3072]⟩
abbrev S1x3072 : Shape := ⟨2, ![1, 3072]⟩
abbrev S3072 : Shape := ⟨1, ![3072]⟩
abbrev S1x1x3072 : Shape := ⟨3, ![1, 1, 3072]⟩
abbrev S8192x2048 : Shape := ⟨2, ![8192, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S8192x7168, .bf16⟩
  | .hbm, ⟨3, _⟩ => ⟨S_, .f32⟩
  | .hbm, ⟨4, _⟩ => ⟨S8192x3072, .f32⟩
  | .hbm, ⟨5, _⟩ => ⟨S1x8192x3072, .f32⟩
  | .hbm, ⟨6, _⟩ => ⟨S_, .f32⟩
  | .hbm, ⟨7, _⟩ => ⟨S1x3x3072, .f32⟩
  | .hbm, ⟨8, _⟩ => ⟨S1x8195x3072, .f32⟩
  | .hbm, ⟨9, _⟩ => ⟨S_, .f32⟩
  | .hbm, ⟨10, _⟩ => ⟨S1x3x3072, .f32⟩
  | .hbm, ⟨11, _⟩ => ⟨S1x8192x3072, .f32⟩
  | .hbm, ⟨12, _⟩ => ⟨S1x3072, .f32⟩
  | .hbm, ⟨13, _⟩ => ⟨S3072, .f32⟩
  | .hbm, ⟨14, _⟩ => ⟨S1x1x3072, .f32⟩
  | .hbm, ⟨15, _⟩ => ⟨S1x8192x3072, .f32⟩
  | .hbm, ⟨16, _⟩ => ⟨S1x8192x3072, .f32⟩
  | .hbm, ⟨17, _⟩ => ⟨S_, .f32⟩
  | .hbm, ⟨18, _⟩ => ⟨S1x8192x3072, .f32⟩
  | .hbm, ⟨19, _⟩ => ⟨S1x8192x3072, .f32⟩
  | .hbm, ⟨20, _⟩ => ⟨S1x8192x3072, .f32⟩
  | .hbm, ⟨21, _⟩ => ⟨S1x3072, .f32⟩
  | .hbm, ⟨22, _⟩ => ⟨S3072, .f32⟩
  | .hbm, ⟨23, _⟩ => ⟨S1x1x3072, .f32⟩
  | .hbm, ⟨24, _⟩ => ⟨S1x8192x3072, .f32⟩
  | .hbm, ⟨25, _⟩ => ⟨S1x8192x3072, .f32⟩
  | .hbm, ⟨26, _⟩ => ⟨S1x8192x3072, .f32⟩
  | .hbm, ⟨27, _⟩ => ⟨S1x8192x3072, .f32⟩
  | .hbm, ⟨28, _⟩ => ⟨S1x3072, .f32⟩
  | .hbm, ⟨29, _⟩ => ⟨S3072, .f32⟩
  | .hbm, ⟨30, _⟩ => ⟨S1x1x3072, .f32⟩
  | .hbm, ⟨31, _⟩ => ⟨S1x8192x3072, .f32⟩
  | .hbm, ⟨32, _⟩ => ⟨S1x8192x3072, .f32⟩
  | .hbm, ⟨33, _⟩ => ⟨S1x8192x3072, .f32⟩
  | .hbm, ⟨34, _⟩ => ⟨S1x8192x3072, .f32⟩
  | .hbm, ⟨35, _⟩ => ⟨S1x3072, .f32⟩
  | .hbm, ⟨36, _⟩ => ⟨S3072, .f32⟩
  | .hbm, ⟨37, _⟩ => ⟨S1x1x3072, .f32⟩
  | .hbm, ⟨38, _⟩ => ⟨S1x8192x3072, .f32⟩
  | .hbm, ⟨39, _⟩ => ⟨S1x8192x3072, .f32⟩
  | .hbm, ⟨40, _⟩ => ⟨S1x8192x3072, .f32⟩
  | .hbm, ⟨41, _⟩ => ⟨S1x8192x3072, .f32⟩
  | .hbm, ⟨42, _⟩ => ⟨S1x8192x3072, .f32⟩
  | .hbm, ⟨43, _⟩ => ⟨S1x8192x3072, .f32⟩
  | .hbm, ⟨44, _⟩ => ⟨S_, .f32⟩
  | .hbm, ⟨45, _⟩ => ⟨S1x8195x3072, .f32⟩
  | .hbm, ⟨46, _⟩ => ⟨S1x8192x3072, .f32⟩
  | .hbm, ⟨47, _⟩ => ⟨S1x8192x3072, .f32⟩
  | .hbm, ⟨48, _⟩ => ⟨S_, .f32⟩
  | .hbm, ⟨49, _⟩ => ⟨S1x8195x3072, .f32⟩
  | .hbm, ⟨50, _⟩ => ⟨S1x8195x3072, .f32⟩
  | .hbm, ⟨51, _⟩ => ⟨S1x8192x3072, .f32⟩
  | .hbm, ⟨52, _⟩ => ⟨S1x8192x3072, .f32⟩
  | .hbm, ⟨53, _⟩ => ⟨S_, .f32⟩
  | .hbm, ⟨54, _⟩ => ⟨S1x8195x3072, .f32⟩
  | .hbm, ⟨55, _⟩ => ⟨S1x8195x3072, .f32⟩
  | .hbm, ⟨56, _⟩ => ⟨S1x8192x3072, .f32⟩
  | .hbm, ⟨57, _⟩ => ⟨S1x8192x3072, .f32⟩
  | .hbm, ⟨58, _⟩ => ⟨S_, .f32⟩
  | .hbm, ⟨59, _⟩ => ⟨S1x8195x3072, .f32⟩
  | .hbm, ⟨60, _⟩ => ⟨S1x8195x3072, .f32⟩
  | .hbm, ⟨61, _⟩ => ⟨S1x3x3072, .f32⟩
  | .hbm, ⟨62, _⟩ => ⟨S1x8192x3072, .f32⟩
  | .hbm, ⟨63, _⟩ => ⟨S8192x2048, .bf16⟩
  | .hbm, ⟨64, _⟩ => ⟨S8192x3072, .f32⟩
  | .hbm, ⟨65, _⟩ => ⟨S8192x3072, .bf16⟩
  | .hbm, ⟨66, _⟩ => ⟨S8192x2048, .bf16⟩
  | .hbm, ⟨67, _⟩ => ⟨S8192x7168, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== Kernel11.lean ====
abbrev S8192x7168 : Shape := ⟨2, ![8192, 7168]⟩
abbrev S4x3072 : Shape := ⟨2, ![4, 3072]⟩
abbrev S1x3072 : Shape := ⟨2, ![1, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1032x512 : Shape := ⟨2, ![1032, 512]⟩
abbrev S512 : Shape := ⟨1, ![512]⟩

abbrev nBuf : Space → Nat
  | .hbm => 7
  | .vmem => 16
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S8192x3072, .f32⟩
  | .hbm, ⟨5, _⟩ => ⟨S4x3072, .f32⟩
  | .hbm, ⟨6, _⟩ => ⟨S1x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference11Ideal.lean ====
abbrev S8192x7168 : Shape := ⟨2, ![8192, 7168]⟩
abbrev S4x3072 : Shape := ⟨2, ![4, 3072]⟩
abbrev S1x3072 : Shape := ⟨2, ![1, 3072]⟩
abbrev S8192x3072 : Shape := ⟨2, ![8192, 3072]⟩
abbrev S1x8192x3072 : Shape := ⟨3, ![1, 8192, 3072]⟩
abbrev S3072 : Shape := ⟨1, ![3072]⟩
abbrev S_ : Shape := ⟨0, ![]⟩
abbrev S1x3x3072 : Shape := ⟨3, ![1, 3, 3072]⟩
abbrev S1x8195x3072 : Shape := ⟨3, ![1, 8195, 3072]⟩
abbrev S1x1x3072 : Shape := ⟨3, ![1, 1, 3072]⟩

abbrev nBuf : Space → Nat
  | .hbm => 107
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S8192x3072, .f32⟩
  | .hbm, ⟨5, _⟩ => ⟨S1x8192x3072, .f32⟩
  | .hbm, ⟨6, _⟩ => ⟨S3072, .f32⟩
  | .hbm, ⟨7, _⟩ => ⟨S_, .f32⟩
  | .hbm, ⟨8, _⟩ => ⟨S1x3x3072, .f32⟩
  | .hbm, ⟨9, _⟩ => ⟨S1x8195x3072, .f32⟩
  | .hbm, ⟨10, _⟩ => ⟨S1x8192x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S1x8192x3072, .f32⟩
  | .hbm, ⟨15, _⟩ => ⟨S1x8192x3072, .f32⟩
  | .hbm, ⟨16, _⟩ => ⟨S_, .f32⟩
  | .hbm, ⟨17, _⟩ => ⟨S1x8192x3072, .f32⟩
  | .hbm, ⟨18, _⟩ => ⟨S1x8192x3072, .f32⟩
  | .hbm, ⟨19, _⟩ => ⟨S1x8192x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S1x8192x3072, .f32⟩
  | .hbm, ⟨24, _⟩ => ⟨S1x8192x3072, .f32⟩
  | .hbm, ⟨25, _⟩ => ⟨S1x8192x3072, .f32⟩
  | .hbm, ⟨26, _⟩ => ⟨S1x8192x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S1x8192x3072, .f32⟩
  | .hbm, ⟨31, _⟩ => ⟨S1x8192x3072, .f32⟩
  | .hbm, ⟨32, _⟩ => ⟨S1x8192x3072, .f32⟩
  | .hbm, ⟨33, _⟩ => ⟨S1x8192x3072, .f32⟩
  | .hbm, ⟨34, _⟩ => ⟨S1x3072, .f32⟩
  | .hbm, ⟨35, _⟩ => ⟨S3072, .f32⟩
  | .hbm, ⟨36, _⟩ => ⟨S1x1x3072, .f32⟩
  | .hbm, ⟨37, _⟩ => ⟨S1x8192x3072, .f32⟩
  | .hbm, ⟨38, _⟩ => ⟨S1x8192x3072, .f32⟩
  | .hbm, ⟨39, _⟩ => ⟨S1x8192x3072, .f32⟩
  | .hbm, ⟨40, _⟩ => ⟨S1x1x3072, .f32⟩
  | .hbm, ⟨41, _⟩ => ⟨S1x8192x3072, .f32⟩
  | .hbm, ⟨42, _⟩ => ⟨S1x8192x3072, .f32⟩
  | .hbm, ⟨43, _⟩ => ⟨S1x8192x3072, .f32⟩
  | .hbm, ⟨44, _⟩ => ⟨S1x8192x3072, .f32⟩
  | .hbm, ⟨45, _⟩ => ⟨S_, .f32⟩
  | .hbm, ⟨46, _⟩ => ⟨S1x8192x3072, .f32⟩
  | .hbm, ⟨47, _⟩ => ⟨S1x8192x3072, .f32⟩
  | .hbm, ⟨48, _⟩ => ⟨S_, .f32⟩
  | .hbm, ⟨49, _⟩ => ⟨S1x8192x3072, .f32⟩
  | .hbm, ⟨50, _⟩ => ⟨S1x8192x3072, .f32⟩
  | .hbm, ⟨51, _⟩ => ⟨S_, .f32⟩
  | .hbm, ⟨52, _⟩ => ⟨S1x8192x3072, .f32⟩
  | .hbm, ⟨53, _⟩ => ⟨S1x8192x3072, .f32⟩
  | .hbm, ⟨54, _⟩ => ⟨S1x8192x3072, .f32⟩
  | .hbm, ⟨55, _⟩ => ⟨S1x8192x3072, .f32⟩
  | .hbm, ⟨56, _⟩ => ⟨S1x8192x3072, .f32⟩
  | .hbm, ⟨57, _⟩ => ⟨S1x8192x3072, .f32⟩
  | .hbm, ⟨58, _⟩ => ⟨S1x8192x3072, .f32⟩
  | .hbm, ⟨59, _⟩ => ⟨S1x8192x3072, .f32⟩
  | .hbm, ⟨60, _⟩ => ⟨S1x8192x3072, .f32⟩
  | .hbm, ⟨61, _⟩ => ⟨S_, .f32⟩
  | .hbm, ⟨62, _⟩ => ⟨S1x3072, .f32⟩
  | .hbm, ⟨63, _⟩ => ⟨S1x1x3072, .f32⟩
  | .hbm, ⟨64, _⟩ => ⟨S_, .f32⟩
  | .hbm, ⟨65, _⟩ => ⟨S3072, .f32⟩
  | .hbm, ⟨66, _⟩ => ⟨S1x8192x3072, .f32⟩
  | .hbm, ⟨67, _⟩ => ⟨S_, .f32⟩
  | .hbm, ⟨68, _⟩ => ⟨S1x3072, .f32⟩
  | .hbm, ⟨69, _⟩ => ⟨S1x1x3072, .f32⟩
  | .hbm, ⟨70, _⟩ => ⟨S_, .f32⟩
  | .hbm, ⟨71, _⟩ => ⟨S3072, .f32⟩
  | .hbm, ⟨72, _⟩ => ⟨S1x3072, .f32⟩
  | .hbm, ⟨73, _⟩ => ⟨S_, .f32⟩
  | .hbm, ⟨74, _⟩ => ⟨S4x3072, .f32⟩
  | .hbm, ⟨75, _⟩ => ⟨S1x8192x3072, .f32⟩
  | .hbm, ⟨76, _⟩ => ⟨S_, .f32⟩
  | .hbm, ⟨77, _⟩ => ⟨S1x3072, .f32⟩
  | .hbm, ⟨78, _⟩ => ⟨S1x1x3072, .f32⟩
  | .hbm, ⟨79, _⟩ => ⟨S_, .f32⟩
  | .hbm, ⟨80, _⟩ => ⟨S3072, .f32⟩
  | .hbm, ⟨81, _⟩ => ⟨S1x3072, .f32⟩
  | .hbm, ⟨82, _⟩ => ⟨S_, .f32⟩
  | .hbm, ⟨83, _⟩ => ⟨S4x3072, .f32⟩
  | .hbm, ⟨84, _⟩ => ⟨S4x3072, .f32⟩
  | .hbm, ⟨85, _⟩ => ⟨S1x8192x3072, .f32⟩
  | .hbm, ⟨86, _⟩ => ⟨S_, .f32⟩
  | .hbm, ⟨87, _⟩ => ⟨S1x3072, .f32⟩
  | .hbm, ⟨88, _⟩ => ⟨S1x1x3072, .f32⟩
  | .hbm, ⟨89, _⟩ => ⟨S_, .f32⟩
  | .hbm, ⟨90, _⟩ => ⟨S3072, .f32⟩
  | .hbm, ⟨91, _⟩ => ⟨S1x3072, .f32⟩
  | .hbm, ⟨92, _⟩ => ⟨S_, .f32⟩
  | .hbm, ⟨93, _⟩ => ⟨S4x3072, .f32⟩
  | .hbm, ⟨94, _⟩ => ⟨S4x3072, .f32⟩
  | .hbm, ⟨95, _⟩ => ⟨S1x8192x3072, .f32⟩
  | .hbm, ⟨96, _⟩ => ⟨S_, .f32⟩
  | .hbm, ⟨97, _⟩ => ⟨S1x3072, .f32⟩
  | .hbm, ⟨98, _⟩ => ⟨S1x1x3072, .f32⟩
  | .hbm, ⟨99, _⟩ => ⟨S_, .f32⟩
  | .hbm, ⟨100, _⟩ => ⟨S3072, .f32⟩
  | .hbm, ⟨101, _⟩ => ⟨S1x3072, .f32⟩
  | .hbm, ⟨102, _⟩ => ⟨S_, .f32⟩
  | .hbm, ⟨103, _⟩ => ⟨S4x3072, .f32⟩
  | .hbm, ⟨104, _⟩ => ⟨S4x3072, .f32⟩
  | .hbm, ⟨105, _⟩ => ⟨S8192x3072, .f32⟩
  | .hbm, ⟨106, _⟩ => ⟨S1x3072, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v37_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v37_1 : Ref sig .tc := ⟨.hbm, 54, rfl⟩
abbrev main_v37_0 : Ref sig .tc := ⟨.hbm, 55, rfl⟩
abbrev main_v38 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v39 : Ref sig .tc := ⟨.hbm, 60, rfl⟩
abbrev main_cst_1 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_cst_8 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_cst_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩

abbrev nD : Nat := 1
abbrev τ : Topo := Topo.v7x

variable {F : FTy → Type} [FloatOps F]
-- ==== Kernel12.lean ====
abbrev S8192x7168 : Shape := ⟨2, ![8192, 7168]⟩
abbrev S4x3072 : Shape := ⟨2, ![4, 3072]⟩
abbrev S1x3072 : Shape := ⟨2, ![1, 3072]⟩
abbrev S8192x3072 : Shape := ⟨2, ![8192, 3072]⟩
abbrev S1024x512 : Shape := ⟨2, ![1024, 512]⟩
abbrev S8x512 : Shape := ⟨2, ![8, 512]⟩
abbrev S4x512 : Shape := ⟨2, ![4, 512]⟩
abbrev S1x512 : Shape := ⟨2, ![1, 512]⟩
abbrev S1032x512 : Shape := ⟨2, ![1032, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S1x3072, .f32⟩
  | .hbm, ⟨3, _⟩ => ⟨S8192x3072, .f32⟩
  | .local _ .vmem, ⟨0, _⟩ => ⟨S1024x512, .f32⟩
  | .local _ .vmem, ⟨1, _⟩ => ⟨S1024x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S8192x7168 : Shape := ⟨2, ![8192, 7168]⟩
abbrev S4x3072 : Shape := ⟨2, ![4, 3072]⟩
abbrev S1x3072 : Shape := ⟨2, ![1, 3072]⟩
abbrev S8192x3072 : Shape := ⟨2, ![8192, 3072]⟩
abbrev S1x8192x3072 : Shape := ⟨3, ![1, 8192, 3072]⟩
abbrev S_ : Shape := ⟨0, ![]⟩
abbrev S1x3x3072 : Shape := ⟨3, ![1, 3, 3072]⟩
abbrev S1x8195x3072 : Shape := ⟨3, ![1, 8195, 3072]⟩
abbrev S3072 : Shape := ⟨1, ![3072]⟩
abbrev S1x1x3072 : Shape := ⟨3, ![1, 1, 3072]⟩

abbrev nBuf : Space → Nat
  | .hbm => 52
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S1x3072, .f32⟩
  | .hbm, ⟨3, _⟩ => ⟨S8192x3072, .f32⟩
  | .hbm, ⟨4, _⟩ => ⟨S1x8192x3072, .f32⟩
  | .hbm, ⟨5, _⟩ => ⟨S_, .f32⟩
  | .hbm, ⟨6, _⟩ => ⟨S1x3x3072, .f32⟩
  | .hbm, ⟨7, _⟩ => ⟨S1x8195x3072, .f32⟩
  | .hbm, ⟨8, _⟩ => ⟨S1x8192x3072, .f32⟩
  | .hbm, ⟨9, _⟩ => ⟨S1x3072, .f32⟩
  | .hbm, ⟨10, _⟩ => ⟨S3072, .f32⟩
  | .hbm, ⟨11, _⟩ => ⟨S1x1x3072, .f32⟩
  | .hbm, ⟨12, _⟩ => ⟨S1x8192x3072, .f32⟩
  | .hbm, ⟨13, _⟩ => ⟨S1x8192x3072, .f32⟩
  | .hbm, ⟨14, _⟩ => ⟨S_, .f32⟩
  | .hbm, ⟨15, _⟩ => ⟨S1x8192x3072, .f32⟩
  | .hbm, ⟨16, _⟩ => ⟨S1x8192x3072, .f32⟩
  | .hbm, ⟨17, _⟩ => ⟨S1x8192x3072, .f32⟩
  | .hbm, ⟨18, _⟩ => ⟨S1x3072, .f32⟩
  | .hbm, ⟨19, _⟩ => ⟨S3072, .f32⟩
  | .hbm, ⟨20, _⟩ => ⟨S1x1x3072, .f32⟩
  | .hbm, ⟨21, _⟩ => ⟨S1x8192x3072, .f32⟩
  | .hbm, ⟨22, _⟩ => ⟨S1x8192x3072, .f32⟩
  | .hbm, ⟨23, _⟩ => ⟨S1x8192x3072, .f32⟩
  | .hbm, ⟨24, _⟩ => ⟨S1x8192x3072, .f32⟩
  | .hbm, ⟨25, _⟩ => ⟨S1x3072, .f32⟩
  | .hbm, ⟨26, _⟩ => ⟨S3072, .f32⟩
  | .hbm, ⟨27, _⟩ => ⟨S1x1x3072, .f32⟩
  | .hbm, ⟨28, _⟩ => ⟨S1x8192x3072, .f32⟩
  | .hbm, ⟨29, _⟩ => ⟨S1x8192x3072, .f32⟩
  | .hbm, ⟨30, _⟩ => ⟨S1x8192x3072, .f32⟩
  | .hbm, ⟨31, _⟩ => ⟨S1x8192x3072, .f32⟩
  | .hbm, ⟨32, _⟩ => ⟨S1x3072, .f32⟩
  | .hbm, ⟨33, _⟩ => ⟨S3072, .f32⟩
  | .hbm, ⟨34, _⟩ => ⟨S1x1x3072, .f32⟩
  | .hbm, ⟨35, _⟩ => ⟨S1x8192x3072, .f32⟩
  | .hbm, ⟨36, _⟩ => ⟨S1x8192x3072, .f32⟩
  | .hbm, ⟨37, _⟩ => ⟨S1x8192x3072, .f32⟩
  | .hbm, ⟨38, _⟩ => ⟨S3072, .f32⟩
  | .hbm, ⟨39, _⟩ => ⟨S1x1x3072, .f32⟩
  | .hbm, ⟨40, _⟩ => ⟨S1x8192x3072, .f32⟩
  | .hbm, ⟨41, _⟩ => ⟨S1x8192x3072, .f32⟩
  | .hbm, ⟨42, _⟩ => ⟨S1x8192x3072, .f32⟩
  | .hbm, ⟨43, _⟩ => ⟨S1x8192x3072, .f32⟩
  | .hbm, ⟨44, _⟩ => ⟨S_, .f32⟩
  | .hbm, ⟨45, _⟩ => ⟨S1x8192x3072, .f32⟩
  | .hbm, ⟨46, _⟩ => ⟨S1x8192x3072, .f32⟩
  | .hbm, ⟨47, _⟩ => ⟨S_, .f32⟩
  | .hbm, ⟨48, _⟩ => ⟨S1x8192x3072, .f32⟩
  | .hbm, ⟨49, _⟩ => ⟨S1x8192x3072, .f32⟩
  | .hbm, ⟨50, _⟩ => ⟨S1x8192x3072, .f32⟩
  | .hbm, ⟨51, _⟩ => ⟨S8192x3072, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Mm.lean ====
/-
  Shared facts of the plain products. A matrix is read at two natural numbers (`at2`), a tiled product adds, tile
  after tile along the contracted axis, the tile's sum of products (`tile`), and the tiles' sums are the whole sum
  (`sum_tiles`): re-association of an extended real sum, with no condition on the entries.
-/
module

public import Idealize.ShloMosaic.PureOps.Ideal
public import Idealize.ShloMosaic.Lib.ValueIdx
public import Idealize.ShloMosaic.Lib.Pipeline.Value

@[expose] public section

noncomputable section

namespace Cert.Proof.Mm

open Idealize.ShloMosaic Idealize.ShloMosaic.ValueIdx
open scoped BigOperators

/-- A matrix at row `r` and column `c`, zero outside. -/
def at2 {a b : ℕ} (x : (⟨2, ![a, b]⟩ : Shape).Idx → EReal) (r c : ℕ) : EReal :=
  if h : r < a ∧ c < b then x (ix2 ⟨r, h.1⟩ ⟨c, h.2⟩) else 0

theorem at2_ix {a b : ℕ} (x : (⟨2, ![a, b]⟩ : Shape).Idx → EReal) (r : Fin a) (c : Fin b) :
    x (ix2 r c) = at2 x r.val c.val := by
  unfold at2; rw [dif_pos ⟨r.isLt, c.isLt⟩]

/-- An element named by any index whose coordinates are `r` and `c`. -/
theorem at2_of {a b : ℕ} (x : (⟨2, ![a, b]⟩ : Shape).Idx → EReal) (i : (⟨2, ![a, b]⟩ : Shape).Idx) (r c : ℕ)
    (h0 : (i 0).val = r) (h1 : (i 1).val = c) : x i = at2 x r c := by
  subst h0 h1
  exact (congrArg x (eq_ix2 i)).trans (at2_ix x (i 0) (i 1))

/-- A block at `(r, c)` is the array at the block's offset plus `(r, c)`. -/
theorem at2_block {a b p q : ℕ} (x : (⟨2, ![a, b]⟩ : Shape).Idx → EReal) (y : (⟨2, ![p, q]⟩ : Shape).Idx → EReal) (o0 o1 : ℕ)
    (h : ∀ i : (⟨2, ![p, q]⟩ : Shape).Idx, y i = at2 x (o0 + (i 0).val) (o1 + (i 1).val)) (r c : ℕ) (hr : r < p) (hc : c < q) :
    at2 y r c = at2 x (o0 + r) (o1 + c) := by
  rw [← at2_ix y ⟨r, hr⟩ ⟨c, hc⟩, h]; rfl

/-- The sum over the tiles of the sums inside the tiles is the whole sum. -/
theorem sum_tiles (f : ℕ → EReal) (n k : ℕ) :
    ∑ s ∈ Finset.range n, ∑ j ∈ Finset.range k, f (s * k + j) = ∑ j ∈ Finset.range (n * k), f j := by
  induction n with
  | zero => simp
  | succ n ih => rw [Finset.sum_range_succ, ih, Nat.succ_mul, Finset.sum_range_add]

/-- The one run of a fold that adds an addend at each step, from a reset at the multiples of `k`. -/
theorem fold_runs {N : ℕ} {β : Type*} [AddCommMonoid β] (A : (n : ℕ) → n < N → β) (M : ℕ → β) (k : ℕ) (hk : 0 < k)
    (h0 : ∀ n (h : n < N), n % k = 0 → A n h = M n)
    (h1 : ∀ n (h : n + 1 < N), (n + 1) % k ≠ 0 → A (n + 1) h = A n (Nat.lt_of_succ_lt h) + M (n + 1)) :
    ∀ n (h : n < N), A n h = ∑ s ∈ Finset.range (n % k + 1), M (k * (n / k) + s)
  | 0, h => by simp [h0 0 h (Nat.zero_mod k)]
  | n + 1, h => by
    by_cases hz : (n + 1) % k = 0
    · rw [h0 _ h hz, hz, zero_add, Finset.sum_range_one]
      have := Nat.div_add_mod (n + 1) k
      rw [hz] at this
      rw [this]
    · rw [h1 n h hz, fold_runs A M k hk h0 h1 n (Nat.lt_of_succ_lt h)]
      have hd : (n + 1) / k = n / k := by
        rw [Nat.succ_div, if_neg (fun hd => hz (Nat.mod_eq_zero_of_dvd hd)), add_zero]
      have e := Nat.div_add_mod n k
      have e' := Nat.div_add_mod (n + 1) k
      rw [hd] at e'
      have hm : (n + 1) % k = n % k + 1 := by omega
      rw [hd, hm, Finset.sum_range_succ _ (n % k + 1)]
      congr 2
      omega

end Cert.Proof.Mm

end
-- ==== Proof.ConvMath.lean ====
/-
  The gradient of a causal convolution of four taps with respect to its input: the entry at a row receives the taps'
  parts from the row itself and the three rows after it. A row past the end has no part, which is what `at2` says by
  being zero outside.
-/
module

public import proofs.«01_k».proof.Proof.Mm
public import Idealize.ShloMosaic.Lib.Pointwise
public import Idealize.ShloMosaic.PureOps.Ideal

@[expose] public section

noncomputable section

namespace Cert.Conv

open Idealize.ShloMosaic
open Cert.Proof.Mm (at2 at2_of at2_ix)
open scoped BigOperators

/-- What the entry at row `r` and column `c` receives from the gradients `x` through the taps `w`. -/
def back {a b : ℕ} (x : (⟨2, ![a, b]⟩ : Shape).Idx → EReal) (w : (⟨2, ![4, b]⟩ : Shape).Idx → EReal) (r c : ℕ) : EReal :=
  at2 x (r + 3) c * at2 w 0 c + at2 x (r + 2) c * at2 w 1 c + at2 x (r + 1) c * at2 w 2 c + at2 x r c * at2 w 3 c

/-- An entry with a bound on its row, zero past it. -/
theorem at2_dite {a b : ℕ} (x : (⟨2, ![a, b]⟩ : Shape).Idx → EReal) (r : ℕ) (c : Fin b) :
    (if h : r < a then x (ix2 ⟨r, h⟩ c) else 0) = at2 x r c.val := by
  unfold at2
  by_cases h : r < a
  · rw [dif_pos h, dif_pos ⟨h, c.isLt⟩]
    rfl
  · rw [dif_neg h, dif_neg fun q => h q.1]

end Cert.Conv

end
-- ==== Proof.ConvPreMath.lean ====
/-
  The gradient of a causal convolution of four taps, a bias and the gate `p · logistic p`: what the entry before the gate
  is, what it receives from the gate's result, and the parts of the weights' gradients. A row before the first has no
  part. The packed columns hold the convolution's input from column 2048.
-/
module

public import proofs.«01_k».proof.Proof.ConvMath

@[expose] public section

noncomputable section

namespace Cert.Conv

open Idealize.ShloMosaic
open Cert.Proof.Mm (at2 at2_of at2_ix)

/-- The input `d` rows before row `r`. -/
def tap (x : (⟨2, ![8192, 7168]⟩ : Shape).Idx → EReal) (d r c : ℕ) : EReal := if r < d then 0 else at2 x (r - d) (2048 + c)

/-- The convolution with its bias, at row `r` and column `c`. -/
def pre (x : (⟨2, ![8192, 7168]⟩ : Shape).Idx → EReal) (w : (⟨2, ![4, 3072]⟩ : Shape).Idx → EReal)
    (b : (⟨2, ![1, 3072]⟩ : Shape).Idx → EReal) (r c : ℕ) : EReal :=
  at2 b 0 c + tap x 3 r c * at2 w 0 c + tap x 2 r c * at2 w 1 c + tap x 1 r c * at2 w 2 c + tap x 0 r c * at2 w 3 c

/-- What an entry `p` receives when its gated value receives `g`. -/
def gated (g p : EReal) : EReal := g * (Ideal.logistic p * (1 + p * (1 - Ideal.logistic p)))

/-- What the entry at row `r` and column `c` receives. -/
def dpre (x : (⟨2, ![8192, 7168]⟩ : Shape).Idx → EReal) (w : (⟨2, ![4, 3072]⟩ : Shape).Idx → EReal)
    (b : (⟨2, ![1, 3072]⟩ : Shape).Idx → EReal) (g : (⟨2, ![8192, 3072]⟩ : Shape).Idx → EReal) (r c : ℕ) : EReal :=
  gated (at2 g r c) (pre x w b r c)

/-- The product rule's form of the gate's gradient, for a finite `g`. -/
theorem gated_eq (g p : EReal) (ht : g ≠ ⊤) (hb : g ≠ ⊥) :
    g * Ideal.logistic p + p * g * (Ideal.logistic p * (1 - Ideal.logistic p)) = gated g p := by
  unfold gated
  lift g to ℝ using ⟨ht, hb⟩
  induction p with
  | bot => simp
  | top => simp [Ideal.logistic_top, show (1 : EReal) - 1 = 0 from EReal.sub_self (EReal.coe_ne_top 1) (EReal.coe_ne_bot 1)]
  | coe p =>
    rw [Ideal.logistic_coe]
    norm_cast
    ring

end Cert.Conv

end
-- ==== Proof.Conv11.lean ====
/-
  The gradient of the gated convolution: what a grid point leaves, and the three result arrays. A point holds 1024 rows of
  512 columns and the 8 rows before them, of which it reads 3. It writes what its entries receive and adds its parts to the
  gradients of the taps and of the bias, which a column's first point starts from zero.
-/
module

public import proofs.«01_k».proof.Proof.ConvPreMath
public import proofs.«01_k».proof.Proof.Gen.Kernel11Ideal.Value
public import Idealize.ShloMosaic.Lib.StableHlo.RunRead
public import Idealize.ShloMosaic.Lib.VecWindow

@[expose] public section

noncomputable section

namespace Cert.Kernel11Ideal.Conv

open Cert.Kernel11Ideal Cert.Kernel11Ideal.Gen Idealize.ShloMosaic Idealize.ShloMosaic.TcCoe Idealize.SL.Sem
open Idealize.ShloMosaic.Pipeline (Dat)
open Cert.Conv
open Cert.Proof.Mm (at2 at2_of at2_ix sum_tiles fold_runs)
open scoped BigOperators

/-- What lies before the block: the block before's last rows, and zero at the first block. -/
theorem before (b : ℕ) (hb : b < 8) (z a : EReal) :
    Scalar.select (Scalar.cmpi CmpIPredicate.eq (BitVec.ofNat 32 b) 0#32) z a = if b = 0 then z else a := by
  interval_cases b <;> rfl

section Tile

variable (X : S8192x7168.Idx → EReal) (W : S4x3072.Idx → EReal) (B : S1x3072.Idx → EReal) (DY : S8192x3072.Idx → EReal)
  (b q : ℕ) (hb : b < 8) (hq : q < 6) (i : grid0.Coords) (hi : (i 1).val = b)
  (h : Vec Ideal S8x512 .f32) (x : Vec Ideal S1024x512 .f32) (w : Vec Ideal S4x512 .f32) (bb : Vec Ideal S1x512 .f32)
  (g : Vec Ideal S1024x512 .f32)
  (hh : b ≠ 0 → ∀ i : S8x512.Idx, h i = at2 X (b * 1024 - 8 + (i 0).val) (2048 + (q * 512 + (i 1).val)))
  (hx : ∀ i : S1024x512.Idx, x i = at2 X (b * 1024 + (i 0).val) (2048 + (q * 512 + (i 1).val)))
  (hw : ∀ i : S4x512.Idx, w i = at2 W (i 0).val (q * 512 + (i 1).val))
  (hbb : ∀ i : S1x512.Idx, bb i = at2 B 0 (q * 512 + (i 1).val))
  (hg : ∀ i : S1024x512.Idx, g i = at2 DY (b * 1024 + (i 0).val) (q * 512 + (i 1).val))

include hb hi hh hx in
/-- The rows with those before them. -/
theorem rows_apply (r : Fin 1032) (j : Fin 512) (s d : ℕ) (hs : r.val + d = s + 8) (hd : d ≤ 3) (hs1 : s < 1024) :
    (k0_pay3 (F := Ideal) i h x (ix2 r j) : EReal) = tap X d (b * 1024 + s) (q * 512 + j.val) := by
  unfold k0_pay3
  pointwise
  simp only [hi]
  unfold tap
  split
  · rename_i p
    rw [before b hb]
    split
    · exact (if_pos (by omega)).symm
    · rename_i hl
      rw [if_neg (by omega), hh hl]
      refine congrArg (fun n => at2 X n (2048 + (q * 512 + j.val))) ?_
      show b * 1024 - 8 + r.val = _
      omega
  · rename_i p
    refine (hx _).trans (Eq.trans ?_ (if_neg (show ¬b * 1024 + s < d by omega)).symm)
    refine congrArg (fun n => at2 X n (2048 + (q * 512 + j.val))) ?_
    show b * 1024 + (r.val - 8) = _
    omega

include hb hi hh hx in
theorem tap3_apply (r : Fin 1024) (j : Fin 512) :
    (k0_pay4 (F := Ideal) i h x (ix2 r j) : EReal) = tap X 3 (b * 1024 + r.val) (q * 512 + j.val) := by
  unfold k0_pay4
  pointwise
  refine rows_apply X b q hb i hi h x hh hx _ j r.val 3 ?_ (by decide) r.isLt
  have := r.isLt
  dsimp only
  omega

include hb hi hh hx in
theorem tap2_apply (r : Fin 1024) (j : Fin 512) :
    (k0_pay5 (F := Ideal) i h x (ix2 r j) : EReal) = tap X 2 (b * 1024 + r.val) (q * 512 + j.val) := by
  unfold k0_pay5
  pointwise
  refine rows_apply X b q hb i hi h x hh hx _ j r.val 2 ?_ (by decide) r.isLt
  have := r.isLt
  dsimp only
  omega

include hb hi hh hx in
theorem tap1_apply (r : Fin 1024) (j : Fin 512) :
    (k0_pay6 (F := Ideal) i h x (ix2 r j) : EReal) = tap X 1 (b * 1024 + r.val) (q * 512 + j.val) := by
  unfold k0_pay6
  pointwise
  refine rows_apply X b q hb i hi h x hh hx _ j r.val 1 ?_ (by decide) r.isLt
  have := r.isLt
  dsimp only
  omega

include hb hi hh hx in
theorem tap0_apply (r : Fin 1024) (j : Fin 512) :
    (k0_pay7 (F := Ideal) i h x (ix2 r j) : EReal) = tap X 0 (b * 1024 + r.val) (q * 512 + j.val) := by
  unfold k0_pay7
  pointwise
  refine rows_apply X b q hb i hi h x hh hx _ j r.val 0 ?_ (by decide) r.isLt
  have := r.isLt
  dsimp only
  omega

include hb hi hh hx hw hbb in
theorem pre_apply (r : Fin 1024) (j : Fin 512) :
    (k0_pay8 (F := Ideal) i h x w bb (ix2 r j) : EReal) = pre X W B (b * 1024 + r.val) (q * 512 + j.val) := by
  unfold k0_pay8
  pointwise
  simp only [tap3_apply X b q hb i hi h x hh hx, tap2_apply X b q hb i hi h x hh hx, tap1_apply X b q hb i hi h x hh hx,
    tap0_apply X b q hb i hi h x hh hx, hw, hbb]
  rfl

include hb hi hh hx hw hbb hg in
/-- What a block's entries receive. -/
theorem dpre_apply (r : Fin 1024) (j : Fin 512) :
    (k0_pay12 (F := Ideal) (k0_pay9 i h x w bb) g (k0_pay10 i h x w bb) k0_pay11 (ix2 r j) : EReal)
      = dpre X W B DY (b * 1024 + r.val) (q * 512 + j.val) := by
  unfold k0_pay12 k0_pay11 k0_pay10 k0_pay9
  pointwise
  simp only [pre_apply X W B b q hb i hi h x w bb hh hx hw hbb, hg]
  rfl

end Tile

/-- The sum over a block's rows. -/
def colSum (v : FVec Ideal S1024x512 .f32) (j : Fin 512) : EReal := ∑ r : Fin 1024, (v (ix2 r j) : EReal)

theorem pay2_apply (v : FVec Ideal S1024x512 .f32) (o : Vec Ideal S1x512 .f32) (j : Fin 512) :
    (k0_pay2 (F := Ideal) v o (ix2 0 j) : EReal) = o (ix2 0 j) + colSum v j := by
  unfold k0_pay2 colSum
  pointwise

/-- A tap's row: what it held, and the block's part. -/
def part (T v34 g v38 v39 : FVec Ideal S1024x512 .f32) (j : Fin 512) : EReal :=
  ∑ r : Fin 1024, (k0_pay12 (F := Ideal) v34 g v38 v39 (ix2 r j) * T (ix2 r j) : EReal)

section Parts
variable (T v34 g v38 v39 : FVec Ideal S1024x512 .f32) (o : Vec Ideal S1x512 .f32) (j : Fin 512)
theorem pay15_apply : (k0_pay15 (F := Ideal) T v34 g v38 v39 o (ix2 0 j) : EReal) = o (ix2 0 j) + part T v34 g v38 v39 j := by
  unfold k0_pay15 part
  pointwise
theorem pay16_apply : (k0_pay16 (F := Ideal) T v34 g v38 v39 o (ix2 0 j) : EReal) = o (ix2 0 j) + part T v34 g v38 v39 j := by
  unfold k0_pay16 part
  pointwise
theorem pay17_apply : (k0_pay17 (F := Ideal) T v34 g v38 v39 o (ix2 0 j) : EReal) = o (ix2 0 j) + part T v34 g v38 v39 j := by
  unfold k0_pay17 part
  pointwise
theorem pay18_apply : (k0_pay1 (F := Ideal) (k0_pay18 o) (k0_pay19 T v34 g v38 v39) (ix2 0 j) : EReal) = o (ix2 0 j) + part T v34 g v38 v39 j := by
  unfold k0_pay1 k0_pay18 k0_pay19 part
  pointwise
end Parts

theorem hz : (![0, 0] : Fin 2 → Nat) = fun _ => 0 := funext fun a => by fin_cases a <;> rfl

section Point

variable (c : Dev nD) (i : grid0.Coords) (a2 : Memref sig .tc .vmem S1024x512 .f32) (h2 : a2.IsWhole)
  (a3 : Memref sig .tc .vmem S8x512 .f32) (h3 : a3.IsWhole) (a4 : Memref sig .tc .vmem S4x512 .f32) (h4 : a4.IsWhole)
  (a5 : Memref sig .tc .vmem S1x512 .f32) (h5 : a5.IsWhole) (a6 : Memref sig .tc .vmem S1024x512 .f32) (h6 : a6.IsWhole)
  (a7 : Memref sig .tc .vmem S1024x512 .f32) (h7 : a7.IsWhole) (a8 : Memref sig .tc .vmem S4x512 .f32) (h8 : a8.IsWhole)
  (a9 : Memref sig .tc .vmem S1x512 .f32) (h9 : a9.IsWhole)
  (x : Vec Ideal S1024x512 .f32) (h : Vec Ideal S8x512 .f32) (w : Vec Ideal S4x512 .f32) (b : Vec Ideal S1x512 .f32)
  (g : Vec Ideal S1024x512 .f32) (o6 : Vec Ideal S4x512 .f32) (o7 : Vec Ideal S1x512 .f32)

/-- What a block's entries receive, from the blocks read. -/
abbrev received : FVec Ideal S1024x512 .f32 := k0_pay12 (k0_pay9 i h x w b) g (k0_pay10 i h x w b) k0_pay11

/-- What a point leaves in its block, at a column's first point and at a later one. -/
theorem block_A (hc : cond0_0 i) :
    out0_A_5 (F := Ideal) c i a2 h2 a3 h3 a4 h4 a5 h5 a6 h6 a7 h7 a8 h8 a9 h9 hc x h w b g = received i x h w b g := by
  unfold out0_A_5
  rw [View.read_writes_eq_canon _ _ _ (cover0_A_5 c i a2 h2 a3 h3 a4 h4 a5 h5 a6 h6 a7 h7 a8 h8 a9 h9 hc x h w b g)]
  unfold kernelRun0_A
  dsimp only
  sl_unfold_words
  rw [View.canon_unit_zero hz]
  simp only [View.readAt_eq_ld, h2.read_unread, h3.read_unread, h4.read_unread, h5.read_unread, h6.read_unread, View.ld_unit_zero (S := S1024x512) hz, View.ld_unit_zero (S := S8x512) hz, View.ld_unit_zero (S := S4x512) hz, View.ld_unit_zero (S := S1x512) hz]

theorem block_B (hc : ¬cond0_0 i) :
    out0_B_5 (F := Ideal) c i a2 h2 a3 h3 a4 h4 a5 h5 a6 h6 a7 h7 a8 h8 a9 h9 hc x h w b g o6 o7 = received i x h w b g := by
  unfold out0_B_5
  rw [View.read_writes_eq_canon _ _ _ (cover0_B_5 c i a2 h2 a3 h3 a4 h4 a5 h5 a6 h6 a7 h7 a8 h8 a9 h9 hc x h w b g o6 o7)]
  unfold kernelRun0_B
  dsimp only
  sl_unfold_words
  rw [View.canon_unit_zero hz]
  simp only [View.readAt_eq_ld, h2.read_unread, h3.read_unread, h4.read_unread, h5.read_unread, h6.read_unread, View.ld_unit_zero (S := S1024x512) hz, View.ld_unit_zero (S := S8x512) hz, View.ld_unit_zero (S := S4x512) hz, View.ld_unit_zero (S := S1x512) hz]

/-- What a point leaves in the bias's gradient. -/
theorem bias_A (hc : cond0_0 i) (j : Fin 512) :
    (out0_A_7 (F := Ideal) c i a2 h2 a3 h3 a4 h4 a5 h5 a6 h6 a7 h7 a8 h8 a9 h9 hc x h w b g (ix2 0 j) : EReal) = colSum (received i x h w b g) j := by
  unfold out0_A_7
  rw [View.read_writes_eq_canon _ _ _ (cover0_A_7 c i a2 h2 a3 h3 a4 h4 a5 h5 a6 h6 a7 h7 a8 h8 a9 h9 hc x h w b g)]
  unfold kernelRun0_A
  dsimp only
  sl_unfold_words
  rw [View.canon_cons_unit_zero hz, View.readCov_full]
  simp only [View.readAt_eq_ld, h2.read_unread, h3.read_unread, h4.read_unread, h5.read_unread, h6.read_unread, View.ld_unit_zero (S := S1024x512) hz, View.ld_unit_zero (S := S8x512) hz, View.ld_unit_zero (S := S4x512) hz, View.ld_unit_zero (S := S1x512) hz]
  refine (pay2_apply _ _ j).trans ?_
  refine Eq.trans (congrArg (· + _) (Ideal.ofBits_zero_f32)) (zero_add _)

theorem bias_B (hc : ¬cond0_0 i) (j : Fin 512) :
    (out0_B_7 (F := Ideal) c i a2 h2 a3 h3 a4 h4 a5 h5 a6 h6 a7 h7 a8 h8 a9 h9 hc x h w b g o6 o7 (ix2 0 j) : EReal)
      = o7 (ix2 0 j) + colSum (received i x h w b g) j := by
  unfold out0_B_7
  rw [View.read_writes_eq_canon _ _ _ (cover0_B_7 c i a2 h2 a3 h3 a4 h4 a5 h5 a6 h6 a7 h7 a8 h8 a9 h9 hc x h w b g o6 o7)]
  unfold kernelRun0_B
  dsimp only
  sl_unfold_words
  rw [View.canon_unit_zero hz]
  simp only [View.readAt_eq_ld, h2.read_unread, h3.read_unread, h4.read_unread, h5.read_unread, h6.read_unread, h9.read_unread, View.ld_unit_zero (S := S1024x512) hz, View.ld_unit_zero (S := S8x512) hz, View.ld_unit_zero (S := S4x512) hz, View.ld_unit_zero (S := S1x512) hz]
  exact pay2_apply _ _ j

/-- The rows that the four taps' parts read. -/
def tapBlock (k : Fin 4) : FVec Ideal S1024x512 .f32 := ![k0_pay4 i h x, k0_pay5 i h x, k0_pay6 i h x, k0_pay7 i h x] k

/-- A tap's part from the blocks read. -/
def tapPart (k : Fin 4) (j : Fin 512) : EReal := ∑ r : Fin 1024, (received i x h w b g (ix2 r j) * tapBlock i x h k (ix2 r j) : EReal)

/-- A row of a block of four, read through the row's rectangle. -/
theorem ld_row (o : Vec Ideal S4x512 .f32) (k : Fin 4) (inb : ∀ a, ![k.val, 0] a + ![1, 512] a ≤ S4x512.size a) (j : Fin 512) :
    (View.ld o (Rect.unit (s := S4x512) ![k.val, 0] ![1, 512] inb) (ix2 (0 : Fin 1) j) : EReal) = o (ix2 k j) := by
  refine congrArg o ?_
  funext a
  fin_cases a
  · exact Fin.ext (show k.val + 1 * 0 = k.val by omega)
  · exact Fin.ext (show 0 + 1 * j.val = j.val by omega)

theorem readCov_row (L : List (View.Piece (Elt Ideal) S4x512 .f32)) (k : Fin 4)
    (inb : ∀ a, ![k.val, 0] a + ![1, 512] a ≤ S4x512.size a) (j : Fin 512) :
    (a8.view.readCov L (Rect.unit (s := S4x512) ![k.val, 0] ![1, 512] inb).toLoadRect (ix2 (0 : Fin 1) j) : EReal)
      = a8.view.read (Elt Ideal) (a8.view.writes (Elt Ideal) a8.view.junk L) (ix2 k j) := by
  unfold View.readCov
  rw [View.readAt_eq_ld]
  exact ld_row _ k inb j

/-- The rows before anything is added. -/
theorem cleared (f : a8.view.ty.Contents (Elt Ideal)) (inb : ∀ a, ![0, 0] a + ![4, 512] a ≤ S4x512.size a) (k : Fin 4) (j : Fin 512) :
    (a8.view.read (Elt Ideal) (a8.view.writes (Elt Ideal) f [⟨Rect.unit (s := S4x512) ![0, 0] ![4, 512] inb, k0_pay13 (F := Ideal)⟩]) (ix2 k j) : EReal) = 0 := by
  refine Eq.trans (View.read_writes_cons_rows_of_mem _ _ _ _ _ _ (ix2 k j) (o := 0) rfl (Nat.zero_add _).symm rfl) ?_
  exact Ideal.ofBits_zero_f32

/-- What a point leaves in the taps' gradient. -/
theorem taps_B (hc : ¬cond0_0 i) (k : Fin 4) (j : Fin 512) :
    (out0_B_6 (F := Ideal) c i a2 h2 a3 h3 a4 h4 a5 h5 a6 h6 a7 h7 a8 h8 a9 h9 hc x h w b g o6 o7 (ix2 k j) : EReal)
      = o6 (ix2 k j) + tapPart i x h w b g k j := by
  unfold out0_B_6 kernelRun0_B
  dsimp only
  sl_unfold_words
  simp only [View.readAt_eq_ld, h2.read_unread, h3.read_unread, h4.read_unread, h5.read_unread, h6.read_unread, h8.read_unread, View.ld_unit_zero (S := S1024x512) hz, View.ld_unit_zero (S := S8x512) hz, View.ld_unit_zero (S := S4x512) hz, View.ld_unit_zero (S := S1x512) hz]
  fin_cases k
  · refine Eq.trans (View.read_writes_cons_rows_of_not_mem _ _ _ _ _ _ (o := 3) (W := 1) rfl rfl (.inl (show 0 < 3 by decide))) ?_
    refine Eq.trans (View.read_writes_cons_rows_of_not_mem _ _ _ _ _ _ (o := 2) (W := 1) rfl rfl (.inl (show 0 < 2 by decide))) ?_
    refine Eq.trans (View.read_writes_cons_rows_of_not_mem _ _ _ _ _ _ (o := 1) (W := 1) rfl rfl (.inl (show 0 < 1 by decide))) ?_
    refine Eq.trans (View.read_writes_cons_rows_of_mem _ _ _ _ _ _ (ix2 (0 : Fin 1) j) (o := 0) rfl rfl (show j.val = _ from rfl)) ?_
    refine (pay15_apply _ _ _ _ _ _ j).trans ?_
    exact congrArg (· + _) (ld_row o6 0 _ j)
  · refine Eq.trans (View.read_writes_cons_rows_of_not_mem _ _ _ _ _ _ (o := 3) (W := 1) rfl rfl (.inl (show 1 < 3 by decide))) ?_
    refine Eq.trans (View.read_writes_cons_rows_of_not_mem _ _ _ _ _ _ (o := 2) (W := 1) rfl rfl (.inl (show 1 < 2 by decide))) ?_
    refine Eq.trans (View.read_writes_cons_rows_of_mem _ _ _ _ _ _ (ix2 (0 : Fin 1) j) (o := 1) rfl rfl (show j.val = _ from rfl)) ?_
    refine (pay16_apply _ _ _ _ _ _ j).trans ?_
    exact congrArg (· + _) (ld_row o6 1 _ j)
  · refine Eq.trans (View.read_writes_cons_rows_of_not_mem _ _ _ _ _ _ (o := 3) (W := 1) rfl rfl (.inl (show 2 < 3 by decide))) ?_
    refine Eq.trans (View.read_writes_cons_rows_of_mem _ _ _ _ _ _ (ix2 (0 : Fin 1) j) (o := 2) rfl rfl (show j.val = _ from rfl)) ?_
    refine (pay17_apply _ _ _ _ _ _ j).trans ?_
    exact congrArg (· + _) (ld_row o6 2 _ j)
  · refine Eq.trans (View.read_writes_cons_rows_of_mem _ _ _ _ _ _ (ix2 (0 : Fin 1) j) (o := 3) rfl rfl (show j.val = _ from rfl)) ?_
    refine (pay18_apply _ _ _ _ _ _ j).trans ?_
    exact congrArg (· + _) (ld_row o6 3 _ j)

theorem taps_A (hc : cond0_0 i) (k : Fin 4) (j : Fin 512) :
    (out0_A_6 (F := Ideal) c i a2 h2 a3 h3 a4 h4 a5 h5 a6 h6 a7 h7 a8 h8 a9 h9 hc x h w b g (ix2 k j) : EReal) = tapPart i x h w b g k j := by
  unfold out0_A_6 kernelRun0_A
  dsimp only
  sl_unfold_words
  simp only [View.readAt_eq_ld, h2.read_unread, h3.read_unread, h4.read_unread, h5.read_unread, h6.read_unread, View.ld_unit_zero (S := S1024x512) hz, View.ld_unit_zero (S := S8x512) hz, View.ld_unit_zero (S := S4x512) hz, View.ld_unit_zero (S := S1x512) hz]
  fin_cases k
  · refine Eq.trans (View.read_writes_cons_rows_of_not_mem _ _ _ _ _ _ (o := 3) (W := 1) rfl rfl (.inl (show 0 < 3 by decide))) ?_
    refine Eq.trans (View.read_writes_cons_rows_of_not_mem _ _ _ _ _ _ (o := 2) (W := 1) rfl rfl (.inl (show 0 < 2 by decide))) ?_
    refine Eq.trans (View.read_writes_cons_rows_of_not_mem _ _ _ _ _ _ (o := 1) (W := 1) rfl rfl (.inl (show 0 < 1 by decide))) ?_
    refine Eq.trans (View.read_writes_cons_rows_of_mem _ _ _ _ _ _ (ix2 (0 : Fin 1) j) (o := 0) rfl rfl (show j.val = _ from rfl)) ?_
    refine (pay15_apply _ _ _ _ _ _ j).trans ?_
    refine Eq.trans (congrArg (· + _) ?_) (zero_add _)
    refine (readCov_row a8 _ 0 _ j).trans ?_
    exact cleared a8 _ _ 0 j
  · refine Eq.trans (View.read_writes_cons_rows_of_not_mem _ _ _ _ _ _ (o := 3) (W := 1) rfl rfl (.inl (show 1 < 3 by decide))) ?_
    refine Eq.trans (View.read_writes_cons_rows_of_not_mem _ _ _ _ _ _ (o := 2) (W := 1) rfl rfl (.inl (show 1 < 2 by decide))) ?_
    refine Eq.trans (View.read_writes_cons_rows_of_mem _ _ _ _ _ _ (ix2 (0 : Fin 1) j) (o := 1) rfl rfl (show j.val = _ from rfl)) ?_
    refine (pay16_apply _ _ _ _ _ _ j).trans ?_
    refine Eq.trans (congrArg (· + _) ?_) (zero_add _)
    refine (readCov_row a8 _ 1 _ j).trans ?_
    refine Eq.trans (View.read_writes_cons_rows_of_not_mem _ _ _ _ _ _ (o := 0) (W := 1) rfl rfl (.inr (show 0 + 1 ≤ 1 by decide))) ?_
    exact cleared a8 _ _ 1 j
  · refine Eq.trans (View.read_writes_cons_rows_of_not_mem _ _ _ _ _ _ (o := 3) (W := 1) rfl rfl (.inl (show 2 < 3 by decide))) ?_
    refine Eq.trans (View.read_writes_cons_rows_of_mem _ _ _ _ _ _ (ix2 (0 : Fin 1) j) (o := 2) rfl rfl (show j.val = _ from rfl)) ?_
    refine (pay17_apply _ _ _ _ _ _ j).trans ?_
    refine Eq.trans (congrArg (· + _) ?_) (zero_add _)
    refine (readCov_row a8 _ 2 _ j).trans ?_
    refine Eq.trans (View.read_writes_cons_rows_of_not_mem _ _ _ _ _ _ (o := 1) (W := 1) rfl rfl (.inr (show 1 + 1 ≤ 2 by decide))) ?_
    refine Eq.trans (View.read_writes_cons_rows_of_not_mem _ _ _ _ _ _ (o := 0) (W := 1) rfl rfl (.inr (show 0 + 1 ≤ 2 by decide))) ?_
    exact cleared a8 _ _ 2 j
  · refine Eq.trans (View.read_writes_cons_rows_of_mem _ _ _ _ _ _ (ix2 (0 : Fin 1) j) (o := 3) rfl rfl (show j.val = _ from rfl)) ?_
    refine (pay18_apply _ _ _ _ _ _ j).trans ?_
    refine Eq.trans (congrArg (· + _) ?_) (zero_add _)
    refine (readCov_row a8 _ 3 _ j).trans ?_
    refine Eq.trans (View.read_writes_cons_rows_of_not_mem _ _ _ _ _ _ (o := 2) (W := 1) rfl rfl (.inr (show 2 + 1 ≤ 3 by decide))) ?_
    refine Eq.trans (View.read_writes_cons_rows_of_not_mem _ _ _ _ _ _ (o := 1) (W := 1) rfl rfl (.inr (show 1 + 1 ≤ 3 by decide))) ?_
    refine Eq.trans (View.read_writes_cons_rows_of_not_mem _ _ _ _ _ _ (o := 0) (W := 1) rfl rfl (.inr (show 0 + 1 ≤ 3 by decide))) ?_
    exact cleared a8 _ _ 3 j

end Point

variable (m : (ℓ : Loc nD τ sig) → Buf (Elt Ideal) ℓ) (c : Dev nD)

/-- The packed columns, the taps, the bias, and the gradients that the gated values receive. -/
abbrev X : S8192x7168.Idx → EReal := m ((c : Thread nD τ).loc main_arg0)
abbrev W : S4x3072.Idx → EReal := m ((c : Thread nD τ).loc main_arg1)
abbrev B : S1x3072.Idx → EReal := m ((c : Thread nD τ).loc main_arg2)
abbrev DY : S8192x3072.Idx → EReal := m ((c : Thread nD τ).loc main_arg3)

/-- The grid's block indices. -/
theorem index0 : ∀ t : Fin cfg0.N, win0_0.index t (0 : Fin 2) = t.val % 8 ∧ win0_0.index t (1 : Fin 2) = 4 + t.val / 8 :=
  (by decide +kernel : ∀ t : Fin grid0.N, _)
theorem index1 : ∀ t : Fin cfg0.N, win0_1.index t (0 : Fin 2) = t.val % 8 * 128 - 1 ∧ win0_1.index t (1 : Fin 2) = 4 + t.val / 8 :=
  (by decide +kernel : ∀ t : Fin grid0.N, _)
theorem index2 : ∀ t : Fin cfg0.N, win0_2.index t (0 : Fin 2) = 0 ∧ win0_2.index t (1 : Fin 2) = t.val / 8 :=
  (by decide +kernel : ∀ t : Fin grid0.N, _)
theorem index3 : ∀ t : Fin cfg0.N, win0_3.index t (0 : Fin 2) = 0 ∧ win0_3.index t (1 : Fin 2) = t.val / 8 :=
  (by decide +kernel : ∀ t : Fin grid0.N, _)
theorem index4 : ∀ t : Fin cfg0.N, win0_4.index t (0 : Fin 2) = t.val % 8 ∧ win0_4.index t (1 : Fin 2) = t.val / 8 :=
  (by decide +kernel : ∀ t : Fin grid0.N, _)
theorem index5 : ∀ t : Fin cfg0.N, win0_5.index t (0 : Fin 2) = t.val % 8 ∧ win0_5.index t (1 : Fin 2) = t.val / 8 :=
  (by decide +kernel : ∀ t : Fin grid0.N, _)
theorem index6 : ∀ t : Fin cfg0.N, win0_6.index t (0 : Fin 2) = 0 ∧ win0_6.index t (1 : Fin 2) = t.val / 8 :=
  (by decide +kernel : ∀ t : Fin grid0.N, _)
theorem index7 : ∀ t : Fin cfg0.N, win0_7.index t (0 : Fin 2) = 0 ∧ win0_7.index t (1 : Fin 2) = t.val / 8 :=
  (by decide +kernel : ∀ t : Fin grid0.N, _)
theorem coord1 : ∀ t : Fin cfg0.N, (grid0.coords t (1 : Fin 2)).val = t.val % 8 :=
  (by decide +kernel : ∀ t : Fin grid0.N, _)
theorem flush5 : ∀ t : Fin cfg0.N, (cfg0.win 5).flush t = true := (by decide +kernel : ∀ t : Fin grid0.N, _)
theorem flush6 : ∀ t : Fin cfg0.N, (cfg0.win 6).flush t = true ↔ t.val % 8 = 7 := (by decide +kernel : ∀ t : Fin grid0.N, _)
theorem flush7 : ∀ t : Fin cfg0.N, (cfg0.win 7).flush t = true ↔ t.val % 8 = 7 := (by decide +kernel : ∀ t : Fin grid0.N, _)

/-- The blocks at a point. -/
theorem in0 (t : Fin cfg0.N) (i : S1024x512.Idx) :
    (iblk (F := Ideal) m c 0 t : S1024x512.Idx → EReal) i = at2 (X m c) (t.val % 8 * 1024 + (i 0).val) (2048 + (t.val / 8 * 512 + (i 1).val)) := by
  obtain ⟨e0, e1⟩ := index0 t
  have hN : t.val < 48 := t.isLt
  have h0 := (i 0).isLt
  unfold iblk
  rw [View.read_apply]
  show V m c main_arg0 _ = _
  rw [V_main_arg0]
  refine at2_of _ _ _ _ ?_ ?_
  · show win0_0.index t (0 : Fin 2) * 1024 + 1 * (i 0).val = _
    rw [e0]; omega
  · show win0_0.index t (1 : Fin 2) * 512 + 1 * (i 1).val = _
    rw [e1]; omega

theorem in1 (t : Fin cfg0.N) (hl : t.val % 8 ≠ 0) (i : S8x512.Idx) :
    (iblk (F := Ideal) m c 1 t : S8x512.Idx → EReal) i = at2 (X m c) (t.val % 8 * 1024 - 8 + (i 0).val) (2048 + (t.val / 8 * 512 + (i 1).val)) := by
  obtain ⟨e0, e1⟩ := index1 t
  have hN : t.val < 48 := t.isLt
  have h0 := (i 0).isLt
  unfold iblk
  rw [View.read_apply]
  show V m c main_arg0 _ = _
  rw [V_main_arg0]
  refine at2_of _ _ _ _ ?_ ?_
  · show win0_1.index t (0 : Fin 2) * 8 + 1 * (i 0).val = _
    rw [e0]; omega
  · show win0_1.index t (1 : Fin 2) * 512 + 1 * (i 1).val = _
    rw [e1]; omega

theorem in2 (t : Fin cfg0.N) (i : S4x512.Idx) :
    (iblk (F := Ideal) m c 2 t : S4x512.Idx → EReal) i = at2 (W m c) ((i 0).val) (t.val / 8 * 512 + (i 1).val) := by
  obtain ⟨e0, e1⟩ := index2 t
  have hN : t.val < 48 := t.isLt
  have h0 := (i 0).isLt
  unfold iblk
  rw [View.read_apply]
  show V m c main_arg1 _ = _
  rw [V_main_arg1]
  refine at2_of _ _ _ _ ?_ ?_
  · show win0_2.index t (0 : Fin 2) * 4 + 1 * (i 0).val = _
    rw [e0]; omega
  · show win0_2.index t (1 : Fin 2) * 512 + 1 * (i 1).val = _
    rw [e1]; omega

theorem in3 (t : Fin cfg0.N) (i : S1x512.Idx) :
    (iblk (F := Ideal) m c 3 t : S1x512.Idx → EReal) i = at2 (B m c) (0) (t.val / 8 * 512 + (i 1).val) := by
  obtain ⟨e0, e1⟩ := index3 t
  have hN : t.val < 48 := t.isLt
  have h0 : (i 0).val < 1 := (i 0).isLt
  unfold iblk
  rw [View.read_apply]
  show V m c main_arg2 _ = _
  rw [V_main_arg2]
  refine at2_of _ _ _ _ ?_ ?_
  · show win0_3.index t (0 : Fin 2) * 1 + 1 * (i 0).val = _
    rw [e0]; omega
  · show win0_3.index t (1 : Fin 2) * 512 + 1 * (i 1).val = _
    rw [e1]; omega

theorem in4 (t : Fin cfg0.N) (i : S1024x512.Idx) :
    (iblk (F := Ideal) m c 4 t : S1024x512.Idx → EReal) i = at2 (DY m c) (t.val % 8 * 1024 + (i 0).val) (t.val / 8 * 512 + (i 1).val) := by
  obtain ⟨e0, e1⟩ := index4 t
  have hN : t.val < 48 := t.isLt
  have h0 := (i 0).isLt
  unfold iblk
  rw [View.read_apply]
  show V m c main_arg3 _ = _
  rw [V_main_arg3]
  refine at2_of _ _ _ _ ?_ ?_
  · show win0_4.index t (0 : Fin 2) * 1024 + 1 * (i 0).val = _
    rw [e0]; omega
  · show win0_4.index t (1 : Fin 2) * 512 + 1 * (i 1).val = _
    rw [e1]; omega

/-- What the entry at row `r` and column `j` receives. -/
abbrev dAt (r j : ℕ) : EReal := dpre (X m c) (W m c) (B m c) (DY m c) r j

/-- The block of entries at a point. -/
abbrev receivedAt (t : Fin cfg0.N) : FVec Ideal S1024x512 .f32 :=
  received (grid0.coords t) (iblk m c 0 t) (iblk m c 1 t) (iblk m c 2 t) (iblk m c 3 t) (iblk m c 4 t)

theorem received_at (t : Fin cfg0.N) (r : Fin 1024) (j : Fin 512) :
    (receivedAt m c t (ix2 r j) : EReal) = dAt m c (t.val % 8 * 1024 + r.val) (t.val / 8 * 512 + j.val) :=
  dpre_apply (X m c) (W m c) (B m c) (DY m c) (t.val % 8) (t.val / 8) (by omega) _ (coord1 t) _ _ _ _ _
    (in1 m c t) (in0 m c t) (in2 m c t) (in3 m c t) (in4 m c t) r j

theorem tap_at (t : Fin cfg0.N) (k : Fin 4) (r : Fin 1024) (j : Fin 512) :
    (tapBlock (grid0.coords t) (iblk m c 0 t) (iblk m c 1 t) k (ix2 r j) : EReal)
      = tap (X m c) (3 - k.val) (t.val % 8 * 1024 + r.val) (t.val / 8 * 512 + j.val) := by
  have hb : t.val % 8 < 8 := by omega
  fin_cases k
  · exact tap3_apply (X m c) _ _ hb _ (coord1 t) _ _ (in1 m c t) (in0 m c t) r j
  · exact tap2_apply (X m c) _ _ hb _ (coord1 t) _ _ (in1 m c t) (in0 m c t) r j
  · exact tap1_apply (X m c) _ _ hb _ (coord1 t) _ _ (in1 m c t) (in0 m c t) r j
  · exact tap0_apply (X m c) _ _ hb _ (coord1 t) _ _ (in1 m c t) (in0 m c t) r j

/-- The parts of the taps' gradient and of the bias's gradient at a point. -/
def tapAdd (k : Fin 4) (j t : ℕ) : EReal :=
  ∑ r ∈ Finset.range 1024, dAt m c (t % 8 * 1024 + r) (t / 8 * 512 + j) * tap (X m c) (3 - k.val) (t % 8 * 1024 + r) (t / 8 * 512 + j)
def biasAdd (j t : ℕ) : EReal := ∑ r ∈ Finset.range 1024, dAt m c (t % 8 * 1024 + r) (t / 8 * 512 + j)

theorem tap_part (t : Fin cfg0.N) (k : Fin 4) (j : Fin 512) :
    tapPart (grid0.coords t) (iblk m c 0 t) (iblk m c 1 t) (iblk m c 2 t) (iblk m c 3 t) (iblk m c 4 t) k j = tapAdd m c k j.val t.val := by
  unfold tapPart tapAdd
  rw [Finset.sum_range]
  exact Finset.sum_congr rfl fun r _ => congrArg₂ (· * ·) (received_at m c t r j) (tap_at m c t k r j)

theorem bias_part (t : Fin cfg0.N) (j : Fin 512) : colSum (receivedAt m c t) j = biasAdd m c j.val t.val := by
  unfold colSum biasAdd
  rw [Finset.sum_range]
  exact Finset.sum_congr rfl fun r _ => received_at m c t r j

/-- What a point leaves in its block. -/
theorem block_left (t : Fin cfg0.N) (r : Fin 1024) (j : Fin 512) :
    ((outsAt0 (F := Ideal) m c t.val t.isLt).1 (ix2 r j) : EReal) = dAt m c (t.val % 8 * 1024 + r.val) (t.val / 8 * 512 + j.val) := by
  by_cases h : t.val % 8 = 0
  · rw [outsAt0_A (F := Ideal) m c t h]
    dsimp only
    rw [block_A]
    exact received_at m c t r j
  · rw [outsAt0_B (F := Ideal) m c t h]
    dsimp only
    rw [block_B]
    exact received_at m c t r j

/-- The taps' gradient and the bias's gradient after a point: the parts of the column's points so far. -/
theorem taps_left (k : Fin 4) (j : Fin 512) (n : ℕ) (h : n < cfg0.N) :
    ((outsAt0 (F := Ideal) m c n h).2.1 (ix2 k j) : EReal) = ∑ s ∈ Finset.range (n % 8 + 1), tapAdd m c k j.val (8 * (n / 8) + s) := by
  refine fold_runs (fun n h => ((outsAt0 (F := Ideal) m c n h).2.1 (ix2 k j) : EReal)) (fun p => tapAdd m c k j.val p) 8 (by decide)
    (fun n h hz => ?_) (fun n h hz => ?_) n h
  · have e := outsAt0_A (F := Ideal) m c ⟨n, h⟩ hz
    dsimp only at e ⊢
    rw [e]
    dsimp only
    rw [taps_A]
    exact tap_part m c ⟨n, h⟩ k j
  · have e := outsAt0_B (F := Ideal) m c ⟨n + 1, h⟩ hz
    dsimp only at e ⊢
    rw [e]
    dsimp only
    rw [taps_B]
    exact congrArg₂ (· + ·) rfl (tap_part m c ⟨n + 1, h⟩ k j)

theorem bias_left (j : Fin 512) (n : ℕ) (h : n < cfg0.N) :
    ((outsAt0 (F := Ideal) m c n h).2.2 (ix2 0 j) : EReal) = ∑ s ∈ Finset.range (n % 8 + 1), biasAdd m c j.val (8 * (n / 8) + s) := by
  refine fold_runs (fun n h => ((outsAt0 (F := Ideal) m c n h).2.2 (ix2 0 j) : EReal)) (fun p => biasAdd m c j.val p) 8 (by decide)
    (fun n h hz => ?_) (fun n h hz => ?_) n h
  · have e := outsAt0_A (F := Ideal) m c ⟨n, h⟩ hz
    dsimp only at e ⊢
    rw [e]
    dsimp only
    rw [bias_A]
    exact bias_part m c ⟨n, h⟩ j
  · have e := outsAt0_B (F := Ideal) m c ⟨n + 1, h⟩ hz
    dsimp only at e ⊢
    rw [e]
    dsimp only
    rw [bias_B]
    exact congrArg₂ (· + ·) rfl (bias_part m c ⟨n + 1, h⟩ j)

/-- The three results: what the entries receive, the taps' gradient and the bias's gradient. -/
def dwAt (k j : ℕ) : EReal := ∑ r ∈ Finset.range 8192, dAt m c r j * tap (X m c) (3 - k) r j
def dbAt (j : ℕ) : EReal := ∑ r ∈ Finset.range 8192, dAt m c r j

def GP : Buf (Elt Ideal) ((c : Thread nD τ).loc main_v0_0) := fun i : S8192x3072.Idx => dAt m c (i 0).val (i 1).val
def GW : Buf (Elt Ideal) ((c : Thread nD τ).loc main_v0_1) := fun i : S4x3072.Idx => dwAt m c (i 0).val (i 1).val
def GB : Buf (Elt Ideal) ((c : Thread nD τ).loc main_v0_2) := fun i : S1x3072.Idx => dbAt m c (i 1).val

theorem flushed_dp (t : Fin cfg0.N) (hf : (cfg0.win 5).flush t = true) :
    (dats (F := Ideal) m 0 c).flushed 5 t = ((cfg0.win 5).blk t).view.read (Elt Ideal) (GP m c) := by
  obtain ⟨e0, e1⟩ := index5 t
  rw [Value.flushed5]
  funext y
  obtain ⟨r, j, rfl⟩ : ∃ (r : Fin 1024) (j : Fin 512), y = (ix2 r j : S1024x512.Idx) := ⟨y 0, y 1, by funext a; fin_cases a <;> rfl⟩
  rw [View.read_apply]
  refine Eq.trans ?_ (cast_eq _ (GP m c _)).symm
  refine Eq.trans (block_left m c t r j) ?_
  unfold GP
  refine congrArg₂ (dAt m c) ?_ ?_
  · show _ = win0_5.index t (0 : Fin 2) * 1024 + 1 * r.val
    rw [e0]; omega
  · show _ = win0_5.index t (1 : Fin 2) * 512 + 1 * j.val
    rw [e1]; omega

theorem dp_out : (dats (F := Ideal) m 0 c).arrAt 5 cfg0.N = GP m c := by
  refine (dats (F := Ideal) m 0 c).arrAt_eq_of_cover 5 _ (flushed_dp m c) fun i => ?_
  have h0 : (i 0).val < 8192 := (i 0).isLt
  have h1 : (i 1).val < 3072 := (i 1).isLt
  have hN : (i 1).val / 512 * 8 + (i 0).val / 1024 < cfg0.N := by rw [show cfg0.N = 48 from N_0]; omega
  refine ⟨⟨(i 1).val / 512 * 8 + (i 0).val / 1024, hN⟩, flush5 _, ?_⟩
  obtain ⟨e0, e1⟩ := index5 ⟨(i 1).val / 512 * 8 + (i 0).val / 1024, hN⟩
  show i ∈ ((View.whole main_v0_0).slice (win0_5.rect ⟨(i 1).val / 512 * 8 + (i 0).val / 1024, hN⟩)).set
  rw [View.set_slice_whole, Rect.mem_set_unit]
  intro a
  fin_cases a
  · show win0_5.index ⟨(i 1).val / 512 * 8 + (i 0).val / 1024, hN⟩ (0 : Fin 2) * 1024 ≤ (i 0).val ∧ (i 0).val < win0_5.index ⟨(i 1).val / 512 * 8 + (i 0).val / 1024, hN⟩ (0 : Fin 2) * 1024 + 1024
    rw [e0]; dsimp only; omega
  · show win0_5.index ⟨(i 1).val / 512 * 8 + (i 0).val / 1024, hN⟩ (1 : Fin 2) * 512 ≤ (i 1).val ∧ (i 1).val < win0_5.index ⟨(i 1).val / 512 * 8 + (i 0).val / 1024, hN⟩ (1 : Fin 2) * 512 + 512
    rw [e1]; dsimp only; omega

/-- A column's eight parts are the sum over all rows. -/
theorem sum_column (f : ℕ → EReal) (q : ℕ) :
    ∑ s ∈ Finset.range 8, ∑ r ∈ Finset.range 1024, f ((8 * q + s) % 8 * 1024 + r) = ∑ r ∈ Finset.range 8192, f r := by
  refine Eq.trans (Finset.sum_congr rfl fun s hs => ?_) (sum_tiles f 8 1024)
  have hs := Finset.mem_range.1 hs
  rw [show (8 * q + s) % 8 = s by omega]

theorem flushed_dw (t : Fin cfg0.N) (hf : (cfg0.win 6).flush t = true) :
    (dats (F := Ideal) m 0 c).flushed 6 t = ((cfg0.win 6).blk t).view.read (Elt Ideal) (GW m c) := by
  obtain ⟨e0, e1⟩ := index6 t
  have ht := (flush6 t).1 hf
  rw [Value.flushed6]
  funext y
  obtain ⟨k, j, rfl⟩ : ∃ (k : Fin 4) (j : Fin 512), y = (ix2 k j : S4x512.Idx) := ⟨y 0, y 1, by funext a; fin_cases a <;> rfl⟩
  rw [View.read_apply]
  refine Eq.trans ?_ (cast_eq _ (GW m c _)).symm
  refine Eq.trans (taps_left m c k j t.val t.isLt) ?_
  rw [ht]
  refine Eq.trans ?_ (Eq.trans (sum_column (fun r => dAt m c r (t.val / 8 * 512 + j.val) * tap (X m c) (3 - k.val) r (t.val / 8 * 512 + j.val)) (t.val / 8)) ?_)
  · refine Finset.sum_congr rfl fun s hs => ?_
    have hs := Finset.mem_range.1 hs
    unfold tapAdd
    rw [show (8 * (t.val / 8) + s) / 8 = t.val / 8 by omega]
  · unfold GW
    refine congrArg₂ (dwAt m c) ?_ ?_
    · show k.val = win0_6.index t (0 : Fin 2) * 4 + 1 * k.val
      rw [e0]; omega
    · show _ = win0_6.index t (1 : Fin 2) * 512 + 1 * j.val
      rw [e1]; omega

theorem dw_out : (dats (F := Ideal) m 0 c).arrAt 6 cfg0.N = GW m c := by
  refine (dats (F := Ideal) m 0 c).arrAt_eq_of_cover 6 _ (flushed_dw m c) fun i => ?_
  have h0 : (i 0).val < 4 := (i 0).isLt
  have h1 : (i 1).val < 3072 := (i 1).isLt
  have hN : (i 1).val / 512 * 8 + 7 < cfg0.N := by rw [show cfg0.N = 48 from N_0]; omega
  refine ⟨⟨(i 1).val / 512 * 8 + 7, hN⟩, (flush6 _).2 (show ((i 1).val / 512 * 8 + 7) % 8 = 7 by omega), ?_⟩
  obtain ⟨e0, e1⟩ := index6 ⟨(i 1).val / 512 * 8 + 7, hN⟩
  show i ∈ ((View.whole main_v0_1).slice (win0_6.rect ⟨(i 1).val / 512 * 8 + 7, hN⟩)).set
  rw [View.set_slice_whole, Rect.mem_set_unit]
  intro a
  fin_cases a
  · show win0_6.index ⟨(i 1).val / 512 * 8 + 7, hN⟩ (0 : Fin 2) * 4 ≤ (i 0).val ∧ (i 0).val < win0_6.index ⟨(i 1).val / 512 * 8 + 7, hN⟩ (0 : Fin 2) * 4 + 4
    rw [e0]; omega
  · show win0_6.index ⟨(i 1).val / 512 * 8 + 7, hN⟩ (1 : Fin 2) * 512 ≤ (i 1).val ∧ (i 1).val < win0_6.index ⟨(i 1).val / 512 * 8 + 7, hN⟩ (1 : Fin 2) * 512 + 512
    rw [e1]; dsimp only; omega

theorem flushed_db (t : Fin cfg0.N) (hf : (cfg0.win 7).flush t = true) :
    (dats (F := Ideal) m 0 c).flushed 7 t = ((cfg0.win 7).blk t).view.read (Elt Ideal) (GB m c) := by
  obtain ⟨e0, e1⟩ := index7 t
  have ht := (flush7 t).1 hf
  rw [Value.flushed7]
  funext y
  obtain ⟨u, j, rfl⟩ : ∃ (u : Fin 1) (j : Fin 512), y = (ix2 u j : S1x512.Idx) := ⟨y 0, y 1, by funext a; fin_cases a <;> rfl⟩
  obtain rfl : u = 0 := Subsingleton.elim _ _
  rw [View.read_apply]
  refine Eq.trans ?_ (cast_eq _ (GB m c _)).symm
  refine Eq.trans (bias_left m c j t.val t.isLt) ?_
  rw [ht]
  refine Eq.trans ?_ (Eq.trans (sum_column (fun r => dAt m c r (t.val / 8 * 512 + j.val)) (t.val / 8)) ?_)
  · refine Finset.sum_congr rfl fun s hs => ?_
    have hs := Finset.mem_range.1 hs
    unfold biasAdd
    rw [show (8 * (t.val / 8) + s) / 8 = t.val / 8 by omega]
  · unfold GB
    refine congrArg (dbAt m c) ?_
    show _ = win0_7.index t (1 : Fin 2) * 512 + 1 * j.val
    rw [e1]; omega

theorem db_out : (dats (F := Ideal) m 0 c).arrAt 7 cfg0.N = GB m c := by
  refine (dats (F := Ideal) m 0 c).arrAt_eq_of_cover 7 _ (flushed_db m c) fun i => ?_
  have h0 : (i 0).val < 1 := (i 0).isLt
  have h1 : (i 1).val < 3072 := (i 1).isLt
  have hN : (i 1).val / 512 * 8 + 7 < cfg0.N := by rw [show cfg0.N = 48 from N_0]; omega
  refine ⟨⟨(i 1).val / 512 * 8 + 7, hN⟩, (flush7 _).2 (show ((i 1).val / 512 * 8 + 7) % 8 = 7 by omega), ?_⟩
  obtain ⟨e0, e1⟩ := index7 ⟨(i 1).val / 512 * 8 + 7, hN⟩
  show i ∈ ((View.whole main_v0_2).slice (win0_7.rect ⟨(i 1).val / 512 * 8 + 7, hN⟩)).set
  rw [View.set_slice_whole, Rect.mem_set_unit]
  intro a
  fin_cases a
  · show win0_7.index ⟨(i 1).val / 512 * 8 + 7, hN⟩ (0 : Fin 2) * 1 ≤ (i 0).val ∧ (i 0).val < win0_7.index ⟨(i 1).val / 512 * 8 + 7, hN⟩ (0 : Fin 2) * 1 + 1
    rw [e0]; omega
  · show win0_7.index ⟨(i 1).val / 512 * 8 + 7, hN⟩ (1 : Fin 2) * 512 ≤ (i 1).val ∧ (i 1).val < win0_7.index ⟨(i 1).val / 512 * 8 + 7, hN⟩ (1 : Fin 2) * 512 + 512
    rw [e1]; dsimp only; omega

end Cert.Kernel11Ideal.Conv
end
-- ==== Proof.NormMath.lean ====
/-
  The gradient of a root-mean-square norm, row by row: for a row `x`, the weight `w` and the gradient `g` that the
  norm's result receives, the gradient that reaches the row and the row's part of the weight's gradient. Both are sums
  and products of extended reals in the order in which the backward pass writes them; no condition on the entries is
  needed.
-/
module

public import proofs.«01_k».proof.Proof.Mm
public import Idealize.ShloMosaic.Lib.Pointwise
public import Idealize.ShloMosaic.PureOps.Ideal

@[expose] public section

noncomputable section

namespace Cert.Norm

open Idealize.ShloMosaic
open Cert.Proof.Mm (at2 at2_of at2_ix)
open scoped BigOperators

section Row

variable (x w g : Fin 1024 → EReal)

/-- The row's mean square, with the norm's small addend. -/
def meanSq : EReal := Ideal.div (∑ j, x j * x j) (Ideal.ofBits .f32 0x44800000#32) + Ideal.ofBits .f32 0x358637BD#32

/-- What the norm multiplies the row by. -/
def scale : EReal := Ideal.rsqrt (meanSq x)

/-- The gradient that the mean square passes on, divided over the row. -/
def along : EReal :=
  Ideal.div ((∑ j, x j * (g j * w j)) * (Ideal.ofBits .f32 0xBF000000#32 * Ideal.div (scale x) (meanSq x)))
    (Ideal.ofBits .f32 0x44800000#32)

/-- The gradient that the scaled entry passes on. -/
def passed (j : Fin 1024) : EReal := g j * w j * scale x

/-- The gradient of the row's entry: what reaches it directly, `b`, and its two parts from the square. -/
def gradEntry (b : EReal) (j : Fin 1024) : EReal := b + x j * along x w g + along x w g * x j

/-- The row's part of the weight's gradient. -/
def weightPart (j : Fin 1024) : EReal := x j * scale x * g j

end Row

/-- Row `r` of a matrix, and a vector's entries. -/
def rowOf {a : ℕ} (x : (⟨2, ![a, 1024]⟩ : Shape).Idx → EReal) (r : ℕ) : Fin 1024 → EReal := fun j => at2 x r j.val
def entries (w : (⟨1, ![1024]⟩ : Shape).Idx → EReal) : Fin 1024 → EReal := fun j => w (ix1 j)

theorem rowOf_apply {a : ℕ} (x : (⟨2, ![a, 1024]⟩ : Shape).Idx → EReal) (r : Fin a) (j : Fin 1024) :
    x (ix2 r j) = rowOf x r.val j := at2_ix x r j

/-- A block's row is the array's row at the block's offset. -/
theorem rowOf_block {a b : ℕ} (x : (⟨2, ![a, 1024]⟩ : Shape).Idx → EReal) (y : (⟨2, ![b, 1024]⟩ : Shape).Idx → EReal) (o : ℕ)
    (h : ∀ i : (⟨2, ![b, 1024]⟩ : Shape).Idx, y i = at2 x (o + (i 0).val) (i 1).val) (r : Fin b) :
    rowOf y r.val = rowOf x (o + r.val) :=
  funext fun j => (rowOf_apply y r j).symm.trans (h (ix2 r j))

/-- A sum over a first and a last axis of one element each is the one element. -/
theorem reduce_outer {n : ℕ} (h : (⟨3, ![1, n, 1]⟩ : Shape).ReducesTo [0, 2] ⟨1, ![n]⟩) (v : (⟨3, ![1, n, 1]⟩ : Shape).Idx → EReal)
    (b : EReal) (j : (⟨1, ![n]⟩ : Shape).Idx) : Ideal.hostReduceAdd h v b j = b + v (ix3 0 (j 0) 0) := by
  have e : Finset.univ.filter (fun i => h.drop i = j) = {(ix3 0 (j 0) 0 : (⟨3, ![1, n, 1]⟩ : Shape).Idx)} := by
    ext i
    rw [Finset.mem_filter, Finset.mem_singleton]
    constructor
    · rintro ⟨-, rfl⟩
      funext a; fin_cases a
      · exact Subsingleton.elim (α := Fin 1) _ _
      · rfl
      · exact Subsingleton.elim (α := Fin 1) _ _
    · rintro rfl
      exact ⟨Finset.mem_univ _, funext fun a => by fin_cases a; rfl⟩
  unfold Ideal.hostReduceAdd
  rw [e, Finset.sum_singleton]

/-- A sum over two leading axes of one element each is the one element. -/
theorem reduce_leading {n : ℕ} (h : (⟨3, ![1, 1, n]⟩ : Shape).ReducesTo [0, 1] ⟨1, ![n]⟩) (v : (⟨3, ![1, 1, n]⟩ : Shape).Idx → EReal)
    (b : EReal) (j : (⟨1, ![n]⟩ : Shape).Idx) : Ideal.hostReduceAdd h v b j = b + v (ix3 0 0 (j 0)) := by
  have e : Finset.univ.filter (fun i => h.drop i = j) = {(ix3 0 0 (j 0) : (⟨3, ![1, 1, n]⟩ : Shape).Idx)} := by
    ext i
    rw [Finset.mem_filter, Finset.mem_singleton]
    constructor
    · rintro ⟨-, rfl⟩
      funext a; fin_cases a
      · exact Subsingleton.elim (α := Fin 1) _ _
      · exact Subsingleton.elim (α := Fin 1) _ _
      · rfl
    · rintro rfl
      exact ⟨Finset.mem_univ _, funext fun a => by fin_cases a; rfl⟩
  unfold Ideal.hostReduceAdd
  rw [e, Finset.sum_singleton]

end Cert.Norm

end
-- ==== Proof.ConvRef11.lean ====
/-
  The gradient of the gated convolution: the reference's three results at a place. The reference pads the columns with three
  zero rows, reads them at four offsets, and differentiates the gate by the product rule.
-/
module

public import proofs.«01_k».proof.Proof.ConvPreMath
public import proofs.«01_k».proof.Proof.NormMath
public import proofs.«01_k».proof.Proof.Gen.Reference11Ideal.Run

@[expose] public section

noncomputable section

namespace Cert.Reference11Ideal.Conv

open Cert.Reference11Ideal Cert.Reference11Ideal.Gen Idealize.ShloMosaic Idealize.ShloMosaic.TcCoe Idealize.SL.Sem
open Cert.Conv
open Cert.Norm (reduce_leading)
open Cert.Proof.Mm (at2 at2_of at2_ix)
open scoped BigOperators

/-- The packed columns' convolution part with three zero rows before it. -/
def padded (x : FVec Ideal S8192x7168 .f32) : FVec Ideal S1x8195x3072 .f32 :=
  concatenate S1x8195x3072 1 [⟨S1x3x3072, (broadcastInDim S1x3x3072 ![] bcast_S_S1x3x3072 (constant S_ .f32 0x00000000#32))⟩, ⟨S1x8192x3072, (broadcastInDim S1x8192x3072 ![1, 2] bcast_S8192x3072_S1x8192x3072_1_2 (extractStridedSlice S8192x3072 ![0, 2048] x slices_S8192x7168_S8192x3072_0_2048))⟩] concatenates_S1x3x3072_S1x8192x3072_S1x8195x3072_d1

/-- A tap's weights, for every row. -/
def spread (v : FVec Ideal S1x3072 .f32) : FVec Ideal S1x8192x3072 .f32 :=
  broadcastInDim S1x8192x3072 ![0, 1, 2] bcast_S1x1x3072_S1x8192x3072_0_1_2 (broadcastInDim S1x1x3072 ![2] bcast_S3072_S1x1x3072_2 (shapeCast _ v shapeCasts_S1x3072_S3072))

def flat (v : BitVec 32) : FVec Ideal S1x8192x3072 .f32 :=
  broadcastInDim S1x8192x3072 ![] bcast_S_S1x8192x3072 (constant S_ .f32 v)

def T0 (x : FVec Ideal S8192x7168 .f32) : FVec Ideal S1x8192x3072 .f32 := extractStridedSlice S1x8192x3072 ![0, 0, 0] (padded x) slices_S1x8195x3072_S1x8192x3072_0_0_0
def T1 (x : FVec Ideal S8192x7168 .f32) : FVec Ideal S1x8192x3072 .f32 := extractStridedSlice S1x8192x3072 ![0, 1, 0] (padded x) slices_S1x8195x3072_S1x8192x3072_0_1_0
def T2 (x : FVec Ideal S8192x7168 .f32) : FVec Ideal S1x8192x3072 .f32 := extractStridedSlice S1x8192x3072 ![0, 2, 0] (padded x) slices_S1x8195x3072_S1x8192x3072_0_2_0
def T3 (x : FVec Ideal S8192x7168 .f32) : FVec Ideal S1x8192x3072 .f32 := extractStridedSlice S1x8192x3072 ![0, 3, 0] (padded x) slices_S1x8195x3072_S1x8192x3072_0_3_0

/-- The convolution's result with the bias. -/
def preArr (x : FVec Ideal S8192x7168 .f32) (w : FVec Ideal S4x3072 .f32) (b : FVec Ideal S1x3072 .f32) : FVec Ideal S1x8192x3072 .f32 :=
  addf (addf (addf (addf (addf (flat 0x00000000#32)
    (mulf (T0 x) (spread (extractStridedSlice S1x3072 ![0, 0] w slices_S4x3072_S1x3072_0_0))))
    (mulf (T1 x) (spread (extractStridedSlice S1x3072 ![1, 0] w slices_S4x3072_S1x3072_1_0))))
    (mulf (T2 x) (spread (extractStridedSlice S1x3072 ![2, 0] w slices_S4x3072_S1x3072_2_0))))
    (mulf (T3 x) (spread (extractStridedSlice S1x3072 ![3, 0] w slices_S4x3072_S1x3072_3_0)))) (spread b)

/-- Its logistic, and the gradient that it receives. -/
def sgArr (p : FVec Ideal S1x8192x3072 .f32) : FVec Ideal S1x8192x3072 .f32 :=
  Host.divf (flat 0x3F800000#32) (addf (flat 0x3F800000#32) (Host.exp (Host.negf p)))

def dpreArr (p : FVec Ideal S1x8192x3072 .f32) (g : FVec Ideal S8192x3072 .f32) : FVec Ideal S1x8192x3072 .f32 :=
  addf (mulf (broadcastInDim S1x8192x3072 ![1, 2] bcast_S8192x3072_S1x8192x3072_1_2 g) (sgArr p))
    (mulf (mulf p (broadcastInDim S1x8192x3072 ![1, 2] bcast_S8192x3072_S1x8192x3072_1_2 g)) (mulf (sgArr p) (subf (flat 0x3F800000#32) (sgArr p))))

/-- The sum over the rows. -/
def rowSum (v : FVec Ideal S1x8192x3072 .f32) : FVec Ideal S1x3072 .f32 :=
  broadcastInDim S1x3072 ![1] bcast_S3072_S1x3072_1 (Host.reduceAdd (F := Ideal) (shapeCast _ (Host.reduceAdd (F := Ideal) v (constant S_ .f32 0x00000000#32) reducesTo_S1x8192x3072_S1x3072_d1 h_S_) shapeCasts_S1x3072_S1x1x3072) (constant S_ .f32 0x00000000#32) reducesTo_S1x1x3072_S3072_d0_1 h_S_)

variable (m : (ℓ : Loc nD τ sig) → Buf (Elt Ideal) ℓ) (c : Dev nD)

abbrev X : S8192x7168.Idx → EReal := m ((c : Thread nD τ).loc main_arg0)
abbrev W : S4x3072.Idx → EReal := m ((c : Thread nD τ).loc main_arg1)
abbrev B : S1x3072.Idx → EReal := m ((c : Thread nD τ).loc main_arg2)
abbrev DY : S8192x3072.Idx → EReal := m ((c : Thread nD τ).loc main_arg3)

theorem v70_eq : Cert.Reference11Ideal.Value.res_main_v70 (F := Ideal) m c
    = shapeCast _ (dpreArr (preArr (X m c) (W m c) (B m c)) (DY m c)) shapeCasts_S1x8192x3072_S8192x3072 := by
  unfold Cert.Reference11Ideal.Value.res_main_v70 dpreArr sgArr preArr T0 T1 T2 T3 padded spread flat
  rfl

theorem v71_eq : Cert.Reference11Ideal.Value.res_main_v71 (F := Ideal) m c = rowSum (dpreArr (preArr (X m c) (W m c) (B m c)) (DY m c)) := by
  unfold Cert.Reference11Ideal.Value.res_main_v71 rowSum dpreArr sgArr preArr T0 T1 T2 T3 padded spread flat
  rfl

theorem v69_eq : Cert.Reference11Ideal.Value.res_main_v69 (F := Ideal) m c =
    addf (addf (addf
      (pad S4x3072 ![3, 0] ![0, 0] ![0, 0] (rowSum (mulf (T3 (X m c)) (dpreArr (preArr (X m c) (W m c) (B m c)) (DY m c)))) (constant S_ .f32 0x00000000#32) pads_S1x3072_S4x3072_300_000 h_S_)
      (pad S4x3072 ![2, 0] ![1, 0] ![0, 0] (rowSum (mulf (T2 (X m c)) (dpreArr (preArr (X m c) (W m c) (B m c)) (DY m c)))) (constant S_ .f32 0x00000000#32) pads_S1x3072_S4x3072_210_000 h_S_))
      (pad S4x3072 ![1, 0] ![2, 0] ![0, 0] (rowSum (mulf (T1 (X m c)) (dpreArr (preArr (X m c) (W m c) (B m c)) (DY m c)))) (constant S_ .f32 0x00000000#32) pads_S1x3072_S4x3072_120_000 h_S_))
      (pad S4x3072 ![0, 0] ![3, 0] ![0, 0] (rowSum (mulf (T0 (X m c)) (dpreArr (preArr (X m c) (W m c) (B m c)) (DY m c)))) (constant S_ .f32 0x00000000#32) pads_S1x3072_S4x3072_030_000 h_S_) := by
  unfold Cert.Reference11Ideal.Value.res_main_v69 rowSum dpreArr sgArr preArr T0 T1 T2 T3 padded spread flat
  rfl

theorem rowSum_apply (v : FVec Ideal S1x8192x3072 .f32) (u : Fin 1) (j : Fin 3072) :
    (rowSum v (ix2 u j) : EReal) = ∑ r : Fin 8192, v (ix3 0 r j) := by
  unfold rowSum
  simp only [pointwise, reduce_leading, zero_add]
  simp only [show ¬(3072 = 1) by decide, dite_false, ↓reduceDIte]

theorem spread_apply (v : FVec Ideal S1x3072 .f32) (r : Fin 8192) (j : Fin 3072) : (spread v (ix3 0 r j) : EReal) = v (ix2 0 j) := by
  unfold spread
  pointwise

section Taps

variable (x : FVec Ideal S8192x7168 .f32) (r : Fin 8192) (j : Fin 3072)

theorem T0_apply : (T0 x (ix3 0 r j) : EReal) = tap x 3 r.val j.val := by
  unfold T0 padded
  pointwise
  unfold tap
  split
  · rfl
  · exact at2_ix x _ _

theorem T1_apply : (T1 x (ix3 0 r j) : EReal) = tap x 2 r.val j.val := by
  unfold T1 padded
  pointwise
  unfold tap
  by_cases h : r.val < 2
  · exact (dif_pos (show 1 + r.val < 3 by omega)).trans (if_pos h).symm
  · refine (dif_neg (show ¬(1 + r.val < 3) by omega)).trans (Eq.trans ?_ (if_neg h).symm)
    exact at2_of x _ _ _ (show 1 + r.val - 3 = r.val - 2 by omega) rfl

theorem T2_apply : (T2 x (ix3 0 r j) : EReal) = tap x 1 r.val j.val := by
  unfold T2 padded
  pointwise
  unfold tap
  by_cases h : r.val < 1
  · exact (dif_pos (show 2 + r.val < 3 by omega)).trans (if_pos h).symm
  · refine (dif_neg (show ¬(2 + r.val < 3) by omega)).trans (Eq.trans ?_ (if_neg h).symm)
    exact at2_of x _ _ _ (show 2 + r.val - 3 = r.val - 1 by omega) rfl

theorem T3_apply : (T3 x (ix3 0 r j) : EReal) = tap x 0 r.val j.val := by
  unfold T3 padded
  pointwise
  unfold tap
  refine Eq.trans ?_ (if_neg (Nat.not_lt_zero _)).symm
  exact at2_ix x _ _

end Taps

theorem pre_apply (x : FVec Ideal S8192x7168 .f32) (w : FVec Ideal S4x3072 .f32) (b : FVec Ideal S1x3072 .f32) (r : Fin 8192) (j : Fin 3072) :
    (preArr x w b (ix3 0 r j) : EReal) = pre x w b r.val j.val := by
  unfold preArr flat
  pointwise
  simp only [spread_apply, T0_apply, T1_apply, T2_apply, T3_apply]
  pointwise
  unfold pre
  have e0 : (w (ix2 0 j) : EReal) = at2 w 0 j.val := at2_ix w 0 j
  have e1 : (w (ix2 1 j) : EReal) = at2 w 1 j.val := at2_ix w 1 j
  have e2 : (w (ix2 2 j) : EReal) = at2 w 2 j.val := at2_ix w 2 j
  have e3 : (w (ix2 3 j) : EReal) = at2 w 3 j.val := at2_ix w 3 j
  have eb : (b (ix2 0 j) : EReal) = at2 b 0 j.val := at2_ix b 0 j
  rw [e0, e1, e2, e3, eb, add_comm _ (at2 b 0 j.val)]
  simp only [add_assoc]

theorem dpre_apply (x : FVec Ideal S8192x7168 .f32) (w : FVec Ideal S4x3072 .f32) (b : FVec Ideal S1x3072 .f32)
    (g : FVec Ideal S8192x3072 .f32) (hg : ∀ i, (g i : EReal) ≠ ⊤ ∧ (g i : EReal) ≠ ⊥) (r : Fin 8192) (j : Fin 3072) :
    (dpreArr (preArr x w b) g (ix3 0 r j) : EReal) = dpre x w b g r.val j.val := by
  have e : (g (ix2 r j) : EReal) = at2 g r.val j.val := at2_ix g r j
  unfold dpre
  rw [← e, ← pre_apply]
  refine Eq.trans ?_ (gated_eq _ _ (hg _).1 (hg _).2)
  unfold dpreArr sgArr flat
  pointwise
  rfl

/-- Four rows, each placed in an array that is zero elsewhere. -/
theorem rows_apply (v0 v1 v2 v3 : FVec Ideal S1x3072 .f32) (k : Fin 4) (j : Fin 3072) :
    (addf (addf (addf
      (pad S4x3072 ![3, 0] ![0, 0] ![0, 0] v3 (constant S_ .f32 0x00000000#32) pads_S1x3072_S4x3072_300_000 h_S_)
      (pad S4x3072 ![2, 0] ![1, 0] ![0, 0] v2 (constant S_ .f32 0x00000000#32) pads_S1x3072_S4x3072_210_000 h_S_))
      (pad S4x3072 ![1, 0] ![2, 0] ![0, 0] v1 (constant S_ .f32 0x00000000#32) pads_S1x3072_S4x3072_120_000 h_S_))
      (pad S4x3072 ![0, 0] ![3, 0] ![0, 0] v0 (constant S_ .f32 0x00000000#32) pads_S1x3072_S4x3072_030_000 h_S_) (ix2 k j) : EReal)
      = ![(v0 (ix2 0 j) : EReal), v1 (ix2 0 j), v2 (ix2 0 j), v3 (ix2 0 j)] k := by
  pointwise
  fin_cases k <;> simp <;> rfl

/-- The three results at a place, for a finite incoming gradient. -/
theorem v70_apply (hg : ∀ i, (DY m c i : EReal) ≠ ⊤ ∧ (DY m c i : EReal) ≠ ⊥) (r : Fin 8192) (j : Fin 3072) :
    (Cert.Reference11Ideal.Value.res_main_v70 (F := Ideal) m c (ix2 r j) : EReal) = dpre (X m c) (W m c) (B m c) (DY m c) r.val j.val := by
  rw [v70_eq]
  pointwise
  exact dpre_apply _ _ _ _ hg r j

theorem v71_apply (hg : ∀ i, (DY m c i : EReal) ≠ ⊤ ∧ (DY m c i : EReal) ≠ ⊥) (u : Fin 1) (j : Fin 3072) :
    (Cert.Reference11Ideal.Value.res_main_v71 (F := Ideal) m c (ix2 u j) : EReal)
      = (∑ r ∈ Finset.range 8192, dpre (X m c) (W m c) (B m c) (DY m c) r j.val : EReal) := by
  refine (congrFun (v71_eq m c) _).trans ((rowSum_apply _ u j).trans ?_)
  exact (Finset.sum_congr rfl fun r _ => dpre_apply _ _ _ _ hg r j).trans
    (Finset.sum_range fun r => dpre (X m c) (W m c) (B m c) (DY m c) r j.val).symm

theorem v69_apply (hg : ∀ i, (DY m c i : EReal) ≠ ⊤ ∧ (DY m c i : EReal) ≠ ⊥) (k : Fin 4) (j : Fin 3072) :
    (Cert.Reference11Ideal.Value.res_main_v69 (F := Ideal) m c (ix2 k j) : EReal)
      = (∑ r ∈ Finset.range 8192, dpre (X m c) (W m c) (B m c) (DY m c) r j.val * tap (X m c) (3 - k.val) r j.val : EReal) := by
  refine (congrFun (v69_eq m c) _).trans ((rows_apply _ _ _ _ k j).trans (Eq.trans ?_
    (Finset.sum_range fun r => dpre (X m c) (W m c) (B m c) (DY m c) r j.val * tap (X m c) (3 - k.val) r j.val).symm))
  have e (T : FVec Ideal S1x8192x3072 .f32) (d : ℕ) (hT : ∀ r : Fin 8192, (T (ix3 0 r j) : EReal) = tap (X m c) d r.val j.val) :
      (rowSum (mulf T (dpreArr (preArr (X m c) (W m c) (B m c)) (DY m c))) (ix2 0 j) : EReal)
        = ∑ r : Fin 8192, dpre (X m c) (W m c) (B m c) (DY m c) r.val j.val * tap (X m c) d r.val j.val := by
    rw [rowSum_apply]
    refine Finset.sum_congr rfl fun r _ => ?_
    refine Eq.trans ?_ (mul_comm _ _)
    exact congrArg₂ (· * ·) (hT r) (dpre_apply _ _ _ _ hg r j)
  fin_cases k
  · exact e _ 3 fun r => T0_apply _ r j
  · exact e _ 2 fun r => T1_apply _ r j
  · exact e _ 1 fun r => T2_apply _ r j
  · exact e _ 0 fun r => T3_apply _ r j

end Cert.Reference11Ideal.Conv

end
-- ==== Proof.ConvAlg11.lean ====
/-
  The gradient of the gated convolution: the claim that the kernel and the reference leave equal arrays when the incoming
  gradient is finite.
-/
module

public import proofs.«01_k».proof.Defs
public import proofs.«01_k».proof.Proof.Conv11
public import proofs.«01_k».proof.Proof.ConvRef11
public import Idealize.ShloMosaic.Lib.ReduceAll

@[expose] public section

noncomputable section

namespace Cert.Proof

open Idealize.ShloMosaic Idealize.ShloMosaic.TcCoe Idealize.SL.Sem

theorem finite_facts : Cert.Pre_finite_dxc.Facts where
  bcast_S_S8192x3072 := by decide
  reducesTo_S8192x3072_S_d0_1 := by decide
  h_S_ := by decide

/-- An entry of smaller magnitude than infinity is finite. -/
theorem finite_of_abs (a : EReal) (e : Ideal.cmp .olt (max a (-a)) (Ideal.ofBits .f32 0x7F800000#32) = 1#1) : a ≠ ⊤ ∧ a ≠ ⊥ := by
  rw [show Ideal.ofBits .f32 0x7F800000#32 = ⊤ by simp [Ideal.ofBits, Ideal.ieee]] at e
  constructor
  · rintro rfl
    simp [Ideal.cmp] at e
  · rintro rfl
    simp [Ideal.cmp] at e

theorem algebraic_11 : Cert.algebraic_Kernel11Ideal_Reference11Ideal_pre_finite_dxc (hPre_finite_dxc := finite_facts) := by
  intro m g m' g' hpre hargs
  have hfin (c : Dev Cert.Kernel11Ideal.nD) (i : Cert.Kernel11Ideal.S8192x3072.Idx) :
      Cert.Kernel11Ideal.Conv.DY m c i ≠ ⊤ ∧ Cert.Kernel11Ideal.Conv.DY m c i ≠ ⊥ := by
    have e := congrFun (hpre c) ix0
    unfold Cert.Pre_finite_dxc.fn at e
    dsimp only at e
    exact finite_of_abs _ (Host.reduce_andi_all _ _ _ _ _ e i)
  refine ⟨fun c => Cert.Kernel11Ideal.Conv.GP m c, fun c => Cert.Kernel11Ideal.Conv.GW m c, fun c => Cert.Kernel11Ideal.Conv.GB m c, ?_, ?_⟩
  · refine (θ_run _ _ _).mono (fun r h c => ?_) (Cert.Kernel11Ideal.Value.run_blocks (F := Ideal) m g)
    exact ⟨(h c).1.trans (Cert.Kernel11Ideal.Conv.dp_out m c), (h c).2.1.trans (Cert.Kernel11Ideal.Conv.dw_out m c),
      (h c).2.2.1.trans (Cert.Kernel11Ideal.Conv.db_out m c), (h c).2.2.2⟩
  · refine (θ_run _ _ _).mono (fun r h c => ?_) (Cert.Reference11Ideal.Value.run (F := Ideal) m' g')
    obtain ⟨a0, a1, a2, a3⟩ := hargs c
    have hf : ∀ i, (Cert.Reference11Ideal.Conv.DY m' c i : EReal) ≠ ⊤ ∧ (Cert.Reference11Ideal.Conv.DY m' c i : EReal) ≠ ⊥ := by
      intro i
      unfold Cert.Reference11Ideal.Conv.DY
      rw [a3]
      exact hfin c i
    refine ⟨(h c).1.trans ?_, (h c).2.1.trans ?_, (h c).2.2.1.trans ?_, (h c).2.2.2⟩
    · funext i
      obtain ⟨q, j, rfl⟩ : ∃ (q : Fin 8192) (j : Fin 3072), i = (ix2 q j : Cert.Kernel11Ideal.S8192x3072.Idx) := ⟨i 0, i 1, by funext a; fin_cases a <;> rfl⟩
      refine (Cert.Reference11Ideal.Conv.v70_apply m' c hf q j).trans ?_
      unfold Cert.Reference11Ideal.Conv.X Cert.Reference11Ideal.Conv.W Cert.Reference11Ideal.Conv.B Cert.Reference11Ideal.Conv.DY
      rw [a0, a1, a2, a3]
      rfl
    · funext i
      obtain ⟨k, j, rfl⟩ : ∃ (k : Fin 4) (j : Fin 3072), i = (ix2 k j : Cert.Kernel11Ideal.S4x3072.Idx) := ⟨i 0, i 1, by funext a; fin_cases a <;> rfl⟩
      refine (Cert.Reference11Ideal.Conv.v69_apply m' c hf k j).trans ?_
      unfold Cert.Reference11Ideal.Conv.X Cert.Reference11Ideal.Conv.W Cert.Reference11Ideal.Conv.B Cert.Reference11Ideal.Conv.DY
      rw [a0, a1, a2, a3]
      rfl
    · funext i
      obtain ⟨u, j, rfl⟩ : ∃ (u : Fin 1) (j : Fin 3072), i = (ix2 u j : Cert.Kernel11Ideal.S1x3072.Idx) := ⟨i 0, i 1, by funext a; fin_cases a <;> rfl⟩
      refine (Cert.Reference11Ideal.Conv.v71_apply m' c hf u j).trans ?_
      unfold Cert.Reference11Ideal.Conv.X Cert.Reference11Ideal.Conv.W Cert.Reference11Ideal.Conv.B Cert.Reference11Ideal.Conv.DY
      rw [a0, a1, a2, a3]
      rfl

end Cert.Proof

end
-- ==== Proof.ConvFwdMath.lean ====
/-
  The gate of a convolution's entry.
-/
module

public import proofs.«01_k».proof.Proof.ConvPreMath

@[expose] public section

noncomputable section

namespace Cert.Conv

open Idealize.ShloMosaic

/-- The gated entry. -/
def gate (p : EReal) : EReal := p * Ideal.logistic p

end Cert.Conv

end
-- ==== Proof.Conv12.lean ====
/-
  The gated convolution: what a grid point leaves, and the result array. A point holds 1024 rows of 512 columns and the 8 rows
  before them, of which it reads 3.
-/
module

public import proofs.«01_k».proof.Proof.ConvFwdMath
public import proofs.«01_k».proof.Proof.Gen.Kernel12Ideal.Value
public import Idealize.ShloMosaic.Lib.StableHlo.RunRead
public import Idealize.ShloMosaic.Lib.VecWindow

@[expose] public section

noncomputable section

namespace Cert.Kernel12Ideal.Conv

open Cert.Kernel12Ideal Cert.Kernel12Ideal.Gen Idealize.ShloMosaic Idealize.ShloMosaic.TcCoe Idealize.SL.Sem
open Idealize.ShloMosaic.Pipeline (Dat)
open Cert.Conv
open Cert.Proof.Mm (at2 at2_of at2_ix)
open scoped BigOperators

/-- What lies before the block: the block before's last rows, and zero at the first block. -/
theorem before (b : ℕ) (hb : b < 8) (z a : EReal) :
    Scalar.select (Scalar.cmpi CmpIPredicate.eq (BitVec.ofNat 32 b) 0#32) z a = if b = 0 then z else a := by
  interval_cases b <;> rfl

section Tile

variable (X : S8192x7168.Idx → EReal) (W : S4x3072.Idx → EReal) (B : S1x3072.Idx → EReal)
  (b q : ℕ) (hb : b < 8) (i : grid0.Coords) (hi : (i 0).val = b)
  (h : Vec Ideal S8x512 .f32) (x : Vec Ideal S1024x512 .f32) (w : Vec Ideal S4x512 .f32) (bb : Vec Ideal S1x512 .f32)
  (hh : b ≠ 0 → ∀ i : S8x512.Idx, h i = at2 X (b * 1024 - 8 + (i 0).val) (2048 + (q * 512 + (i 1).val)))
  (hx : ∀ i : S1024x512.Idx, x i = at2 X (b * 1024 + (i 0).val) (2048 + (q * 512 + (i 1).val)))
  (hw : ∀ i : S4x512.Idx, w i = at2 W (i 0).val (q * 512 + (i 1).val))
  (hbb : ∀ i : S1x512.Idx, bb i = at2 B 0 (q * 512 + (i 1).val))

/-- The rows with those before them. -/
def rows : FVec Ideal S1032x512 .f32 :=
  concatenate S1032x512 0 [⟨S8x512, (Scalar.select (Scalar.cmpi .eq (BitVec.ofNat 32 (i 0).val) 0#32) (broadcast S8x512 (Scalar.ofBits .f32 0x00000000#32)) h : FVec Ideal S8x512 .f32)⟩, ⟨S1024x512, x⟩] concatenates_S8x512_S1024x512_S1032x512_d0

include hb hi hh hx in
theorem rows_apply (r : Fin 1032) (j : Fin 512) (s d : ℕ) (hs : r.val + d = s + 8) (hd : d ≤ 3) (hs1 : s < 1024) :
    (rows i h x (ix2 r j) : EReal) = tap X d (b * 1024 + s) (q * 512 + j.val) := by
  unfold rows
  pointwise
  simp only [hi]
  unfold tap
  split
  · rename_i p
    rw [before b hb]
    split
    · exact (if_pos (by omega)).symm
    · rename_i hl
      rw [if_neg (by omega), hh hl]
      refine congrArg (fun n => at2 X n (2048 + (q * 512 + j.val))) ?_
      show b * 1024 - 8 + r.val = _
      omega
  · rename_i p
    refine (hx _).trans (Eq.trans ?_ (if_neg (show ¬b * 1024 + s < d by omega)).symm)
    refine congrArg (fun n => at2 X n (2048 + (q * 512 + j.val))) ?_
    show b * 1024 + (r.val - 8) = _
    omega

/-- The rows read `3` before. -/
def shifted3 : FVec Ideal S1024x512 .f32 := extractStridedSlice S1024x512 ![8, 0] (dynamicRotate 0 3#32 none (rows i h x) rotates_S1032x512_d0) slices_S1032x512_o8_0_S1024x512

/-- The rows read `2` before. -/
def shifted2 : FVec Ideal S1024x512 .f32 := extractStridedSlice S1024x512 ![8, 0] (dynamicRotate 0 2#32 none (rows i h x) rotates_S1032x512_d0) slices_S1032x512_o8_0_S1024x512

/-- The rows read `1` before. -/
def shifted1 : FVec Ideal S1024x512 .f32 := extractStridedSlice S1024x512 ![8, 0] (dynamicRotate 0 1#32 none (rows i h x) rotates_S1032x512_d0) slices_S1032x512_o8_0_S1024x512

def shifted0 : FVec Ideal S1024x512 .f32 := extractStridedSlice S1024x512 ![8, 0] (rows i h x) slices_S1032x512_o8_0_S1024x512

include hb hi hh hx in
theorem tap3_apply (r : Fin 1024) (j : Fin 512) :
    (shifted3 i h x (ix2 r j) : EReal) = tap X 3 (b * 1024 + r.val) (q * 512 + j.val) := by
  unfold shifted3
  pointwise
  refine rows_apply X b q hb i hi h x hh hx _ j r.val 3 ?_ (by decide) r.isLt
  have := r.isLt
  dsimp only
  omega

include hb hi hh hx in
theorem tap2_apply (r : Fin 1024) (j : Fin 512) :
    (shifted2 i h x (ix2 r j) : EReal) = tap X 2 (b * 1024 + r.val) (q * 512 + j.val) := by
  unfold shifted2
  pointwise
  refine rows_apply X b q hb i hi h x hh hx _ j r.val 2 ?_ (by decide) r.isLt
  have := r.isLt
  dsimp only
  omega

include hb hi hh hx in
theorem tap1_apply (r : Fin 1024) (j : Fin 512) :
    (shifted1 i h x (ix2 r j) : EReal) = tap X 1 (b * 1024 + r.val) (q * 512 + j.val) := by
  unfold shifted1
  pointwise
  refine rows_apply X b q hb i hi h x hh hx _ j r.val 1 ?_ (by decide) r.isLt
  have := r.isLt
  dsimp only
  omega

include hb hi hh hx in
theorem tap0_apply (r : Fin 1024) (j : Fin 512) :
    (shifted0 i h x (ix2 r j) : EReal) = tap X 0 (b * 1024 + r.val) (q * 512 + j.val) := by
  unfold shifted0
  pointwise
  refine rows_apply X b q hb i hi h x hh hx _ j r.val 0 ?_ (by decide) r.isLt
  have := r.isLt
  dsimp only
  omega

/-- The convolution with its bias. -/
def preBlock : FVec Ideal S1024x512 .f32 :=
  addf (addf (addf (addf (addf (broadcastTo S1024x512 bb broadcasts_S1x512_S1024x512) (broadcast S1024x512 (Scalar.ofBits .f32 0x00000000#32)))
    (mulf (shifted3 i h x) (broadcastTo S1024x512 (extractStridedSlice S1x512 ![0, 0] w slices_S4x512_o0_0_S1x512) broadcasts_S1x512_S1024x512)))
    (mulf (shifted2 i h x) (broadcastTo S1024x512 (extractStridedSlice S1x512 ![1, 0] w slices_S4x512_o1_0_S1x512) broadcasts_S1x512_S1024x512)))
    (mulf (shifted1 i h x) (broadcastTo S1024x512 (extractStridedSlice S1x512 ![2, 0] w slices_S4x512_o2_0_S1x512) broadcasts_S1x512_S1024x512)))
    (mulf (shifted0 i h x) (broadcastTo S1024x512 (extractStridedSlice S1x512 ![3, 0] w slices_S4x512_o3_0_S1x512) broadcasts_S1x512_S1024x512))

theorem pay_eq : k0_pay1 (F := Ideal) i h x w bb = mulf (preBlock i h x w bb) (logistic (preBlock i h x w bb)) := rfl

include hb hi hh hx hw hbb in
theorem pre_apply (r : Fin 1024) (j : Fin 512) :
    (preBlock i h x w bb (ix2 r j) : EReal) = pre X W B (b * 1024 + r.val) (q * 512 + j.val) := by
  unfold preBlock
  pointwise
  simp only [tap3_apply X b q hb i hi h x hh hx, tap2_apply X b q hb i hi h x hh hx, tap1_apply X b q hb i hi h x hh hx,
    tap0_apply X b q hb i hi h x hh hx, hw, hbb]
  rfl

include hb hi hh hx hw hbb in
/-- A block's entries. -/
theorem gate_apply (r : Fin 1024) (j : Fin 512) :
    (k0_pay1 (F := Ideal) i h x w bb (ix2 r j) : EReal) = gate (pre X W B (b * 1024 + r.val) (q * 512 + j.val)) := by
  rw [pay_eq, ← pre_apply X W B b q hb i hi h x w bb hh hx hw hbb r j]
  rfl

end Tile

theorem hz : (![0, 0] : Fin 2 → Nat) = fun _ => 0 := funext fun a => by fin_cases a <;> rfl

theorem block (i : grid0.Coords) (x : Vec Ideal S1024x512 .f32) (h : Vec Ideal S8x512 .f32) (w : Vec Ideal S4x512 .f32) (bb : Vec Ideal S1x512 .f32) :
    out0_4 (F := Ideal) i x h w bb = k0_pay1 i h x w bb := by
  unfold out0_4 r0_0 r0_1 r0_2 r0_3
  rw [View.canon_unit_zero hz]
  simp only [View.ld_unit_zero (S := S1024x512) hz, View.ld_unit_zero (S := S8x512) hz, View.ld_unit_zero (S := S4x512) hz, View.ld_unit_zero (S := S1x512) hz]

variable (m : (ℓ : Loc nD τ sig) → Buf (Elt Ideal) ℓ) (c : Dev nD)

/-- The packed columns, the taps and the bias. -/
abbrev X : S8192x7168.Idx → EReal := m ((c : Thread nD τ).loc main_arg0)
abbrev W : S4x3072.Idx → EReal := m ((c : Thread nD τ).loc main_arg1)
abbrev B : S1x3072.Idx → EReal := m ((c : Thread nD τ).loc main_arg2)

/-- The grid's block indices. -/
theorem index0 : ∀ t : Fin cfg0.N, win0_0.index t (0 : Fin 2) = t.val / 6 ∧ win0_0.index t (1 : Fin 2) = 4 + t.val % 6 :=
  (by decide +kernel : ∀ t : Fin grid0.N, _)
theorem index1 : ∀ t : Fin cfg0.N, win0_1.index t (0 : Fin 2) = t.val / 6 * 128 - 1 ∧ win0_1.index t (1 : Fin 2) = 4 + t.val % 6 :=
  (by decide +kernel : ∀ t : Fin grid0.N, _)
theorem index2 : ∀ t : Fin cfg0.N, win0_2.index t (0 : Fin 2) = 0 ∧ win0_2.index t (1 : Fin 2) = t.val % 6 :=
  (by decide +kernel : ∀ t : Fin grid0.N, _)
theorem index3 : ∀ t : Fin cfg0.N, win0_3.index t (0 : Fin 2) = 0 ∧ win0_3.index t (1 : Fin 2) = t.val % 6 :=
  (by decide +kernel : ∀ t : Fin grid0.N, _)
theorem index4 : ∀ t : Fin cfg0.N, win0_4.index t (0 : Fin 2) = t.val / 6 ∧ win0_4.index t (1 : Fin 2) = t.val % 6 :=
  (by decide +kernel : ∀ t : Fin grid0.N, _)
theorem coord0 : ∀ t : Fin cfg0.N, (grid0.coords t (0 : Fin 2)).val = t.val / 6 :=
  (by decide +kernel : ∀ t : Fin grid0.N, _)
theorem flush4 : ∀ t : Fin cfg0.N, (cfg0.win 4).flush t = true := (by decide +kernel : ∀ t : Fin grid0.N, _)

/-- The blocks at a point. -/
theorem in0 (t : Fin cfg0.N) (i : S1024x512.Idx) :
    (iblk (F := Ideal) m c 0 t : S1024x512.Idx → EReal) i = at2 (X m c) (t.val / 6 * 1024 + (i 0).val) (2048 + (t.val % 6 * 512 + (i 1).val)) := by
  obtain ⟨e0, e1⟩ := index0 t
  have hN : t.val < 48 := t.isLt
  have h0 := (i 0).isLt
  unfold iblk
  rw [View.read_apply]
  show V m c main_arg0 _ = _
  rw [V_main_arg0]
  refine at2_of _ _ _ _ ?_ ?_
  · show win0_0.index t (0 : Fin 2) * 1024 + 1 * (i 0).val = _
    rw [e0]; omega
  · show win0_0.index t (1 : Fin 2) * 512 + 1 * (i 1).val = _
    rw [e1]; omega

theorem in1 (t : Fin cfg0.N) (hl : t.val / 6 ≠ 0) (i : S8x512.Idx) :
    (iblk (F := Ideal) m c 1 t : S8x512.Idx → EReal) i = at2 (X m c) (t.val / 6 * 1024 - 8 + (i 0).val) (2048 + (t.val % 6 * 512 + (i 1).val)) := by
  obtain ⟨e0, e1⟩ := index1 t
  have hN : t.val < 48 := t.isLt
  have h0 := (i 0).isLt
  unfold iblk
  rw [View.read_apply]
  show V m c main_arg0 _ = _
  rw [V_main_arg0]
  refine at2_of _ _ _ _ ?_ ?_
  · show win0_1.index t (0 : Fin 2) * 8 + 1 * (i 0).val = _
    rw [e0]; omega
  · show win0_1.index t (1 : Fin 2) * 512 + 1 * (i 1).val = _
    rw [e1]; omega

theorem in2 (t : Fin cfg0.N) (i : S4x512.Idx) :
    (iblk (F := Ideal) m c 2 t : S4x512.Idx → EReal) i = at2 (W m c) ((i 0).val) (t.val % 6 * 512 + (i 1).val) := by
  obtain ⟨e0, e1⟩ := index2 t
  have hN : t.val < 48 := t.isLt
  have h0 := (i 0).isLt
  unfold iblk
  rw [View.read_apply]
  show V m c main_arg1 _ = _
  rw [V_main_arg1]
  refine at2_of _ _ _ _ ?_ ?_
  · show win0_2.index t (0 : Fin 2) * 4 + 1 * (i 0).val = _
    rw [e0]; omega
  · show win0_2.index t (1 : Fin 2) * 512 + 1 * (i 1).val = _
    rw [e1]; omega

theorem in3 (t : Fin cfg0.N) (i : S1x512.Idx) :
    (iblk (F := Ideal) m c 3 t : S1x512.Idx → EReal) i = at2 (B m c) (0) (t.val % 6 * 512 + (i 1).val) := by
  obtain ⟨e0, e1⟩ := index3 t
  have hN : t.val < 48 := t.isLt
  have h0 : (i 0).val < 1 := (i 0).isLt
  unfold iblk
  rw [View.read_apply]
  show V m c main_arg2 _ = _
  rw [V_main_arg2]
  refine at2_of _ _ _ _ ?_ ?_
  · show win0_3.index t (0 : Fin 2) * 1 + 1 * (i 0).val = _
    rw [e0]; omega
  · show win0_3.index t (1 : Fin 2) * 512 + 1 * (i 1).val = _
    rw [e1]; omega

theorem left (t : Fin cfg0.N) (r : Fin 1024) (j : Fin 512) :
    (out0_4 (F := Ideal) (grid0.coords t) (iblk m c 0 t) (iblk m c 1 t) (iblk m c 2 t) (iblk m c 3 t) (ix2 r j) : EReal)
      = gate (pre (X m c) (W m c) (B m c) (t.val / 6 * 1024 + r.val) (t.val % 6 * 512 + j.val)) := by
  have hN : t.val < 48 := t.isLt
  rw [block]
  exact gate_apply (X m c) (W m c) (B m c) (t.val / 6) (t.val % 6) (by omega) _ (coord0 t) _ _ _ _ (in1 m c t) (in0 m c t) (in2 m c t) (in3 m c t) r j

/-- The result array. -/
def G : Buf (Elt Ideal) ((c : Thread nD τ).loc main_v0) := fun i : S8192x3072.Idx => gate (pre (X m c) (W m c) (B m c) (i 0).val (i 1).val)

theorem flushed (t : Fin cfg0.N) (hf : (cfg0.win 4).flush t = true) :
    (dats (F := Ideal) m 0 c).flushed 4 t = ((cfg0.win 4).blk t).view.read (Elt Ideal) (G m c) := by
  obtain ⟨e0, e1⟩ := index4 t
  rw [Value.flushed4]
  funext y
  obtain ⟨r, j, rfl⟩ : ∃ (r : Fin 1024) (j : Fin 512), y = (ix2 r j : S1024x512.Idx) := ⟨y 0, y 1, by funext a; fin_cases a <;> rfl⟩
  rw [View.read_apply]
  refine Eq.trans ?_ (cast_eq _ (G m c _)).symm
  refine Eq.trans (left m c t r j) ?_
  unfold G
  refine congrArg₂ (fun r j => gate (pre (X m c) (W m c) (B m c) r j)) ?_ ?_
  · show _ = win0_4.index t (0 : Fin 2) * 1024 + 1 * r.val
    rw [e0]; omega
  · show _ = win0_4.index t (1 : Fin 2) * 512 + 1 * j.val
    rw [e1]; omega

theorem out : (dats (F := Ideal) m 0 c).arrAt 4 cfg0.N = G m c := by
  refine (dats (F := Ideal) m 0 c).arrAt_eq_of_cover 4 _ (flushed m c) fun i => ?_
  have h0 : (i 0).val < 8192 := (i 0).isLt
  have h1 : (i 1).val < 3072 := (i 1).isLt
  have hN : (i 0).val / 1024 * 6 + (i 1).val / 512 < cfg0.N := by rw [show cfg0.N = 48 from N_0]; omega
  refine ⟨⟨(i 0).val / 1024 * 6 + (i 1).val / 512, hN⟩, flush4 _, ?_⟩
  obtain ⟨e0, e1⟩ := index4 ⟨(i 0).val / 1024 * 6 + (i 1).val / 512, hN⟩
  show i ∈ ((View.whole main_v0).slice (win0_4.rect ⟨(i 0).val / 1024 * 6 + (i 1).val / 512, hN⟩)).set
  rw [View.set_slice_whole, Rect.mem_set_unit]
  intro a
  fin_cases a
  · show win0_4.index ⟨(i 0).val / 1024 * 6 + (i 1).val / 512, hN⟩ (0 : Fin 2) * 1024 ≤ (i 0).val ∧ (i 0).val < win0_4.index ⟨(i 0).val / 1024 * 6 + (i 1).val / 512, hN⟩ (0 : Fin 2) * 1024 + 1024
    rw [e0]; dsimp only; omega
  · show win0_4.index ⟨(i 0).val / 1024 * 6 + (i 1).val / 512, hN⟩ (1 : Fin 2) * 512 ≤ (i 1).val ∧ (i 1).val < win0_4.index ⟨(i 0).val / 1024 * 6 + (i 1).val / 512, hN⟩ (1 : Fin 2) * 512 + 512
    rw [e1]; dsimp only; omega

end Cert.Kernel12Ideal.Conv

end
-- ==== Proof.ConvRef12.lean ====
/-
  The reference's gated convolution, read at a place. The reference pads the columns with three zero rows and reads them at
  four offsets.
-/
module

public import proofs.«01_k».proof.Proof.ConvFwdMath
public import proofs.«01_k».proof.Proof.Gen.Reference12Ideal.Run

@[expose] public section

noncomputable section

namespace Cert.Reference12Ideal.Conv

open Cert.Reference12Ideal Cert.Reference12Ideal.Gen Idealize.ShloMosaic Idealize.ShloMosaic.TcCoe Idealize.SL.Sem
open Cert.Conv
open Cert.Proof.Mm (at2 at2_of at2_ix)
open scoped BigOperators

/-- The packed columns' convolution part with three zero rows before it. -/
def padded (x : FVec Ideal S8192x7168 .f32) : FVec Ideal S1x8195x3072 .f32 :=
  concatenate S1x8195x3072 1 [⟨S1x3x3072, (broadcastInDim S1x3x3072 ![] bcast_S_S1x3x3072 (constant S_ .f32 0x00000000#32))⟩, ⟨S1x8192x3072, (broadcastInDim S1x8192x3072 ![1, 2] bcast_S8192x3072_S1x8192x3072_1_2 (extractStridedSlice S8192x3072 ![0, 2048] x slices_S8192x7168_S8192x3072_0_2048))⟩] concatenates_S1x3x3072_S1x8192x3072_S1x8195x3072_d1

/-- A tap's weights, for every row. -/
def spread (v : FVec Ideal S1x3072 .f32) : FVec Ideal S1x8192x3072 .f32 :=
  broadcastInDim S1x8192x3072 ![0, 1, 2] bcast_S1x1x3072_S1x8192x3072_0_1_2 (broadcastInDim S1x1x3072 ![2] bcast_S3072_S1x1x3072_2 (shapeCast _ v shapeCasts_S1x3072_S3072))

def flat (v : BitVec 32) : FVec Ideal S1x8192x3072 .f32 :=
  broadcastInDim S1x8192x3072 ![] bcast_S_S1x8192x3072 (constant S_ .f32 v)

def T0 (x : FVec Ideal S8192x7168 .f32) : FVec Ideal S1x8192x3072 .f32 := extractStridedSlice S1x8192x3072 ![0, 0, 0] (padded x) slices_S1x8195x3072_S1x8192x3072_0_0_0
def T1 (x : FVec Ideal S8192x7168 .f32) : FVec Ideal S1x8192x3072 .f32 := extractStridedSlice S1x8192x3072 ![0, 1, 0] (padded x) slices_S1x8195x3072_S1x8192x3072_0_1_0
def T2 (x : FVec Ideal S8192x7168 .f32) : FVec Ideal S1x8192x3072 .f32 := extractStridedSlice S1x8192x3072 ![0, 2, 0] (padded x) slices_S1x8195x3072_S1x8192x3072_0_2_0
def T3 (x : FVec Ideal S8192x7168 .f32) : FVec Ideal S1x8192x3072 .f32 := extractStridedSlice S1x8192x3072 ![0, 3, 0] (padded x) slices_S1x8195x3072_S1x8192x3072_0_3_0

/-- The convolution's result with the bias. -/
def preArr (x : FVec Ideal S8192x7168 .f32) (w : FVec Ideal S4x3072 .f32) (b : FVec Ideal S1x3072 .f32) : FVec Ideal S1x8192x3072 .f32 :=
  addf (addf (addf (addf (addf (flat 0x00000000#32)
    (mulf (T0 x) (spread (extractStridedSlice S1x3072 ![0, 0] w slices_S4x3072_S1x3072_0_0))))
    (mulf (T1 x) (spread (extractStridedSlice S1x3072 ![1, 0] w slices_S4x3072_S1x3072_1_0))))
    (mulf (T2 x) (spread (extractStridedSlice S1x3072 ![2, 0] w slices_S4x3072_S1x3072_2_0))))
    (mulf (T3 x) (spread (extractStridedSlice S1x3072 ![3, 0] w slices_S4x3072_S1x3072_3_0)))) (spread b)

/-- Its logistic, and the gradient that it receives. -/
def sgArr (p : FVec Ideal S1x8192x3072 .f32) : FVec Ideal S1x8192x3072 .f32 :=
  Host.divf (flat 0x3F800000#32) (addf (flat 0x3F800000#32) (Host.exp (Host.negf p)))

variable (m : (ℓ : Loc nD τ sig) → Buf (Elt Ideal) ℓ) (c : Dev nD)

abbrev X : S8192x7168.Idx → EReal := m ((c : Thread nD τ).loc main_arg0)
abbrev W : S4x3072.Idx → EReal := m ((c : Thread nD τ).loc main_arg1)
abbrev B : S1x3072.Idx → EReal := m ((c : Thread nD τ).loc main_arg2)

theorem v38_eq : Cert.Reference12Ideal.Value.res_main_v38 (F := Ideal) m c
    = shapeCast _ (mulf (preArr (X m c) (W m c) (B m c)) (sgArr (preArr (X m c) (W m c) (B m c)))) shapeCasts_S1x8192x3072_S8192x3072 := by
  unfold Cert.Reference12Ideal.Value.res_main_v38 sgArr preArr T0 T1 T2 T3 padded spread flat
  rfl

theorem spread_apply (v : FVec Ideal S1x3072 .f32) (r : Fin 8192) (j : Fin 3072) : (spread v (ix3 0 r j) : EReal) = v (ix2 0 j) := by
  unfold spread
  pointwise

section Taps

variable (x : FVec Ideal S8192x7168 .f32) (r : Fin 8192) (j : Fin 3072)

theorem T0_apply : (T0 x (ix3 0 r j) : EReal) = tap x 3 r.val j.val := by
  unfold T0 padded
  pointwise
  unfold tap
  split
  · rfl
  · exact at2_ix x _ _

theorem T1_apply : (T1 x (ix3 0 r j) : EReal) = tap x 2 r.val j.val := by
  unfold T1 padded
  pointwise
  unfold tap
  by_cases h : r.val < 2
  · exact (dif_pos (show 1 + r.val < 3 by omega)).trans (if_pos h).symm
  · refine (dif_neg (show ¬(1 + r.val < 3) by omega)).trans (Eq.trans ?_ (if_neg h).symm)
    exact at2_of x _ _ _ (show 1 + r.val - 3 = r.val - 2 by omega) rfl

theorem T2_apply : (T2 x (ix3 0 r j) : EReal) = tap x 1 r.val j.val := by
  unfold T2 padded
  pointwise
  unfold tap
  by_cases h : r.val < 1
  · exact (dif_pos (show 2 + r.val < 3 by omega)).trans (if_pos h).symm
  · refine (dif_neg (show ¬(2 + r.val < 3) by omega)).trans (Eq.trans ?_ (if_neg h).symm)
    exact at2_of x _ _ _ (show 2 + r.val - 3 = r.val - 1 by omega) rfl

theorem T3_apply : (T3 x (ix3 0 r j) : EReal) = tap x 0 r.val j.val := by
  unfold T3 padded
  pointwise
  unfold tap
  refine Eq.trans ?_ (if_neg (Nat.not_lt_zero _)).symm
  exact at2_ix x _ _

end Taps

theorem pre_apply (x : FVec Ideal S8192x7168 .f32) (w : FVec Ideal S4x3072 .f32) (b : FVec Ideal S1x3072 .f32) (r : Fin 8192) (j : Fin 3072) :
    (preArr x w b (ix3 0 r j) : EReal) = pre x w b r.val j.val := by
  unfold preArr flat
  pointwise
  simp only [spread_apply, T0_apply, T1_apply, T2_apply, T3_apply]
  pointwise
  unfold pre
  have e0 : (w (ix2 0 j) : EReal) = at2 w 0 j.val := at2_ix w 0 j
  have e1 : (w (ix2 1 j) : EReal) = at2 w 1 j.val := at2_ix w 1 j
  have e2 : (w (ix2 2 j) : EReal) = at2 w 2 j.val := at2_ix w 2 j
  have e3 : (w (ix2 3 j) : EReal) = at2 w 3 j.val := at2_ix w 3 j
  have eb : (b (ix2 0 j) : EReal) = at2 b 0 j.val := at2_ix b 0 j
  rw [e0, e1, e2, e3, eb, add_comm _ (at2 b 0 j.val)]
  simp only [add_assoc]

/-- The result at row `r` and column `j`. -/
theorem out_apply (r : Fin 8192) (j : Fin 3072) :
    (Cert.Reference12Ideal.Value.res_main_v38 (F := Ideal) m c (ix2 r j) : EReal) = gate (pre (X m c) (W m c) (B m c) r.val j.val) := by
  rw [v38_eq, ← pre_apply]
  unfold sgArr flat
  pointwise
  rfl

end Cert.Reference12Ideal.Conv

end
-- ==== Proof.ConvAlg12.lean ====
/-
  The gated convolution: the claim that the kernel and the reference leave equal arrays.
-/
module

public import proofs.«01_k».proof.Defs
public import proofs.«01_k».proof.Proof.Conv12
public import proofs.«01_k».proof.Proof.ConvRef12

@[expose] public section

noncomputable section

namespace Cert.Proof

open Idealize.ShloMosaic Idealize.ShloMosaic.TcCoe Idealize.SL.Sem

theorem algebraic_12 : Cert.algebraic_Kernel12Ideal_Reference12Ideal := by
  intro m g m' g' _ hargs
  refine ⟨fun c => Cert.Kernel12Ideal.Conv.G m c, ?_, ?_⟩
  · refine (θ_run _ _ _).mono (fun r h c => ?_) (Cert.Kernel12Ideal.Value.run_blocks (F := Ideal) m g)
    exact ⟨(h c).1.trans (Cert.Kernel12Ideal.Conv.out m c), (h c).2⟩
  · refine (θ_run _ _ _).mono (fun r h c => ?_) (Cert.Reference12Ideal.Value.run (F := Ideal) m' g')
    obtain ⟨a0, a1, a2⟩ := hargs c
    refine ⟨(h c).1.trans ?_, (h c).2⟩
    funext i
    obtain ⟨q, j, rfl⟩ : ∃ (q : Fin 8192) (j : Fin 3072), i = (ix2 q j : Cert.Kernel12Ideal.S8192x3072.Idx) := ⟨i 0, i 1, by funext a; fin_cases a <;> rfl⟩
    refine (Cert.Reference12Ideal.Conv.out_apply m' c q j).trans ?_
    unfold Cert.Reference12Ideal.Conv.X Cert.Reference12Ideal.Conv.W Cert.Reference12Ideal.Conv.B
    rw [a0, a1, a2]
    rfl

end Cert.Proof

end
-- ==== Proof.NormFwdMath.lean ====
/-
  A root-mean-square norm, row by row.
-/
module

public import proofs.«01_k».proof.Proof.NormMath

@[expose] public section

noncomputable section

namespace Cert.Norm

open Idealize.ShloMosaic

/-- A normed entry of the row `x` with the weight `w`. -/
def normed (x w : Fin 1024 → EReal) (j : Fin 1024) : EReal := x j * scale x * w j

end Cert.Norm

end
-- ==== Proof.Norm13.lean ====
/-
  The norm before a layer: what a grid point leaves, and the result array. A point holds 512 rows.
-/
module

public import proofs.«01_k».proof.Proof.NormFwdMath
public import proofs.«01_k».proof.Proof.Gen.Kernel13Ideal.Value
public import Idealize.ShloMosaic.Lib.StableHlo.RunRead
public import Idealize.ShloMosaic.Lib.VecWindow

@[expose] public section

noncomputable section

namespace Cert.Kernel13Ideal.Norm

open Cert.Kernel13Ideal Cert.Kernel13Ideal.Gen Idealize.ShloMosaic Idealize.ShloMosaic.TcCoe Idealize.SL.Sem
open Idealize.ShloMosaic.Pipeline (Dat)
open Cert.Norm
open Cert.Proof.Mm (at2 at2_of at2_ix)
open scoped BigOperators

/-- A block's entries. -/
theorem rows_apply (x : Vec Ideal S512x1024 .f32) (w : Vec Ideal S1x1024 .f32) (r : Fin 512) (j : Fin 1024) :
    (k0_pay1 (F := Ideal) x w (ix2 r j) : EReal) = normed (rowOf x r.val) (rowOf w 0) j := by
  unfold k0_pay1
  pointwise
  simp only [rowOf_apply (a := 512), show ∀ j, (w (ix2 0 j) : EReal) = rowOf w 0 j from fun j => rowOf_apply w 0 j]
  rfl

theorem hz : (![0, 0] : Fin 2 → Nat) = fun _ => 0 := funext fun a => by fin_cases a <;> rfl

theorem block (x : Vec Ideal S512x1024 .f32) (w : Vec Ideal S1x1024 .f32) :
    out0_2 (F := Ideal) x w = k0_pay1 x w := by
  unfold out0_2 r0_0 r0_1
  rw [View.canon_unit_zero hz]
  simp only [View.ld_unit_zero (S := S512x1024) hz, View.ld_unit_zero (S := S1x1024) hz]

variable (m : (ℓ : Loc nD τ sig) → Buf (Elt Ideal) ℓ) (c : Dev nD)

abbrev X : S8192x1024.Idx → EReal := m ((c : Thread nD τ).loc main_arg0)
abbrev W : S1024.Idx → EReal := m ((c : Thread nD τ).loc main_arg1)

/-- The grid's block indices. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true := (by decide +kernel : ∀ t : Fin grid0.N, _)

/-- The rows of the blocks at a point. -/
theorem rows0 (t : Fin cfg0.N) (r : Fin 512) : rowOf (a := 512) (iblk (F := Ideal) m c 0 t) r.val = rowOf (X m c) (t.val * 512 + r.val) := by
  refine rowOf_block (X m c) _ _ (fun i => ?_) r
  obtain ⟨e0, e1⟩ := index0 t
  unfold iblk
  rw [View.read_apply]
  show V m c main_arg0 _ = _
  rw [V_main_arg0]
  refine at2_of _ _ _ _ ?_ ?_
  · show win0_0.index t (0 : Fin 2) * 512 + 1 * (i 0).val = _
    rw [e0, Nat.one_mul]
  · show win0_0.index t (1 : Fin 2) * 1024 + 1 * (i 1).val = _
    rw [e1, Nat.one_mul, Nat.zero_mul, Nat.zero_add]

/-- The weight, laid out as a row. -/
theorem host_weight (i : S1x1024.Idx) : (V m c main_v0 : S1x1024.Idx → EReal) i = W m c (ix1 (i 1)) := by
  simp only [V, hostOps0]
  after_reads_simp
  pointwise

theorem weights (t : Fin cfg0.N) : rowOf (a := 1) (iblk (F := Ideal) m c 1 t) 0 = entries (W m c) := by
  obtain ⟨e0, e1⟩ := index1 t
  funext j
  refine (rowOf_apply (a := 1) (iblk (F := Ideal) m c 1 t) 0 j).symm.trans ?_
  unfold iblk
  rw [View.read_apply]
  show V m c main_v0 _ = _
  rw [host_weight]
  unfold entries
  congr 2
  apply Fin.ext
  show win0_1.index t (1 : Fin 2) * 1024 + 1 * j.val = _
  rw [e1]; omega

/-- The result at row `r` and column `j`. -/
def outAt (r : ℕ) (j : Fin 1024) : EReal := normed (rowOf (X m c) r) (entries (W m c)) j

theorem block_left (t : Fin cfg0.N) (r : Fin 512) (j : Fin 1024) :
    (out0_2 (F := Ideal) (iblk m c 0 t) (iblk m c 1 t) (ix2 r j) : EReal) = outAt m c (t.val * 512 + r.val) j := by
  rw [block, rows_apply, rows0, weights]; rfl

def G : Buf (Elt Ideal) ((c : Thread nD τ).loc main_v1) := fun i : S8192x1024.Idx => outAt m c (i 0).val (i 1)

theorem flushed (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  obtain ⟨r, j, rfl⟩ : ∃ (r : Fin 512) (j : Fin 1024), y = (ix2 r j : S512x1024.Idx) := ⟨y 0, y 1, by funext a; fin_cases a <;> rfl⟩
  rw [View.read_apply]
  refine Eq.trans ?_ (cast_eq _ (G m c _)).symm
  refine Eq.trans (block_left m c t r j) ?_
  unfold G
  refine congrArg₂ (outAt m c) ?_ (Fin.ext ?_)
  · show _ = win0_2.index t (0 : Fin 2) * 512 + 1 * r.val
    rw [e0]; omega
  · show j.val = win0_2.index t (1 : Fin 2) * 1024 + 1 * j.val
    rw [e1]; omega

theorem out : (dats (F := Ideal) m 0 c).arrAt 2 cfg0.N = G m c := by
  refine (dats (F := Ideal) m 0 c).arrAt_eq_of_cover 2 _ (flushed m c) fun i => ?_
  have h0 : (i 0).val < 8192 := (i 0).isLt
  have h1 : (i 1).val < 1024 := (i 1).isLt
  have hN : (i 0).val / 512 < cfg0.N := by rw [show cfg0.N = 16 from N_0]; omega
  refine ⟨⟨(i 0).val / 512, hN⟩, flush2 _, ?_⟩
  obtain ⟨e0, e1⟩ := index2 ⟨(i 0).val / 512, hN⟩
  show i ∈ ((View.whole main_v1).slice (win0_2.rect ⟨(i 0).val / 512, hN⟩)).set
  rw [View.set_slice_whole, Rect.mem_set_unit]
  intro a
  fin_cases a
  · show win0_2.index ⟨(i 0).val / 512, hN⟩ (0 : Fin 2) * 512 ≤ (i 0).val ∧ (i 0).val < win0_2.index ⟨(i 0).val / 512, hN⟩ (0 : Fin 2) * 512 + 512
    rw [e0]; dsimp only; omega
  · show win0_2.index ⟨(i 0).val / 512, hN⟩ (1 : Fin 2) * 1024 ≤ (i 1).val ∧ (i 1).val < win0_2.index ⟨(i 0).val / 512, hN⟩ (1 : Fin 2) * 1024 + 1024
    rw [e1]; omega

end Cert.Kernel13Ideal.Norm

end
-- ==== Proof.NormRef13.lean ====
/-
  The reference's norm before a layer read at a place.
-/
module

public import proofs.«01_k».proof.Proof.NormFwdMath
public import proofs.«01_k».proof.Proof.Gen.Reference13Ideal.Run

@[expose] public section

noncomputable section

namespace Cert.Reference13Ideal.Norm

open Cert.Reference13Ideal Cert.Reference13Ideal.Gen Idealize.ShloMosaic Idealize.ShloMosaic.TcCoe Idealize.SL.Sem
open Cert.Norm
open scoped BigOperators

/-- The result at row `r` and column `j`. -/
theorem out_apply (x : FVec Ideal S8192x1024 .f32) (w : FVec Ideal S1024 .f32) (r : Fin 8192) (j : Fin 1024) :
    ((truncf .bf16 (mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 w))) bitsLt_bf16_f32 : FVec Ideal S8192x1024 .bf16) (ix2 r j) : EReal)
      = normed (rowOf x r.val) (entries w) j := by
  simp only [pointwise, zero_add]
  simp only [show ¬(8192 = 1) by decide, show ¬(1024 = 1) by decide, dite_false, if_false, ↓reduceDIte,
    show ∀ (r : Fin 8192) (j : Fin 1024), (x (ix2 r j) : EReal) = rowOf x r.val j from fun r j => rowOf_apply x r j]
  rfl

end Cert.Reference13Ideal.Norm

end
-- ==== Proof.NormAlg13.lean ====
/-
  The norm before a layer: the claim that the kernel and the reference leave equal arrays.
-/
module

public import proofs.«01_k».proof.Defs
public import proofs.«01_k».proof.Proof.Norm13
public import proofs.«01_k».proof.Proof.NormRef13

@[expose] public section

noncomputable section

namespace Cert.Proof

open Idealize.ShloMosaic Idealize.ShloMosaic.TcCoe Idealize.SL.Sem

theorem algebraic_13 : Cert.algebraic_Kernel13Ideal_Reference13Ideal := by
  intro m g m' g' _ hargs
  refine ⟨fun c => Cert.Kernel13Ideal.Norm.G m c, ?_, ?_⟩
  · refine (θ_run _ _ _).mono (fun r h c => ?_) (Cert.Kernel13Ideal.Value.run_blocks (F := Ideal) m g)
    exact ⟨(h c).1.trans (Cert.Kernel13Ideal.Norm.out m c), (h c).2⟩
  · refine (θ_run _ _ _).mono (fun r h c => ?_) (Cert.Reference13Ideal.Value.run (F := Ideal) m' g')
    obtain ⟨a0, a1⟩ := hargs c
    refine ⟨(h c).1.trans ?_, (h c).2⟩
    rw [a0, a1]
    funext i
    obtain ⟨q, j, rfl⟩ : ∃ (q : Fin 8192) (j : Fin 1024), i = (ix2 q j : Cert.Kernel13Ideal.S8192x1024.Idx) := ⟨i 0, i 1, by funext a; fin_cases a <;> rfl⟩
    exact Cert.Reference13Ideal.Norm.out_apply _ _ q j

end Cert.Proof

end
-- ==== Proof.Norm14.lean ====
/-
  The norm after a layer, added to what entered it: what a grid point leaves, and the result array. A point holds 512 rows.
-/
module

public import proofs.«01_k».proof.Proof.NormFwdMath
public import proofs.«01_k».proof.Proof.Gen.Kernel14Ideal.Value
public import Idealize.ShloMosaic.Lib.StableHlo.RunRead
public import Idealize.ShloMosaic.Lib.VecWindow

@[expose] public section

noncomputable section

namespace Cert.Kernel14Ideal.Norm

open Cert.Kernel14Ideal Cert.Kernel14Ideal.Gen Idealize.ShloMosaic Idealize.ShloMosaic.TcCoe Idealize.SL.Sem
open Idealize.ShloMosaic.Pipeline (Dat)
open Cert.Norm
open Cert.Proof.Mm (at2 at2_of at2_ix)
open scoped BigOperators

/-- A block's entries. -/
theorem rows_apply (x y : Vec Ideal S512x1024 .f32) (w : Vec Ideal S1x1024 .f32) (r : Fin 512) (j : Fin 1024) :
    (k0_pay1 (F := Ideal) x y w (ix2 r j) : EReal) = rowOf x r.val j + normed (rowOf y r.val) (rowOf w 0) j := by
  unfold k0_pay1
  pointwise
  simp only [rowOf_apply (a := 512), show ∀ j, (w (ix2 0 j) : EReal) = rowOf w 0 j from fun j => rowOf_apply w 0 j]
  rfl

theorem hz : (![0, 0] : Fin 2 → Nat) = fun _ => 0 := funext fun a => by fin_cases a <;> rfl

theorem block (x y : Vec Ideal S512x1024 .f32) (w : Vec Ideal S1x1024 .f32) :
    out0_3 (F := Ideal) x y w = k0_pay1 x y w := by
  unfold out0_3 r0_0 r0_1
  rw [View.canon_unit_zero hz]
  simp only [View.ld_unit_zero (S := S512x1024) hz, View.ld_unit_zero (S := S1x1024) hz]

variable (m : (ℓ : Loc nD τ sig) → Buf (Elt Ideal) ℓ) (c : Dev nD)

abbrev X : S8192x1024.Idx → EReal := m ((c : Thread nD τ).loc main_arg0)
abbrev Y : S8192x1024.Idx → EReal := m ((c : Thread nD τ).loc main_arg1)
abbrev W : S1024.Idx → EReal := m ((c : Thread nD τ).loc main_arg2)

/-- The grid's block indices. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem flush3 : ∀ t : Fin cfg0.N, (cfg0.win 3).flush t = true := (by decide +kernel : ∀ t : Fin grid0.N, _)

/-- The rows of the blocks at a point. -/
theorem rows0 (t : Fin cfg0.N) (r : Fin 512) : rowOf (a := 512) (iblk (F := Ideal) m c 0 t) r.val = rowOf (X m c) (t.val * 512 + r.val) := by
  refine rowOf_block (X m c) _ _ (fun i => ?_) r
  obtain ⟨e0, e1⟩ := index0 t
  unfold iblk
  rw [View.read_apply]
  show V m c main_arg0 _ = _
  rw [V_main_arg0]
  refine at2_of _ _ _ _ ?_ ?_
  · show win0_0.index t (0 : Fin 2) * 512 + 1 * (i 0).val = _
    rw [e0, Nat.one_mul]
  · show win0_0.index t (1 : Fin 2) * 1024 + 1 * (i 1).val = _
    rw [e1, Nat.one_mul, Nat.zero_mul, Nat.zero_add]

theorem rows1 (t : Fin cfg0.N) (r : Fin 512) : rowOf (a := 512) (iblk (F := Ideal) m c 1 t) r.val = rowOf (Y m c) (t.val * 512 + r.val) := by
  refine rowOf_block (Y m c) _ _ (fun i => ?_) r
  obtain ⟨e0, e1⟩ := index1 t
  unfold iblk
  rw [View.read_apply]
  show V m c main_arg1 _ = _
  rw [V_main_arg1]
  refine at2_of _ _ _ _ ?_ ?_
  · show win0_1.index t (0 : Fin 2) * 512 + 1 * (i 0).val = _
    rw [e0, Nat.one_mul]
  · show win0_1.index t (1 : Fin 2) * 1024 + 1 * (i 1).val = _
    rw [e1, Nat.one_mul, Nat.zero_mul, Nat.zero_add]

/-- The weight, laid out as a row. -/
theorem host_weight (i : S1x1024.Idx) : (V m c main_v0 : S1x1024.Idx → EReal) i = W m c (ix1 (i 1)) := by
  simp only [V, hostOps0]
  after_reads_simp
  pointwise

theorem weights (t : Fin cfg0.N) : rowOf (a := 1) (iblk (F := Ideal) m c 2 t) 0 = entries (W m c) := by
  obtain ⟨e0, e1⟩ := index2 t
  funext j
  refine (rowOf_apply (a := 1) (iblk (F := Ideal) m c 2 t) 0 j).symm.trans ?_
  unfold iblk
  rw [View.read_apply]
  show V m c main_v0 _ = _
  rw [host_weight]
  unfold entries
  congr 2
  apply Fin.ext
  show win0_2.index t (1 : Fin 2) * 1024 + 1 * j.val = _
  rw [e1]; omega

/-- The result at row `r` and column `j`. -/
def outAt (r : ℕ) (j : Fin 1024) : EReal := rowOf (X m c) r j + normed (rowOf (Y m c) r) (entries (W m c)) j

theorem block_left (t : Fin cfg0.N) (r : Fin 512) (j : Fin 1024) :
    (out0_3 (F := Ideal) (iblk m c 0 t) (iblk m c 1 t) (iblk m c 2 t) (ix2 r j) : EReal) = outAt m c (t.val * 512 + r.val) j := by
  rw [block, rows_apply, rows0, rows1, weights]; rfl

def G : Buf (Elt Ideal) ((c : Thread nD τ).loc main_v1) := fun i : S8192x1024.Idx => outAt m c (i 0).val (i 1)

theorem flushed (t : Fin cfg0.N) (hf : (cfg0.win 3).flush t = true) :
    (dats (F := Ideal) m 0 c).flushed 3 t = ((cfg0.win 3).blk t).view.read (Elt Ideal) (G m c) := by
  obtain ⟨e0, e1⟩ := index3 t
  rw [Value.flushed3]
  funext y
  obtain ⟨r, j, rfl⟩ : ∃ (r : Fin 512) (j : Fin 1024), y = (ix2 r j : S512x1024.Idx) := ⟨y 0, y 1, by funext a; fin_cases a <;> rfl⟩
  rw [View.read_apply]
  refine Eq.trans ?_ (cast_eq _ (G m c _)).symm
  refine Eq.trans (block_left m c t r j) ?_
  unfold G
  refine congrArg₂ (outAt m c) ?_ (Fin.ext ?_)
  · show _ = win0_3.index t (0 : Fin 2) * 512 + 1 * r.val
    rw [e0]; omega
  · show j.val = win0_3.index t (1 : Fin 2) * 1024 + 1 * j.val
    rw [e1]; omega

theorem out : (dats (F := Ideal) m 0 c).arrAt 3 cfg0.N = G m c := by
  refine (dats (F := Ideal) m 0 c).arrAt_eq_of_cover 3 _ (flushed m c) fun i => ?_
  have h0 : (i 0).val < 8192 := (i 0).isLt
  have h1 : (i 1).val < 1024 := (i 1).isLt
  have hN : (i 0).val / 512 < cfg0.N := by rw [show cfg0.N = 16 from N_0]; omega
  refine ⟨⟨(i 0).val / 512, hN⟩, flush3 _, ?_⟩
  obtain ⟨e0, e1⟩ := index3 ⟨(i 0).val / 512, hN⟩
  show i ∈ ((View.whole main_v1).slice (win0_3.rect ⟨(i 0).val / 512, hN⟩)).set
  rw [View.set_slice_whole, Rect.mem_set_unit]
  intro a
  fin_cases a
  · show win0_3.index ⟨(i 0).val / 512, hN⟩ (0 : Fin 2) * 512 ≤ (i 0).val ∧ (i 0).val < win0_3.index ⟨(i 0).val / 512, hN⟩ (0 : Fin 2) * 512 + 512
    rw [e0]; dsimp only; omega
  · show win0_3.index ⟨(i 0).val / 512, hN⟩ (1 : Fin 2) * 1024 ≤ (i 1).val ∧ (i 1).val < win0_3.index ⟨(i 0).val / 512, hN⟩ (1 : Fin 2) * 1024 + 1024
    rw [e1]; omega

end Cert.Kernel14Ideal.Norm

end
-- ==== Proof.NormRef14.lean ====
/-
  The reference's norm after a layer, added to what entered it, read at a place.
-/
module

public import proofs.«01_k».proof.Proof.NormFwdMath
public import proofs.«01_k».proof.Proof.Gen.Reference14Ideal.Run

@[expose] public section

noncomputable section

namespace Cert.Reference14Ideal.Norm

open Cert.Reference14Ideal Cert.Reference14Ideal.Gen Idealize.ShloMosaic Idealize.ShloMosaic.TcCoe Idealize.SL.Sem
open Cert.Norm
open scoped BigOperators

/-- The result at row `r` and column `j`. -/
theorem out_apply (x y : FVec Ideal S8192x1024 .f32) (w : FVec Ideal S1024 .f32) (r : Fin 8192) (j : Fin 1024) :
    ((addf x (mulf (mulf y (broadcastInDim S8192x1024 ![0, 1] bcast_S8192x1_S8192x1024_0_1 (Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 w))) : FVec Ideal S8192x1024 .f32) (ix2 r j) : EReal)
      = rowOf x r.val j + normed (rowOf y r.val) (entries w) j := by
  simp only [pointwise, zero_add]
  simp only [show ¬(8192 = 1) by decide, show ¬(1024 = 1) by decide, dite_false, if_false, ↓reduceDIte,
    show ∀ (r : Fin 8192) (j : Fin 1024), (x (ix2 r j) : EReal) = rowOf x r.val j from fun r j => rowOf_apply x r j,
    show ∀ (r : Fin 8192) (j : Fin 1024), (y (ix2 r j) : EReal) = rowOf y r.val j from fun r j => rowOf_apply y r j]
  rfl

end Cert.Reference14Ideal.Norm

end
-- ==== Proof.NormAlg14.lean ====
/-
  The norm after a layer, added to what entered it: the claim that the kernel and the reference leave equal arrays.
-/
module

public import proofs.«01_k».proof.Defs
public import proofs.«01_k».proof.Proof.Norm14
public import proofs.«01_k».proof.Proof.NormRef14

@[expose] public section

noncomputable section

namespace Cert.Proof

open Idealize.ShloMosaic Idealize.ShloMosaic.TcCoe Idealize.SL.Sem

theorem algebraic_14 : Cert.algebraic_Kernel14Ideal_Reference14Ideal := by
  intro m g m' g' _ hargs
  refine ⟨fun c => Cert.Kernel14Ideal.Norm.G m c, ?_, ?_⟩
  · refine (θ_run _ _ _).mono (fun r h c => ?_) (Cert.Kernel14Ideal.Value.run_blocks (F := Ideal) m g)
    exact ⟨(h c).1.trans (Cert.Kernel14Ideal.Norm.out m c), (h c).2⟩
  · refine (θ_run _ _ _).mono (fun r h c => ?_) (Cert.Reference14Ideal.Value.run (F := Ideal) m' g')
    obtain ⟨a0, a1, a2⟩ := hargs c
    refine ⟨(h c).1.trans ?_, (h c).2⟩
    rw [a0, a1, a2]
    funext i
    obtain ⟨q, j, rfl⟩ : ∃ (q : Fin 8192) (j : Fin 1024), i = (ix2 q j : Cert.Kernel14Ideal.S8192x1024.Idx) := ⟨i 0, i 1, by funext a; fin_cases a <;> rfl⟩
    exact Cert.Reference14Ideal.Norm.out_apply _ _ _ q j

end Cert.Proof

end
-- ==== Proof.RetTiles.lean ====
module

public import Idealize.ShloMosaic.Lib.Pointwise
public import proofs.«01_k».proof.Proof.Gen.KernelIdeal

/-!
# One chunk of one head, as the retention gradient's body computes it

The body of `ret_bwd` treats four chunks of 64 tokens and four heads at each grid point. Every tile goes
through the same vector operations: they are written once here, over the chunk's number in the group (`j`)
and the head's (`h`), for the tiles that a point reads (`Tiles`).
-/

@[expose] public section

noncomputable section

namespace Cert.Ret

open Idealize.ShloMosaic Cert.KernelIdeal Cert.KernelIdeal.Facts₀ Cert.KernelIdeal.Facts

variable {F : FTy → Type} [FloatOps F]

/-- What the body reads at a point, tile by tile: chunk `j` and head `h`. -/
structure Tiles (F : FTy → Type) where
  /-- the queries' rows, unrotated -/
  q : ℕ → ℕ → FVec F S64x128 .f32
  /-- the keys' rows, unrotated -/
  k : ℕ → ℕ → FVec F S64x128 .f32
  /-- the values' rows -/
  v : ℕ → ℕ → FVec F S64x128 .f32
  /-- the gate's rows -/
  g : ℕ → ℕ → FVec F S64x128 .f32
  /-- the rows of the gradient that comes in -/
  t : ℕ → ℕ → FVec F S64x128 .f32
  /-- the rotation's cosines -/
  co : ℕ → FVec F S64x128 .f32
  /-- the rotation's sines, signed -/
  si : ℕ → FVec F S64x128 .f32
  /-- the decay between two tokens of a chunk -/
  dm : ℕ → FVec F S64x64 .f32
  /-- the decay from the chunk's start -/
  qd : ℕ → FVec F S64x1 .f32
  /-- the decay to the chunk's end -/
  kd : ℕ → FVec F S64x1 .f32
  /-- the decay of a whole chunk -/
  cd : ℕ → FVec F S1x1 .f32
  /-- the norm's weight -/
  nw : FVec F S1x128 .f32
  /-- the state before the point's first chunk -/
  st : ℕ → FVec F S128x128 .f32
  /-- the gradient of the state after the point's last chunk -/
  dr : ℕ → FVec F S128x128 .f32

variable (T : Tiles F) (j h : ℕ)

/-- `a b` -/
def nn (a : FVec F S64x64 .f32) (b : FVec F S64x128 .f32) : FVec F S64x128 .f32 :=
  matmul dot_S64x64_S64x128_S64x128_1_0_0_1_n_n none (truncf .bf16 a bitsLt_bf16_f32) (truncf .bf16 b bitsLt_bf16_f32)
    (constant S64x128 .f32 0x00000000#32)

/-- `a bᵀ` -/
def nt (a b : FVec F S64x128 .f32) : FVec F S64x64 .f32 :=
  matmul dot_S64x128_S64x128_S64x64_1_1_0_0_n_n none (truncf .bf16 a bitsLt_bf16_f32) (truncf .bf16 b bitsLt_bf16_f32)
    (constant S64x64 .f32 0x00000000#32)

/-- `aᵀ b`, the square tile first -/
def tn (a : FVec F S64x64 .f32) (b : FVec F S64x128 .f32) : FVec F S64x128 .f32 :=
  matmul dot_S64x64_S64x128_S64x128_0_0_1_1_n_n none (truncf .bf16 a bitsLt_bf16_f32) (truncf .bf16 b bitsLt_bf16_f32)
    (constant S64x128 .f32 0x00000000#32)

/-- `a r` for a state `r` -/
def nnR (a : FVec F S64x128 .f32) (r : FVec F S128x128 .f32) : FVec F S64x128 .f32 :=
  matmul dot_S64x128_S128x128_S64x128_1_0_0_1_n_n none (truncf .bf16 a bitsLt_bf16_f32) (truncf .bf16 r bitsLt_bf16_f32)
    (constant S64x128 .f32 0x00000000#32)

/-- `a rᵀ` for a state `r` -/
def ntR (a : FVec F S64x128 .f32) (r : FVec F S128x128 .f32) : FVec F S64x128 .f32 :=
  matmul dot_S64x128_S128x128_S64x128_1_1_0_0_n_n none (truncf .bf16 a bitsLt_bf16_f32) (truncf .bf16 r bitsLt_bf16_f32)
    (constant S64x128 .f32 0x00000000#32)

/-- `aᵀ b`, a state -/
def tnR (a b : FVec F S64x128 .f32) : FVec F S128x128 .f32 :=
  matmul dot_S64x128_S64x128_S128x128_0_0_1_1_n_n none (truncf .bf16 a bitsLt_bf16_f32) (truncf .bf16 b bitsLt_bf16_f32)
    (constant S128x128 .f32 0x00000000#32)

/-- a column over 64 rows, repeated over the lanes -/
def col (a : FVec F S64x1 .f32) : FVec F S64x128 .f32 := broadcastTo S64x128 a broadcasts_S64x1_S64x128

/-- the chunk's decay, repeated over a state -/
def cdT : FVec F S128x128 .f32 := broadcastTo S128x128 (T.cd h) broadcasts_S1x1_S128x128

/-- the norm's weight, repeated over the rows -/
def nwT : FVec F S64x128 .f32 := broadcastTo S64x128 T.nw broadcasts_S1x128_S64x128

/-- the halves of the lanes swapped -/
def swap (a : FVec F S64x128 .f32) : FVec F S64x128 .f32 := dynamicRotate 1 64#32 none a rotates_S64x128_d1

/-- the rotation of a tile -/
def rot (a : FVec F S64x128 .f32) : FVec F S64x128 .f32 := addf (mulf a (T.co j)) (mulf (swap a) (T.si j))

/-- the gradient of the rotation -/
def unrot (a : FVec F S64x128 .f32) : FVec F S64x128 .f32 := addf (swap (mulf a (T.si j))) (mulf a (T.co j))

/-- the scale of the keys -/
def scT : FVec F S64x128 .f32 := broadcast S64x128 (Scalar.ofBits .f32 0x3DB504F3#32)

/-- the rotated queries -/
def qT : FVec F S64x128 .f32 := rot T j (T.q j h)

/-- the rotated, scaled keys -/
def kT : FVec F S64x128 .f32 := mulf (rot T j (T.k j h)) scT

/-- the chunk's scores -/
def sT : FVec F S64x64 .f32 := mulf (nt (qT T j h) (kT T j h)) (T.dm h)

/-- the keys, decayed to the chunk's end -/
def kkT : FVec F S64x128 .f32 := mulf (kT T j h) (col (T.kd h))

/-- the state before chunk `j` -/
def rT (h : ℕ) : ℕ → FVec F S128x128 .f32
  | 0 => T.st h
  | j + 1 => addf (mulf (rT h j) (cdT T h)) (tnR (kkT T j h) (T.v j h))

/-- the chunk's output before the norm -/
def oT : FVec F S64x128 .f32 :=
  addf (nn (sT T j h) (T.v j h)) (mulf (nnR (qT T j h) (rT T h j)) (col (T.qd h)))

/-- a sum over the lanes -/
def rowSum (a : FVec F S64x128 .f32) : FVec F S64x1 .f32 :=
  shapeCast S64x1 (multiReduction .add [1] S64 a 0x00000000#32 reduces_S64x128_S64 (.inl rfl) rfl) shapeCasts_S64_S64x1

/-- the mean of the squares, with the norm's epsilon -/
def msT : FVec F S64x1 .f32 :=
  addf (divf (rowSum (mulf (oT T j h) (oT T j h))) (broadcast S64x1 (Scalar.ofBits .f32 0x43000000#32)))
    (broadcast S64x1 (Scalar.ofBits .f32 0x358637BD#32))

/-- the norm's factor -/
def rsT : FVec F S64x1 .f32 := rsqrt (msT T j h)

/-- the gate's sigmoid -/
def sgT : FVec F S64x128 .f32 := logistic (T.g j h)

/-- the incoming gradient times the gate -/
def tgT : FVec F S64x128 .f32 := mulf (T.t j h) (mulf (T.g j h) (sgT T j h))

/-- the output times the norm's factor -/
def nrT : FVec F S64x128 .f32 := mulf (oT T j h) (col (rsT T j h))

/-- the gradient of the normed output -/
def dnT : FVec F S64x128 .f32 := mulf (tgT T j h) (nwT T)

/-- the gradient through the norm's factor, a column -/
def ccT : FVec F S64x1 .f32 :=
  shapeCast S64x1 (multiReduction .add [1] S64
    (divf (mulf (rowSum (mulf (oT T j h) (dnT T j h)))
        (mulf (broadcast S64x1 (Scalar.ofBits .f32 0xBF000000#32)) (divf (rsT T j h) (msT T j h))))
      (broadcast S64x1 (Scalar.ofBits .f32 0x43000000#32)))
    0x00000000#32 reduces_S64x1_S64 (.inl rfl) rfl) shapeCasts_S64_S64x1

/-- the gradient of the output before the norm -/
def doT : FVec F S64x128 .f32 :=
  addf (addf (mulf (dnT T j h) (col (rsT T j h))) (mulf (oT T j h) (col (ccT T j h)))) (mulf (col (ccT T j h)) (oT T j h))

/-- that gradient, decayed from the chunk's start -/
def dqdT : FVec F S64x128 .f32 := mulf (doT T j h) (col (T.qd h))

/-- the gradient of the state after chunk `3 - m` -/
def eT (h : ℕ) : ℕ → FVec F S128x128 .f32
  | 0 => T.dr h
  | m + 1 => addf (mulf (eT h m) (cdT T h)) (tnR (qT T (3 - m) h) (dqdT T (3 - m) h))

/-- the gradient of the scores -/
def dsT : FVec F S64x64 .f32 := mulf (nt (doT T j h) (T.v j h)) (T.dm h)

/-- the queries' gradient -/
def dqT : FVec F S64x128 .f32 := unrot T j (addf (ntR (dqdT T j h) (rT T h j)) (nn (dsT T j h) (kT T j h)))

/-- the keys' gradient -/
def dkT : FVec F S64x128 .f32 :=
  unrot T j (mulf (addf (mulf (ntR (T.v j h) (eT T h (3 - j))) (col (T.kd h))) (tn (dsT T j h) (qT T j h))) scT)

/-- the values' gradient -/
def dvT : FVec F S64x128 .f32 := addf (nnR (kkT T j h) (eT T h (3 - j))) (tn (sT T j h) (doT T j h))

/-- the gradient of the gate times its input -/
def dtT : FVec F S64x128 .f32 := mulf (mulf (nrT T j h) (nwT T)) (T.t j h)

/-- the gate's gradient -/
def dgT : FVec F S64x128 .f32 :=
  addf (mulf (dtT T j h) (sgT T j h))
    (mulf (mulf (T.g j h) (dtT T j h))
      (mulf (sgT T j h) (subf (broadcast S64x128 (Scalar.ofBits .f32 0x3F800000#32)) (sgT T j h))))

/-- a tile's share of the gradient of the norm's weight -/
def dnwT : FVec F S1x128 .f32 :=
  shapeCast S1x128 (multiReduction .add [0] S128 (mulf (nrT T j h) (tgT T j h)) 0x00000000#32
    reduces_S64x128_S128 (.inl rfl) rfl) shapeCasts_S128_S1x128

/-- The tiles in the order in which the body adds their shares. -/
def tileOrder : List (ℕ × ℕ) := [3, 2, 1, 0].flatMap fun j => [3, 2, 1, 0].map fun h => (j, h)

/-- The point's share of the gradient of the norm's weight. -/
def dnwSum : FVec F S1x128 .f32 :=
  tileOrder.tail.foldl (fun acc p => addf acc (dnwT T p.1 p.2)) (dnwT T 3 3)

end Cert.Ret

end
-- ==== Proof.RetMath.lean ====
module

public import Idealize.ShloMosaic.Lib.Pointwise

/-!
# The retention gradient over the extended reals, chunk by chunk

One head's tokens are cut into chunks of 64. A chunk takes the state `r` before it to the state after it
(`Chunk.next`), and the gradient `e` of the state after it to the gradient of the state before it
(`Chunk.back`); everything else is local to the chunk, given `r` and `e`. Both programs compute these functions:
the kernel four chunks at a grid point, the reference one chunk at a trip of its loops.
-/

@[expose] public section

noncomputable section

namespace Cert.Ret

open Idealize.ShloMosaic
open scoped BigOperators

/-- 128 -/
def lanes : EReal := Ideal.ofBits .f32 0x43000000#32
/-- the norm's epsilon -/
def eps : EReal := Ideal.ofBits .f32 0x358637BD#32
/-- −1/2 -/
def mhalf : EReal := Ideal.ofBits .f32 0xBF000000#32
/-- the scale of the keys, 1/√128 -/
def ksc : EReal := Ideal.ofBits .f32 0x3DB504F3#32

/-- A state: one row for each lane of the keys, one column for each lane of the values. -/
abbrev State := Fin 128 → Fin 128 → EReal

/-- One chunk of one head: rotated queries, rotated and scaled keys, values, gate and incoming gradient by token
    and lane, and the constants of the head. -/
structure Chunk where
  q : Fin 64 → Fin 128 → EReal
  k : Fin 64 → Fin 128 → EReal
  v : Fin 64 → Fin 128 → EReal
  g : Fin 64 → Fin 128 → EReal
  t : Fin 64 → Fin 128 → EReal
  dm : Fin 64 → Fin 64 → EReal
  qd : Fin 64 → EReal
  kd : Fin 64 → EReal
  cd : EReal
  nw : Fin 128 → EReal

namespace Chunk

variable (C : Chunk) (r e : State) (i j : Fin 64) (d x : Fin 128)

/-- the scores, decayed -/
def s : EReal := (∑ d, C.q i d * C.k j d) * C.dm i j
/-- the state after the chunk -/
def next : EReal := r d x * C.cd + ∑ i, C.k i d * C.kd i * C.v i x
/-- the output before the norm -/
def o : EReal := (∑ j, C.s i j * C.v j x) + (∑ d, C.q i d * r d x) * C.qd i
/-- the mean square of a token's output, and epsilon -/
def ms : EReal := Ideal.div (∑ x, C.o r i x * C.o r i x) lanes + eps
/-- the norm's factor -/
def rs : EReal := Ideal.rsqrt (C.ms r i)
/-- the gate's sigmoid -/
def sg : EReal := Ideal.logistic (C.g i x)
/-- the incoming gradient times the gate -/
def tg : EReal := C.t i x * (C.g i x * C.sg i x)
/-- the gradient of the normed output before the weight -/
def dn : EReal := C.tg i x * C.nw x
/-- the gradient that reaches the output through the norm's factor -/
def c : EReal := Ideal.div ((∑ x, C.o r i x * C.dn i x) * (mhalf * Ideal.div (C.rs r i) (C.ms r i))) lanes
/-- the gradient of the output before the norm -/
def dO : EReal := C.dn i x * C.rs r i + C.o r i x * C.c r i + C.c r i * C.o r i x
/-- the gradient of the state before the chunk -/
def back : EReal := e d x * C.cd + ∑ i, C.q i d * (C.dO r i x * C.qd i)
/-- the gradient of the undecayed scores -/
def ds : EReal := (∑ x, C.dO r i x * C.v j x) * C.dm i j
/-- the gradient of the rotated queries -/
def dq : EReal := (∑ x, C.dO r i x * C.qd i * r d x) + ∑ j, C.ds r i j * C.k j d
/-- the gradient of the rotated, scaled keys -/
def dk : EReal := (∑ x, C.v i x * e d x) * C.kd i + ∑ j, C.ds r j i * C.q j d
/-- the gradient of the values -/
def dv : EReal := (∑ d, C.k i d * C.kd i * e d x) + ∑ j, C.s j i * C.dO r j x
/-- the gradient of the gate times its input -/
def dt : EReal := C.o r i x * C.rs r i * C.nw x * C.t i x
/-- the gradient of the gate's input -/
def dg : EReal := C.dt r i x * C.sg i x + C.g i x * C.dt r i x * (C.sg i x * (1 - C.sg i x))
/-- the chunk's share of the gradient of the norm's weight -/
def dnw : EReal := ∑ i, C.o r i x * C.rs r i * C.tg i x

end Chunk

/-- The lane 64 further on, of 128. -/
def sw (d : Fin 128) : Fin 128 := ⟨(d.val + 128 - 64) % 128, Nat.mod_lt _ (by decide)⟩

/-- The gradient of a rotation with cosines `co` and signed sines `si`, at a lane. -/
def unrotate (co si a : Fin 128 → EReal) (d : Fin 128) : EReal := a (sw d) * si (sw d) + a d * co d

section Chain

variable (C : ℕ → Chunk)

/-- The state before chunk `n`. -/
def R : ℕ → State
  | 0 => fun _ _ => 0
  | n + 1 => (C n).next (R n)

/-- The gradient of the state after chunk `127 - m`. -/
def E : ℕ → State
  | 0 => fun _ _ => 0
  | m + 1 => (C (127 - m)).back (R C (127 - m)) (E m)

end Chain

end Cert.Ret

end
-- ==== Proof.RetTileMath.lean ====
module

public import proofs.«01_k».proof.Proof.RetTiles
public import proofs.«01_k».proof.Proof.RetMath

/-!
# What a tile's operations compute, element by element

Each vector function of `RetTiles`, read at an index, is the function of `RetMath` of the same name.
-/

@[expose] public section

noncomputable section

namespace Cert.Ret

open Idealize.ShloMosaic Cert.KernelIdeal
open scoped BigOperators

variable (T : Tiles Ideal) (j h : ℕ) (i i' : Fin 64) (d x : Fin 128)

/-- The chunk that tile `(j, h)` holds. -/
def chunkOf : Chunk where
  q i d := qT T j h (ix2 i d)
  k i d := kT T j h (ix2 i d)
  v i d := T.v j h (ix2 i d)
  g i d := T.g j h (ix2 i d)
  t i d := T.t j h (ix2 i d)
  dm i j := T.dm h (ix2 i j)
  qd i := T.qd h (ix2 i 0)
  kd i := T.kd h (ix2 i 0)
  cd := T.cd h (ix2 0 0)
  nw x := T.nw (ix2 0 x)

/-- The state before chunk `j`, and the gradient of the state after chunk `3 - m`. -/
def rM : State := fun d x => rT T h j (ix2 d x)
def eM (m : ℕ) : State := fun d x => eT T h m (ix2 d x)

theorem sT_at : sT T j h (ix2 i i') = (chunkOf T j h).s i i' := by
  simp only [Chunk.s, chunkOf]; pointwise [sT, nt]

theorem rT_succ : rM T (j + 1) h = (chunkOf T j h).next (rM T j h) := by
  funext d x
  simp only [Chunk.next, chunkOf, rM]; pointwise [rT, tnR, cdT, kkT, col]

theorem oT_at : oT T j h (ix2 i x) = (chunkOf T j h).o (rM T j h) i x := by
  simp only [Chunk.o, ← sT_at]
  simp only [chunkOf, rM]; pointwise [oT, nn, nnR, col]

theorem msT_at : msT T j h (ix2 i 0) = (chunkOf T j h).ms (rM T j h) i := by
  simp only [Chunk.ms, ← oT_at, lanes, eps]; pointwise [msT, rowSum]

theorem rsT_at : rsT T j h (ix2 i 0) = (chunkOf T j h).rs (rM T j h) i := by
  simp only [Chunk.rs, ← msT_at]; pointwise [rsT]

theorem sgT_at : sgT T j h (ix2 i x) = (chunkOf T j h).sg i x := by
  simp only [Chunk.sg, chunkOf]; pointwise [sgT]

theorem tgT_at : tgT T j h (ix2 i x) = (chunkOf T j h).tg i x := by
  simp only [Chunk.tg, ← sgT_at]
  simp only [chunkOf]; pointwise [tgT]

theorem dnT_at : dnT T j h (ix2 i x) = (chunkOf T j h).dn i x := by
  simp only [Chunk.dn, ← tgT_at]
  simp only [chunkOf]; pointwise [dnT, nwT]

theorem ccT_at : ccT T j h (ix2 i 0) = (chunkOf T j h).c (rM T j h) i := by
  simp only [Chunk.c, ← oT_at, ← dnT_at, ← rsT_at, ← msT_at, lanes, mhalf]
  pointwise [ccT, rowSum]
  exact Fintype.sum_unique _

theorem doT_at : doT T j h (ix2 i x) = (chunkOf T j h).dO (rM T j h) i x := by
  simp only [Chunk.dO, ← oT_at, ← dnT_at, ← rsT_at, ← ccT_at]; pointwise [doT, col]

theorem dqdT_at : dqdT T j h (ix2 i x) = (chunkOf T j h).dO (rM T j h) i x * (chunkOf T j h).qd i := by
  simp only [← doT_at]
  simp only [chunkOf]; pointwise [dqdT, col]

theorem eT_succ (m : ℕ) :
    eM T h (m + 1) = (chunkOf T (3 - m) h).back (rM T (3 - m) h) (eM T h m) := by
  funext d x
  simp only [Chunk.back, ← dqdT_at]
  simp only [chunkOf, eM]; pointwise [eT, tnR, cdT]

theorem dsT_at : dsT T j h (ix2 i i') = (chunkOf T j h).ds (rM T j h) i i' := by
  simp only [Chunk.ds, ← doT_at]
  simp only [chunkOf]; pointwise [dsT, nt]

theorem unrot_at (a : FVec Ideal S64x128 .f32) :
    unrot T j a (ix2 i d)
      = unrotate (fun d => T.co j (ix2 i d)) (fun d => T.si j (ix2 i d)) (fun d => a (ix2 i d)) d := by
  simp only [unrotate, sw]; pointwise [unrot, swap]

theorem dqT_at : dqT T j h (ix2 i d)
    = unrotate (fun d => T.co j (ix2 i d)) (fun d => T.si j (ix2 i d)) ((chunkOf T j h).dq (rM T j h) i) d := by
  rw [dqT, unrot_at]
  congr 1
  funext d
  simp only [Chunk.dq, ← dqdT_at, ← dsT_at]
  simp only [chunkOf, rM]; pointwise [ntR, nn]

theorem dkT_at : dkT T j h (ix2 i d)
    = unrotate (fun d => T.co j (ix2 i d)) (fun d => T.si j (ix2 i d))
        (fun d => (chunkOf T j h).dk (rM T j h) (eM T h (3 - j)) i d * ksc) d := by
  rw [dkT, unrot_at]
  congr 1
  funext d
  simp only [Chunk.dk, ← dsT_at]
  simp only [chunkOf, eM, ksc]; pointwise [ntR, tn, col, scT]

theorem dvT_at : dvT T j h (ix2 i x) = (chunkOf T j h).dv (rM T j h) (eM T h (3 - j)) i x := by
  simp only [Chunk.dv, ← sT_at, ← doT_at]
  simp only [chunkOf, eM]; pointwise [dvT, nnR, tn, kkT, col]

theorem dgT_at : dgT T j h (ix2 i x) = (chunkOf T j h).dg (rM T j h) i x := by
  simp only [Chunk.dg, Chunk.dt, ← sgT_at, ← oT_at, ← rsT_at]
  simp only [chunkOf]; pointwise [dgT, dtT, nrT, nwT, col]

theorem dnwT_at : dnwT T j h (ix2 0 x) = (chunkOf T j h).dnw (rM T j h) x := by
  simp only [Chunk.dnw, ← tgT_at, ← oT_at, ← rsT_at]; pointwise [dnwT, nrT, col]

end Cert.Ret

end
-- ==== Proof.RetSpec.lean ====
/- The retention gradient's data: the chunks of a sequence, from the projections, the incoming gradient and the norm's
   weight, and what is to be computed from them. -/
module

public import proofs.«01_k».proof.Proof.RetMath

@[expose] public section

noncomputable section

namespace Cert.Ret

open Idealize.ShloMosaic

/-- A counter's value. -/
def num (n : ℕ) : EReal := FloatOps.sitofp (F := Ideal) FTy.f32 (BitVec.ofNat 32 n)

/-- The logarithm of a head's decay, 1 − 2^(−5−h). -/
def lg (h : Fin 4) : EReal :=
  Ideal.log (1 - Ideal.pow (Ideal.ofBits .f32 0x40000000#32) (Ideal.ofBits .f32 0xC0A00000#32 - num h))

/-- The decay from token `j` to token `i` of a chunk. -/
def dmat (h : Fin 4) (i j : Fin 64) : EReal := if 0 ≤ num i - num j then Ideal.exp (max (num i - num j) 0 * lg h) else 0
/-- The decay from before the chunk to token `i`. -/
def qdec (h : Fin 4) (i : Fin 64) : EReal := Ideal.exp ((num i + 1) * lg h)
/-- The decay from token `i` to the chunk's end. -/
def kdec (h : Fin 4) (i : Fin 64) : EReal := Ideal.exp ((Ideal.ofBits .f32 0x427C0000#32 - num i) * lg h)
/-- The decay over a chunk. -/
def cdec (h : Fin 4) : EReal := Ideal.exp (Ideal.ofBits .f32 0x42800000#32 * lg h)

/-- A token's angle in a pair of lanes. -/
def angle (t : Fin 8192) (e : Fin 64) : EReal :=
  num t * Ideal.pow (Ideal.ofBits .f32 0x461C4000#32) (Ideal.div (-num e) (Ideal.ofBits .f32 0x42800000#32))
def cosAt (t : Fin 8192) (e : Fin 64) : EReal := Ideal.cos (angle t e)
def sinAt (t : Fin 8192) (e : Fin 64) : EReal := Ideal.sin (angle t e)

/-- A head's lanes, rotated. -/
def rotated (t : Fin 8192) (a : Fin 128 → EReal) (d : Fin 128) : EReal :=
  if hd : d.val < 64 then a ⟨d.val, by omega⟩ * cosAt t ⟨d.val, hd⟩ - a ⟨64 + d.val, by omega⟩ * sinAt t ⟨d.val, hd⟩
  else a ⟨d.val - 64, by omega⟩ * sinAt t ⟨d.val - 64, by omega⟩ + a ⟨64 + (d.val - 64), by omega⟩ * cosAt t ⟨d.val - 64, by omega⟩

/-- The gradient of a head's lanes before they were rotated. -/
def unrotated (t : Fin 8192) (a : Fin 128 → EReal) (d : Fin 128) : EReal :=
  if hd : d.val < 64 then a ⟨64 + d.val, by omega⟩ * sinAt t ⟨d.val, hd⟩ + a ⟨d.val, by omega⟩ * cosAt t ⟨d.val, hd⟩
  else a ⟨64 + (d.val - 64), by omega⟩ * cosAt t ⟨d.val - 64, by omega⟩ + -a ⟨d.val - 64, by omega⟩ * sinAt t ⟨d.val - 64, by omega⟩

/-- Token `i` of chunk `n`. -/
def tok (n : ℕ) (i : Fin 64) : Fin 8192 := ⟨(n * 64 + i.val) % 8192, Nat.mod_lt _ (by decide)⟩

theorem tok_eq (n : Fin 128) (i : Fin 64) : tok n i = ⟨n.val * 64 + i.val, by omega⟩ := Fin.ext (Nat.mod_eq_of_lt (by omega))

/-- Lane `d` of head `h` of the `p`-th of the projections. -/
def lane (p : ℕ) (hp : p < 4) (h : Fin 4) (d : Fin 128) : Fin 7168 := ⟨512 * p + (h.val * 128 + d.val), by omega⟩
/-- Lane `d` of head `h` of the retention part of the incoming gradient. -/
def mixLane (h : Fin 4) (d : Fin 128) : Fin 2048 := ⟨1536 + (h.val * 128 + d.val), by omega⟩

variable (x : Fin 8192 → Fin 7168 → EReal) (t : Fin 8192 → Fin 2048 → EReal) (w : Fin 128 → EReal)

/-- Chunk `n` of head `h`. -/
def chunk (h : Fin 4) (n : ℕ) : Chunk where
  q i := rotated (tok n i) fun d => x (tok n i) (lane 0 (by decide) h d)
  k i d := rotated (tok n i) (fun d => x (tok n i) (lane 1 (by decide) h d)) d * ksc
  v i d := x (tok n i) (lane 2 (by decide) h d)
  g i d := x (tok n i) (lane 3 (by decide) h d)
  t i d := t (tok n i) (mixLane h d)
  dm := dmat h
  qd := qdec h
  kd := kdec h
  cd := cdec h
  nw := w

/-- The state before chunk `n`, and the gradient of the state after it. -/
def stateAt (h : Fin 4) (n : ℕ) : State := R (chunk x t w h) n
def gradAt (h : Fin 4) (n : ℕ) : State := E (chunk x t w h) (127 - n)

/-- The gradients of the four projections at a token of a chunk. -/
def outQ (h : Fin 4) (n : ℕ) (i : Fin 64) (d : Fin 128) : EReal :=
  unrotated (tok n i) (fun d => (chunk x t w h n).dq (stateAt x t w h n) i d) d
def outK (h : Fin 4) (n : ℕ) (i : Fin 64) (d : Fin 128) : EReal :=
  unrotated (tok n i) (fun d => (chunk x t w h n).dk (stateAt x t w h n) (gradAt x t w h n) i d * ksc) d
def outV (h : Fin 4) (n : ℕ) (i : Fin 64) (d : Fin 128) : EReal :=
  (chunk x t w h n).dv (stateAt x t w h n) (gradAt x t w h n) i d
def outG (h : Fin 4) (n : ℕ) (i : Fin 64) (d : Fin 128) : EReal := (chunk x t w h n).dg (stateAt x t w h n) i d

/-- The gradient of the norm's weight. -/
def outW (d : Fin 128) : EReal := ∑ n : Fin 128, ∑ h : Fin 4, (chunk x t w h n).dnw (stateAt x t w h n) d

end Cert.Ret

end
-- ==== Proof.RetGroup.lean ====
/- A group of four chunks: tiles that hold its data compute its gradients. -/
module

public import proofs.«01_k».proof.Proof.RetTileMath
public import proofs.«01_k».proof.Proof.RetSpec

@[expose] public section

noncomputable section

namespace Cert.Ret

open Idealize.ShloMosaic Cert.KernelIdeal
open scoped BigOperators

/-- The rotation's tables over all the lanes of a head. -/
def cosTable (t : Fin 8192) (d : Fin 128) : EReal :=
  if hd : d.val < 64 then cosAt t ⟨d.val, hd⟩ else cosAt t ⟨d.val - 64, by omega⟩
def sinTable (t : Fin 8192) (d : Fin 128) : EReal :=
  if hd : d.val < 64 then -sinAt t ⟨d.val, hd⟩ else sinAt t ⟨d.val - 64, by omega⟩

theorem sw_low (d : Fin 128) (hd : d.val < 64) : sw d = ⟨64 + d.val, by omega⟩ := Fin.ext (by show (d.val + 128 - 64) % 128 = 64 + d.val; omega)
theorem sw_high (d : Fin 128) (hd : ¬d.val < 64) : sw d = ⟨d.val - 64, by omega⟩ := Fin.ext (by show (d.val + 128 - 64) % 128 = d.val - 64; omega)

theorem high_eq (d : Fin 128) (hd : ¬d.val < 64) : (⟨64 + (d.val - 64), by omega⟩ : Fin 128) = d := Fin.ext (by show 64 + (d.val - 64) = d.val; omega)

theorem rotated_eq (t : Fin 8192) (a : Fin 128 → EReal) (d : Fin 128) :
    a d * cosTable t d + a (sw d) * sinTable t d = rotated t a d := by
  rw [rotated, cosTable, sinTable]
  by_cases hd : d.val < 64
  · rw [dif_pos hd, dif_pos hd, dif_pos hd, sw_low d hd, mul_neg, ← sub_eq_add_neg]
  · rw [dif_neg hd, dif_neg hd, dif_neg hd, sw_high d hd, high_eq d hd, add_comm]

theorem sin_low (t : Fin 8192) (d : Fin 128) (hd : d.val < 64) : sinTable t (sw d) = sinAt t ⟨d.val, hd⟩ := by
  rw [sw_low d hd, sinTable, dif_neg (by show ¬64 + d.val < 64; omega)]
  congr 1
  exact Fin.ext (by show 64 + d.val - 64 = d.val; omega)

theorem sin_high (t : Fin 8192) (d : Fin 128) (hd : ¬d.val < 64) : sinTable t (sw d) = -sinAt t ⟨d.val - 64, by omega⟩ := by
  rw [sw_high d hd, sinTable, dif_pos (by show d.val - 64 < 64; omega)]

theorem unrotated_eq (t : Fin 8192) (a : Fin 128 → EReal) (d : Fin 128) :
    unrotate (cosTable t) (sinTable t) a d = unrotated t a d := by
  rw [unrotate, unrotated]
  by_cases hd : d.val < 64
  · rw [cosTable, dif_pos hd, dif_pos hd, sin_low t d hd, sw_low d hd]
  · rw [cosTable, dif_neg hd, dif_neg hd, sin_high t d hd, sw_high d hd, high_eq d hd, mul_neg, neg_mul, add_comm]

theorem rot_at (T : Tiles Ideal) (j : ℕ) (a : FVec Ideal S64x128 .f32) (i : Fin 64) (d : Fin 128) :
    rot T j a (ix2 i d) = a (ix2 i d) * T.co j (ix2 i d) + a (ix2 i (sw d)) * T.si j (ix2 i d) := by
  simp only [sw]; pointwise [rot, swap]

variable (x : Fin 8192 → Fin 7168 → EReal) (t : Fin 8192 → Fin 2048 → EReal) (w : Fin 128 → EReal) (g : ℕ) (T : Tiles Ideal)

/-- The tiles hold the data of group `g`. -/
structure Holds : Prop where
  q : ∀ j < 4, ∀ (h : Fin 4) i d, T.q j h (ix2 i d) = x (tok (4 * g + j) i) (lane 0 (by decide) h d)
  k : ∀ j < 4, ∀ (h : Fin 4) i d, T.k j h (ix2 i d) = x (tok (4 * g + j) i) (lane 1 (by decide) h d)
  v : ∀ j < 4, ∀ (h : Fin 4) i d, T.v j h (ix2 i d) = x (tok (4 * g + j) i) (lane 2 (by decide) h d)
  gate : ∀ j < 4, ∀ (h : Fin 4) i d, T.g j h (ix2 i d) = x (tok (4 * g + j) i) (lane 3 (by decide) h d)
  mix : ∀ j < 4, ∀ (h : Fin 4) i d, T.t j h (ix2 i d) = t (tok (4 * g + j) i) (mixLane h d)
  co : ∀ j < 4, ∀ i d, T.co j (ix2 i d) = cosTable (tok (4 * g + j) i) d
  si : ∀ j < 4, ∀ i d, T.si j (ix2 i d) = sinTable (tok (4 * g + j) i) d
  dm : ∀ (h : Fin 4) i j, T.dm h (ix2 i j) = dmat h i j
  qd : ∀ (h : Fin 4) i, T.qd h (ix2 i 0) = qdec h i
  kd : ∀ (h : Fin 4) i, T.kd h (ix2 i 0) = kdec h i
  cd : ∀ h : Fin 4, T.cd h (ix2 0 0) = cdec h
  nw : ∀ d, T.nw (ix2 0 d) = w d
  st : ∀ (h : Fin 4) d e, T.st h (ix2 d e) = R (chunk x t w h) (4 * g) d e

variable {x t w g T}

theorem chunkOf_eq (H : Holds x t w g T) (j : ℕ) (hj : j < 4) (h : Fin 4) : chunkOf T j h = chunk x t w h (4 * g + j) := by
  have hrot : ∀ (p : ℕ) (hp : p < 4) (a : FVec Ideal S64x128 .f32) (i : Fin 64) (d : Fin 128),
      (∀ d, a (ix2 i d) = x (tok (4 * g + j) i) (lane p hp h d)) →
      rot T j a (ix2 i d) = rotated (tok (4 * g + j) i) (fun d => x (tok (4 * g + j) i) (lane p hp h d)) d := fun p hp a i d ha => by
    rw [rot_at, H.co j hj, H.si j hj, ha, ha, rotated_eq (tok (4 * g + j) i) fun d => x (tok (4 * g + j) i) (lane p hp h d)]
  rw [chunkOf, chunk]
  congr 1
  · funext i d; exact hrot 0 _ _ i d (H.q j hj h i)
  · funext i d
    show rot T j (T.k j h) (ix2 i d) * ksc = _
    rw [hrot 1 (by decide) _ i d (H.k j hj h i)]
  · funext i d; exact H.v j hj h i d
  · funext i d; exact H.gate j hj h i d
  · funext i d; exact H.mix j hj h i d
  · funext i j; exact H.dm h i j
  · funext i; exact H.qd h i
  · funext i; exact H.kd h i
  · exact H.cd h
  · funext d; exact H.nw d

theorem rM_eq (H : Holds x t w g T) (h : Fin 4) : ∀ j, j ≤ 4 → rM T j h = R (chunk x t w h) (4 * g + j)
  | 0, _ => by funext d e; exact H.st h d e
  | j + 1, hj => by rw [rT_succ, rM_eq H h j (by omega), chunkOf_eq H j (by omega)]; rfl

/-- The carried gradient a group starts from. -/
def Carries (x : Fin 8192 → Fin 7168 → EReal) (t : Fin 8192 → Fin 2048 → EReal) (w : Fin 128 → EReal) (g : ℕ) (T : Tiles Ideal) : Prop :=
  ∀ (h : Fin 4) d e, T.dr h (ix2 d e) = E (chunk x t w h) (124 - 4 * g) d e

theorem eM_eq (H : Holds x t w g T) (hg : g < 32) (D : Carries x t w g T) (h : Fin 4) :
    ∀ m, m ≤ 4 → eM T h m = E (chunk x t w h) (124 - 4 * g + m)
  | 0, _ => by funext d e; exact D h d e
  | m + 1, hm => by
    rw [eT_succ, eM_eq H hg D h m (by omega), chunkOf_eq H (3 - m) (by omega), rM_eq H h (3 - m) (by omega)]
    have e : 4 * g + (3 - m) = 127 - (124 - 4 * g + m) := by omega
    rw [e]
    rfl

theorem eM_grad (H : Holds x t w g T) (hg : g < 32) (D : Carries x t w g T) (h : Fin 4) (j : ℕ) (hj : j < 4) :
    eM T h (3 - j) = gradAt x t w h (4 * g + j) := by
  rw [eM_eq H hg D h (3 - j) (by omega), gradAt]
  congr 1
  omega

section Outputs

variable (H : Holds x t w g T) (hg : g < 32) (D : Carries x t w g T) (h : Fin 4) (j : ℕ) (hj : j < 4) (i : Fin 64) (d : Fin 128)
include H hg D hj

omit hg D in
theorem q_eq : dqT T j h (ix2 i d) = outQ x t w h (4 * g + j) i d := by
  rw [dqT_at, chunkOf_eq H j hj, rM_eq H h j (by omega), funext (H.co j hj i), funext (H.si j hj i)]
  exact unrotated_eq _ _ d

theorem k_eq : dkT T j h (ix2 i d) = outK x t w h (4 * g + j) i d := by
  rw [dkT_at, chunkOf_eq H j hj, rM_eq H h j (by omega), eM_grad H hg D h j hj, funext (H.co j hj i), funext (H.si j hj i)]
  exact unrotated_eq _ _ d

theorem v_eq : dvT T j h (ix2 i d) = outV x t w h (4 * g + j) i d := by
  rw [dvT_at, chunkOf_eq H j hj, rM_eq H h j (by omega), eM_grad H hg D h j hj]
  rfl

omit hg D in
theorem g_eq : dgT T j h (ix2 i d) = outG x t w h (4 * g + j) i d := by
  rw [dgT_at, chunkOf_eq H j hj, rM_eq H h j (by omega)]
  rfl

omit hg D in
theorem w_eq : dnwT T j h (ix2 0 d) = (chunk x t w h (4 * g + j)).dnw (stateAt x t w h (4 * g + j)) d := by
  rw [dnwT_at, chunkOf_eq H j hj, rM_eq H h j (by omega)]
  rfl

end Outputs

end Cert.Ret

end
-- ==== Proof.RetPoint.lean ====
module

public import proofs.«01_k».proof.Proof.RetTiles
public import proofs.«01_k».proof.Proof.Gen.KernelIdeal.Value

/-!
# What a grid point of the retention gradient writes

The body's stores at a point, named over the tiles that it reads: four columns' tiles for every chunk and
head, the carried gradient of the state for every head, and the gradient of the norm's weight.
-/

@[expose] public section

set_option maxRecDepth 16384

noncomputable section

namespace Cert.Ret

open Idealize.ShloMosaic Idealize.ShloMosaic.TcCoe Cert.KernelIdeal Cert.KernelIdeal.Facts₀ Cert.KernelIdeal.Facts
open Cert.KernelIdeal.Gen (kernelRun0_A kernelRun0_B cond0_0 k0_pay3 k0_pay4)

variable {F : FTy → Type} [FloatOps F]

theorem tile_inb {w : ℕ} (j h : ℕ) (hw : w = 512) :
    ∀ a, (![64 * (j % 4), 128 * (h % 4)] : Fin 2 → ℕ) a + S64x128.size a ≤ (⟨2, ![256, w]⟩ : Shape).size a := by
  intro a; fin_cases a
  · show 64 * (j % 4) + 64 ≤ 256; omega
  · show 128 * (h % 4) + 128 ≤ w; omega

theorem table_inb (j : ℕ) : ∀ a, (![64 * (j % 4), 0] : Fin 2 → ℕ) a + S64x128.size a ≤ S256x128.size a := by
  intro a; fin_cases a
  · show 64 * (j % 4) + 64 ≤ 256; omega
  · show 0 + 128 ≤ 128; omega

theorem head_inb3 {p q : ℕ} (h : ℕ) :
    ∀ a, (![h % 4, 0, 0] : Fin 3 → ℕ) a + (⟨3, ![1, p, q]⟩ : Shape).size a ≤ (⟨3, ![4, p, q]⟩ : Shape).size a := by
  intro a; fin_cases a
  · show h % 4 + 1 ≤ 4; omega
  · show 0 + p ≤ p; omega
  · show 0 + q ≤ q; omega

theorem head_inb4 (h : ℕ) :
    ∀ a, (![h % 4, 0, 0, 0] : Fin 4 → ℕ) a + S1x1x128x128.size a ≤ S4x1x128x128.size a := by
  intro a; fin_cases a
  · show h % 4 + 1 ≤ 4; omega
  · show 0 + 1 ≤ 1; omega
  · show 0 + 128 ≤ 128; omega
  · show 0 + 128 ≤ 128; omega

theorem out_inb (p j h : ℕ) :
    ∀ a, (![64 * (j % 4), 512 * (p % 4) + 128 * (h % 4)] : Fin 2 → ℕ) a + S64x128.size a ≤ S256x2048.size a := by
  intro a; fin_cases a
  · show 64 * (j % 4) + 64 ≤ 256; omega
  · show 512 * (p % 4) + 128 * (h % 4) + 128 ≤ 2048; omega

/-- Chunk `j`, head `h` of a block of 256 tokens by 4 heads. -/
abbrev tileRect (j h : ℕ) : Rect S256x512 := Rect.unit (s := S256x512) ![64 * (j % 4), 128 * (h % 4)] S64x128.size (tile_inb j h rfl)

/-- Chunk `j` of a table over 256 tokens. -/
abbrev tableRect (j : ℕ) : Rect S256x128 := Rect.unit (s := S256x128) ![64 * (j % 4), 0] S64x128.size (table_inb j)

/-- Head `h` of the carried gradient. -/
abbrev carryRect (h : ℕ) : Rect S4x128x128 :=
  Rect.unit (s := S4x128x128) ![h % 4, 0, 0] S1x128x128.size (head_inb3 (p := 128) (q := 128) h)

/-- Where column group `p` of chunk `j`, head `h` is written. -/
abbrev outRect (p j h : ℕ) : Rect S256x2048 :=
  Rect.unit (s := S256x2048) ![64 * (j % 4), 512 * (p % 4) + 128 * (h % 4)] S64x128.size (out_inb p j h)

/-- The whole of the weight's row. -/
abbrev rowRect : Rect S1x128 := Rect.unit (s := S1x128) ![0, 0] S1x128.size inb_S1x128_S1x128_0_0

/-- The tiles a point reads from its thirteen blocks, the carried gradient's heads given. -/
def pointTiles
  (arg1 : Memref sig .tc .vmem S256x512 .f32) (harg1 : arg1.IsWhole) (x0 : Vec F S256x512 .f32)
  (arg2 : Memref sig .tc .vmem S256x512 .f32) (harg2 : arg2.IsWhole) (x1 : Vec F S256x512 .f32)
  (arg3 : Memref sig .tc .vmem S256x512 .f32) (harg3 : arg3.IsWhole) (x2 : Vec F S256x512 .f32)
  (arg4 : Memref sig .tc .vmem S256x512 .f32) (harg4 : arg4.IsWhole) (x3 : Vec F S256x512 .f32)
  (arg5 : Memref sig .tc .vmem S256x128 .f32) (harg5 : arg5.IsWhole) (x4 : Vec F S256x128 .f32)
  (arg6 : Memref sig .tc .vmem S256x128 .f32) (harg6 : arg6.IsWhole) (x5 : Vec F S256x128 .f32)
  (arg7 : Memref sig .tc .vmem S4x64x64 .f32) (harg7 : arg7.IsWhole) (x6 : Vec F S4x64x64 .f32)
  (arg8 : Memref sig .tc .vmem S4x64x1 .f32) (harg8 : arg8.IsWhole) (x7 : Vec F S4x64x1 .f32)
  (arg9 : Memref sig .tc .vmem S4x64x1 .f32) (harg9 : arg9.IsWhole) (x8 : Vec F S4x64x1 .f32)
  (arg10 : Memref sig .tc .vmem S4x1x1 .f32) (harg10 : arg10.IsWhole) (x9 : Vec F S4x1x1 .f32)
  (arg11 : Memref sig .tc .vmem S1x128 .f32) (harg11 : arg11.IsWhole) (x10 : Vec F S1x128 .f32)
  (arg12 : Memref sig .tc .vmem S4x1x128x128 .f32) (harg12 : arg12.IsWhole) (x11 : Vec F S4x1x128x128 .f32)
  (arg13 : Memref sig .tc .vmem S256x512 .f32) (harg13 : arg13.IsWhole) (x12 : Vec F S256x512 .f32)
  (dr : ℕ → Vec F S1x128x128 .f32) : Tiles F where
  q j h := View.readAt (Elt F) arg1.view (tileRect j h).toLoadRect (harg1.unread x0)
  k j h := View.readAt (Elt F) arg2.view (tileRect j h).toLoadRect (harg2.unread x1)
  v j h := View.readAt (Elt F) arg3.view (tileRect j h).toLoadRect (harg3.unread x2)
  g j h := View.readAt (Elt F) arg4.view (tileRect j h).toLoadRect (harg4.unread x3)
  t j h := View.readAt (Elt F) arg13.view (tileRect j h).toLoadRect (harg13.unread x12)
  co j := shapeCast S64x128 (View.readAt (Elt F) arg5.view (tableRect j).toLoadRect (harg5.unread x4)) shapeCasts_S64x128_S64x128
  si j := shapeCast S64x128 (View.readAt (Elt F) arg6.view (tableRect j).toLoadRect (harg6.unread x5)) shapeCasts_S64x128_S64x128
  dm h := shapeCast S64x64 (View.readAt (Elt F) arg7.view
    (Rect.unit (s := S4x64x64) ![h % 4, 0, 0] S1x64x64.size (head_inb3 (p := 64) (q := 64) h)).toLoadRect (harg7.unread x6)) shapeCasts_S1x64x64_S64x64
  qd h := shapeCast S64x1 (View.readAt (Elt F) arg8.view
    (Rect.unit (s := S4x64x1) ![h % 4, 0, 0] S1x64x1.size (head_inb3 (p := 64) (q := 1) h)).toLoadRect (harg8.unread x7)) shapeCasts_S1x64x1_S64x1
  kd h := shapeCast S64x1 (View.readAt (Elt F) arg9.view
    (Rect.unit (s := S4x64x1) ![h % 4, 0, 0] S1x64x1.size (head_inb3 (p := 64) (q := 1) h)).toLoadRect (harg9.unread x8)) shapeCasts_S1x64x1_S64x1
  cd h := shapeCast S1x1 (View.readAt (Elt F) arg10.view
    (Rect.unit (s := S4x1x1) ![h % 4, 0, 0] S1x1x1.size (head_inb3 (p := 1) (q := 1) h)).toLoadRect (harg10.unread x9)) shapeCasts_S1x1x1_S1x1
  nw := shapeCast S1x128 (View.readAt (Elt F) arg11.view rowRect.toLoadRect (harg11.unread x10)) shapeCasts_S1x128_S1x128
  st h := shapeCast S128x128 (View.readAt (Elt F) arg12.view
    (Rect.unit (s := S4x1x128x128) ![h % 4, 0, 0, 0] S1x1x128x128.size (head_inb4 h)).toLoadRect (harg12.unread x11)) shapeCasts_S1x1x128x128_S128x128
  dr h := shapeCast S128x128 (shapeCast S128x128 (dr h) shapeCasts_S1x128x128_S128x128) shapeCasts_S128x128_S128x128

/-- Column group `p` of what a tile's chunk contributes to the projection's gradient. -/
def part (T : Tiles F) (p j h : ℕ) : FVec F S64x128 .f32 :=
  match p with
  | 0 => dqT T j h
  | 1 => dkT T j h
  | 2 => dvT T j h
  | _ => dgT T j h

/-- The stores of the projection's gradient, the last first. -/
def outPieces (T : Tiles F) : List (View.Piece (Elt F) S256x2048 .bf16) :=
  [3, 2, 1, 0].flatMap fun h => [3, 2, 1, 0].flatMap fun j => [3, 2, 1, 0].map fun p =>
    ⟨outRect p j h, truncf .bf16 (part T p j h) bitsLt_bf16_f32⟩

/-- The stores of the carried gradient, the last first. -/
def carryPieces (T : Tiles F) : List (View.Piece (Elt F) S4x128x128 .f32) :=
  [3, 2, 1, 0].map fun h => ⟨carryRect h, shapeCast S1x128x128 (eT T h 4) shapeCasts_S128x128_S1x128x128⟩

/-- The weight's gradient after a point, over what it held before. -/
def rowAfter (T : Tiles F) (x : Vec F S1x128 .f32) : Vec F S1x128 .f32 :=
  addf (shapeCast S1x128 x shapeCasts_S1x128_S1x128) (dnwSum T)

theorem out_B  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) (xo14 : Vec F S1x128 .f32) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12 xo14 xs0).1 = outPieces (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => View.readAt (Elt F) arg17.view (carryRect h).toLoadRect (harg17.unread xs0)) := by
  sl_kernel_rfl

theorem row_B  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) (xo14 : Vec F S1x128 .f32) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12 xo14 xs0).2.1 = [⟨rowRect, rowAfter (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => View.readAt (Elt F) arg17.view (carryRect h).toLoadRect (harg17.unread xs0)) (View.readAt (Elt F) arg16.view rowRect.toLoadRect (harg16.unread xo14))⟩] := by
  sl_kernel_rfl

theorem carry_B  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : ¬cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) (xo14 : Vec F S1x128 .f32) (xs0 : Vec F S4x128x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12 xo14 xs0).2.2.1 = carryPieces (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => View.readAt (Elt F) arg17.view (carryRect h).toLoadRect (harg17.unread xs0)) := by
  sl_kernel_rfl

theorem out_A  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12).1 = outPieces (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => arg17.view.readCov [⟨Rect.unit (s := S4x128x128) ![0, 0, 0] S4x128x128.size inb_S4x128x128_S4x128x128_0_0_0, k0_pay3⟩] (carryRect h).toLoadRect) := by
  sl_kernel_rfl

theorem row_A  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12).2.1 = [⟨rowRect, rowAfter (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => arg17.view.readCov [⟨Rect.unit (s := S4x128x128) ![0, 0, 0] S4x128x128.size inb_S4x128x128_S4x128x128_0_0_0, k0_pay3⟩] (carryRect h).toLoadRect) (arg16.view.readCov [⟨Rect.unit (s := S1x128) ![0, 0] S1x128.size inb_S1x128_S1x128_0_0, k0_pay4⟩] rowRect.toLoadRect)⟩, ⟨Rect.unit (s := S1x128) ![0, 0] S1x128.size inb_S1x128_S1x128_0_0, k0_pay4⟩] := by
  sl_kernel_rfl

theorem carry_A  (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S4x64x64 .f32) (harg7 : arg7.IsWhole) (arg8 : Memref sig .tc .vmem S4x64x1 .f32) (harg8 : arg8.IsWhole) (arg9 : Memref sig .tc .vmem S4x64x1 .f32) (harg9 : arg9.IsWhole) (arg10 : Memref sig .tc .vmem S4x1x1 .f32) (harg10 : arg10.IsWhole) (arg11 : Memref sig .tc .vmem S1x128 .f32) (harg11 : arg11.IsWhole) (arg12 : Memref sig .tc .vmem S4x1x128x128 .f32) (harg12 : arg12.IsWhole) (arg13 : Memref sig .tc .vmem S256x512 .f32) (harg13 : arg13.IsWhole) (arg15 : Memref sig .tc .vmem S256x2048 .bf16) (harg15 : arg15.IsWhole) (arg16 : Memref sig .tc .vmem S1x128 .f32) (harg16 : arg16.IsWhole) (arg17 : Memref sig .tc .vmem S4x128x128 .f32) (harg17 : arg17.IsWhole) (hc0 : cond0_0 i)
    (x0 : Vec F S256x512 .f32) (x1 : Vec F S256x512 .f32) (x2 : Vec F S256x512 .f32) (x3 : Vec F S256x512 .f32) (x4 : Vec F S256x128 .f32) (x5 : Vec F S256x128 .f32) (x6 : Vec F S4x64x64 .f32) (x7 : Vec F S4x64x1 .f32) (x8 : Vec F S4x64x1 .f32) (x9 : Vec F S4x1x1 .f32) (x10 : Vec F S1x128 .f32) (x11 : Vec F S4x1x128x128 .f32) (x12 : Vec F S256x512 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg15 harg15 arg16 harg16 arg17 harg17 hc0 x0 x1 x2 x3 x4 x5 x6 x7 x8 x9 x10 x11 x12).2.2.1 = carryPieces (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 fun h => arg17.view.readCov [⟨Rect.unit (s := S4x128x128) ![0, 0, 0] S4x128x128.size inb_S4x128x128_S4x128x128_0_0_0, k0_pay3⟩] (carryRect h).toLoadRect) ++ [⟨Rect.unit (s := S4x128x128) ![0, 0, 0] S4x128x128.size inb_S4x128x128_S4x128x128_0_0_0, k0_pay3⟩] := by
  sl_kernel_rfl

end Cert.Ret

end
-- ==== Proof.RetBlocks.lean ====
/- A grid point's blocks: from blocks that hold a group's rows, the point's tiles hold the group's data. -/
module

public import proofs.«01_k».proof.Proof.RetGroup
public import proofs.«01_k».proof.Proof.RetPoint

@[expose] public section

noncomputable section

namespace Cert.Ret

open Idealize.ShloMosaic Idealize.ShloMosaic.TcCoe Cert.KernelIdeal Cert.KernelIdeal.Facts₀

/-- Row `r` of group `g`'s 256 tokens. -/
def row (g : Fin 32) (r : Fin 256) : Fin 8192 := ⟨256 * g.val + r.val, by omega⟩
/-- Lane `l` of the `p`-th of the projections. -/
def colAt (p : ℕ) (hp : p < 4) (l : Fin 512) : Fin 7168 := ⟨512 * p + l.val, by omega⟩
/-- Lane `l` of the retention part of the incoming gradient. -/
def mixAt (l : Fin 512) : Fin 2048 := ⟨1536 + l.val, by omega⟩

/-- Thirteen blocks hold the rows of group `g`. -/
structure BlocksHold (x : Fin 8192 → Fin 7168 → EReal) (t : Fin 8192 → Fin 2048 → EReal) (w : Fin 128 → EReal) (g : Fin 32)
    (x0 x1 x2 x3 : Vec Ideal S256x512 .f32) (x4 x5 : Vec Ideal S256x128 .f32) (x6 : Vec Ideal S4x64x64 .f32) (x7 x8 : Vec Ideal S4x64x1 .f32)
    (x9 : Vec Ideal S4x1x1 .f32) (x10 : Vec Ideal S1x128 .f32) (x11 : Vec Ideal S4x1x128x128 .f32) (x12 : Vec Ideal S256x512 .f32) : Prop where
  q : ∀ r l, x0 (ix2 r l) = x (row g r) (colAt 0 (by decide) l)
  k : ∀ r l, x1 (ix2 r l) = x (row g r) (colAt 1 (by decide) l)
  v : ∀ r l, x2 (ix2 r l) = x (row g r) (colAt 2 (by decide) l)
  gate : ∀ r l, x3 (ix2 r l) = x (row g r) (colAt 3 (by decide) l)
  co : ∀ r d, x4 (ix2 r d) = cosTable (row g r) d
  si : ∀ r d, x5 (ix2 r d) = sinTable (row g r) d
  dm : ∀ h i j, x6 (ix3 h i j) = dmat h i j
  qd : ∀ h i, x7 (ix3 h i 0) = qdec h i
  kd : ∀ h i, x8 (ix3 h i 0) = kdec h i
  cd : ∀ h, x9 (ix3 h 0 0) = cdec h
  nw : ∀ d, x10 (ix2 0 d) = w d
  st : ∀ h d e, x11 (ix4 h 0 d e) = R (chunk x t w h) (4 * g.val) d e
  mix : ∀ r l, x12 (ix2 r l) = t (row g r) (mixAt l)

section Reads

variable {sp : Space}

theorem tile_read (a : Memref sig .tc .vmem S256x512 .f32) (ha : a.IsWhole) (X : Vec Ideal S256x512 .f32) (j h : ℕ) (i : Fin 64) (d : Fin 128) :
    View.readAt (Elt Ideal) a.view (tileRect j h).toLoadRect (ha.unread X) (ix2 i d)
      = X (ix2 ⟨64 * (j % 4) + i.val, by omega⟩ ⟨128 * (h % 4) + d.val, by omega⟩) := by
  rw [View.readAt_eq_ld, Memref.IsWhole.read_unread]
  pointwise

theorem table_read (a : Memref sig .tc .vmem S256x128 .f32) (ha : a.IsWhole) (X : Vec Ideal S256x128 .f32) (j : ℕ) (i : Fin 64) (d : Fin 128) :
    shapeCast S64x128 (View.readAt (Elt Ideal) a.view (tableRect j).toLoadRect (ha.unread X)) shapeCasts_S64x128_S64x128 (ix2 i d)
      = X (ix2 ⟨64 * (j % 4) + i.val, by omega⟩ d) := by
  rw [View.readAt_eq_ld, Memref.IsWhole.read_unread]
  pointwise

theorem column_read (a : Memref sig .tc .vmem S4x64x1 .f32) (ha : a.IsWhole) (X : Vec Ideal S4x64x1 .f32) (h : ℕ) (i : Fin 64) :
    shapeCast S64x1 (View.readAt (Elt Ideal) a.view
      (Rect.unit (s := S4x64x1) ![h % 4, 0, 0] S1x64x1.size (head_inb3 (p := 64) (q := 1) h)).toLoadRect (ha.unread X)) shapeCasts_S1x64x1_S64x1 (ix2 i 0)
      = X (ix3 ⟨h % 4, by omega⟩ i 0) := by
  rw [View.readAt_eq_ld, Memref.IsWhole.read_unread]
  pointwise

theorem decay_read (a : Memref sig .tc .vmem S4x64x64 .f32) (ha : a.IsWhole) (X : Vec Ideal S4x64x64 .f32) (h : ℕ) (i j : Fin 64) :
    shapeCast S64x64 (View.readAt (Elt Ideal) a.view
      (Rect.unit (s := S4x64x64) ![h % 4, 0, 0] S1x64x64.size (head_inb3 (p := 64) (q := 64) h)).toLoadRect (ha.unread X)) shapeCasts_S1x64x64_S64x64 (ix2 i j)
      = X (ix3 ⟨h % 4, by omega⟩ i j) := by
  rw [View.readAt_eq_ld, Memref.IsWhole.read_unread,
    show ∀ v : S1x64x64.Idx → EReal, shapeCast S64x64 v shapeCasts_S1x64x64_S64x64 (ix2 i j) = v (ix3 0 i j) from fun v => by pointwise]
  pointwise

theorem scalar_read (a : Memref sig .tc .vmem S4x1x1 .f32) (ha : a.IsWhole) (X : Vec Ideal S4x1x1 .f32) (h : ℕ) :
    shapeCast S1x1 (View.readAt (Elt Ideal) a.view
      (Rect.unit (s := S4x1x1) ![h % 4, 0, 0] S1x1x1.size (head_inb3 (p := 1) (q := 1) h)).toLoadRect (ha.unread X)) shapeCasts_S1x1x1_S1x1 (ix2 0 0)
      = X (ix3 ⟨h % 4, by omega⟩ 0 0) := by
  rw [View.readAt_eq_ld, Memref.IsWhole.read_unread]
  pointwise

theorem row_read (a : Memref sig .tc .vmem S1x128 .f32) (ha : a.IsWhole) (X : Vec Ideal S1x128 .f32) (d : Fin 128) :
    shapeCast S1x128 (View.readAt (Elt Ideal) a.view rowRect.toLoadRect (ha.unread X)) shapeCasts_S1x128_S1x128 (ix2 0 d) = X (ix2 0 d) := by
  rw [View.readAt_eq_ld, Memref.IsWhole.read_unread]
  pointwise

theorem state_read (a : Memref sig .tc .vmem S4x1x128x128 .f32) (ha : a.IsWhole) (X : Vec Ideal S4x1x128x128 .f32) (h : ℕ) (d e : Fin 128) :
    shapeCast S128x128 (View.readAt (Elt Ideal) a.view
      (Rect.unit (s := S4x1x128x128) ![h % 4, 0, 0, 0] S1x1x128x128.size (head_inb4 h)).toLoadRect (ha.unread X)) shapeCasts_S1x1x128x128_S128x128 (ix2 d e)
      = X (ix4 ⟨h % 4, by omega⟩ 0 d e) := by
  rw [View.readAt_eq_ld, Memref.IsWhole.read_unread,
    show ∀ v : S1x1x128x128.Idx → EReal, shapeCast S128x128 v shapeCasts_S1x1x128x128_S128x128 (ix2 d e) = v (ix4 0 0 d e) from fun v => by pointwise]
  pointwise

theorem tile_lane (j : ℕ) (hj : j < 4) (h : Fin 4) (i : Fin 64) (d : Fin 128) (g : Fin 32) (p : ℕ) (hp : p < 4) :
    row g ⟨64 * (j % 4) + i.val, by omega⟩ = tok (4 * g.val + j) i ∧ colAt p hp ⟨128 * (h.val % 4) + d.val, by omega⟩ = lane p hp h d
      ∧ mixAt ⟨128 * (h.val % 4) + d.val, by omega⟩ = mixLane h d := by
  refine ⟨Fin.ext ?_, Fin.ext ?_, Fin.ext ?_⟩
  · show 256 * g.val + (64 * (j % 4) + i.val) = ((4 * g.val + j) * 64 + i.val) % 8192
    omega
  · show 512 * p + (128 * (h.val % 4) + d.val) = 512 * p + (h.val * 128 + d.val)
    omega
  · show 1536 + (128 * (h.val % 4) + d.val) = 1536 + (h.val * 128 + d.val)
    omega

theorem head_eq (h : Fin 4) : (⟨h.val % 4, by omega⟩ : Fin 4) = h := Fin.ext (by show h.val % 4 = h.val; omega)

end Reads

/-- A point's tiles hold its group's data. -/
theorem pointTiles_hold (x : Fin 8192 → Fin 7168 → EReal) (t : Fin 8192 → Fin 2048 → EReal) (w : Fin 128 → EReal) (g : Fin 32)
    (arg1 : Memref sig .tc .vmem S256x512 .f32) (harg1 : arg1.IsWhole) (x0 : Vec Ideal S256x512 .f32)
    (arg2 : Memref sig .tc .vmem S256x512 .f32) (harg2 : arg2.IsWhole) (x1 : Vec Ideal S256x512 .f32)
    (arg3 : Memref sig .tc .vmem S256x512 .f32) (harg3 : arg3.IsWhole) (x2 : Vec Ideal S256x512 .f32)
    (arg4 : Memref sig .tc .vmem S256x512 .f32) (harg4 : arg4.IsWhole) (x3 : Vec Ideal S256x512 .f32)
    (arg5 : Memref sig .tc .vmem S256x128 .f32) (harg5 : arg5.IsWhole) (x4 : Vec Ideal S256x128 .f32)
    (arg6 : Memref sig .tc .vmem S256x128 .f32) (harg6 : arg6.IsWhole) (x5 : Vec Ideal S256x128 .f32)
    (arg7 : Memref sig .tc .vmem S4x64x64 .f32) (harg7 : arg7.IsWhole) (x6 : Vec Ideal S4x64x64 .f32)
    (arg8 : Memref sig .tc .vmem S4x64x1 .f32) (harg8 : arg8.IsWhole) (x7 : Vec Ideal S4x64x1 .f32)
    (arg9 : Memref sig .tc .vmem S4x64x1 .f32) (harg9 : arg9.IsWhole) (x8 : Vec Ideal S4x64x1 .f32)
    (arg10 : Memref sig .tc .vmem S4x1x1 .f32) (harg10 : arg10.IsWhole) (x9 : Vec Ideal S4x1x1 .f32)
    (arg11 : Memref sig .tc .vmem S1x128 .f32) (harg11 : arg11.IsWhole) (x10 : Vec Ideal S1x128 .f32)
    (arg12 : Memref sig .tc .vmem S4x1x128x128 .f32) (harg12 : arg12.IsWhole) (x11 : Vec Ideal S4x1x128x128 .f32)
    (arg13 : Memref sig .tc .vmem S256x512 .f32) (harg13 : arg13.IsWhole) (x12 : Vec Ideal S256x512 .f32)
    (dr : ℕ → Vec Ideal S1x128x128 .f32) (B : BlocksHold x t w g x0 x1 x2 x3 x4 x5 x6 x7 x8 x9 x10 x11 x12) :
    Holds x t w g.val (pointTiles arg1 harg1 x0 arg2 harg2 x1 arg3 harg3 x2 arg4 harg4 x3 arg5 harg5 x4 arg6 harg6 x5 arg7 harg7 x6 arg8 harg8 x7 arg9 harg9 x8 arg10 harg10 x9 arg11 harg11 x10 arg12 harg12 x11 arg13 harg13 x12 dr) where
  q j hj h i d := by
    obtain ⟨e1, e2, -⟩ := tile_lane j hj h i d g 0 (by decide)
    exact (tile_read _ _ _ _ _ _ _).trans ((B.q _ _).trans (by rw [e1, e2]))
  k j hj h i d := by
    obtain ⟨e1, e2, -⟩ := tile_lane j hj h i d g 1 (by decide)
    exact (tile_read _ _ _ _ _ _ _).trans ((B.k _ _).trans (by rw [e1, e2]))
  v j hj h i d := by
    obtain ⟨e1, e2, -⟩ := tile_lane j hj h i d g 2 (by decide)
    exact (tile_read _ _ _ _ _ _ _).trans ((B.v _ _).trans (by rw [e1, e2]))
  gate j hj h i d := by
    obtain ⟨e1, e2, -⟩ := tile_lane j hj h i d g 3 (by decide)
    exact (tile_read _ _ _ _ _ _ _).trans ((B.gate _ _).trans (by rw [e1, e2]))
  mix j hj h i d := by
    obtain ⟨e1, -, e2⟩ := tile_lane j hj h i d g 0 (by decide)
    exact (tile_read _ _ _ _ _ _ _).trans ((B.mix _ _).trans (by rw [e1, e2]))
  co j hj i d := by
    obtain ⟨e1, -, -⟩ := tile_lane j hj 0 i d g 0 (by decide)
    exact (table_read _ _ _ _ _ _).trans ((B.co _ _).trans (by rw [e1]))
  si j hj i d := by
    obtain ⟨e1, -, -⟩ := tile_lane j hj 0 i d g 0 (by decide)
    exact (table_read _ _ _ _ _ _).trans ((B.si _ _).trans (by rw [e1]))
  dm h i j := (decay_read _ _ _ _ _ _).trans ((B.dm _ _ _).trans (by rw [head_eq]))
  qd h i := (column_read _ _ _ _ _).trans ((B.qd _ _).trans (by rw [head_eq]))
  kd h i := (column_read _ _ _ _ _).trans ((B.kd _ _).trans (by rw [head_eq]))
  cd h := (scalar_read _ _ _ _).trans ((B.cd _).trans (by rw [head_eq]))
  nw d := (row_read _ _ _ _).trans (B.nw d)
  st h d e := (state_read _ _ _ _ _ _).trans ((B.st _ _ _).trans (by rw [head_eq]))

end Cert.Ret

end
-- ==== Proof.RetPieces.lean ====
/- A grid point's stores, read back: what they leave in the output's block, the carried gradient and the weight's row. -/
module

public import proofs.«01_k».proof.Proof.RetBlocks

@[expose] public section

noncomputable section

namespace Cert.Ret

open Idealize.ShloMosaic Idealize.ShloMosaic.TcCoe Cert.KernelIdeal Cert.KernelIdeal.Facts₀
open Cert.KernelIdeal.Gen (k0_pay3 k0_pay4)
open scoped BigOperators

theorem mem_of_emb {s : Shape} (r : Rect s) (x : r.shape.Idx) (y : s.Idx) (h : r.emb x = y) : y ∈ r.set := by
  rw [← r.map_emb_univ, ← h]
  exact Finset.mem_map_of_mem _ (Finset.mem_univ _)

/-- Stores made after others. -/
theorem writes_after {s : Shape} {e : EltTy} (v : View sig .tc .vmem s e) (f : v.ty.Contents (Elt Ideal)) (L' : List (View.Piece (Elt Ideal) s e)) :
    ∀ L, v.writes (Elt Ideal) f (L ++ L') = v.writes (Elt Ideal) (v.writes (Elt Ideal) f L') L
  | [] => rfl
  | p :: L => by rw [List.cons_append, View.writes_cons, View.writes_cons, writes_after v f L' L]

variable (x : Fin 8192 → Fin 7168 → EReal) (t : Fin 8192 → Fin 2048 → EReal) (w : Fin 128 → EReal) (g : ℕ)

/-- The gradient of the `p`-th of the projections. -/
def outAt (p : ℕ) (h : Fin 4) (n : ℕ) (i : Fin 64) (d : Fin 128) : EReal :=
  match p with
  | 0 => outQ x t w h n i d
  | 1 => outK x t w h n i d
  | 2 => outV x t w h n i d
  | _ => outG x t w h n i d

/-- What a group leaves at row `r` and lane `l` of its block. -/
def outBlock (r l : ℕ) : EReal :=
  outAt x t w (l / 512) ⟨l % 512 / 128, by omega⟩ (4 * g + r / 64) ⟨r % 64, Nat.mod_lt _ (by decide)⟩ ⟨l % 128, Nat.mod_lt _ (by decide)⟩

theorem outBlock_of (p j h i d : ℕ) (hh : h < 4) (hi : i < 64) (hd : d < 128) (r l : ℕ)
    (hr : r = 64 * j + i) (hl : l = 512 * p + 128 * h + d) :
    outBlock x t w g r l = outAt x t w p ⟨h, hh⟩ (4 * g + j) ⟨i, hi⟩ ⟨d, hd⟩ := by
  have e1 : l / 512 = p := by omega
  have e2 : l % 512 / 128 = h := by omega
  have e3 : l % 128 = d := by omega
  have e4 : r / 64 = j := by omega
  have e5 : r % 64 = i := by omega
  simp only [outBlock, e1, e2, e3, e4, e5]

variable {x t w g} {T : Tiles Ideal}

theorem part_eq (H : Holds x t w g T) (hg : g < 32) (D : Carries x t w g T) (p j : ℕ) (hj : j < 4) (h : Fin 4) (i : Fin 64) (d : Fin 128) :
    part T p j h (ix2 i d) = outAt x t w p h (4 * g + j) i d := by
  match p with
  | 0 => exact q_eq H h j hj i d
  | 1 => exact k_eq H hg D h j hj i d
  | 2 => exact v_eq H hg D h j hj i d
  | n + 3 => exact g_eq H h j hj i d

theorem out_cover (T : Tiles Ideal) (y : S256x2048.Idx) : ∃ p ∈ outPieces T, y ∈ p.1.set := by
  obtain ⟨r, l, rfl⟩ : ∃ (r : Fin 256) (l : Fin 2048), y = ix2 r l := ⟨y 0, y 1, by pointwise⟩
  have four : ∀ n < 4, n ∈ [3, 2, 1, 0] := by decide
  refine ⟨⟨outRect (l.val / 512) (r.val / 64) (l.val % 512 / 128), truncf .bf16 (part T (l.val / 512) (r.val / 64) (l.val % 512 / 128)) bitsLt_bf16_f32⟩,
    List.mem_flatMap.2 ⟨_, four _ (by omega), List.mem_flatMap.2 ⟨_, four _ (by omega), List.mem_map.2 ⟨_, four _ (by omega), rfl⟩⟩⟩,
    mem_of_emb _ (ix2 (⟨r.val % 64, Nat.mod_lt _ (by decide)⟩ : Fin 64) (⟨l.val % 128, Nat.mod_lt _ (by decide)⟩ : Fin 128)) _ ?_⟩
  funext a; apply Fin.ext; fin_cases a
  · show 64 * (r.val / 64 % 4) + 1 * (r.val % 64) = r.val; omega
  · show 512 * (l.val / 512 % 4) + 128 * (l.val % 512 / 128 % 4) + 1 * (l.val % 128) = l.val; omega

theorem out_read (H : Holds x t w g T) (hg : g < 32) (D : Carries x t w g T) (v : View sig .tc .vmem S256x2048 .bf16)
    (f : v.ty.Contents (Elt Ideal)) (y : S256x2048.Idx) :
    (v.read (Elt Ideal) (v.writes (Elt Ideal) f (outPieces T)) y : EReal) = outBlock x t w g (y 0).val (y 1).val := by
  refine View.read_writes_apply_of_pieces v f (fun y => (outBlock x t w g (y 0).val (y 1).val : EReal)) _ (fun P hP z => ?_) y (out_cover T y)
  simp only [outPieces, List.mem_flatMap, List.mem_map] at hP
  obtain ⟨h, hh, j, hj, p, hp, rfl⟩ := hP
  have hh : h < 4 := by simp only [List.mem_cons, List.not_mem_nil, or_false] at hh; omega
  have hj : j < 4 := by simp only [List.mem_cons, List.not_mem_nil, or_false] at hj; omega
  have hp : p < 4 := by simp only [List.mem_cons, List.not_mem_nil, or_false] at hp; omega
  obtain ⟨i, d, rfl⟩ : ∃ (i : Fin 64) (d : Fin 128), z = ix2 i d := ⟨z 0, z 1, by pointwise⟩
  refine Eq.trans (part_eq H hg D p j hj ⟨h, hh⟩ i d) (outBlock_of x t w g p j h i.val d.val hh i.isLt d.isLt _ _ ?_ ?_).symm
  · show 64 * (j % 4) + 1 * i.val = _
    omega
  · show 512 * (p % 4) + 128 * (h % 4) + 1 * d.val = _
    omega

theorem carry_read (H : Holds x t w g T) (hg : g < 32) (D : Carries x t w g T) (v : View sig .tc .vmem S4x128x128 .f32)
    (f : v.ty.Contents (Elt Ideal)) (h : Fin 4) (d e : Fin 128) :
    (v.read (Elt Ideal) (v.writes (Elt Ideal) f (carryPieces T)) (ix3 h d e) : EReal) = E (chunk x t w h) (124 - 4 * g + 4) d e := by
  refine View.read_writes_apply_of_pieces v f (fun y : S4x128x128.Idx => (E (chunk x t w (y 0)) (124 - 4 * g + 4) (y 1) (y 2) : EReal)) _
    (fun P hP z => ?_) (ix3 h d e) ?_
  · simp only [carryPieces, List.mem_map] at hP
    obtain ⟨h, hh, rfl⟩ := hP
    have hh : h < 4 := by simp only [List.mem_cons, List.not_mem_nil, or_false] at hh; omega
    obtain ⟨u, d, e, rfl⟩ : ∃ (u : Fin 1) (d e : Fin 128), z = ix3 u d e := ⟨z 0, z 1, z 2, by pointwise⟩
    obtain rfl : u = 0 := Subsingleton.elim _ _
    have e0 : (carryRect h).emb (ix3 0 d e) = ix3 ⟨h, hh⟩ d e := by
      funext a; apply Fin.ext; fin_cases a
      · show h % 4 + 1 * 0 = h; omega
      · show 0 + 1 * d.val = d.val; omega
      · show 0 + 1 * e.val = e.val; omega
    show shapeCast S1x128x128 (eT T h 4) shapeCasts_S128x128_S1x128x128 (ix3 0 d e) = _
    rw [e0]
    refine Eq.trans ?_ (congrFun (congrFun (eM_eq H hg D ⟨h, hh⟩ 4 (le_refl _)) d) e)
    show _ = eT T h 4 (ix2 d e)
    generalize eT T h 4 = u
    pointwise
  · refine ⟨⟨carryRect h.val, shapeCast S1x128x128 (eT T h.val 4) shapeCasts_S128x128_S1x128x128⟩, ?_, mem_of_emb _ (ix3 0 d e) _ ?_⟩
    · exact List.mem_map.2 ⟨h.val, by fin_cases h <;> decide, rfl⟩
    · funext a; apply Fin.ext; fin_cases a
      · show h.val % 4 + 1 * 0 = h.val; omega
      · show 0 + 1 * d.val = d.val; omega
      · show 0 + 1 * e.val = e.val; omega

/-- What a group adds to the gradient of the norm's weight. -/
def groupW (x : Fin 8192 → Fin 7168 → EReal) (t : Fin 8192 → Fin 2048 → EReal) (w : Fin 128 → EReal) (g : ℕ) (d : Fin 128) : EReal :=
  ∑ j ∈ Finset.range 4, ∑ h : Fin 4, (chunk x t w h (4 * g + j)).dnw (stateAt x t w h (4 * g + j)) d

theorem dnwSum_at (H : Holds x t w g T) (d : Fin 128) : dnwSum T (ix2 0 d) = groupW x t w g d := by
  have key : dnwSum T (ix2 0 d) = ∑ j ∈ Finset.range 4, ∑ h ∈ Finset.range 4, (dnwT T j h (ix2 0 d) : EReal) := by
    simp only [dnwSum, tileOrder, List.flatMap_cons, List.flatMap_nil, List.map_cons, List.map_nil, List.cons_append, List.nil_append,
      List.tail_cons, List.foldl_cons, List.foldl_nil, Finset.sum_range_succ, Finset.sum_range_zero, zero_add]
    generalize dnwT T = u
    pointwise
    ac_rfl
  rw [key, groupW]
  refine Finset.sum_congr rfl fun j hj => ?_
  rw [Finset.sum_range]
  exact Finset.sum_congr rfl fun h _ => w_eq H h j (Finset.mem_range.1 hj) d

theorem rowAfter_at (H : Holds x t w g T) (r : Vec Ideal S1x128 .f32) (d : Fin 128) :
    (rowAfter T r (ix2 0 d) : EReal) = r (ix2 0 d) + groupW x t w g d := by
  rw [← dnwSum_at H d, rowAfter]
  generalize dnwSum T = u
  pointwise

theorem row_emb (d : Fin 128) : rowRect.emb (ix2 0 d) = ix2 0 d := by
  funext a; apply Fin.ext; fin_cases a
  · rfl
  · show 0 + 1 * d.val = d.val; omega

theorem row_written (v : View sig .tc .vmem S1x128 .f32) (f : v.ty.Contents (Elt Ideal)) (r : Vec Ideal S1x128 .f32)
    (L : List (View.Piece (Elt Ideal) S1x128 .f32)) (d : Fin 128) :
    v.read (Elt Ideal) (v.writes (Elt Ideal) f (⟨rowRect, r⟩ :: L)) (ix2 0 d) = r (ix2 0 d) := by
  have := View.read_writes_cons_emb v f rowRect r L (ix2 0 d)
  rwa [row_emb] at this

/-- The carried gradient, loaded a head at a time: from nothing, or from what the point before left. -/
theorem carry_zero (v : View sig .tc .vmem S4x128x128 .f32) (h : ℕ) (d e : Fin 128) :
    (v.readCov (Val := Elt Ideal) [⟨Rect.unit (s := S4x128x128) ![0, 0, 0] S4x128x128.size inb_S4x128x128_S4x128x128_0_0_0, k0_pay3 (F := Ideal)⟩]
      (carryRect h).toLoadRect (ix3 0 d e) : EReal) = 0 := by
  have hz : ∀ (h : Fin 4) (d e : Fin 128), (v.read (Elt Ideal) (v.writes (Elt Ideal) v.junk
      [⟨Rect.unit (s := S4x128x128) ![0, 0, 0] S4x128x128.size inb_S4x128x128_S4x128x128_0_0_0, k0_pay3 (F := Ideal)⟩]) (ix3 h d e) : EReal) = 0 := fun h d e => by
    refine View.read_writes_apply_of_pieces (Val := Elt Ideal) v v.junk (fun _ => (0 : EReal)) _ (fun P hP z => ?_) (ix3 h d e)
      ⟨_, List.mem_singleton.2 rfl, mem_of_emb _ (ix3 h d e) _ ?_⟩
    · obtain rfl := List.mem_singleton.1 hP
      exact Ideal.ofBits_zero_f32
    · funext a; apply Fin.ext; fin_cases a
      · show 0 + 1 * h.val = h.val; omega
      · show 0 + 1 * d.val = d.val; omega
      · show 0 + 1 * e.val = e.val; omega
  unfold View.readCov
  rw [View.readAt_eq_ld]
  refine Eq.trans ?_ (hz ⟨h % 4, Nat.mod_lt _ (by decide)⟩ d e)
  generalize v.read (Elt Ideal) _ = u
  pointwise

theorem carry_load (a : Memref sig .tc .vmem S4x128x128 .f32) (ha : a.IsWhole) (X : Vec Ideal S4x128x128 .f32) (h : Fin 4) (d e : Fin 128) :
    View.readAt (Elt Ideal) a.view (carryRect h).toLoadRect (ha.unread X) (ix3 0 d e) = X (ix3 h d e) := by
  rw [View.readAt_eq_ld, Memref.IsWhole.read_unread]
  refine Eq.trans (b := X (ix3 ⟨h.val % 4, Nat.mod_lt _ (by decide)⟩ d e)) ?_ (by rw [head_eq])
  pointwise

end Cert.Ret

end
-- ==== Proof.RetHost.lean ====
/- The buffers that the kernel's host operations fill before its grid starts, at an index: the rotation's tables
   and the decays of the heads. -/
module

public import proofs.«01_k».proof.Proof.RetSpec
public import proofs.«01_k».proof.Proof.Gen.KernelIdeal.Value
public import Idealize.ShloMosaic.Lib.StableHlo.RunRead

@[expose] public section

noncomputable section

namespace Cert.Ret

open Idealize.ShloMosaic Idealize.ShloMosaic.TcCoe Idealize.ShloMosaic.StableHlo Cert.KernelIdeal Cert.KernelIdeal.Facts₀
open Cert.KernelIdeal.Gen (V hostOps0 hostOps0_1 hostOps0_2)

/-- Two tables of 64 lanes, side by side. -/
def paired {α : Type} (a b : S8192x64.Idx → α) : S8192x128.Idx → α := fun j =>
  if hd : (j 1).val < 64 then a (ix2 (j 0) ⟨(j 1).val, hd⟩)
  else b (ix2 (j 0) ⟨(j 1).val - 64, by have := (j 1).isLt; change (j 1).val < 128 at this; omega⟩)

theorem paired_at {α : Type} (a b : S8192x64.Idx → α) (t : Fin 8192) (d : Fin 128) :
    paired a b (ix2 t d) = if hd : d.val < 64 then a (ix2 t ⟨d.val, hd⟩) else b (ix2 t ⟨d.val - 64, by omega⟩) := rfl

theorem concat_paired {α : Type} :
    (fun a b => concatenate (α := α) S8192x128 1 [⟨S8192x64, a⟩, ⟨S8192x64, b⟩]
      concatenates_S8192x64_S8192x64_S8192x128_d1) = paired := by
  funext a b j
  obtain ⟨t, d, rfl⟩ : ∃ t d, j = ix2 t d := ⟨j 0, j 1, by pointwise⟩
  rw [paired_at]
  pointwise

variable (m : (ℓ : Loc nD τ sig) → Buf (Elt Ideal) ℓ) (c : Dev nD)

set_option maxRecDepth 100000 in
theorem host_dm (h : Fin 4) (i j : Fin 64) : (V m c main_v25 : S4x64x64.Idx → EReal) (ix3 h i j) = dmat h i j := by
  simp only [V, hostOps0, hostOps0_1, hostOps0_2, List.flatten_cons, List.flatten_nil, List.append_nil, List.cons_append, List.nil_append]
  after_reads_simp
  simp only [TRef.toBuf, TRef.ofBuf, cast_eq, id_eq]
  pointwise
  rfl

set_option maxRecDepth 100000 in
theorem host_qd (h : Fin 4) (i : Fin 64) : (V m c main_v35 : S4x64x1.Idx → EReal) (ix3 h i 0) = qdec h i := by
  simp only [V, hostOps0, hostOps0_1, hostOps0_2, List.flatten_cons, List.flatten_nil, List.append_nil, List.cons_append, List.nil_append]
  after_reads_simp
  pointwise
  rfl

set_option maxRecDepth 100000 in
theorem host_kd (h : Fin 4) (i : Fin 64) : (V m c main_v45 : S4x64x1.Idx → EReal) (ix3 h i 0) = kdec h i := by
  simp only [V, hostOps0, hostOps0_1, hostOps0_2, List.flatten_cons, List.flatten_nil, List.append_nil, List.cons_append, List.nil_append]
  after_reads_simp
  pointwise
  rfl

set_option maxRecDepth 100000 in
theorem host_cd (h : Fin 4) : (V m c main_v49 : S4x1x1.Idx → EReal) (ix3 h 0 0) = cdec h := by
  simp only [V, hostOps0, hostOps0_1, hostOps0_2, List.flatten_cons, List.flatten_nil, List.append_nil, List.cons_append, List.nil_append]
  after_reads_simp
  pointwise
  rfl

set_option maxRecDepth 100000 in
theorem host_cos (t : Fin 8192) (d : Fin 128) : (V m c main_v65 : S8192x128.Idx → EReal) (ix2 t d)
    = if hd : d.val < 64 then cosAt t ⟨d.val, hd⟩ else cosAt t ⟨d.val - 64, by omega⟩ := by
  simp only [V, hostOps0, hostOps0_1, hostOps0_2, List.flatten_cons, List.flatten_nil, List.append_nil, List.cons_append, List.nil_append, concat_paired]
  after_reads_simp
  rw [paired_at]
  split
  · pointwise; rfl
  · pointwise; rfl

set_option maxRecDepth 100000 in
theorem host_sin (t : Fin 8192) (d : Fin 128) : (V m c main_v67 : S8192x128.Idx → EReal) (ix2 t d)
    = if hd : d.val < 64 then -sinAt t ⟨d.val, hd⟩ else sinAt t ⟨d.val - 64, by omega⟩ := by
  simp only [V, hostOps0, hostOps0_1, hostOps0_2, List.flatten_cons, List.flatten_nil, List.append_nil, List.cons_append, List.nil_append, concat_paired]
  after_reads_simp
  rw [paired_at]
  split
  · pointwise; rfl
  · pointwise; rfl

set_option maxRecDepth 100000 in
theorem host_nw (d : Fin 128) : (V m c main_v68 : S1x128.Idx → EReal) (ix2 0 d)
    = (m ((c : Thread nD τ).loc main_arg1) : S128.Idx → EReal) (ix1 d) := by
  simp only [V, hostOps0, hostOps0_1, hostOps0_2, List.flatten_cons, List.flatten_nil, List.append_nil, List.cons_append, List.nil_append]
  after_reads_simp
  pointwise

end Cert.Ret

end
-- ==== Proof.RetHostState.lean ====
/- The states that the groups of four chunks start from, as the kernel's host operations compute them: one group's
   step after another, laid side by side. -/
module

public import proofs.«01_k».proof.Proof.RetHost

@[expose] public section

noncomputable section

namespace Cert.Ret

open Idealize.ShloMosaic Idealize.ShloMosaic.TcCoe Idealize.ShloMosaic.StableHlo Cert.KernelIdeal Cert.KernelIdeal.Facts₀
open Cert.KernelIdeal.Gen (V hostOps0 hostOps0_1 hostOps0_2)

/-- A state's element before group `g`, from the groups' own contributions `w` and a group's decay `c`. -/
def groupState (w : ℕ → EReal) (c : EReal) : ℕ → EReal
  | 0 => 0
  | g + 1 => groupState w c g * c + w g

/-- Sixteen groups' states, stacked. -/
def stacked {α : Type} (a0 a1 a2 a3 a4 a5 a6 a7 a8 a9 a10 a11 a12 a13 a14 a15 : S1x4x128x128.Idx → α) : S16x4x128x128.Idx → α := fun j =>
  (![a0, a1, a2, a3, a4, a5, a6, a7, a8, a9, a10, a11, a12, a13, a14, a15] : Fin 16 → S1x4x128x128.Idx → α) (j 0) (ix4 0 (j 1) (j 2) (j 3))

theorem concat_stacked {α : Type} (a0 a1 a2 a3 a4 a5 a6 a7 a8 a9 a10 a11 a12 a13 a14 a15 : S1x4x128x128.Idx → α) :
    concatenate (α := α) S16x4x128x128 0 [⟨S1x4x128x128, a0⟩, ⟨S1x4x128x128, a1⟩, ⟨S1x4x128x128, a2⟩, ⟨S1x4x128x128, a3⟩, ⟨S1x4x128x128, a4⟩, ⟨S1x4x128x128, a5⟩, ⟨S1x4x128x128, a6⟩, ⟨S1x4x128x128, a7⟩, ⟨S1x4x128x128, a8⟩, ⟨S1x4x128x128, a9⟩, ⟨S1x4x128x128, a10⟩, ⟨S1x4x128x128, a11⟩, ⟨S1x4x128x128, a12⟩, ⟨S1x4x128x128, a13⟩, ⟨S1x4x128x128, a14⟩, ⟨S1x4x128x128, a15⟩]
      concatenates_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S1x4x128x128_S16x4x128x128_d0 = stacked a0 a1 a2 a3 a4 a5 a6 a7 a8 a9 a10 a11 a12 a13 a14 a15 := by
  funext j
  obtain ⟨g, h, d, e, rfl⟩ : ∃ g h d e, j = ix4 g h d e := ⟨j 0, j 1, j 2, j 3, by pointwise⟩
  fin_cases g <;> (pointwise; rfl)

/-- Two stacks of sixteen, stacked. -/
def stacked2 {α : Type} (a b : S16x4x128x128.Idx → α) : S32x4x128x128.Idx → α := fun j =>
  if hg : (j 0).val < 16 then a (ix4 ⟨(j 0).val, hg⟩ (j 1) (j 2) (j 3))
  else b (ix4 ⟨(j 0).val - 16, by have := (j 0).isLt; change (j 0).val < 32 at this; omega⟩ (j 1) (j 2) (j 3))

theorem stacked2_at {α : Type} (a b : S16x4x128x128.Idx → α) (g : Fin 32) (h : Fin 4) (d e : Fin 128) : stacked2 a b (ix4 g h d e)
    = if hg : g.val < 16 then a (ix4 ⟨g.val, hg⟩ h d e) else b (ix4 ⟨g.val - 16, by omega⟩ h d e) := rfl

theorem concat_stacked2 {α : Type} :
    (fun a b => concatenate (α := α) S32x4x128x128 0 [⟨S16x4x128x128, a⟩, ⟨S16x4x128x128, b⟩]
      concatenates_S16x4x128x128_S16x4x128x128_S32x4x128x128_d0) = stacked2 := by
  funext a b j
  obtain ⟨g, h, d, e, rfl⟩ : ∃ g h d e, j = ix4 g h d e := ⟨j 0, j 1, j 2, j 3, by pointwise⟩
  rw [stacked2_at]
  pointwise

/-- The operations that build the states from the groups' contributions and decays. -/
abbrev stateOps : List (HloOp τ sig (Elt Ideal)) := (hostOps0_2 (F := Ideal)).drop 153

set_option maxHeartbeats 4000000 in
set_option maxRecDepth 100000 in
theorem states_built (σ : Valuation τ sig (Elt Ideal)) (h : Fin 4) (g : Fin 32) (d e : Fin 128) :
    (after stateOps σ (Proc.devRef .tc main_v263) : S4x32x128x128.Idx → EReal) (ix4 h g d e)
      = groupState (fun n => (σ (Proc.devRef .tc main_v161) : S32x4x128x128.Idx → EReal) (ix4 ⟨n % 32, Nat.mod_lt _ (by decide)⟩ h d e))
        ((σ (Proc.devRef .tc main_v165) : S1x4x128x128.Idx → EReal) (ix4 0 h d e)) g.val := by
  simp only [stateOps, hostOps0_2, List.drop_succ_cons, List.drop_zero, concat_stacked, concat_stacked2]
  after_reads_simp
  erw [concat_stacked, concat_stacked]
  dsimp only [Matrix.cons_val]
  after_reads_simp
  generalize σ (Proc.devRef .tc main_v161) = w
  generalize σ (Proc.devRef .tc main_v165) = c
  rw [show ∀ (v : S32x4x128x128.Idx → EReal) (g : Fin 32), transpose S4x32x128x128 [1, 0, 2, 3] v
    transposes_S32x4x128x128_S4x32x128x128_1_0_2_3 (ix4 h g d e) = v (ix4 g h d e) from fun v g => by pointwise, stacked2_at]
  fin_cases g
  all_goals
    first
    | rw [dif_pos (by decide)]
    | rw [dif_neg (by decide)]
    dsimp only [stacked, Matrix.cons_val]
  all_goals (pointwise; rfl)

end Cert.Ret

end
-- ==== Proof.RetHostGroup.lean ====
/- A group's contribution to the state and a group's decay, as the kernel's host operations compute them. -/
module

public import proofs.«01_k».proof.Proof.RetHostState

@[expose] public section

noncomputable section

namespace Cert.Ret

open Idealize.ShloMosaic Idealize.ShloMosaic.TcCoe Idealize.ShloMosaic.StableHlo Cert.KernelIdeal Cert.KernelIdeal.Facts₀
open Cert.KernelIdeal.Gen (V hostOps0 hostOps0_1 hostOps0_2)

/-- Two halves of a token's lanes, side by side. -/
def halves {α : Type} (a b : S1x8192x4x64.Idx → α) : S1x8192x4x128.Idx → α := fun j =>
  if hd : (j 3).val < 64 then a (ix4 0 (j 1) (j 2) ⟨(j 3).val, hd⟩)
  else b (ix4 0 (j 1) (j 2) ⟨(j 3).val - 64, by have := (j 3).isLt; change (j 3).val < 128 at this; omega⟩)

theorem halves_at {α : Type} (a b : S1x8192x4x64.Idx → α) (t : Fin 8192) (h : Fin 4) (d : Fin 128) :
    halves a b (ix4 0 t h d) = if hd : d.val < 64 then a (ix4 0 t h ⟨d.val, hd⟩) else b (ix4 0 t h ⟨d.val - 64, by omega⟩) := rfl

theorem concat_halves {α : Type} :
    (fun a b => concatenate (α := α) S1x8192x4x128 3 [⟨S1x8192x4x64, a⟩, ⟨S1x8192x4x64, b⟩]
      concatenates_S1x8192x4x64_S1x8192x4x64_S1x8192x4x128_d3) = halves := by
  funext a b j
  obtain ⟨z, t, h, d, rfl⟩ : ∃ z t h d, j = ix4 z t h d := ⟨j 0, j 1, j 2, j 3, by pointwise⟩
  obtain rfl : z = 0 := Subsingleton.elim _ _
  rw [halves_at]
  pointwise

variable (m : (ℓ : Loc nD τ sig) → Buf (Elt Ideal) ℓ) (c : Dev nD)

/-- The arguments the kernel is launched with. -/
def kProj : Fin 8192 → Fin 7168 → EReal := fun t e => (m (c, Proc.devRef .tc main_arg0) : S8192x7168.Idx → EReal) (ix2 t e)
def kWeight : Fin 128 → EReal := fun d => (m (c, Proc.devRef .tc main_arg1) : S128.Idx → EReal) (ix1 d)
def kDmix : Fin 8192 → Fin 2048 → EReal := fun t e => (m (c, Proc.devRef .tc main_arg2) : S8192x2048.Idx → EReal) (ix2 t e)

/-- The chunks the kernel is launched with. -/
abbrev kChunks : Fin 4 → ℕ → Chunk := chunk (kProj m c) (kDmix m c) (kWeight m c)

/-- The contents once the chunks' own contributions are there, and once the groups' are. -/
abbrev chunkSt : Valuation τ sig (Elt Ideal) :=
  after (hostOps0 (F := Ideal) ++ (hostOps0_1 (F := Ideal) ++ (hostOps0_2 (F := Ideal)).take 126)) fun b => m (c, b)
abbrev groupOps : List (HloOp τ sig (Elt Ideal)) := ((hostOps0_2 (F := Ideal)).drop 126).take 27

theorem V_split (b : Ref sig .tc) : V m c b = after stateOps (after groupOps (chunkSt m c)) (Proc.devRef .tc b) := by
  show after (List.flatten [hostOps0 (F := Ideal), hostOps0_1, hostOps0_2]) (fun b => m (c, b)) (Proc.devRef .tc b) = _
  rw [← StableHlo.after_append, ← StableHlo.after_append]
  refine congrArg (fun l => after l (fun b => m (c, b)) (Proc.devRef .tc b)) ?_
  have h2 : (hostOps0_2 (F := Ideal)).take 126 ++ (groupOps ++ stateOps) = hostOps0_2 (F := Ideal) := rfl
  rw [List.append_assoc, List.append_assoc, h2]
  simp only [List.flatten_cons, List.flatten_nil, List.append_nil]

set_option maxRecDepth 100000 in
theorem decay_at (h : Fin 4) : (chunkSt m c (Proc.devRef .tc main_v125) : S4.Idx → EReal) (ix1 h) = cdec h := by
  simp only [chunkSt, hostOps0, hostOps0_1, hostOps0_2, List.take_succ_cons, List.take_zero, List.cons_append, List.nil_append, concat_halves]
  after_reads_simp
  pointwise
  rfl

set_option maxHeartbeats 4000000 in
set_option maxRecDepth 100000 in
theorem contribution_at (n : Fin 128) (h : Fin 4) (d e : Fin 128) :
    @Eq EReal ((chunkSt m c (Proc.devRef .tc main_v138) : S128x4x128x128.Idx → EReal) (ix4 n h d e))
      (∑ i, (kChunks m c h n).k i d * (kChunks m c h n).kd i * (kChunks m c h n).v i e) := by
  simp only [chunkSt, hostOps0, hostOps0_1, hostOps0_2, List.take_succ_cons, List.take_zero, List.cons_append, List.nil_append, concat_halves]
  after_reads_simp
  pointwise
  refine Finset.sum_congr rfl fun i _ => ?_
  refine congrArg₂ (· * ·) (congrArg₂ (· * ·) (congrArg (· * ksc) ?_) rfl) ?_
  · show _ = rotated (tok n i) (fun d => kProj m c (tok n i) (lane 1 (by decide) h d)) d
    rw [halves_at, rotated]
    simp only [tok_eq, lane, kProj, cosAt, sinAt, angle, num]
    split
    · pointwise
    · pointwise
  · show _ = kProj m c (tok n i) (lane 2 (by decide) h e)
    rw [tok_eq]
    rfl

set_option maxRecDepth 100000 in
theorem group_at (σ : Valuation τ sig (Elt Ideal)) (g : Fin 32) (h : Fin 4) (d e : Fin 128) (u : ℕ → EReal) (c : EReal)
    (hu : ∀ n : Fin 128, (σ (Proc.devRef .tc main_v138) : S128x4x128x128.Idx → EReal) (ix4 n h d e) = u n)
    (hc : (σ (Proc.devRef .tc main_v125) : S4.Idx → EReal) (ix1 h) = c) :
    (after groupOps σ (Proc.devRef .tc main_v161) : S32x4x128x128.Idx → EReal) (ix4 g h d e)
      = ((u (4 * g) * c + u (4 * g + 1)) * c + u (4 * g + 2)) * c + u (4 * g + 3) := by
  simp only [groupOps, hostOps0_2, List.drop_succ_cons, List.drop_zero, List.take_succ_cons, List.take_zero]
  after_reads_simp
  pointwise
  rw [hc, hu, hu, hu, hu, Nat.mul_comm 4]

set_option maxRecDepth 100000 in
theorem groupDecay_at (σ : Valuation τ sig (Elt Ideal)) (h : Fin 4) (d e : Fin 128) (c : EReal)
    (hc : (σ (Proc.devRef .tc main_v125) : S4.Idx → EReal) (ix1 h) = c) :
    (after groupOps σ (Proc.devRef .tc main_v165) : S1x4x128x128.Idx → EReal) (ix4 0 h d e) = c * c * c * c := by
  subst hc
  simp only [groupOps, hostOps0_2, List.drop_succ_cons, List.drop_zero, List.take_succ_cons, List.take_zero]
  after_reads_simp
  pointwise

/-! ## A group's step is four chunks' steps -/

theorem exp_ne_top {x : EReal} (hx : x ≠ ⊤) : Ideal.exp x ≠ ⊤ := by
  induction x with
  | bot => exact EReal.zero_ne_top
  | top => exact absurd rfl hx
  | coe r => exact EReal.coe_ne_top _

theorem exp_nonneg (x : EReal) : 0 ≤ Ideal.exp x := by
  induction x with
  | bot => exact le_refl (0 : EReal)
  | top => exact le_top
  | coe r => exact EReal.coe_nonneg.2 (Real.exp_pos r).le

theorem log_ne_top {x : EReal} (hx : x ≠ ⊤) : Ideal.log x ≠ ⊤ := by
  induction x with
  | bot => exact bot_ne_top
  | top => exact absurd rfl hx
  | coe r =>
    show (if r ≤ 0 then (⊥ : EReal) else (Real.log r : EReal)) ≠ ⊤
    split
    · exact bot_ne_top
    · exact EReal.coe_ne_top _

theorem two_eq : Ideal.ofBits .f32 0x40000000#32 = ((2 : ℝ) : EReal) := by
  simp [Ideal.ofBits, Ideal.ieee]
  norm_num
  rw [← EReal.coe_mul, EReal.coe_eq_coe_iff]
  norm_num

theorem chunkLength_eq : Ideal.ofBits .f32 0x42800000#32 = ((64 : ℝ) : EReal) := by
  simp [Ideal.ofBits, Ideal.ieee]
  norm_num
  rw [← EReal.coe_mul, EReal.coe_eq_coe_iff]
  norm_num

theorem pow_two_ne_bot (y : EReal) : Ideal.pow ((2 : ℝ) : EReal) y ≠ ⊥ := by
  induction y with
  | bot =>
    rw [Ideal.pow_coe_bot, if_neg (by norm_num), if_pos (by norm_num)]
    exact EReal.zero_ne_bot
  | top =>
    rw [Ideal.pow_coe_top, if_neg (by norm_num), if_pos (by norm_num)]
    exact top_ne_bot
  | coe r => exact EReal.coe_ne_bot _

theorem lg_ne_top (h : Fin 4) : lg h ≠ ⊤ := by
  refine log_ne_top ?_
  rw [two_eq, sub_eq_add_neg]
  refine EReal.add_ne_top (EReal.coe_ne_top 1) ?_
  intro e
  exact pow_two_ne_bot _ (EReal.neg_eq_top_iff.1 e)

theorem cdec_ne_top (h : Fin 4) : cdec h ≠ ⊤ := by
  refine exp_ne_top ?_
  rw [chunkLength_eq]
  generalize hx : lg h = x
  have hne : x ≠ ⊤ := hx ▸ lg_ne_top h
  induction x with
  | bot => rw [EReal.coe_mul_bot_of_pos (by norm_num)]; exact bot_ne_top
  | top => exact absurd rfl hne
  | coe r => rw [← EReal.coe_mul]; exact EReal.coe_ne_top _

theorem cdec_nonneg (h : Fin 4) : 0 ≤ cdec h := exp_nonneg _

/-- Four steps of a recurrence at once. -/
theorem four_steps (r c u0 u1 u2 u3 : EReal) (h0 : 0 ≤ c) (ht : c ≠ ⊤) :
    (((r * c + u0) * c + u1) * c + u2) * c + u3 = r * (c * c * c * c) + (((u0 * c + u1) * c + u2) * c + u3) := by
  have dist : ∀ a b : EReal, (a + b) * c = a * c + b * c := fun a b => EReal.right_distrib_of_nonneg_of_ne_top h0 ht a b
  simp only [dist, ← mul_assoc, ← add_assoc]

/-- The groups' states are the chunks' states, four chunks apart. -/
theorem groupState_eq (C : ℕ → Chunk) (c : EReal) (h0 : 0 ≤ c) (ht : c ≠ ⊤) (hc : ∀ n, (C n).cd = c) (w : ℕ → EReal) (d e : Fin 128)
    (u : ℕ → EReal) (hu : ∀ n, u n = ∑ i, (C n).k i d * (C n).kd i * (C n).v i e) (N : ℕ)
    (hw : ∀ g < N, w g = ((u (4 * g) * c + u (4 * g + 1)) * c + u (4 * g + 2)) * c + u (4 * g + 3)) :
    ∀ g, g ≤ N → groupState w (c * c * c * c) g = R C (4 * g) d e
  | 0, _ => rfl
  | g + 1, hg => by
    have step : ∀ n, R C (n + 1) d e = R C n d e * c + u n := fun n => by rw [hu, ← hc n]; rfl
    rw [groupState, groupState_eq C c h0 ht hc w d e u hu N hw g (by omega), hw g (by omega), show 4 * (g + 1) = 4 * g + 1 + 1 + 1 + 1 by omega,
      step, step, step, step, four_steps _ _ _ _ _ _ h0 ht]

/-- The states the kernel's host operations leave are the states before the groups. -/
theorem host_state (h : Fin 4) (g : Fin 32) (d e : Fin 128) :
    (V m c main_v263 : S4x32x128x128.Idx → EReal) (ix4 h g d e) = R (kChunks m c h) (4 * g.val) d e := by
  rw [V_split, states_built, groupDecay_at _ _ _ _ _ (decay_at m c h)]
  refine groupState_eq (kChunks m c h) (cdec h) (cdec_nonneg h) (cdec_ne_top h) (fun _ => rfl) _ d e
    (fun n => ∑ i, (kChunks m c h n).k i d * (kChunks m c h n).kd i * (kChunks m c h n).v i e) (fun _ => rfl) 32 (fun k hk => ?_) g.val (by omega)
  have hk' : k % 32 = k := Nat.mod_eq_of_lt hk
  exact (group_at (chunkSt m c) ⟨k % 32, Nat.mod_lt _ (by decide)⟩ h d e
      (fun n => ∑ i, (kChunks m c h n).k i d * (kChunks m c h n).kd i * (kChunks m c h n).v i e) _ (fun n => contribution_at m c n h d e) (decay_at m c h)).trans
    (by simp only [hk'])

end Cert.Ret

end
-- ==== Proof.RetWindows.lean ====
/- What the windows of a grid point hold: point `t` works on group `31 - t`, the last group first. -/
module

public import proofs.«01_k».proof.Proof.RetBlocks
public import proofs.«01_k».proof.Proof.RetHostGroup

@[expose] public section

noncomputable section

namespace Cert.Ret

open Idealize.ShloMosaic Idealize.ShloMosaic.TcCoe Idealize.ShloMosaic.StableHlo Cert.KernelIdeal
open Cert.KernelIdeal.Gen (V iblk V_main_arg0 V_main_arg2 N_0)

/-- The group that point `t` works on. -/
def grp (t : Fin cfg0.N) : Fin 32 := ⟨31 - t.val, by omega⟩

theorem t_lt (t : Fin cfg0.N) : t.val < 32 := lt_of_lt_of_eq t.isLt (show cfg0.N = 32 from N_0)

variable (m : (ℓ : Loc nD τ sig) → Buf (Elt Ideal) ℓ) (c : Dev nD) (t : Fin cfg0.N)

/-- The places of the blocks in their arrays. -/
theorem place0 : ∀ t : Fin cfg0.N, win0_0.index t (0 : Fin 2) = 31 - t.val ∧ win0_0.index t (1 : Fin 2) = 0 :=
  (by decide +kernel : ∀ t : Fin grid0.N, _)
theorem place1 : ∀ t : Fin cfg0.N, win0_1.index t (0 : Fin 2) = 31 - t.val ∧ win0_1.index t (1 : Fin 2) = 1 :=
  (by decide +kernel : ∀ t : Fin grid0.N, _)
theorem place2 : ∀ t : Fin cfg0.N, win0_2.index t (0 : Fin 2) = 31 - t.val ∧ win0_2.index t (1 : Fin 2) = 2 :=
  (by decide +kernel : ∀ t : Fin grid0.N, _)
theorem place3 : ∀ t : Fin cfg0.N, win0_3.index t (0 : Fin 2) = 31 - t.val ∧ win0_3.index t (1 : Fin 2) = 3 :=
  (by decide +kernel : ∀ t : Fin grid0.N, _)
theorem place4 : ∀ t : Fin cfg0.N, win0_4.index t (0 : Fin 2) = 31 - t.val ∧ win0_4.index t (1 : Fin 2) = 0 :=
  (by decide +kernel : ∀ t : Fin grid0.N, _)
theorem place5 : ∀ t : Fin cfg0.N, win0_5.index t (0 : Fin 2) = 31 - t.val ∧ win0_5.index t (1 : Fin 2) = 0 :=
  (by decide +kernel : ∀ t : Fin grid0.N, _)
theorem place6 : ∀ t : Fin cfg0.N, win0_6.index t (0 : Fin 3) = 0 ∧ win0_6.index t (1 : Fin 3) = 0 ∧ win0_6.index t (2 : Fin 3) = 0 :=
  (by decide +kernel : ∀ t : Fin grid0.N, _)
theorem place7 : ∀ t : Fin cfg0.N, win0_7.index t (0 : Fin 3) = 0 ∧ win0_7.index t (1 : Fin 3) = 0 ∧ win0_7.index t (2 : Fin 3) = 0 :=
  (by decide +kernel : ∀ t : Fin grid0.N, _)
theorem place8 : ∀ t : Fin cfg0.N, win0_8.index t (0 : Fin 3) = 0 ∧ win0_8.index t (1 : Fin 3) = 0 ∧ win0_8.index t (2 : Fin 3) = 0 :=
  (by decide +kernel : ∀ t : Fin grid0.N, _)
theorem place9 : ∀ t : Fin cfg0.N, win0_9.index t (0 : Fin 3) = 0 ∧ win0_9.index t (1 : Fin 3) = 0 ∧ win0_9.index t (2 : Fin 3) = 0 :=
  (by decide +kernel : ∀ t : Fin grid0.N, _)
theorem place10 : ∀ t : Fin cfg0.N, win0_10.index t (0 : Fin 2) = 0 ∧ win0_10.index t (1 : Fin 2) = 0 :=
  (by decide +kernel : ∀ t : Fin grid0.N, _)
theorem place11 : ∀ t : Fin cfg0.N, win0_11.index t (0 : Fin 4) = 0 ∧ win0_11.index t (1 : Fin 4) = 31 - t.val ∧ win0_11.index t (2 : Fin 4) = 0 ∧ win0_11.index t (3 : Fin 4) = 0 :=
  (by decide +kernel : ∀ t : Fin grid0.N, _)
theorem place12 : ∀ t : Fin cfg0.N, win0_12.index t (0 : Fin 2) = 31 - t.val ∧ win0_12.index t (1 : Fin 2) = 3 :=
  (by decide +kernel : ∀ t : Fin grid0.N, _)

theorem window0 (r : Fin 256) (l : Fin 512) : (iblk m c 0 t : S256x512.Idx → EReal) (ix2 r l) = kProj m c (row (grp t) r) (colAt 0 (by decide) l) := by
  obtain ⟨e0, e1⟩ := place0 t
  have := t_lt t
  refine Eq.trans ?_ (rfl : _ = kProj m c (row (grp t) r) (colAt 0 (by decide) l))
  unfold iblk
  rw [View.read_apply]
  show V m c main_arg0 _ = _
  rw [V_main_arg0]
  refine congrArg (m (c, Proc.devRef .tc main_arg0)) (funext fun a => Fin.ext ?_)
  fin_cases a
  · show win0_0.index t (0 : Fin 2) * 256 + 1 * r.val = 256 * (31 - t.val) + r.val; omega
  · show win0_0.index t (1 : Fin 2) * 512 + 1 * l.val = 512 * 0 + l.val; omega

theorem window1 (r : Fin 256) (l : Fin 512) : (iblk m c 1 t : S256x512.Idx → EReal) (ix2 r l) = kProj m c (row (grp t) r) (colAt 1 (by decide) l) := by
  obtain ⟨e0, e1⟩ := place1 t
  have := t_lt t
  refine Eq.trans ?_ (rfl : _ = kProj m c (row (grp t) r) (colAt 1 (by decide) l))
  unfold iblk
  rw [View.read_apply]
  show V m c main_arg0 _ = _
  rw [V_main_arg0]
  refine congrArg (m (c, Proc.devRef .tc main_arg0)) (funext fun a => Fin.ext ?_)
  fin_cases a
  · show win0_1.index t (0 : Fin 2) * 256 + 1 * r.val = 256 * (31 - t.val) + r.val; omega
  · show win0_1.index t (1 : Fin 2) * 512 + 1 * l.val = 512 * 1 + l.val; omega

theorem window2 (r : Fin 256) (l : Fin 512) : (iblk m c 2 t : S256x512.Idx → EReal) (ix2 r l) = kProj m c (row (grp t) r) (colAt 2 (by decide) l) := by
  obtain ⟨e0, e1⟩ := place2 t
  have := t_lt t
  refine Eq.trans ?_ (rfl : _ = kProj m c (row (grp t) r) (colAt 2 (by decide) l))
  unfold iblk
  rw [View.read_apply]
  show V m c main_arg0 _ = _
  rw [V_main_arg0]
  refine congrArg (m (c, Proc.devRef .tc main_arg0)) (funext fun a => Fin.ext ?_)
  fin_cases a
  · show win0_2.index t (0 : Fin 2) * 256 + 1 * r.val = 256 * (31 - t.val) + r.val; omega
  · show win0_2.index t (1 : Fin 2) * 512 + 1 * l.val = 512 * 2 + l.val; omega

theorem window3 (r : Fin 256) (l : Fin 512) : (iblk m c 3 t : S256x512.Idx → EReal) (ix2 r l) = kProj m c (row (grp t) r) (colAt 3 (by decide) l) := by
  obtain ⟨e0, e1⟩ := place3 t
  have := t_lt t
  refine Eq.trans ?_ (rfl : _ = kProj m c (row (grp t) r) (colAt 3 (by decide) l))
  unfold iblk
  rw [View.read_apply]
  show V m c main_arg0 _ = _
  rw [V_main_arg0]
  refine congrArg (m (c, Proc.devRef .tc main_arg0)) (funext fun a => Fin.ext ?_)
  fin_cases a
  · show win0_3.index t (0 : Fin 2) * 256 + 1 * r.val = 256 * (31 - t.val) + r.val; omega
  · show win0_3.index t (1 : Fin 2) * 512 + 1 * l.val = 512 * 3 + l.val; omega

theorem window12 (r : Fin 256) (l : Fin 512) : (iblk m c 12 t : S256x512.Idx → EReal) (ix2 r l) = kDmix m c (row (grp t) r) (mixAt l) := by
  obtain ⟨e0, e1⟩ := place12 t
  have := t_lt t
  refine Eq.trans ?_ (rfl : _ = kDmix m c (row (grp t) r) (mixAt l))
  unfold iblk
  rw [View.read_apply]
  show V m c main_arg2 _ = _
  rw [V_main_arg2]
  refine congrArg (m (c, Proc.devRef .tc main_arg2)) (funext fun a => Fin.ext ?_)
  fin_cases a
  · show win0_12.index t (0 : Fin 2) * 256 + 1 * r.val = 256 * (31 - t.val) + r.val; omega
  · show win0_12.index t (1 : Fin 2) * 512 + 1 * l.val = 1536 + l.val; omega

theorem window4 (r : Fin 256) (d : Fin 128) : (iblk m c 4 t : S256x128.Idx → EReal) (ix2 r d) = cosTable (row (grp t) r) d := by
  obtain ⟨e0, e1⟩ := place4 t
  have := t_lt t
  refine Eq.trans ?_ (host_cos m c (row (grp t) r) d)
  unfold iblk
  rw [View.read_apply]
  show V m c main_v65 _ = _
  refine congrArg (V m c main_v65) (funext fun a => Fin.ext ?_)
  fin_cases a
  · show win0_4.index t (0 : Fin 2) * 256 + 1 * r.val = 256 * (31 - t.val) + r.val; omega
  · show win0_4.index t (1 : Fin 2) * 128 + 1 * d.val = d.val; omega

theorem window5 (r : Fin 256) (d : Fin 128) : (iblk m c 5 t : S256x128.Idx → EReal) (ix2 r d) = sinTable (row (grp t) r) d := by
  obtain ⟨e0, e1⟩ := place5 t
  have := t_lt t
  refine Eq.trans ?_ (host_sin m c (row (grp t) r) d)
  unfold iblk
  rw [View.read_apply]
  show V m c main_v67 _ = _
  refine congrArg (V m c main_v67) (funext fun a => Fin.ext ?_)
  fin_cases a
  · show win0_5.index t (0 : Fin 2) * 256 + 1 * r.val = 256 * (31 - t.val) + r.val; omega
  · show win0_5.index t (1 : Fin 2) * 128 + 1 * d.val = d.val; omega

theorem window6 (h : Fin 4) (i j : Fin 64) : (iblk m c 6 t : S4x64x64.Idx → EReal) (ix3 h i j) = dmat h i j := by
  obtain ⟨e0, e1, e2⟩ := place6 t
  have := t_lt t
  refine Eq.trans ?_ (host_dm m c h i j)
  unfold iblk
  rw [View.read_apply]
  show V m c main_v25 _ = _
  refine congrArg (V m c main_v25) (funext fun a => Fin.ext ?_)
  fin_cases a
  · show win0_6.index t (0 : Fin 3) * 4 + 1 * h.val = h.val; omega
  · show win0_6.index t (1 : Fin 3) * 64 + 1 * i.val = i.val; omega
  · show win0_6.index t (2 : Fin 3) * 64 + 1 * j.val = j.val; omega

theorem window7 (h : Fin 4) (i : Fin 64) : (iblk m c 7 t : S4x64x1.Idx → EReal) (ix3 h i 0) = qdec h i := by
  obtain ⟨e0, e1, e2⟩ := place7 t
  have := t_lt t
  refine Eq.trans ?_ (host_qd m c h i)
  unfold iblk
  rw [View.read_apply]
  show V m c main_v35 _ = _
  refine congrArg (V m c main_v35) (funext fun a => Fin.ext ?_)
  fin_cases a
  · show win0_7.index t (0 : Fin 3) * 4 + 1 * h.val = h.val; omega
  · show win0_7.index t (1 : Fin 3) * 64 + 1 * i.val = i.val; omega
  · show win0_7.index t (2 : Fin 3) * 1 + 1 * 0 = 0; omega

theorem window8 (h : Fin 4) (i : Fin 64) : (iblk m c 8 t : S4x64x1.Idx → EReal) (ix3 h i 0) = kdec h i := by
  obtain ⟨e0, e1, e2⟩ := place8 t
  have := t_lt t
  refine Eq.trans ?_ (host_kd m c h i)
  unfold iblk
  rw [View.read_apply]
  show V m c main_v45 _ = _
  refine congrArg (V m c main_v45) (funext fun a => Fin.ext ?_)
  fin_cases a
  · show win0_8.index t (0 : Fin 3) * 4 + 1 * h.val = h.val; omega
  · show win0_8.index t (1 : Fin 3) * 64 + 1 * i.val = i.val; omega
  · show win0_8.index t (2 : Fin 3) * 1 + 1 * 0 = 0; omega

theorem window9 (h : Fin 4) : (iblk m c 9 t : S4x1x1.Idx → EReal) (ix3 h 0 0) = cdec h := by
  obtain ⟨e0, e1, e2⟩ := place9 t
  have := t_lt t
  refine Eq.trans ?_ (host_cd m c h)
  unfold iblk
  rw [View.read_apply]
  show V m c main_v49 _ = _
  refine congrArg (V m c main_v49) (funext fun a => Fin.ext ?_)
  fin_cases a
  · show win0_9.index t (0 : Fin 3) * 4 + 1 * h.val = h.val; omega
  · show win0_9.index t (1 : Fin 3) * 1 + 1 * 0 = 0; omega
  · show win0_9.index t (2 : Fin 3) * 1 + 1 * 0 = 0; omega

theorem window10 (d : Fin 128) : (iblk m c 10 t : S1x128.Idx → EReal) (ix2 0 d) = kWeight m c d := by
  obtain ⟨e0, e1⟩ := place10 t
  have := t_lt t
  refine Eq.trans ?_ (host_nw m c d)
  unfold iblk
  rw [View.read_apply]
  show V m c main_v68 _ = _
  refine congrArg (V m c main_v68) (funext fun a => Fin.ext ?_)
  fin_cases a
  · show win0_10.index t (0 : Fin 2) * 1 + 1 * 0 = 0; omega
  · show win0_10.index t (1 : Fin 2) * 128 + 1 * d.val = d.val; omega

theorem window11 (h : Fin 4) (d e : Fin 128) : (iblk m c 11 t : S4x1x128x128.Idx → EReal) (ix4 h 0 d e) = R (kChunks m c h) (4 * (grp t).val) d e := by
  obtain ⟨e0, e1, e2, e3⟩ := place11 t
  have := t_lt t
  refine Eq.trans ?_ (host_state m c h (grp t) d e)
  unfold iblk
  rw [View.read_apply]
  show V m c main_v263 _ = _
  refine congrArg (V m c main_v263) (funext fun a => Fin.ext ?_)
  fin_cases a
  · show win0_11.index t (0 : Fin 4) * 4 + 1 * h.val = h.val; omega
  · show win0_11.index t (1 : Fin 4) * 1 + 1 * 0 = 31 - t.val; omega
  · show win0_11.index t (2 : Fin 4) * 128 + 1 * d.val = d.val; omega
  · show win0_11.index t (3 : Fin 4) * 128 + 1 * e.val = e.val; omega

/-- The blocks of point `t` hold the rows of its group. -/
theorem blocks_hold : BlocksHold (kProj m c) (kDmix m c) (kWeight m c) (grp t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  q := window0 m c t
  k := window1 m c t
  v := window2 m c t
  gate := window3 m c t
  co := window4 m c t
  si := window5 m c t
  dm := window6 m c t
  qd := window7 m c t
  kd := window8 m c t
  cd := window9 m c t
  nw := window10 m c t
  st := window11 m c t
  mix := window12 m c t

end Cert.Ret

end
-- ==== Proof.RetOuts.lean ====
/- What the grid leaves, point after point: the carried gradient of the state, the weight's row, and the output's blocks. -/
module

public import proofs.«01_k».proof.Proof.RetPieces
public import proofs.«01_k».proof.Proof.RetWindows
public import Idealize.ShloMosaic.Lib.VecWindow

@[expose] public section

noncomputable section

namespace Cert.Ret

open Idealize.ShloMosaic Idealize.ShloMosaic.TcCoe Idealize.ShloMosaic.StableHlo Cert.KernelIdeal Cert.KernelIdeal.Facts₀
open Cert.KernelIdeal.Gen (V iblk outsAt0 outsAt0_A outsAt0_B N_0 k0_pay3 k0_pay4 scM0_0 out0_A_13 out0_A_14 out0_B_13 out0_B_14 sout0_A_0 sout0_B_0
  ms0_0 hs0_0 ms0_1 hs0_1 ms0_2 hs0_2 ms0_3 hs0_3 ms0_4 hs0_4 ms0_5 hs0_5 ms0_6 hs0_6 ms0_7 hs0_7 ms0_8 hs0_8 ms0_9 hs0_9 ms0_10 hs0_10 ms0_11 hs0_11 ms0_12 hs0_12 ms0_13 hs0_13 ms0_14 hs0_14)
open scoped BigOperators

variable (m : (ℓ : Loc nD τ sig) → Buf (Elt Ideal) ℓ) (c : Dev nD)

/-- The tiles of point `t`. -/
abbrev tilesAt (t : Fin cfg0.N) (dr : ℕ → Vec Ideal S1x128x128 .f32) : Tiles Ideal :=
  pointTiles (ms0_0 t) (hs0_0 t) (iblk m c 0 t) (ms0_1 t) (hs0_1 t) (iblk m c 1 t) (ms0_2 t) (hs0_2 t) (iblk m c 2 t) (ms0_3 t) (hs0_3 t) (iblk m c 3 t) (ms0_4 t) (hs0_4 t) (iblk m c 4 t) (ms0_5 t) (hs0_5 t) (iblk m c 5 t) (ms0_6 t) (hs0_6 t) (iblk m c 6 t) (ms0_7 t) (hs0_7 t) (iblk m c 7 t) (ms0_8 t) (hs0_8 t) (iblk m c 8 t) (ms0_9 t) (hs0_9 t) (iblk m c 9 t) (ms0_10 t) (hs0_10 t) (iblk m c 10 t) (ms0_11 t) (hs0_11 t) (iblk m c 11 t) (ms0_12 t) (hs0_12 t) (iblk m c 12 t) dr

theorem tilesAt_hold (t : Fin cfg0.N) (dr : ℕ → Vec Ideal S1x128x128 .f32) :
    Holds (kProj m c) (kDmix m c) (kWeight m c) (grp t).val (tilesAt m c t dr) :=
  pointTiles_hold _ _ _ (grp t) _ _ _ _ _ _ _ _ _ _ _ _ _ _ _ _ _ _ _ _ _ _ _ _ _ _ _ _ _ _ _ _ _ _ _ _ _ _ _ dr (blocks_hold m c t)

theorem tilesAt_carries (t : Fin cfg0.N) (dr : ℕ → Vec Ideal S1x128x128 .f32)
    (hd : ∀ (h : Fin 4) (d e : Fin 128), dr h (ix3 0 d e) = E (kChunks m c h) (4 * t.val) d e) :
    Carries (kProj m c) (kDmix m c) (kWeight m c) (grp t).val (tilesAt m c t dr) := fun h d e => by
  have e4 : 124 - 4 * (grp t).val = 4 * t.val := by show 124 - 4 * (31 - t.val) = 4 * t.val; have := t_lt t; omega
  rw [e4, ← hd h d e]
  show shapeCast S128x128 (shapeCast S128x128 (dr h) shapeCasts_S1x128x128_S128x128) shapeCasts_S128x128_S128x128 (ix2 d e) = _
  generalize dr h = u
  pointwise

theorem grp_lt (t : Fin cfg0.N) : (grp t).val < 32 := (grp t).isLt

/-- The first point starts from nothing. -/
theorem first_carries (t : Fin cfg0.N) (ht : t.val = 0) (v : View sig .tc .vmem S4x128x128 .f32) :
    Carries (kProj m c) (kDmix m c) (kWeight m c) (grp t).val (tilesAt m c t fun h =>
      v.readCov [⟨Rect.unit (s := S4x128x128) ![0, 0, 0] S4x128x128.size inb_S4x128x128_S4x128x128_0_0_0, k0_pay3 (F := Ideal)⟩] (carryRect h).toLoadRect) :=
  tilesAt_carries m c t _ fun h d e => by rw [ht]; exact carry_zero v h d e

/-- The carried gradient after point `n`. -/
theorem carried : ∀ (n : ℕ) (hn : n < cfg0.N) (h : Fin 4) (d e : Fin 128),
    ((outsAt0 m c n hn).2.2 : S4x128x128.Idx → EReal) (ix3 h d e) = E (kChunks m c h) (4 * (n + 1)) d e
  | 0, hn, h, d, e => by
    rw [outsAt0_A m c ⟨0, hn⟩ rfl]
    dsimp only
    unfold sout0_A_0
    rw [carry_A, writes_after]
    exact carry_read (tilesAt_hold m c ⟨0, hn⟩ _) (grp_lt _) (first_carries m c ⟨0, hn⟩ rfl _) _ _ h d e
  | n + 1, hn, h, d, e => by
    have hN := lt_of_lt_of_eq hn (show cfg0.N = 32 from N_0)
    rw [outsAt0_B m c ⟨n + 1, hn⟩ (by show ¬(n + 1) % 32 = 0; omega)]
    dsimp only
    unfold sout0_B_0
    rw [carry_B]
    refine (carry_read (tilesAt_hold m c ⟨n + 1, hn⟩ _) (grp_lt _) (tilesAt_carries m c ⟨n + 1, hn⟩ _ fun h d e => ?_) _ _ h d e).trans ?_
    · rw [carry_load]
      exact carried n (Nat.lt_of_succ_lt hn) h d e
    · have e4 : 124 - 4 * (grp ⟨n + 1, hn⟩).val + 4 = 4 * (n + 1 + 1) := by show 124 - 4 * (31 - (n + 1)) + 4 = _; omega
      rw [e4]

/-- The weight's row after point `n`. -/
theorem row_after : ∀ (n : ℕ) (hn : n < cfg0.N) (d : Fin 128),
    ((outsAt0 m c n hn).2.1 : S1x128.Idx → EReal) (ix2 0 d) = ∑ k ∈ Finset.range (n + 1), groupW (kProj m c) (kDmix m c) (kWeight m c) (31 - k) d
  | 0, hn, d => by
    rw [outsAt0_A m c ⟨0, hn⟩ rfl]
    dsimp only
    unfold out0_A_14
    rw [row_A, row_written]
    refine (rowAfter_at (tilesAt_hold m c ⟨0, hn⟩ _) _ d).trans ?_
    rw [View.readCov_full, Finset.sum_range_one]
    refine Eq.trans (congrArg (· + _) (?_ : (k0_pay4 (F := Ideal) (ix2 0 d) : EReal) = 0)) (zero_add _)
    exact Ideal.ofBits_zero_f32
  | n + 1, hn, d => by
    have hN := lt_of_lt_of_eq hn (show cfg0.N = 32 from N_0)
    rw [outsAt0_B m c ⟨n + 1, hn⟩ (by show ¬(n + 1) % 32 = 0; omega)]
    dsimp only
    unfold out0_B_14
    rw [row_B, row_written]
    refine (rowAfter_at (tilesAt_hold m c ⟨n + 1, hn⟩ _) _ d).trans ?_
    rw [Finset.sum_range_succ, ← row_after n (Nat.lt_of_succ_lt hn) d]
    refine congrArg (· + _) ?_
    rw [View.readAt_eq_ld, Memref.IsWhole.read_unread]
    show (outsAt0 m c n _).2.1 (rowRect.emb (ix2 0 d)) = _
    rw [row_emb]

/-- The output's block at point `t`. -/
theorem block_out (t : Fin cfg0.N) (y : S256x2048.Idx) :
    ((outsAt0 m c t.val t.isLt).1 : S256x2048.Idx → EReal) y
      = outBlock (kProj m c) (kDmix m c) (kWeight m c) (grp t).val (y 0).val (y 1).val := by
  have hN := t_lt t
  by_cases h0 : t.val % 32 = 0
  · rw [outsAt0_A m c t h0]
    dsimp only
    unfold out0_A_13
    rw [out_A]
    exact out_read (tilesAt_hold m c t _) (grp_lt t) (first_carries m c t (by omega) _) _ _ y
  · rw [outsAt0_B m c t h0]
    dsimp only
    unfold out0_B_13
    rw [out_B]
    refine out_read (tilesAt_hold m c t _) (grp_lt t) (tilesAt_carries m c t _ fun h d e => ?_) _ _ y
    rw [carry_load, carried]
    congr 1
    omega

end Cert.Ret

end
-- ==== Proof.RetFinal.lean ====
/- The two arrays that the kernel leaves: the gradient of the projections, and the gradient of the norm's weight. -/
module

public import proofs.«01_k».proof.Proof.RetOuts

@[expose] public section

noncomputable section

namespace Cert.Ret

open Idealize.ShloMosaic Idealize.ShloMosaic.TcCoe Idealize.ShloMosaic.StableHlo Cert.KernelIdeal
open Cert.KernelIdeal.Gen (V outsAt0 dats N_0 hostOps0 hostOps0_1 hostOps0_2)
open scoped BigOperators

theorem place13 : ∀ t : Fin cfg0.N, win0_13.index t (0 : Fin 2) = 31 - t.val ∧ win0_13.index t (1 : Fin 2) = 0 :=
  (by decide +kernel : ∀ t : Fin grid0.N, _)
theorem size13 : ∀ t : Fin cfg0.N, (win0_13.xblock (grid0.coords t)).size (0 : Fin 2) = 256 ∧ (win0_13.xblock (grid0.coords t)).size (1 : Fin 2) = 2048 :=
  (by decide +kernel : ∀ t : Fin grid0.N, _)
theorem flush13 : ∀ t : Fin cfg0.N, (cfg0.win 13).flush t = true := (by decide +kernel : ∀ t : Fin grid0.N, _)
theorem place14 : ∀ t : Fin cfg0.N, win0_14.index t (0 : Fin 2) = 0 ∧ win0_14.index t (1 : Fin 2) = 0 :=
  (by decide +kernel : ∀ t : Fin grid0.N, _)
theorem flush14 : ∀ t : Fin cfg0.N, (cfg0.win 14).flush t = true ↔ t.val = 31 := (by decide +kernel : ∀ t : Fin grid0.N, _)

variable (m : (ℓ : Loc nD τ sig) → Buf (Elt Ideal) ℓ) (c : Dev nD)

theorem mem_rect13 (t : Fin cfg0.N) (i : S8192x7168.Idx) :
    i ∈ ((cfg0.win 13).blk t).view.set ↔ ∀ a : Fin 2, win0_13.index t a * S256x2048.size a ≤ (i a).val
      ∧ (i a).val < win0_13.index t a * S256x2048.size a + (win0_13.xblock (grid0.coords t)).size a := by
  show i ∈ ((View.whole main_v264_0).slice (win0_13.rect t)).set ↔ _
  rw [View.set_slice_whole, Rect.mem_set_unit]
  exact Iff.rfl

theorem mem_blk13 (t : Fin cfg0.N) (i : S8192x7168.Idx) :
    i ∈ ((cfg0.win 13).blk t).view.set ↔ (31 - t.val) * 256 ≤ (i 0).val ∧ (i 0).val < (31 - t.val) * 256 + 256 ∧ (i 1).val < 2048 := by
  rw [mem_rect13, Fin.forall_fin_two, (place13 t).1, (place13 t).2, (size13 t).1, (size13 t).2]
  show ((31 - t.val) * 256 ≤ (i 0).val ∧ (i 0).val < (31 - t.val) * 256 + 256) ∧ 0 * 2048 ≤ (i 1).val ∧ (i 1).val < 0 * 2048 + 2048 ↔ _
  omega

/-- The gradient of the projections at token `r` and column `l`: the columns of the other layers' lanes are as given. -/
def gradCols (r l : ℕ) : EReal :=
  outAt (kProj m c) (kDmix m c) (kWeight m c) (l / 512) ⟨l % 512 / 128, by omega⟩ (r / 64) ⟨r % 64, Nat.mod_lt _ (by decide)⟩
    ⟨l % 128, Nat.mod_lt _ (by decide)⟩

theorem cols_out (i : S8192x7168.Idx) (hi : (i 1).val < 2048) :
    ((dats (F := Ideal) m 0 c).arrAt 13 cfg0.N : S8192x7168.Idx → EReal) i = gradCols m c (i 0).val (i 1).val := by
  have h0 : (i 0).val < 8192 := (i 0).isLt
  let t : Fin cfg0.N := ⟨31 - (i 0).val / 256, lt_of_le_of_lt (Nat.sub_le _ _) (by rw [show cfg0.N = 32 from N_0]; decide)⟩
  have ht : t.val = 31 - (i 0).val / 256 := rfl
  have hmem : i ∈ ((cfg0.win 13).blk t).view.set := (mem_blk13 t i).2 ⟨by omega, by omega, hi⟩
  obtain ⟨y, -, hy⟩ := Finset.mem_map.1 hmem
  have hb := congrFun (Cert.KernelIdeal.Value.blocks13 (F := Ideal) m c t (flush13 t)) y
  rw [View.read_apply, hy, Cert.KernelIdeal.Value.flushed13] at hb
  refine (cast_eq _ _).symm.trans (hb.trans ?_)
  show ((outsAt0 m c t.val t.isLt).1 : S256x2048.Idx → EReal) ((cfg0.win 13).xinj (grid0.coords t) y) = _
  rw [block_out]
  obtain ⟨e0, e1⟩ := place13 t
  have v0 : (i 0).val = win0_13.index t (0 : Fin 2) * 256 + 1 * (y 0).val := by rw [← hy]; rfl
  have v1 : (i 1).val = win0_13.index t (1 : Fin 2) * 2048 + 1 * (y 1).val := by rw [← hy]; rfl
  have y0 : (y 0).val < 256 := lt_of_lt_of_eq (y 0).isLt (size13 t).1
  rw [e0] at v0
  rw [e1] at v1
  show outBlock _ _ _ (31 - t.val) (y 0).val (y 1).val = _
  have a1 : (y 1).val = (i 1).val := by omega
  have a2 : 4 * (31 - t.val) + (y 0).val / 64 = (i 0).val / 64 := by omega
  have a3 : (y 0).val % 64 = (i 0).val % 64 := by omega
  simp only [outBlock, gradCols, a1, a2, a3]

set_option maxRecDepth 100000 in
theorem cols_kept (i : S8192x7168.Idx) (hi : ¬(i 1).val < 2048) :
    ((dats (F := Ideal) m 0 c).arrAt 13 cfg0.N : S8192x7168.Idx → EReal) i = (m (c, Proc.devRef .tc main_arg3) : S8192x7168.Idx → EReal) i := by
  rw [Cert.KernelIdeal.Value.entry13 (F := Ideal) m c i fun t _ h => hi ((mem_blk13 t i).1 h).2.2]
  show V m c main_v264_0 i = _
  simp only [V, hostOps0, hostOps0_1, hostOps0_2, List.flatten_cons, List.flatten_nil, List.append_nil, List.cons_append, List.nil_append]
  after_reads_simp
  rfl

/-- Sums over the groups' chunks are sums over the chunks. -/
theorem sum_groups (f : ℕ → EReal) : ∀ G, ∑ g ∈ Finset.range G, ∑ j ∈ Finset.range 4, f (4 * g + j) = ∑ n ∈ Finset.range (4 * G), f n
  | 0 => rfl
  | G + 1 => by rw [Finset.sum_range_succ, sum_groups f G, Nat.mul_succ, Finset.sum_range_add]

/-- The gradient of the norm's weight. -/
def gradRow : Buf (Elt Ideal) ((c : Thread nD τ).loc main_v264_1) := fun i : S1x128.Idx =>
  (outW (kProj m c) (kDmix m c) (kWeight m c) (i 1) : EReal)

theorem row_final (d : Fin 128) (hn : 31 < cfg0.N) :
    ((outsAt0 m c 31 hn).2.1 : S1x128.Idx → EReal) (ix2 0 d) = outW (kProj m c) (kDmix m c) (kWeight m c) d := by
  rw [row_after]
  refine Eq.trans (Finset.sum_range_reflect (fun g => groupW (kProj m c) (kDmix m c) (kWeight m c) g d) 32) ?_
  refine Eq.trans (sum_groups (fun n => ∑ h : Fin 4, (kChunks m c h n).dnw (stateAt (kProj m c) (kDmix m c) (kWeight m c) h n) d) 32) ?_
  rw [Finset.sum_range]
  rfl

theorem flushed_row (t : Fin cfg0.N) (hf : (cfg0.win 14).flush t = true) :
    (dats (F := Ideal) m 0 c).flushed 14 t = ((cfg0.win 14).blk t).view.read (Elt Ideal) (gradRow m c) := by
  obtain ⟨e0, e1⟩ := place14 t
  have ht := (flush14 t).1 hf
  obtain ⟨n, hn⟩ := t
  obtain rfl : n = 31 := ht
  rw [Cert.KernelIdeal.Value.flushed14]
  funext y
  obtain ⟨u, d, rfl⟩ : ∃ (u : Fin 1) (d : Fin 128), y = (ix2 u d : S1x128.Idx) := ⟨y 0, y 1, by funext a; fin_cases a <;> rfl⟩
  obtain rfl : u = 0 := Subsingleton.elim _ _
  rw [View.read_apply]
  refine Eq.trans ?_ (cast_eq _ (gradRow m c _)).symm
  refine Eq.trans (row_final m c d _) ?_
  unfold gradRow
  congr 1
  apply Fin.ext
  show d.val = win0_14.index _ (1 : Fin 2) * 128 + 1 * d.val
  rw [e1]
  omega

theorem row_out : (dats (F := Ideal) m 0 c).arrAt 14 cfg0.N = gradRow m c := by
  refine (dats (F := Ideal) m 0 c).arrAt_eq_of_cover 14 _ (flushed_row m c) fun i => ?_
  have hN : 31 < cfg0.N := by rw [show cfg0.N = 32 from N_0]; decide
  refine ⟨⟨31, hN⟩, (flush14 _).2 rfl, ?_⟩
  obtain ⟨e0, e1⟩ := place14 ⟨31, hN⟩
  show i ∈ ((View.whole main_v264_1).slice (win0_14.rect ⟨31, hN⟩)).set
  rw [View.set_slice_whole, Rect.mem_set_unit]
  intro a
  have hi := (i a).isLt
  fin_cases a
  · show win0_14.index ⟨31, hN⟩ (0 : Fin 2) * 1 ≤ (i 0).val ∧ (i 0).val < win0_14.index ⟨31, hN⟩ (0 : Fin 2) * 1 + 1
    change (i 0).val < 1 at hi
    rw [e0]; omega
  · show win0_14.index ⟨31, hN⟩ (1 : Fin 2) * 128 ≤ (i 1).val ∧ (i 1).val < win0_14.index ⟨31, hN⟩ (1 : Fin 2) * 128 + 128
    change (i 1).val < 128 at hi
    rw [e1]; omega

end Cert.Ret

end
-- ==== Proof.RefOps.lean ====
/- The operations of the reference, read off its program: each definition below holds a list of operations together
   with the statement that the program's text is that list, the list being found from the text. -/
module

public import proofs.«01_k».proof.Proof.Gen.ReferenceIdeal
public import Idealize.ShloMosaic.Lib.StableHlo.RunLoop

@[expose] public section

namespace Cert.Ret

open Idealize.ShloMosaic Idealize.ShloMosaic.TcCoe
open Idealize.SL.Sem
open Idealize.ShloMosaic.StableHlo

section Rules

variable {nD : Nat} {τ : Topo} {sig : RefSig} {F : FTy → Type} {Λ : Labels}

/-- Every operation touches the core's references only and allocates none. -/
def Tame (ops : List (HloOp τ sig (Elt F))) : Prop := ∀ op ∈ ops, op.bufs ⊆ tcRefs τ sig ∧ op.fresh = ∅

theorem Tame.cons {op : HloOp τ sig (Elt F)} {ops} (hb : op.bufs ⊆ tcRefs τ sig) (hf : op.fresh = ∅) (h : Tame ops) :
    Tame (op :: ops) := fun o ho => by
  rcases List.mem_cons.mp ho with rfl | ho
  · exact ⟨hb, hf⟩
  · exact h o ho

theorem Tame.append {a b : List (HloOp τ sig (Elt F))} (ha : Tame a) (hb : Tame b) : Tame (a ++ b) := fun o ho =>
  (List.mem_append.mp ho).elim (ha o) (hb o)

/-- The program `p` is the straight line `ops`. -/
def Runs (p : Prog (TpuEff nD τ sig (Elt F) Λ .tc) PUnit) (ops : List (HloOp τ sig (Elt F))) : Prop :=
  p = seq ops ∧ Tame ops

theorem Runs.step {op : HloOp τ sig (Elt F)} {k : PUnit → Prog (TpuEff nD τ sig (Elt F) Λ .tc) PUnit} {ops}
    (hb : op.bufs ⊆ tcRefs τ sig) (hf : op.fresh = ∅) (h : Runs (k ⟨⟩) ops) :
    Runs ((hlo rfl op fun _ => .ret (⟨⟩ : PUnit)) >>= k) (op :: ops) :=
  ⟨by rw [seq, ← h.1], h.2.cons hb hf⟩

theorem Runs.last {op : HloOp τ sig (Elt F)} (hb : op.bufs ⊆ tcRefs τ sig) (hf : op.fresh = ∅) :
    Runs (nD := nD) (Λ := Λ) (hlo rfl op fun _ => .ret (⟨⟩ : PUnit)) [op] :=
  ⟨by simp only [seq]; exact (bind_pure _).symm, Tame.cons hb hf fun _ h => nomatch h⟩

theorem Runs.done : Runs (nD := nD) (τ := τ) (sig := sig) (F := F) (Λ := Λ) (pure ⟨⟩) [] := ⟨rfl, fun _ h => nomatch h⟩

theorem Runs.call {p : Prog (TpuEff nD τ sig (Elt F) Λ .tc) PUnit} {k : PUnit → Prog (TpuEff nD τ sig (Elt F) Λ .tc) PUnit}
    {a b} (h : Runs p a) (h' : Runs (k ⟨⟩) b) : Runs (p >>= k) (a ++ b) :=
  ⟨by rw [seq_append, ← h.1, ← h'.1], h.2.append h'.2⟩

/-- The program `p` is the line `a`, then what `q` does, then the line `b`. -/
def Around (q p : Prog (TpuEff nD τ sig (Elt F) Λ .tc) PUnit) (a b : List (HloOp τ sig (Elt F))) : Prop :=
  p = (seq a >>= fun _ => q >>= fun _ => seq b) ∧ Tame a ∧ Tame b

theorem Around.step {q} {op : HloOp τ sig (Elt F)} {k : PUnit → Prog (TpuEff nD τ sig (Elt F) Λ .tc) PUnit} {a b}
    (hb : op.bufs ⊆ tcRefs τ sig) (hf : op.fresh = ∅) (h : Around q (k ⟨⟩) a b) :
    Around q ((hlo rfl op fun _ => .ret (⟨⟩ : PUnit)) >>= k) (op :: a) b :=
  ⟨by simp only [seq, bind_assoc]; rw [← h.1], h.2.1.cons hb hf, h.2.2⟩

theorem Around.enter {q} {k : PUnit → Prog (TpuEff nD τ sig (Elt F) Λ .tc) PUnit} {b} (h : Runs (k ⟨⟩) b) :
    Around q (q >>= k) [] b :=
  ⟨by simp only [seq, pure_bind]; rw [← h.1], (fun _ h => nomatch h : Tame []), h.2⟩

end Rules

open Cert.ReferenceIdeal Cert.ReferenceIdeal.Gen

variable {F : FTy → Type} [FloatOps F]

/-! ## The called functions -/

/-- The operations of one call of `fn_where`. -/
def whereOps (a0 a1 a2 φ) : Σ' ops : List (HloOp τ sig (Elt F)), Runs (fn_where.body (F := F) a0 a1 a2 φ) ops := by
  apply PSigma.mk
  unfold fn_where.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_index_in_dim`. -/
def pickOps (a0 a1 φ) : Σ' ops : List (HloOp τ sig (Elt F)), Runs (fn_dynamic_index_in_dim.body (F := F) a0 a1 φ) ops := by
  apply PSigma.mk
  unfold fn_dynamic_index_in_dim.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_index_in_dim_3`. -/
def pickSOps (a0 a1 φ) : Σ' ops : List (HloOp τ sig (Elt F)), Runs (fn_dynamic_index_in_dim_3.body (F := F) a0 a1 φ) ops := by
  apply PSigma.mk
  unfold fn_dynamic_index_in_dim_3.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_index_in_dim_4`. -/
def pickROps (a0 a1 φ) : Σ' ops : List (HloOp τ sig (Elt F)), Runs (fn_dynamic_index_in_dim_4.body (F := F) a0 a1 φ) ops := by
  apply PSigma.mk
  unfold fn_dynamic_index_in_dim_4.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_update_index_in_dim`. -/
def putOps (a0 a1 a2 φ) : Σ' ops : List (HloOp τ sig (Elt F)), Runs (fn_dynamic_update_index_in_dim.body (F := F) a0 a1 a2 φ) ops := by
  apply PSigma.mk
  unfold fn_dynamic_update_index_in_dim.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_update_index_in_dim_0`. -/
def putSOps (a0 a1 a2 φ) : Σ' ops : List (HloOp τ sig (Elt F)), Runs (fn_dynamic_update_index_in_dim_0.body (F := F) a0 a1 a2 φ) ops := by
  apply PSigma.mk
  unfold fn_dynamic_update_index_in_dim_0.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_dynamic_update_index_in_dim_1`. -/
def putROps (a0 a1 a2 φ) : Σ' ops : List (HloOp τ sig (Elt F)), Runs (fn_dynamic_update_index_in_dim_1.body (F := F) a0 a1 a2 φ) ops := by
  apply PSigma.mk
  unfold fn_dynamic_update_index_in_dim_1.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_silu`. -/
def siluOps (a0 φ) : Σ' ops : List (HloOp τ sig (Elt F)), Runs (fn_silu.body (F := F) a0 φ) ops := by
  apply PSigma.mk
  unfold fn_silu.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-- The operations of one call of `fn_silu_2`. -/
def siluGradOps (a0 a1 a2 a3 φ) : Σ' ops : List (HloOp τ sig (Elt F)), Runs (fn_silu_2.body (F := F) a0 a1 a2 a3 φ) ops := by
  apply PSigma.mk
  unfold fn_silu_2.body
  repeat
    with_reducible apply Runs.step
    · with_reducible first
      | exact unary_bufs_sub ..
      | exact binary_bufs_sub ..
      | exact nullary_bufs_sub ..
      | exact reshape_bufs_sub ..
      | exact ternary_bufs_sub ..
      | exact unaryIndexed_bufs_sub ..
      | exact binaryIndexed_bufs_sub ..
    · rfl
  with_reducible exact Runs.done

/-! ## The stretches of the reference -/

/-- The first stretch of the reference. -/
def part0 : Σ' ops : List (HloOp τ sig (Elt F)), ∀ c, Runs (main_part0 (F := F) c) ops := by
  apply PSigma.mk
  intro c
  unfold main_part0
  repeat
    with_reducible apply Runs.step
    · simp only [unary_bufs_sub, binary_bufs_sub, nullary_bufs_sub, reshape_bufs_sub, ternary_bufs_sub, nary_bufs_sub]
    · rfl
  apply Runs.last
  · simp only [unary_bufs_sub, binary_bufs_sub, nullary_bufs_sub]
  · rfl

/-- The second stretch. -/
def part1 : Σ' ops : List (HloOp τ sig (Elt F)), ∀ c, Runs (main_part1 (F := F) c) ops := by
  apply PSigma.mk
  intro c
  unfold main_part1
  repeat
    first
      | with_reducible apply Runs.call (whereOps (F := F) _ _ _ _).2
      | with_reducible apply Runs.step
        · simp only [unary_bufs_sub, binary_bufs_sub, nullary_bufs_sub, reshape_bufs_sub, ternary_bufs_sub, nary_bufs_sub]
        · rfl
  apply Runs.last
  · simp only [unary_bufs_sub, binary_bufs_sub, nullary_bufs_sub]
  · rfl

/-- The fourth stretch, between the two loops. -/
def part3 : Σ' ops : List (HloOp τ sig (Elt F)), ∀ c, Runs (main_part3 (F := F) c) ops := by
  apply PSigma.mk
  intro c
  unfold main_part3
  repeat
    first
      | with_reducible apply Runs.call (siluOps (F := F) _ _).2
      | with_reducible apply Runs.call (siluGradOps (F := F) _ _ _ _ _).2
      | with_reducible apply Runs.step
        · simp only [unary_bufs_sub, binary_bufs_sub, nullary_bufs_sub, reshape_bufs_sub, ternary_bufs_sub, nary_bufs_sub]
        · rfl
  apply Runs.last
  · simp only [unary_bufs_sub, binary_bufs_sub, nullary_bufs_sub]
  · rfl

/-- The last stretch. -/
def part5 : Σ' ops : List (HloOp τ sig (Elt F)), ∀ c, Runs (main_part5 (F := F) c) ops := by
  apply PSigma.mk
  intro c
  unfold main_part5
  repeat
    with_reducible apply Runs.step
    · simp only [unary_bufs_sub, binary_bufs_sub, nullary_bufs_sub, reshape_bufs_sub, ternary_bufs_sub, nary_bufs_sub]
    · rfl
  with_reducible exact Runs.done

/-- The body of the first loop: one chunk of the forward recurrence. -/
def body0 : Σ' ops : List (HloOp τ sig (Elt F)), Runs (main_while0_body (F := F)) ops := by
  apply PSigma.mk
  unfold main_while0_body
  repeat
    first
      | with_reducible apply Runs.call (pickOps (F := F) _ _ _).2
      | with_reducible apply Runs.call (pickSOps (F := F) _ _ _).2
      | with_reducible apply Runs.call (pickROps (F := F) _ _ _).2
      | with_reducible apply Runs.call (putOps (F := F) _ _ _ _).2
      | with_reducible apply Runs.call (putSOps (F := F) _ _ _ _).2
      | with_reducible apply Runs.call (putROps (F := F) _ _ _ _).2
      | with_reducible apply Runs.step
        · simp only [unary_bufs_sub, binary_bufs_sub, nullary_bufs_sub, reshape_bufs_sub, ternary_bufs_sub, nary_bufs_sub]
        · rfl
  with_reducible exact Runs.done

/-- The body of the second loop: one chunk of the backward recurrence. -/
def body1 : Σ' ops : List (HloOp τ sig (Elt F)), Runs (main_while1_body (F := F)) ops := by
  apply PSigma.mk
  unfold main_while1_body
  repeat
    first
      | with_reducible apply Runs.call (pickOps (F := F) _ _ _).2
      | with_reducible apply Runs.call (pickSOps (F := F) _ _ _).2
      | with_reducible apply Runs.call (pickROps (F := F) _ _ _).2
      | with_reducible apply Runs.call (putOps (F := F) _ _ _ _).2
      | with_reducible apply Runs.call (putSOps (F := F) _ _ _ _).2
      | with_reducible apply Runs.call (putROps (F := F) _ _ _ _).2
      | with_reducible apply Runs.step
        · simp only [unary_bufs_sub, binary_bufs_sub, nullary_bufs_sub, reshape_bufs_sub, ternary_bufs_sub, nary_bufs_sub]
        · rfl
  with_reducible exact Runs.done

/-- The third stretch, which enters the first loop. -/
def part2 : Σ' a b : List (HloOp τ sig (Elt F)), ∀ c, Around (HostLoop.enter 0) (main_part2 (F := F) c) a b := by
  apply PSigma.mk
  apply PSigma.mk
  intro c
  unfold main_part2
  repeat
    with_reducible apply Around.step
    · simp only [unary_bufs_sub, binary_bufs_sub, nullary_bufs_sub, reshape_bufs_sub, ternary_bufs_sub, nary_bufs_sub]
    · rfl
  apply Around.enter
  repeat
    with_reducible apply Runs.step
    · simp only [unary_bufs_sub, binary_bufs_sub, nullary_bufs_sub, reshape_bufs_sub, ternary_bufs_sub, nary_bufs_sub]
    · rfl
  apply Runs.last
  · simp only [unary_bufs_sub, binary_bufs_sub, nullary_bufs_sub]
  · rfl

/-- The fifth stretch, which enters the second loop. -/
def part4 : Σ' a b : List (HloOp τ sig (Elt F)), ∀ c, Around (HostLoop.enter 1) (main_part4 (F := F) c) a b := by
  apply PSigma.mk
  apply PSigma.mk
  intro c
  unfold main_part4
  repeat
    with_reducible apply Around.step
    · simp only [unary_bufs_sub, binary_bufs_sub, nullary_bufs_sub, reshape_bufs_sub, ternary_bufs_sub, nary_bufs_sub]
    · rfl
  apply Around.enter
  repeat
    with_reducible apply Runs.step
    · simp only [unary_bufs_sub, binary_bufs_sub, nullary_bufs_sub, reshape_bufs_sub, ternary_bufs_sub, nary_bufs_sub]
    · rfl
  apply Runs.last
  · simp only [unary_bufs_sub, binary_bufs_sub, nullary_bufs_sub]
  · rfl

end Cert.Ret
-- ==== Proof.TwoLoops.lean ====
/- The run of a program of host operations with two counted loops, one after the other: stretches, a loop, stretches,
   a loop, stretches. The library states it for one loop; the second loop is one more segment whose entry contents are
   what the first loop and the stretches between have left. -/
module

public import Idealize.ShloMosaic.Lib.StableHlo.RunLoop

@[expose] public section

noncomputable section

namespace Cert.Ret

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held)

variable {nD : Nat} {τ : Topo} {sig : RefSig} {F : FTy → Type} {Λ₀ : Labels}

local notation "𝕄" => MT nD τ sig Unit (Elt F) ℕ (Option PUnit) ℕ

/-- One counted loop of the program: its label, condition and body with their operations, and its number of trips. -/
structure Loop (pcs : Fin 0 → PCfg sig Λ₀ (Elt F)) (nL : Nat)
    (loops : Fin nL → Prog (TpuEff nD τ sig (Elt F) (HostLoop.Sig (Pipeline.Sig Λ₀ (Fin 0) fun p => (pcs p).Adm) nL) .tc) PUnit) where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  plain : Plain bodyI
  hbody : body = Pipeline.chain (bodyI.map fun ops => (seq ops : Prog _ PUnit))
  n : ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev adm : (p : Fin 0) → (pcs p).Adm := fun p => p.elim0
abbrev tickets : Fin 0 → Ticket (Ix := Unit) (Name := ℕ) (U := Option PUnit) (Lvl := ℕ) (nD := nD) (τ := τ) pcs (adm pcs) :=
  fun j => j.elim0
abbrev noSignal : GSem nD τ sig → Finset Unit := fun _ => ∅
abbrev level : GSem nD τ sig → Unit → ℕ := fun _ _ => 0

theorem cells_injective :
    Function.Injective (Pipeline.cellOf (nD := nD) (τ := τ) (Pipeline.pin pcs (adm pcs))) := fun k => k.1.elim0

/-- What a core owes, carried unchanged beside its buffers. -/
abbrev Owed (c : Dev nD) : sProp 𝕄 := iprop(∃ W, owes (c : Thread nD τ) (0 : CellTallies nD τ sig Unit) W)

variable {pcs defs₀ loops}

/-- What the loop leaves of the contents `W` it is entered with. -/
abbrev Loop.leaves (s : Loop pcs nL loops) (W : Dev nD → Valuation τ sig (Elt F)) : Dev nD → Valuation τ sig (Elt F) :=
  fun c => after s.condOps (atTrip s.condOps s.bodyI W s.n c)

/-- The loop's condition, with what the core owes passed by. -/
theorem Loop.cond_owed (s : Loop pcs nL loops) {W : Dev nD → Valuation τ sig (Elt F)}
    (hc : CondSpec pcs defs₀ loops s.cond s.condOps s.bodyI W s.n) :
    LoopCond pcs defs₀ Variants.none loops Owed s.cond s.condOps s.bodyI W s.n := fun k hk c bd => by
  have hv : ∀ v : Elt F .i1,
      iprop(iprop(⌜v = 1#1 ↔ k < s.n⌝ ∗ boundary (c : Thread nD τ)
          ∗ held (c : Thread nD τ) (ucRefs τ sig) (after s.condOps (atTrip s.condOps s.bodyI W k c))) ∗ Owed c)
        ⊢ iprop(⌜v = 1#1 ↔ k < s.n⌝ ∗ boundary (c : Thread nD τ)
          ∗ held (c : Thread nD τ) (ucRefs τ sig) (after s.condOps (atTrip s.condOps s.bodyI W k c)) ∗ Owed c) := by
    intro v
    iintro ⟨⟨%h, Hb, Hh⟩, HR⟩
    isplitr
    · ipureintro; exact h
    isplitl [Hb]
    · iexact Hb
    isplitl [Hh] <;> iassumption
  refine BIBase.Entails.trans ?_ (((sep_mono_left (hc k hk c bd)).trans (wp_frame_r _ _ _)).trans (wp_mono _ _ _ hv))
  iintro ⟨Hb, Hh, HR⟩
  isplitl [Hb Hh]
  · isplitl [Hb] <;> iassumption
  iexact HR

/-- The loop as a segment entered with the contents `W`. -/
def Loop.seg (s : Loop pcs nL loops) (W : Dev nD → Valuation τ sig (Elt F))
    (hc : CondSpec pcs defs₀ loops s.cond s.condOps s.bodyI W s.n) :
    CSeg pcs (adm pcs) defs₀ Variants.none noSignal level loops (tickets pcs) :=
  loopSeg _ _ _ _ _ _ _ _ s.l s.cond s.body s.hloops s.condOps s.bodyI s.plain s.hbody s.n W Owed (s.cond_owed hc)

variable (s t : Loop pcs nL loops) (preI midI postI : List (List (HloOp τ sig (Elt F))))
  (m : (ℓ : Loc nD τ sig) → Buf (Elt F) ℓ)

/-- The contents when the second loop is entered. -/
abbrev between (c : Dev nD) : Valuation τ sig (Elt F) := afterL midI (s.leaves (entryContents preI m) c)

/-- The contents at the program's end. -/
abbrev atEnd (c : Dev nD) : Valuation τ sig (Elt F) := afterL postI (t.leaves (between s preI midI m) c)

variable {preI midI postI m} (hpre : Plain preI) (hmid : Plain midI) (hpost : Plain postI)
  (hs : CondSpec pcs defs₀ loops s.cond s.condOps s.bodyI (entryContents preI m) s.n)
  (ht : CondSpec pcs defs₀ loops t.cond t.condOps t.bodyI (between s preI midI m) t.n)

/-- The program's segments. -/
def segs : List (CSeg pcs (adm pcs) defs₀ Variants.none noSignal level loops (tickets pcs)) :=
  segsOf _ _ _ _ _ _ _ _ Owed preI hpre (launchContents m) ++ s.seg (entryContents preI m) hs
    :: (segsOf _ _ _ _ _ _ _ _ Owed midI hmid (s.leaves (entryContents preI m)) ++ t.seg (between s preI midI m) ht
      :: segsOf _ _ _ _ _ _ _ _ Owed postI hpost (t.leaves (between s preI midI m)))

theorem segs_prog : (segs s t hpre hmid hpost hs ht).map CSeg.prog
    = (preI.map fun ops => (seq ops : Prog _ PUnit)) ++ HostLoop.enter s.l
      :: ((midI.map fun ops => (seq ops : Prog _ PUnit)) ++ HostLoop.enter t.l :: postI.map fun ops => (seq ops : Prog _ PUnit)) := by
  unfold segs
  rw [List.map_append, List.map_cons, List.map_append, List.map_cons, segsOf_prog, segsOf_prog, segsOf_prog]
  rfl

theorem segs_chains : CSeg.Chains
    (fun c => iprop(held (c : Thread nD τ) (ucRefs τ sig) (launchContents m c) ∗ Owed c)) (segs s t hpre hmid hpost hs ht)
    (fun c => iprop(iprop(held (c : Thread nD τ) (ucRefs τ sig) (atEnd s t preI midI postI m c)) ∗ Owed c)) := by
  unfold segs
  exact CSeg.Chains.append (segsOf_chains _ _ _ _ _ _ _ _ Owed preI hpre _)
    ⟨fun _ => .rfl, CSeg.Chains.append (segsOf_chains _ _ _ _ _ _ _ _ Owed midI hmid _)
      ⟨fun _ => .rfl, segsOf_chains _ _ _ _ _ _ _ _ Owed postI hpost _⟩⟩

include hpre hmid hpost hs ht in
/-- Every run of the program ends, and each of its buffers then holds `atEnd`. -/
theorem run_two_loops [∀ e, Nonempty (Elt F e)]
    (main : Dev nD → Prog (TpuEff nD τ sig (Elt F) (HostLoop.Sig (Pipeline.Sig Λ₀ (Fin 0) fun p => (pcs p).Adm) nL) .tc) PUnit)
    (hmain : ∀ c, main c = Pipeline.chain ((preI.map fun ops => (seq ops : Prog _ PUnit)) ++ HostLoop.enter s.l
      :: ((midI.map fun ops => (seq ops : Prog _ PUnit)) ++ HostLoop.enter t.l :: postI.map fun ops => (seq ops : Prog _ PUnit))))
    (ρ : Dev nD → PrngReg) :
    θ_run (HostLoop.defs loops (Pipeline.defs pcs defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = atEnd s t preI midI postI m c (Proc.devRef .tc b)) :=
  Pipeline.θ_run_regions_loop_kit (Ix := Unit) (Name := ℕ) (U := Option PUnit) (Lvl := ℕ) (J := Fin 0) (P := Fin 0) (Val := Elt F)
    pcs (adm pcs) (cells_injective pcs) defs₀ Variants.none noSignal level loops (tickets pcs) m ρ main
    (segs s t hpre hmid hpost hs ht)
    (fun c Q => by
      rw [hmain c]
      show wp _ _ _ (Pipeline.chain ((segs s t hpre hmid hpost hs ht).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by
          rw [BI.bigSep_emp_const])
        iempintro)
    (T₀ := fun c => iprop(held (c : Thread nD τ) (ucRefs τ sig) (launchContents m c) ∗ Owed c))
    (Tₙ := fun c => iprop(held (c : Thread nD τ) (ucRefs τ sig) (atEnd s t preI midI postI m c)))
    (hch := segs_chains s t hpre hmid hpost hs ht)
    (hinit := by
      refine Pipeline.initEach noSignal level fun c => ?_
      rw [show unscopedBufs c (fun b => m ((c : Thread nD τ).loc b)) = held (c : Thread nD τ) (ucRefs τ sig) (launchContents m c) from
        unscopedBufs_held c (launchContents m c)]
      iintro ⟨⟨Hh, -, HO, -, -, -⟩, -⟩
      imodintro
      isplitl [Hh]; · iexact Hh
      iexists ∅; iexact HO)
    (QY := fun c s' => ∀ b ∈ ucRefs τ sig, s'.mem ((c : Dev nD), b) = atEnd s t preI midI postI m c b)
    (hfin := fun c s' => by
      unfold held
      iintro ⟨Hh, HSI⟩
      ihave Hr := (pointsTo_read_all (ucRefs τ sig) (fun b => ((c : Dev nD), b)) (fun b => atEnd s t preI midI postI m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Ret

end
-- ==== Proof.RefRun.lean ====
/- The run of the reference: its two loops run 128 times each, and every run ends with each buffer at `final`. -/
module

public import proofs.«01_k».proof.Proof.RefOps
public import proofs.«01_k».proof.Proof.TwoLoops
public import Idealize.ShloMosaic.Lib.StableHlo.RunRead
public import Idealize.ShloMosaic.Lib.Scf.ExitTest
public import Idealize.ShloMosaic.Lib.Scf.Counter

@[expose] public section

noncomputable section

namespace Cert.Ret

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-- The operations of the first loop's condition. -/
abbrev cond0 : List (HloOp τ sig (Elt F)) :=
  [StableHlo.nullary main_while0c_c_50 (constantI S_ 32 128#32),
   StableHlo.binary main_v130_7 main_while0c_c_50 main_while0c_v243 (cmpi .slt : (⟨S_, .i32⟩ : BufTy).Contents (Elt F) → (⟨S_, .i32⟩ : BufTy).Contents (Elt F) → (⟨S_, .i1⟩ : BufTy).Contents (Elt F))]

/-- The operations of the second loop's condition. -/
abbrev cond1 : List (HloOp τ sig (Elt F)) :=
  [StableHlo.nullary main_while1c_c_53 (constantI S_ 32 128#32),
   StableHlo.binary main_v188_11 main_while1c_c_53 main_while1c_v243 (cmpi .slt : (⟨S_, .i32⟩ : BufTy).Contents (Elt F) → (⟨S_, .i32⟩ : BufTy).Contents (Elt F) → (⟨S_, .i1⟩ : BufTy).Contents (Elt F))]

theorem Tame.plain {a : List (HloOp τ sig (Elt F))} (ha : Tame a) {l} (hl : Plain l) : Plain (a :: l) := fun o ho => by
  rcases List.mem_cons.mp ho with rfl | ho
  · exact ⟨fun op h => (ha op h).1, fun op h => (ha op h).2⟩
  · exact hl o ho

theorem Runs.body {p : Prog (TpuEff nD τ sig (Elt F) (HostLoop.Sig (Pipeline.Sig Λ₀ (Fin 0) fun p => (pcfgs (F := F) p).Adm) 2) .tc) PUnit}
    {a : List (HloOp τ sig (Elt F))} (h : Runs p a) : p = Pipeline.chain ([a].map fun ops => (seq ops : Prog _ PUnit)) := by
  rw [h.1]
  exact (bind_pure _).symm

/-- The first loop. -/
def loop0 : Loop (nD := nD) (τ := τ) (pcfgs (F := F)) 2 loops where
  l := 0
  cond := main_while0_cond
  body := main_while0_body
  hloops := rfl
  condOps := cond0
  bodyI := [body0.1]
  plain := body0.2.2.plain .nil
  hbody := body0.2.body
  n := 128

/-- The second loop. -/
def loop1 : Loop (nD := nD) (τ := τ) (pcfgs (F := F)) 2 loops where
  l := 1
  cond := main_while1_cond
  body := main_while1_body
  hloops := rfl
  condOps := cond1
  bodyI := [body1.1]
  plain := body1.2.2.plain .nil
  hbody := body1.2.body
  n := 128

/-- The stretches before the first loop, between the loops, and after the second. -/
abbrev preI : List (List (HloOp τ sig (Elt F))) := [part0.1, part1.1, part2.1]
abbrev midI : List (List (HloOp τ sig (Elt F))) := [part2.2.1, part3.1, part4.1]
abbrev postI : List (List (HloOp τ sig (Elt F))) := [part4.2.1, part5.1]

theorem main_eq (c : Dev nD) : main (F := F) c = Pipeline.chain ((preI.map fun ops => (seq ops : Prog _ PUnit)) ++ HostLoop.enter 0
    :: ((midI.map fun ops => (seq ops : Prog _ PUnit)) ++ HostLoop.enter 1 :: postI.map fun ops => (seq ops : Prog _ PUnit))) := by
  unfold main
  rw [(part0.2 c).1, (part1.2 c).1, (part2.2.2 c).1, (part3.2 c).1, (part4.2.2 c).1, (part5.2 c).1]
  simp only [List.map_cons, List.map_nil, List.cons_append, List.nil_append, Pipeline.chain_cons, Pipeline.chain_nil, bind_assoc]
  rw [show (seq part5.1 >>= fun _ => pure ⟨⟩ : Prog (TpuEff nD τ sig (Elt F) _ .tc) PUnit) = seq part5.1 from bind_pure _]

variable (m : (ℓ : Loc nD τ sig) → Buf (Elt F) ℓ)

/-- Where the first loop's `k`-th trip starts. -/
abbrev at0 (k : ℕ) (c : Dev nD) : Valuation τ sig (Elt F) := atTrip cond0 [body0.1] (entryContents preI m) k c

/-- The contents when the second loop is entered. -/
abbrev mid (c : Dev nD) : Valuation τ sig (Elt F) := between loop0 preI midI m c

/-- Where the second loop's `k`-th trip starts. -/
abbrev at1 (k : ℕ) (c : Dev nD) : Valuation τ sig (Elt F) := atTrip cond1 [body1.1] (mid m) k c

set_option maxRecDepth 100000 in
/-- One trip of the first loop leaves its counter one step on. -/
theorem count0_step (X : Valuation τ sig (Elt F)) :
    after body0.1 (after cond0 X) (Proc.devRef .tc main_v130_7) = addi (X (Proc.devRef .tc main_v130_7)) (constantI S_ 32 1#32) := by
  simp only [body0]
  after_reads_simp
  rfl

set_option maxRecDepth 100000 in
/-- One trip of the second loop leaves its counter one step on. -/
theorem count1_step (X : Valuation τ sig (Elt F)) :
    after body1.1 (after cond1 X) (Proc.devRef .tc main_v188_11) = addi (X (Proc.devRef .tc main_v188_11)) (constantI S_ 32 1#32) := by
  simp only [body1]
  after_reads_simp
  rfl

set_option maxRecDepth 100000 in
theorem count0_start (c : Dev nD) : at0 m 0 c (Proc.devRef .tc main_v130_7) = fun _ => (0#32 : BitVec 32) := by
  simp only [at0, atTrip_zero, entryContents, afterL_cons, afterL_nil, part2]
  generalize after part1.1 (after part0.1 (launchContents m c)) = X
  after_reads_simp
  rfl

set_option maxRecDepth 100000 in
theorem count1_start (c : Dev nD) : at1 m 0 c (Proc.devRef .tc main_v188_11) = fun _ => (0#32 : BitVec 32) := by
  simp only [at1, atTrip_zero, between, afterL_cons, afterL_nil, part3, part4]
  generalize after (part2 (F := F)).2.1 _ = X
  after_reads_simp
  rfl

/-- Before its `k`-th trip the first loop's counter is `k`. -/
theorem count0 (c : Dev nD) : ∀ k, at0 m k c (Proc.devRef .tc main_v130_7) = fun _ => Scf.iv 0#32 1#32 k
  | 0 => by rw [count0_start, Scf.iv_zero]
  | k + 1 => by
    rw [show at0 m (k + 1) c = after body0.1 (after cond0 (at0 m k c)) from rfl, count0_step, count0 c k, Scf.iv_succ]
    rfl

/-- Before its `k`-th trip the second loop's counter is `k`. -/
theorem count1 (c : Dev nD) : ∀ k, at1 m k c (Proc.devRef .tc main_v188_11) = fun _ => Scf.iv 0#32 1#32 k
  | 0 => by rw [count1_start, Scf.iv_zero]
  | k + 1 => by
    rw [show at1 m (k + 1) c = after body1.1 (after cond1 (at1 m k c)) from rfl, count1_step, count1 c k, Scf.iv_succ]
    rfl

-- a rule stated for any thread is applied at the core's thread
set_option backward.isDefEq.respectTransparency.types false in
/-- The first loop's condition holds before the `k`-th trip exactly when `k < 128`. -/
theorem cond0_spec : CondSpec (pcfgs (F := F)) defs₀ loops main_while0_cond cond0 [body0.1] (entryContents preI m) 128 := by
  intro k hk c bd
  have hctr := count0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v130_7 HostLoop.idx0)
      (HloOp.result _ (at0 m k c) main_while0c_c_50 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

set_option backward.isDefEq.respectTransparency.types false in
/-- The second loop's condition holds before the `k`-th trip exactly when `k < 128`. -/
theorem cond1_spec : CondSpec (pcfgs (F := F)) defs₀ loops main_while1_cond cond1 [body1.1] (mid m) 128 := by
  intro k hk c bd
  have hctr := count1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v188_11 HostLoop.idx0)
      (HloOp.result _ (at1 m k c) main_while1c_c_53 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]; iexact Hh

/-- Each buffer at the reference's end. -/
abbrev final (c : Dev nD) : Valuation τ sig (Elt F) := atEnd loop0 loop1 preI midI postI m c

/-- Every run of the reference ends, and each of its buffers then holds `final`. -/
theorem run_reference (ρ : Dev nD → PrngReg) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = final m c (Proc.devRef .tc b)) :=
  run_two_loops (pcs := pcfgs) (defs₀ := defs₀) loop0 loop1
    ((part0.2 0).2.plain ((part1.2 0).2.plain ((part2.2.2 0).2.1.plain .nil)))
    ((part2.2.2 0).2.2.plain ((part3.2 0).2.plain ((part4.2.2 0).2.1.plain .nil)))
    ((part4.2.2 0).2.2.plain ((part5.2 0).2.plain .nil))
    (cond0_spec m) (cond1_spec m) main main_eq ρ

end Cert.Ret

end
-- ==== Proof.RefPick.lean ====
/- One row of a stack of 128, read at a loop's counter and written back at it. -/
module

public import proofs.«01_k».proof.Proof.RefRun
public import Idealize.ShloMosaic.Lib.DynamicIndex
public import Idealize.ShloMosaic.Lib.Pipeline.Value
public import Idealize.ShloMosaic.Lib.StableHlo.ReadAt
public import Idealize.ShloMosaic.Lib.Pointwise

@[expose] public section

noncomputable section

namespace Cert.Ret

open Cert.ReferenceIdeal Cert.ReferenceIdeal.Gen
open Idealize.ShloMosaic Idealize.ShloMosaic.TcCoe Idealize.ShloMosaic.StableHlo Idealize.ShloMosaic.ValueIdx

variable {F : FTy → Type} [FloatOps F]

/-- The word at the one place of a rank-0 buffer, read signed. -/
abbrev word (x : S_.Idx → BitVec 32) : ℤ := (x (Shape.Idx.first h_S_)).toInt

/-- The start of row `w`. -/
abbrev startAt (w : ℤ) : Fin 5 → ℤ := ![w, 0, 0, 0, 0]

/-- Two lines of operations with the same effect. -/
def Same (a b : List (HloOp τ sig (Elt F))) : Prop := ∀ V, after a V = after b V

namespace Same

variable {a b c d : List (HloOp τ sig (Elt F))}

theorem nil : Same ([] : List (HloOp τ sig (Elt F))) [] := fun _ => rfl

theorem cons (o : HloOp τ sig (Elt F)) (h : Same a b) : Same (o :: a) (o :: b) := fun V => by
  rw [after_cons, after_cons, h]

theorem append (h : Same a b) (k : Same c d) : Same (a ++ c) (b ++ d) := fun V => by
  rw [after_append, after_append, h, k]

end Same

/-- A read at five index operands of which the last four are zero is a read at the first of them. -/
theorem read_at {T0 T1 : BufTy} (a0 : TRef sig T0) (a1 c0 c1 c2 c3 : TRef sig ⟨S_, .i32⟩) (y : TRef sig T1)
    (f : T0.Contents (Elt F) → (Fin 5 → ℤ) → T1.Contents (Elt F)) (V : Valuation τ sig (Elt F))
    (h0 : V (Proc.devRef .tc c0.ref) = c0.toBuf (constantI S_ 32 0#32)) (h1 : V (Proc.devRef .tc c1.ref) = c1.toBuf (constantI S_ 32 0#32))
    (h2 : V (Proc.devRef .tc c2.ref) = c2.toBuf (constantI S_ 32 0#32)) (h3 : V (Proc.devRef .tc c3.ref) = c3.toBuf (constantI S_ 32 0#32)) :
    (TRef.unaryIndexed a0 ![a1, c0, c1, c2, c3] y (fun x i => f x (fun k => word (i k))) : HloOp τ sig (Elt F)).result V
      = (TRef.binary a0 a1 y (fun x i => f x (startAt (word i))) : HloOp τ sig (Elt F)).result V := by
  have z : ∀ c : TRef sig ⟨S_, .i32⟩, V (Proc.devRef .tc c.ref) = c.toBuf (constantI S_ 32 0#32) → word (c.ofBuf (V (Proc.devRef .tc c.ref))) = 0 :=
    fun c h => by rw [h, TRef.ofBuf_toBuf]; rfl
  funext b
  by_cases hb : b = Proc.devRef .tc y.ref
  · subst hb
    rw [unaryIndexed_result, binary_result]
    refine congrArg (fun st => y.toBuf (f _ st)) (funext fun k => ?_)
    fin_cases k
    · rfl
    · exact z _ h0
    · exact z _ h1
    · exact z _ h2
    · exact z _ h3
  · rw [HloOp.result_of_not_mem _ _ (by rw [unaryIndexed_writes]; simpa using hb),
      HloOp.result_of_not_mem _ _ (by rw [binary_writes]; simpa using hb)]

/-- The same of a write. -/
theorem write_at {T0 T1 T2 : BufTy} (a0 : TRef sig T0) (u : TRef sig T2) (a1 c0 c1 c2 c3 : TRef sig ⟨S_, .i32⟩) (y : TRef sig T1)
    (f : T0.Contents (Elt F) → T2.Contents (Elt F) → (Fin 5 → ℤ) → T1.Contents (Elt F)) (V : Valuation τ sig (Elt F))
    (h0 : V (Proc.devRef .tc c0.ref) = c0.toBuf (constantI S_ 32 0#32)) (h1 : V (Proc.devRef .tc c1.ref) = c1.toBuf (constantI S_ 32 0#32))
    (h2 : V (Proc.devRef .tc c2.ref) = c2.toBuf (constantI S_ 32 0#32)) (h3 : V (Proc.devRef .tc c3.ref) = c3.toBuf (constantI S_ 32 0#32)) :
    (TRef.binaryIndexed a0 u ![a1, c0, c1, c2, c3] y (fun x v i => f x v (fun k => word (i k))) : HloOp τ sig (Elt F)).result V
      = (TRef.ternary a0 u a1 y (fun x v i => f x v (startAt (word i))) : HloOp τ sig (Elt F)).result V := by
  have z : ∀ c : TRef sig ⟨S_, .i32⟩, V (Proc.devRef .tc c.ref) = c.toBuf (constantI S_ 32 0#32) → word (c.ofBuf (V (Proc.devRef .tc c.ref))) = 0 :=
    fun c h => by rw [h, TRef.ofBuf_toBuf]; rfl
  funext b
  by_cases hb : b = Proc.devRef .tc y.ref
  · subst hb
    rw [binaryIndexed_result, ternary_result]
    refine congrArg (fun st => y.toBuf (f _ _ st)) (funext fun k => ?_)
    fin_cases k
    · rfl
    · exact z _ h0
    · exact z _ h1
    · exact z _ h2
    · exact z _ h3
  · rw [HloOp.result_of_not_mem _ _ (by rw [binaryIndexed_writes]; simpa using hb),
      HloOp.result_of_not_mem _ _ (by rw [ternary_writes]; simpa using hb)]

/-- Four buffers told apart. -/
abbrev Apart (a b c d : Ref sig .tc) : Prop := a ≠ b ∧ a ≠ c ∧ a ≠ d ∧ b ≠ c ∧ b ≠ d ∧ c ≠ d

/-- What four zeros leave. -/
theorem zeros {c0 c1 c2 c3 : TRef sig ⟨S_, .i32⟩} (h : Apart c0.ref c1.ref c2.ref c3.ref) (V : Valuation τ sig (Elt F)) :
    ∀ c ∈ [c0, c1, c2, c3], after [TRef.nullary c0 (constantI S_ 32 0#32), TRef.nullary c1 (constantI S_ 32 0#32),
      TRef.nullary c2 (constantI S_ 32 0#32), TRef.nullary c3 (constantI S_ 32 0#32)] V (Proc.devRef .tc c.ref) = c.toBuf (constantI S_ 32 0#32) := by
  obtain ⟨h01, h02, h03, h12, h13, h23⟩ := h
  simp only [after_cons, after_nil, List.forall_mem_cons]
  refine ⟨?_, ?_, ?_, ?_, by simp⟩
  · rw [nullary_result_ne (h := h03), nullary_result_ne (h := h02), nullary_result_ne (h := h01), nullary_result]
  · rw [nullary_result_ne (h := h13), nullary_result_ne (h := h12), nullary_result]
  · rw [nullary_result_ne (h := h23), nullary_result]
  · rw [nullary_result]

theorem pick_same (a0 a1 φ) (hd : Apart φ.c.ref φ.c_0.ref φ.c_1.ref φ.c_2.ref) : Same (pickOps (F := F) a0 a1 φ).1 [
    TRef.nullary φ.c (constantI S_ 32 0#32), TRef.nullary φ.c_0 (constantI S_ 32 0#32),
    TRef.nullary φ.c_1 (constantI S_ 32 0#32), TRef.nullary φ.c_2 (constantI S_ 32 0#32),
    TRef.binary a0 a1 φ.v0 (fun x i => Host.dynamicSlice S1x1x64x4x128 x (startAt (word i)) sliceFits_S128x1x64x4x128_S1x1x64x4x128),
    TRef.reshape φ.v0 φ.v1 (rfl : (.f32 : EltTy) = .f32) shapeCasts_S1x1x64x4x128_S1x64x4x128] := fun V => by
  have z := zeros hd V
  simp only [after_cons, after_nil] at z
  simp only [pickOps, after_cons, after_nil]
  rw [read_at a0 a1 φ.c φ.c_0 φ.c_1 φ.c_2 φ.v0 (fun x st => Host.dynamicSlice S1x1x64x4x128 x st sliceFits_S128x1x64x4x128_S1x1x64x4x128) _
    (z _ (by simp)) (z _ (by simp)) (z _ (by simp)) (z _ (by simp))]

theorem pickS_same (a0 a1 φ) (hd : Apart φ.c.ref φ.c_0.ref φ.c_1.ref φ.c_2.ref) : Same (pickSOps (F := F) a0 a1 φ).1 [
    TRef.nullary φ.c (constantI S_ 32 0#32), TRef.nullary φ.c_0 (constantI S_ 32 0#32),
    TRef.nullary φ.c_1 (constantI S_ 32 0#32), TRef.nullary φ.c_2 (constantI S_ 32 0#32),
    TRef.binary a0 a1 φ.v0 (fun x i => Host.dynamicSlice S1x1x4x64x64 x (startAt (word i)) sliceFits_S128x1x4x64x64_S1x1x4x64x64),
    TRef.reshape φ.v0 φ.v1 (rfl : (.f32 : EltTy) = .f32) shapeCasts_S1x1x4x64x64_S1x4x64x64] := fun V => by
  have z := zeros hd V
  simp only [after_cons, after_nil] at z
  simp only [pickSOps, after_cons, after_nil]
  rw [read_at a0 a1 φ.c φ.c_0 φ.c_1 φ.c_2 φ.v0 (fun x st => Host.dynamicSlice S1x1x4x64x64 x st sliceFits_S128x1x4x64x64_S1x1x4x64x64) _
    (z _ (by simp)) (z _ (by simp)) (z _ (by simp)) (z _ (by simp))]

theorem pickR_same (a0 a1 φ) (hd : Apart φ.c.ref φ.c_0.ref φ.c_1.ref φ.c_2.ref) : Same (pickROps (F := F) a0 a1 φ).1 [
    TRef.nullary φ.c (constantI S_ 32 0#32), TRef.nullary φ.c_0 (constantI S_ 32 0#32),
    TRef.nullary φ.c_1 (constantI S_ 32 0#32), TRef.nullary φ.c_2 (constantI S_ 32 0#32),
    TRef.binary a0 a1 φ.v0 (fun x i => Host.dynamicSlice S1x1x4x128x128 x (startAt (word i)) sliceFits_S128x1x4x128x128_S1x1x4x128x128),
    TRef.reshape φ.v0 φ.v1 (rfl : (.f32 : EltTy) = .f32) shapeCasts_S1x1x4x128x128_S1x4x128x128] := fun V => by
  have z := zeros hd V
  simp only [after_cons, after_nil] at z
  simp only [pickROps, after_cons, after_nil]
  rw [read_at a0 a1 φ.c φ.c_0 φ.c_1 φ.c_2 φ.v0 (fun x st => Host.dynamicSlice S1x1x4x128x128 x st sliceFits_S128x1x4x128x128_S1x1x4x128x128) _
    (z _ (by simp)) (z _ (by simp)) (z _ (by simp)) (z _ (by simp))]

theorem put_same (a0 a1 a2 φ) (hd : Apart φ.c.ref φ.c_0.ref φ.c_1.ref φ.c_2.ref) : Same (putOps (F := F) a0 a1 a2 φ).1 [
    TRef.unary a1 φ.v0 (broadcastInDim S1x1x64x4x128 ![1, 2, 3, 4] bcast_S1x64x4x128_S1x1x64x4x128_1_2_3_4),
    TRef.nullary φ.c (constantI S_ 32 0#32), TRef.nullary φ.c_0 (constantI S_ 32 0#32),
    TRef.nullary φ.c_1 (constantI S_ 32 0#32), TRef.nullary φ.c_2 (constantI S_ 32 0#32),
    TRef.ternary a0 φ.v0 a2 φ.v1 (fun x u i => Host.dynamicUpdateSlice x u (startAt (word i)) updateFits_S128x1x64x4x128_S1x1x64x4x128)] := fun V => by
  have z := zeros hd ((TRef.unary a1 φ.v0 (broadcastInDim S1x1x64x4x128 ![1, 2, 3, 4] bcast_S1x64x4x128_S1x1x64x4x128_1_2_3_4)).result V)
  simp only [after_cons, after_nil] at z
  simp only [putOps, after_cons, after_nil]
  rw [write_at a0 φ.v0 a2 φ.c φ.c_0 φ.c_1 φ.c_2 φ.v1 (fun x u st => Host.dynamicUpdateSlice x u st updateFits_S128x1x64x4x128_S1x1x64x4x128) _
    (z _ (by simp)) (z _ (by simp)) (z _ (by simp)) (z _ (by simp))]

theorem putS_same (a0 a1 a2 φ) (hd : Apart φ.c.ref φ.c_0.ref φ.c_1.ref φ.c_2.ref) : Same (putSOps (F := F) a0 a1 a2 φ).1 [
    TRef.unary a1 φ.v0 (broadcastInDim S1x1x4x64x64 ![1, 2, 3, 4] bcast_S1x4x64x64_S1x1x4x64x64_1_2_3_4),
    TRef.nullary φ.c (constantI S_ 32 0#32), TRef.nullary φ.c_0 (constantI S_ 32 0#32),
    TRef.nullary φ.c_1 (constantI S_ 32 0#32), TRef.nullary φ.c_2 (constantI S_ 32 0#32),
    TRef.ternary a0 φ.v0 a2 φ.v1 (fun x u i => Host.dynamicUpdateSlice x u (startAt (word i)) updateFits_S128x1x4x64x64_S1x1x4x64x64)] := fun V => by
  have z := zeros hd ((TRef.unary a1 φ.v0 (broadcastInDim S1x1x4x64x64 ![1, 2, 3, 4] bcast_S1x4x64x64_S1x1x4x64x64_1_2_3_4)).result V)
  simp only [after_cons, after_nil] at z
  simp only [putSOps, after_cons, after_nil]
  rw [write_at a0 φ.v0 a2 φ.c φ.c_0 φ.c_1 φ.c_2 φ.v1 (fun x u st => Host.dynamicUpdateSlice x u st updateFits_S128x1x4x64x64_S1x1x4x64x64) _
    (z _ (by simp)) (z _ (by simp)) (z _ (by simp)) (z _ (by simp))]

theorem putR_same (a0 a1 a2 φ) (hd : Apart φ.c.ref φ.c_0.ref φ.c_1.ref φ.c_2.ref) : Same (putROps (F := F) a0 a1 a2 φ).1 [
    TRef.unary a1 φ.v0 (broadcastInDim S1x1x4x128x128 ![1, 2, 3, 4] bcast_S1x4x128x128_S1x1x4x128x128_1_2_3_4),
    TRef.nullary φ.c (constantI S_ 32 0#32), TRef.nullary φ.c_0 (constantI S_ 32 0#32),
    TRef.nullary φ.c_1 (constantI S_ 32 0#32), TRef.nullary φ.c_2 (constantI S_ 32 0#32),
    TRef.ternary a0 φ.v0 a2 φ.v1 (fun x u i => Host.dynamicUpdateSlice x u (startAt (word i)) updateFits_S128x1x4x128x128_S1x1x4x128x128)] := fun V => by
  have z := zeros hd ((TRef.unary a1 φ.v0 (broadcastInDim S1x1x4x128x128 ![1, 2, 3, 4] bcast_S1x4x128x128_S1x1x4x128x128_1_2_3_4)).result V)
  simp only [after_cons, after_nil] at z
  simp only [putROps, after_cons, after_nil]
  rw [write_at a0 φ.v0 a2 φ.c φ.c_0 φ.c_1 φ.c_2 φ.v1 (fun x u st => Host.dynamicUpdateSlice x u st updateFits_S128x1x4x128x128_S1x1x4x128x128) _
    (z _ (by simp)) (z _ (by simp)) (z _ (by simp)) (z _ (by simp))]

/-- The bodies of the loops, every read and write of a row at the loop's counter. -/
def trips0 : Σ' ops : List (HloOp τ sig (Elt F)), Same body0.1 ops := by
  apply PSigma.mk
  unfold body0
  dsimp only
  repeat
    first
      | (with_reducible apply pick_same); decide
      | (with_reducible apply put_same); decide
      | (with_reducible apply putS_same); decide
      | (with_reducible apply putR_same); decide
      | with_reducible exact Same.nil
      | with_reducible apply Same.cons
      | with_reducible apply Same.append

def trips1 : Σ' ops : List (HloOp τ sig (Elt F)), Same body1.1 ops := by
  apply PSigma.mk
  unfold body1
  dsimp only
  repeat
    first
      | (with_reducible apply pick_same); decide
      | (with_reducible apply put_same); decide
      | (with_reducible apply pickS_same); decide
      | (with_reducible apply pickR_same); decide
      | with_reducible exact Same.nil
      | with_reducible apply Same.cons
      | with_reducible apply Same.append

end Cert.Ret

end
-- ==== Proof.RefStep0.lean ====
/- One trip of the reference's first loop: the chunk's output, and the state after it. -/
module

public import proofs.«01_k».proof.Proof.RefPick
public import proofs.«01_k».proof.Proof.RetMath

@[expose] public section

noncomputable section

namespace Cert.Ret

open Cert.ReferenceIdeal Cert.ReferenceIdeal.Gen
open Idealize.ShloMosaic Idealize.ShloMosaic.TcCoe Idealize.ShloMosaic.StableHlo

/-- The word of a loop's counter. -/
theorem word_iv {k : ℕ} (hk : k < 128) : word (fun _ => Scf.iv 0#32 1#32 k) = (k : ℤ) := by
  show (0#32 + BitVec.ofNat 32 k * 1#32).toInt = _
  rw [BitVec.mul_one, BitVec.zero_add, toInt_ofNat_of_lt (by omega)]

theorem start_at {k : ℕ} (hk : k < 128) : startAt (word (fun _ => Scf.iv 0#32 1#32 k)) = ![(k : ℤ), 0, 0, 0, 0] := by
  rw [word_iv hk]

/-- Row `k` of a stack. -/
def rowQ {α : Type} (x : S128x1x64x4x128.Idx → α) (k : Fin 128) : S1x1x64x4x128.Idx → α := fun j => x (ix5 k 0 (j 2) (j 3) (j 4))

theorem rowQ_at {α : Type} (x : S128x1x64x4x128.Idx → α) (k : Fin 128) (a : Fin 64) (b : Fin 4) (c : Fin 128) :
    rowQ x k (ix5 0 0 a b c) = x (ix5 k 0 a b c) := rfl

/-- A stack with its row `k` replaced. -/
def putQ {α : Type} (x : S128x1x64x4x128.Idx → α) (u : S1x1x64x4x128.Idx → α) (k : Fin 128) : S128x1x64x4x128.Idx → α :=
  fun j => if (j 0).val = k.val then u (ix5 0 0 (j 2) (j 3) (j 4)) else x j

theorem putQ_at {α : Type} (x : S128x1x64x4x128.Idx → α) (u : S1x1x64x4x128.Idx → α) (k n : Fin 128) (a : Fin 64) (b : Fin 4) (c : Fin 128) :
    putQ x u k (ix5 n 0 a b c) = if n.val = k.val then u (ix5 0 0 a b c) else x (ix5 n 0 a b c) := rfl

theorem sliceQ {α : Type} (x : S128x1x64x4x128.Idx → α) (k : Fin 128) :
    Host.dynamicSlice S1x1x64x4x128 x ![(k.val : ℤ), 0, 0, 0, 0] sliceFits_S128x1x64x4x128_S1x1x64x4x128 = rowQ x k := by
  refine (Host.dynamicSlice_eq_extractStridedSlice (s := S128x1x64x4x128) S1x1x64x4x128 x _ ![k.val, 0, 0, 0, 0] _
    ⟨rfl, fun a => by have := k.isLt; fin_cases a <;> simp <;> omega⟩ (fun a => by fin_cases a <;> rfl)).trans ?_
  funext j
  have h0 := (j 0).isLt
  have h1 := (j 1).isLt
  refine congrArg x (funext fun a => Fin.ext ?_)
  fin_cases a <;> simp [ix5] at h0 h1 ⊢ <;> omega

theorem updateQ {α : Type} (x : S128x1x64x4x128.Idx → α) (u : S1x1x64x4x128.Idx → α) (k : Fin 128) :
    Host.dynamicUpdateSlice x u ![(k.val : ℤ), 0, 0, 0, 0] updateFits_S128x1x64x4x128_S1x1x64x4x128 = putQ x u k := by
  refine (Host.dynamicUpdateSlice_eq_updateSlice (s := S128x1x64x4x128) x u _ _ ![k.val, 0, 0, 0, 0]
    (fun a => by have := k.isLt; fin_cases a <;> simp <;> omega) ⟨rfl, fun a => by have := k.isLt; fin_cases a <;> simp <;> omega⟩).trans ?_
  funext j
  have h1 : (j 1).val < 1 := (j 1).isLt
  have h2 : (j 2).val < 64 := (j 2).isLt
  have h3 : (j 3).val < 4 := (j 3).isLt
  have h4 : (j 4).val < 128 := (j 4).isLt
  unfold updateSlice putQ
  by_cases h : (j 0).val = k.val
  · rw [if_pos h, dif_pos (fun a' => by fin_cases a' <;> simp <;> omega)]
    refine congrArg u (funext fun a' => Fin.ext ?_)
    fin_cases a' <;> simp [ix5] <;> omega
  · rw [if_neg h, dif_neg]
    intro hin
    refine h ?_
    have := hin 0
    simp at this
    omega

/-- Row `k` of a stack. -/
def rowS {α : Type} (x : S128x1x4x64x64.Idx → α) (k : Fin 128) : S1x1x4x64x64.Idx → α := fun j => x (ix5 k 0 (j 2) (j 3) (j 4))

theorem rowS_at {α : Type} (x : S128x1x4x64x64.Idx → α) (k : Fin 128) (a : Fin 4) (b : Fin 64) (c : Fin 64) :
    rowS x k (ix5 0 0 a b c) = x (ix5 k 0 a b c) := rfl

/-- A stack with its row `k` replaced. -/
def putS {α : Type} (x : S128x1x4x64x64.Idx → α) (u : S1x1x4x64x64.Idx → α) (k : Fin 128) : S128x1x4x64x64.Idx → α :=
  fun j => if (j 0).val = k.val then u (ix5 0 0 (j 2) (j 3) (j 4)) else x j

theorem putS_at {α : Type} (x : S128x1x4x64x64.Idx → α) (u : S1x1x4x64x64.Idx → α) (k n : Fin 128) (a : Fin 4) (b : Fin 64) (c : Fin 64) :
    putS x u k (ix5 n 0 a b c) = if n.val = k.val then u (ix5 0 0 a b c) else x (ix5 n 0 a b c) := rfl

theorem sliceS {α : Type} (x : S128x1x4x64x64.Idx → α) (k : Fin 128) :
    Host.dynamicSlice S1x1x4x64x64 x ![(k.val : ℤ), 0, 0, 0, 0] sliceFits_S128x1x4x64x64_S1x1x4x64x64 = rowS x k := by
  refine (Host.dynamicSlice_eq_extractStridedSlice (s := S128x1x4x64x64) S1x1x4x64x64 x _ ![k.val, 0, 0, 0, 0] _
    ⟨rfl, fun a => by have := k.isLt; fin_cases a <;> simp <;> omega⟩ (fun a => by fin_cases a <;> rfl)).trans ?_
  funext j
  have h0 := (j 0).isLt
  have h1 := (j 1).isLt
  refine congrArg x (funext fun a => Fin.ext ?_)
  fin_cases a <;> simp [ix5] at h0 h1 ⊢ <;> omega

theorem updateS {α : Type} (x : S128x1x4x64x64.Idx → α) (u : S1x1x4x64x64.Idx → α) (k : Fin 128) :
    Host.dynamicUpdateSlice x u ![(k.val : ℤ), 0, 0, 0, 0] updateFits_S128x1x4x64x64_S1x1x4x64x64 = putS x u k := by
  refine (Host.dynamicUpdateSlice_eq_updateSlice (s := S128x1x4x64x64) x u _ _ ![k.val, 0, 0, 0, 0]
    (fun a => by have := k.isLt; fin_cases a <;> simp <;> omega) ⟨rfl, fun a => by have := k.isLt; fin_cases a <;> simp <;> omega⟩).trans ?_
  funext j
  have h1 : (j 1).val < 1 := (j 1).isLt
  have h2 : (j 2).val < 4 := (j 2).isLt
  have h3 : (j 3).val < 64 := (j 3).isLt
  have h4 : (j 4).val < 64 := (j 4).isLt
  unfold updateSlice putS
  by_cases h : (j 0).val = k.val
  · rw [if_pos h, dif_pos (fun a' => by fin_cases a' <;> simp <;> omega)]
    refine congrArg u (funext fun a' => Fin.ext ?_)
    fin_cases a' <;> simp [ix5] <;> omega
  · rw [if_neg h, dif_neg]
    intro hin
    refine h ?_
    have := hin 0
    simp at this
    omega

/-- Row `k` of a stack. -/
def rowR {α : Type} (x : S128x1x4x128x128.Idx → α) (k : Fin 128) : S1x1x4x128x128.Idx → α := fun j => x (ix5 k 0 (j 2) (j 3) (j 4))

theorem rowR_at {α : Type} (x : S128x1x4x128x128.Idx → α) (k : Fin 128) (a : Fin 4) (b : Fin 128) (c : Fin 128) :
    rowR x k (ix5 0 0 a b c) = x (ix5 k 0 a b c) := rfl

/-- A stack with its row `k` replaced. -/
def putR {α : Type} (x : S128x1x4x128x128.Idx → α) (u : S1x1x4x128x128.Idx → α) (k : Fin 128) : S128x1x4x128x128.Idx → α :=
  fun j => if (j 0).val = k.val then u (ix5 0 0 (j 2) (j 3) (j 4)) else x j

theorem putR_at {α : Type} (x : S128x1x4x128x128.Idx → α) (u : S1x1x4x128x128.Idx → α) (k n : Fin 128) (a : Fin 4) (b : Fin 128) (c : Fin 128) :
    putR x u k (ix5 n 0 a b c) = if n.val = k.val then u (ix5 0 0 a b c) else x (ix5 n 0 a b c) := rfl

theorem sliceR {α : Type} (x : S128x1x4x128x128.Idx → α) (k : Fin 128) :
    Host.dynamicSlice S1x1x4x128x128 x ![(k.val : ℤ), 0, 0, 0, 0] sliceFits_S128x1x4x128x128_S1x1x4x128x128 = rowR x k := by
  refine (Host.dynamicSlice_eq_extractStridedSlice (s := S128x1x4x128x128) S1x1x4x128x128 x _ ![k.val, 0, 0, 0, 0] _
    ⟨rfl, fun a => by have := k.isLt; fin_cases a <;> simp <;> omega⟩ (fun a => by fin_cases a <;> rfl)).trans ?_
  funext j
  have h0 := (j 0).isLt
  have h1 := (j 1).isLt
  refine congrArg x (funext fun a => Fin.ext ?_)
  fin_cases a <;> simp [ix5] at h0 h1 ⊢ <;> omega

theorem updateR {α : Type} (x : S128x1x4x128x128.Idx → α) (u : S1x1x4x128x128.Idx → α) (k : Fin 128) :
    Host.dynamicUpdateSlice x u ![(k.val : ℤ), 0, 0, 0, 0] updateFits_S128x1x4x128x128_S1x1x4x128x128 = putR x u k := by
  refine (Host.dynamicUpdateSlice_eq_updateSlice (s := S128x1x4x128x128) x u _ _ ![k.val, 0, 0, 0, 0]
    (fun a => by have := k.isLt; fin_cases a <;> simp <;> omega) ⟨rfl, fun a => by have := k.isLt; fin_cases a <;> simp <;> omega⟩).trans ?_
  funext j
  have h1 : (j 1).val < 1 := (j 1).isLt
  have h2 : (j 2).val < 4 := (j 2).isLt
  have h3 : (j 3).val < 128 := (j 3).isLt
  have h4 : (j 4).val < 128 := (j 4).isLt
  unfold updateSlice putR
  by_cases h : (j 0).val = k.val
  · rw [if_pos h, dif_pos (fun a' => by fin_cases a' <;> simp <;> omega)]
    refine congrArg u (funext fun a' => Fin.ext ?_)
    fin_cases a' <;> simp [ix5] <;> omega
  · rw [if_neg h, dif_neg]
    intro hin
    refine h ?_
    have := hin 0
    simp at this
    omega

variable (X : Valuation τ sig (Elt Ideal))

/-! What the first loop carries. -/
abbrev q0 : S128x1x64x4x128.Idx → EReal := X (Proc.devRef .tc main_v130_0)
abbrev k0 : S128x1x64x4x128.Idx → EReal := X (Proc.devRef .tc main_v130_1)
abbrev v0 : S128x1x64x4x128.Idx → EReal := X (Proc.devRef .tc main_v130_2)
abbrev cd0 : S1x4x1x1.Idx → EReal := X (Proc.devRef .tc main_v130_3)
abbrev kd0 : S1x64x4x1.Idx → EReal := X (Proc.devRef .tc main_v130_4)
abbrev dm0 : S1x4x64x64.Idx → EReal := X (Proc.devRef .tc main_v130_5)
abbrev qd0 : S1x64x4x1.Idx → EReal := X (Proc.devRef .tc main_v130_6)
abbrev R0 : S1x4x128x128.Idx → EReal := X (Proc.devRef .tc main_v130_8)
abbrev os0 : S128x1x64x4x128.Idx → EReal := X (Proc.devRef .tc main_v130_9)
abbrev ss0 : S128x1x4x64x64.Idx → EReal := X (Proc.devRef .tc main_v130_10)
abbrev Rs0 : S128x1x4x128x128.Idx → EReal := X (Proc.devRef .tc main_v130_11)
abbrev kks0 : S128x1x64x4x128.Idx → EReal := X (Proc.devRef .tc main_v130_12)

/-- One trip of the first loop. -/
def trip0 : Valuation τ sig (Elt Ideal) := after body0.1 (after cond0 X)

/-- The first loop's constants hold the chunks `C`, head by head. -/
structure In0 (C : Fin 4 → ℕ → Chunk) : Prop where
  q : ∀ (n : Fin 128) i h d, q0 X (ix5 n 0 i h d) = (C h n).q i d
  k : ∀ (n : Fin 128) i h d, k0 X (ix5 n 0 i h d) = (C h n).k i d
  v : ∀ (n : Fin 128) i h d, v0 X (ix5 n 0 i h d) = (C h n).v i d
  dm : ∀ (n : Fin 128) h i j, dm0 X (ix4 0 h i j) = (C h n).dm i j
  qd : ∀ (n : Fin 128) i h, qd0 X (ix4 0 i h 0) = (C h n).qd i
  kd : ∀ (n : Fin 128) i h, kd0 X (ix4 0 i h 0) = (C h n).kd i
  cd : ∀ (n : Fin 128) h, cd0 X (ix4 0 h 0 0) = (C h n).cd

variable {X} {C : Fin 4 → ℕ → Chunk} (hC : In0 X C) (n : Fin 128) (hn : X (Proc.devRef .tc main_v130_7) = fun _ => Scf.iv 0#32 1#32 n)

set_option maxRecDepth 100000 in
include hC in
theorem In0.trip : In0 (trip0 X) C := by
  have e : ∀ r ∈ [main_v130_0, main_v130_1, main_v130_2, main_v130_3, main_v130_4, main_v130_5, main_v130_6],
      trip0 X (Proc.devRef .tc r) = X (Proc.devRef .tc r) := by
    unfold trip0
    rw [trips0.2]
    simp only [List.forall_mem_cons, trips0, List.cons_append, List.nil_append]
    refine ⟨?_, ?_, ?_, ?_, ?_, ?_, ?_, by simp⟩ <;> after_reads_simp
  constructor <;> intros
  · rw [q0, e _ (by decide)]; exact hC.q ..
  · rw [k0, e _ (by decide)]; exact hC.k ..
  · rw [v0, e _ (by decide)]; exact hC.v ..
  · rw [dm0, e _ (by decide)]; exact hC.dm ..
  · rw [qd0, e _ (by decide)]; exact hC.qd ..
  · rw [kd0, e _ (by decide)]; exact hC.kd ..
  · rw [cd0, e _ (by decide)]; exact hC.cd ..

set_option maxRecDepth 100000 in
include hC hn in
/-- The state after the chunk. -/
theorem R0_trip (h : Fin 4) (d x : Fin 128) : R0 (trip0 X) (ix4 0 h d x)
    = (C h n).next (fun d x => R0 X (ix4 0 h d x)) d x := by
  show after body0.1 (after cond0 X) _ _ = _
  rw [trips0.2]
  simp only [trips0, List.cons_append, List.nil_append]
  after_reads_simp
  simp only [TRef.toBuf, TRef.ofBuf, cast_eq, id_eq, hn, start_at n.isLt, sliceQ, sliceS, sliceR, updateQ, updateS, updateR]
  pointwise [rowQ_at, rowS_at, rowR_at, putQ_at, putS_at, putR_at, Chunk.next]
  simp only [← hC.q, ← hC.k, ← hC.v, ← hC.dm n, ← hC.qd n, ← hC.kd n, ← hC.cd n]

set_option maxRecDepth 100000 in
include hC hn in
/-- The chunk's outputs are put in their row. -/
theorem os0_trip (n' : Fin 128) (i : Fin 64) (h : Fin 4) (x : Fin 128) : os0 (trip0 X) (ix5 n' 0 i h x)
    = if n'.val = n.val then (C h n).o (fun d x => R0 X (ix4 0 h d x)) i x else os0 X (ix5 n' 0 i h x) := by
  show after body0.1 (after cond0 X) _ _ = _
  rw [trips0.2]
  simp only [trips0, List.cons_append, List.nil_append]
  after_reads_simp
  simp only [TRef.toBuf, TRef.ofBuf, cast_eq, id_eq, hn, start_at n.isLt, sliceQ, sliceS, sliceR, updateQ, updateS, updateR]
  pointwise [rowQ_at, rowS_at, rowR_at, putQ_at, putS_at, putR_at, Chunk.o, Chunk.s]
  simp only [← hC.q, ← hC.k, ← hC.v, ← hC.dm n, ← hC.qd n, ← hC.kd n, ← hC.cd n]
  split
  · exact congrArg₂ _ (Finset.sum_congr rfl fun _ _ => mul_comm _ _) (congrArg (· * _) (Finset.sum_congr rfl fun _ _ => mul_comm _ _))
  · rfl

set_option maxRecDepth 100000 in
include hC hn in
/-- The chunk's scores are put in their row. -/
theorem ss0_trip (n' : Fin 128) (h : Fin 4) (i j : Fin 64) : ss0 (trip0 X) (ix5 n' 0 h i j)
    = if n'.val = n.val then (C h n).s i j else ss0 X (ix5 n' 0 h i j) := by
  show after body0.1 (after cond0 X) _ _ = _
  rw [trips0.2]
  simp only [trips0, List.cons_append, List.nil_append]
  after_reads_simp
  simp only [TRef.toBuf, TRef.ofBuf, cast_eq, id_eq, hn, start_at n.isLt, sliceQ, sliceS, sliceR, updateQ, updateS, updateR]
  pointwise [rowQ_at, rowS_at, rowR_at, putQ_at, putS_at, putR_at, Chunk.s]
  simp only [← hC.q, ← hC.k, ← hC.v, ← hC.dm n, ← hC.qd n, ← hC.kd n, ← hC.cd n]

set_option maxRecDepth 100000 in
include hC hn in
/-- The state before the chunk is put in its row. -/
theorem Rs0_trip (n' : Fin 128) (h : Fin 4) (d x : Fin 128) : Rs0 (trip0 X) (ix5 n' 0 h d x)
    = if n'.val = n.val then R0 X (ix4 0 h d x) else Rs0 X (ix5 n' 0 h d x) := by
  show after body0.1 (after cond0 X) _ _ = _
  rw [trips0.2]
  simp only [trips0, List.cons_append, List.nil_append]
  after_reads_simp
  simp only [TRef.toBuf, TRef.ofBuf, cast_eq, id_eq, hn, start_at n.isLt, sliceQ, sliceS, sliceR, updateQ, updateS, updateR]
  pointwise [rowQ_at, rowS_at, rowR_at, putQ_at, putS_at, putR_at]

set_option maxRecDepth 100000 in
include hC hn in
/-- The chunk's decayed keys are put in their row. -/
theorem kks0_trip (n' : Fin 128) (i : Fin 64) (h : Fin 4) (d : Fin 128) : kks0 (trip0 X) (ix5 n' 0 i h d)
    = if n'.val = n.val then (C h n).k i d * (C h n).kd i else kks0 X (ix5 n' 0 i h d) := by
  show after body0.1 (after cond0 X) _ _ = _
  rw [trips0.2]
  simp only [trips0, List.cons_append, List.nil_append]
  after_reads_simp
  simp only [TRef.toBuf, TRef.ofBuf, cast_eq, id_eq, hn, start_at n.isLt, sliceQ, sliceS, sliceR, updateQ, updateS, updateR]
  pointwise [rowQ_at, rowS_at, rowR_at, putQ_at, putS_at, putR_at]
  simp only [← hC.q, ← hC.k, ← hC.v, ← hC.dm n, ← hC.qd n, ← hC.kd n, ← hC.cd n]

end Cert.Ret

end
-- ==== Proof.RefStep1.lean ====
/- One trip of the reference's second loop: the chunk's gradients, and the gradient of the state before it. -/
module

public import proofs.«01_k».proof.Proof.RefStep0

@[expose] public section

noncomputable section

namespace Cert.Ret

open Cert.ReferenceIdeal Cert.ReferenceIdeal.Gen
open Idealize.ShloMosaic Idealize.ShloMosaic.TcCoe Idealize.ShloMosaic.StableHlo

/-- The word a loop's counter holds before trip `k`. -/
def counter (k : ℕ) : S_.Idx → BitVec 32 := fun _ => Scf.iv 0#32 1#32 k

/-- The second loop counts down: its trip `k` takes chunk `127 - k`. -/
theorem start_back {k : ℕ} (n : Fin 128) (hk : n.val + k = 127) :
    startAt (word (subi (subi (constantI S_ 32 128#32) (counter k)) (constantI S_ 32 1#32))) = ![(n.val : ℤ), 0, 0, 0, 0] := by
  have : word (subi (subi (constantI S_ 32 128#32) (counter k)) (constantI S_ 32 1#32)) = (n.val : ℤ) := by
    show ((128#32 - (0#32 + BitVec.ofNat 32 k * 1#32)) - 1#32).toInt = _
    rw [BitVec.mul_one, BitVec.zero_add, ← toInt_ofNat_of_lt (k := n.val) (by omega)]
    congr 1
    apply BitVec.eq_of_toNat_eq
    simp only [BitVec.toNat_sub, BitVec.toNat_ofNat]
    omega
  rw [this]

variable (X : Valuation τ sig (Elt Ideal))

/-! What the second loop carries. -/
abbrev dO1 : S128x1x64x4x128.Idx → EReal := X (Proc.devRef .tc main_v188_0)
abbrev k1 : S128x1x64x4x128.Idx → EReal := X (Proc.devRef .tc main_v188_1)
abbrev q1 : S128x1x64x4x128.Idx → EReal := X (Proc.devRef .tc main_v188_2)
abbrev s1 : S128x1x4x64x64.Idx → EReal := X (Proc.devRef .tc main_v188_3)
abbrev v1 : S128x1x64x4x128.Idx → EReal := X (Proc.devRef .tc main_v188_4)
abbrev R1 : S128x1x4x128x128.Idx → EReal := X (Proc.devRef .tc main_v188_5)
abbrev kk1 : S128x1x64x4x128.Idx → EReal := X (Proc.devRef .tc main_v188_6)
abbrev dm1 : S1x4x64x64.Idx → EReal := X (Proc.devRef .tc main_v188_7)
abbrev qd1 : S1x64x4x1.Idx → EReal := X (Proc.devRef .tc main_v188_8)
abbrev cd1 : S1x4x1x1.Idx → EReal := X (Proc.devRef .tc main_v188_9)
abbrev kd1 : S1x64x4x1.Idx → EReal := X (Proc.devRef .tc main_v188_10)
abbrev E1 : S1x4x128x128.Idx → EReal := X (Proc.devRef .tc main_v188_12)
abbrev dq1 : S128x1x64x4x128.Idx → EReal := X (Proc.devRef .tc main_v188_13)
abbrev dk1 : S128x1x64x4x128.Idx → EReal := X (Proc.devRef .tc main_v188_14)
abbrev dv1 : S128x1x64x4x128.Idx → EReal := X (Proc.devRef .tc main_v188_15)

/-- One trip of the second loop. -/
def trip1 : Valuation τ sig (Elt Ideal) := after body1.1 (after cond1 X)

/-- The second loop's constants hold what the chunks `C` compute from the states `r`, head by head. -/
structure In1 (C : Fin 4 → ℕ → Chunk) (r : Fin 4 → ℕ → State) : Prop where
  dO : ∀ (n : Fin 128) i h d, dO1 X (ix5 n 0 i h d) = (C h n).dO (r h n) i d
  k : ∀ (n : Fin 128) i h d, k1 X (ix5 n 0 i h d) = (C h n).k i d
  q : ∀ (n : Fin 128) i h d, q1 X (ix5 n 0 i h d) = (C h n).q i d
  s : ∀ (n : Fin 128) h i j, s1 X (ix5 n 0 h i j) = (C h n).s i j
  v : ∀ (n : Fin 128) i h d, v1 X (ix5 n 0 i h d) = (C h n).v i d
  R : ∀ (n : Fin 128) h d x, R1 X (ix5 n 0 h d x) = r h n d x
  kk : ∀ (n : Fin 128) i h d, kk1 X (ix5 n 0 i h d) = (C h n).k i d * (C h n).kd i
  dm : ∀ (n : Fin 128) h i j, dm1 X (ix4 0 h i j) = (C h n).dm i j
  qd : ∀ (n : Fin 128) i h, qd1 X (ix4 0 i h 0) = (C h n).qd i
  cd : ∀ (n : Fin 128) h, cd1 X (ix4 0 h 0 0) = (C h n).cd
  kd : ∀ (n : Fin 128) i h, kd1 X (ix4 0 i h 0) = (C h n).kd i

variable {X} {C : Fin 4 → ℕ → Chunk} {r : Fin 4 → ℕ → State} (hC : In1 X C r) (n : Fin 128) {k : ℕ} (hk : n.val + k = 127)
  (hn : X (Proc.devRef .tc main_v188_11) = counter k)

set_option maxRecDepth 100000 in
include hC in
theorem In1.trip : In1 (trip1 X) C r := by
  have e : ∀ r ∈ [main_v188_0, main_v188_1, main_v188_2, main_v188_3, main_v188_4, main_v188_5, main_v188_6, main_v188_7,
      main_v188_8, main_v188_9, main_v188_10], trip1 X (Proc.devRef .tc r) = X (Proc.devRef .tc r) := by
    unfold trip1
    rw [trips1.2]
    simp only [List.forall_mem_cons, trips1, List.cons_append, List.nil_append]
    refine ⟨?_, ?_, ?_, ?_, ?_, ?_, ?_, ?_, ?_, ?_, ?_, by simp⟩ <;> after_reads_simp
  constructor <;> intros
  · rw [dO1, e _ (by decide)]; exact hC.dO ..
  · rw [k1, e _ (by decide)]; exact hC.k ..
  · rw [q1, e _ (by decide)]; exact hC.q ..
  · rw [s1, e _ (by decide)]; exact hC.s ..
  · rw [v1, e _ (by decide)]; exact hC.v ..
  · rw [R1, e _ (by decide)]; exact hC.R ..
  · rw [kk1, e _ (by decide)]; exact hC.kk ..
  · rw [dm1, e _ (by decide)]; exact hC.dm ..
  · rw [qd1, e _ (by decide)]; exact hC.qd ..
  · rw [cd1, e _ (by decide)]; exact hC.cd ..
  · rw [kd1, e _ (by decide)]; exact hC.kd ..

set_option maxRecDepth 100000 in
include hC hk hn in
/-- The gradient of the state before the chunk. -/
theorem E1_trip (h : Fin 4) (d x : Fin 128) : E1 (trip1 X) (ix4 0 h d x)
    = (C h n).back (r h n) (fun d x => E1 X (ix4 0 h d x)) d x := by
  show after body1.1 (after cond1 X) _ _ = _
  rw [trips1.2]
  simp only [trips1, List.cons_append, List.nil_append]
  after_reads_simp
  simp only [TRef.toBuf, TRef.ofBuf, cast_eq, id_eq, hn]
  simp only [start_back n hk, sliceQ, sliceS, sliceR, updateQ, updateS, updateR]
  pointwise [rowQ_at, rowS_at, rowR_at, putQ_at, putS_at, putR_at, Chunk.back]
  simp only [← hC.dO, ← hC.q, ← hC.k, ← hC.kk, ← hC.v, ← hC.s, ← hC.R, ← hC.dm n, ← hC.qd n, ← hC.kd n, ← hC.cd n]
  exact congrArg₂ _ rfl (Finset.sum_congr rfl fun _ _ => mul_comm _ _)

set_option maxRecDepth 100000 in
include hC hk hn in
/-- The gradient of the queries is put in its row. -/
theorem dq1_trip (n' : Fin 128) (i : Fin 64) (h : Fin 4) (d : Fin 128) : dq1 (trip1 X) (ix5 n' 0 i h d)
    = if n'.val = n.val then (C h n).dq (r h n) i d else dq1 X (ix5 n' 0 i h d) := by
  show after body1.1 (after cond1 X) _ _ = _
  rw [trips1.2]
  simp only [trips1, List.cons_append, List.nil_append]
  after_reads_simp
  simp only [TRef.toBuf, TRef.ofBuf, cast_eq, id_eq, hn]
  simp only [start_back n hk, sliceQ, sliceS, sliceR, updateQ, updateS, updateR]
  pointwise [rowQ_at, rowS_at, rowR_at, putQ_at, putS_at, putR_at, Chunk.dq, Chunk.ds]
  simp only [← hC.dO, ← hC.q, ← hC.k, ← hC.kk, ← hC.v, ← hC.s, ← hC.R, ← hC.dm n, ← hC.qd n, ← hC.kd n, ← hC.cd n]

set_option maxRecDepth 100000 in
include hC hk hn in
/-- The gradient of the keys is put in its row. -/
theorem dk1_trip (n' : Fin 128) (i : Fin 64) (h : Fin 4) (d : Fin 128) : dk1 (trip1 X) (ix5 n' 0 i h d)
    = if n'.val = n.val then (C h n).dk (r h n) (fun d x => E1 X (ix4 0 h d x)) i d else dk1 X (ix5 n' 0 i h d) := by
  show after body1.1 (after cond1 X) _ _ = _
  rw [trips1.2]
  simp only [trips1, List.cons_append, List.nil_append]
  after_reads_simp
  simp only [TRef.toBuf, TRef.ofBuf, cast_eq, id_eq, hn]
  simp only [start_back n hk, sliceQ, sliceS, sliceR, updateQ, updateS, updateR]
  pointwise [rowQ_at, rowS_at, rowR_at, putQ_at, putS_at, putR_at, Chunk.dk, Chunk.ds]
  simp only [← hC.dO, ← hC.q, ← hC.k, ← hC.kk, ← hC.v, ← hC.s, ← hC.R, ← hC.dm n, ← hC.qd n, ← hC.kd n, ← hC.cd n]
  split
  · exact congrArg₂ _ (congrArg (· * _) (Finset.sum_congr rfl fun _ _ => mul_comm _ _)) rfl
  · rfl

set_option maxRecDepth 100000 in
include hC hk hn in
/-- The gradient of the values is put in its row. -/
theorem dv1_trip (n' : Fin 128) (i : Fin 64) (h : Fin 4) (x : Fin 128) : dv1 (trip1 X) (ix5 n' 0 i h x)
    = if n'.val = n.val then (C h n).dv (r h n) (fun d x => E1 X (ix4 0 h d x)) i x else dv1 X (ix5 n' 0 i h x) := by
  show after body1.1 (after cond1 X) _ _ = _
  rw [trips1.2]
  simp only [trips1, List.cons_append, List.nil_append]
  after_reads_simp
  simp only [TRef.toBuf, TRef.ofBuf, cast_eq, id_eq, hn]
  simp only [start_back n hk, sliceQ, sliceS, sliceR, updateQ, updateS, updateR]
  pointwise [rowQ_at, rowS_at, rowR_at, putQ_at, putS_at, putR_at, Chunk.dv]
  simp only [← hC.dO, ← hC.q, ← hC.kk, ← hC.v, ← hC.s, ← hC.R, ← hC.dm n, ← hC.qd n, ← hC.cd n]
  split
  · exact congrArg₂ _ (Finset.sum_congr rfl fun _ _ => mul_comm _ _) (Finset.sum_congr rfl fun _ _ => mul_comm _ _)
  · rfl

end Cert.Ret

end
-- ==== Proof.RefLoops.lean ====
/- The reference's loops: before trip `k` the first holds the state before chunk `k`, the second the gradient of the
   state after chunk `127 - k`, and the rows of their stacks that the trips so far have filled. -/
module

public import proofs.«01_k».proof.Proof.RefStep1

@[expose] public section

noncomputable section

namespace Cert.Ret

open Cert.ReferenceIdeal Cert.ReferenceIdeal.Gen
open Idealize.ShloMosaic Idealize.ShloMosaic.TcCoe Idealize.ShloMosaic.StableHlo

/-- What the first loop leaves alone, of what is read after it. -/
abbrev kept0 : List (Ref sig .tc) :=
  [main_arg0, main_arg1, main_arg2, main_arg3, main_v5, main_v21, main_v23, main_v51, main_v53, main_v117, main_v119, main_v121,
    main_v122, main_v123, main_v124, main_v125]

/-- What the second loop leaves alone, of what is read after it. -/
abbrev kept1 : List (Ref sig .tc) := [main_arg0, main_arg1, main_arg2, main_arg3, main_v21, main_v23, main_v51, main_v53, main_v160, main_v166]

set_option maxRecDepth 100000 in
theorem trip0_kept (X : Valuation τ sig (Elt Ideal)) : ∀ r ∈ kept0, trip0 X (Proc.devRef .tc r) = X (Proc.devRef .tc r) := by
  unfold trip0
  rw [trips0.2]
  simp only [List.forall_mem_cons, trips0, List.cons_append, List.nil_append]
  refine ⟨?_, ?_, ?_, ?_, ?_, ?_, ?_, ?_, ?_, ?_, ?_, ?_, ?_, ?_, ?_, ?_, by simp⟩ <;> after_reads_simp

set_option maxRecDepth 100000 in
theorem trip1_kept (X : Valuation τ sig (Elt Ideal)) : ∀ r ∈ kept1, trip1 X (Proc.devRef .tc r) = X (Proc.devRef .tc r) := by
  unfold trip1
  rw [trips1.2]
  simp only [List.forall_mem_cons, trips1, List.cons_append, List.nil_append]
  refine ⟨?_, ?_, ?_, ?_, ?_, ?_, ?_, ?_, ?_, ?_, by simp⟩ <;> after_reads_simp

variable (m : (ℓ : Loc nD τ sig) → Buf (Elt Ideal) ℓ) (c : Dev nD)

theorem at0_kept {r : Ref sig .tc} (hr : r ∈ kept0) : ∀ k, at0 m k c (Proc.devRef .tc r) = at0 m 0 c (Proc.devRef .tc r)
  | 0 => rfl
  | k + 1 => (trip0_kept (at0 m k c) r hr).trans (at0_kept hr k)

theorem at1_kept {r : Ref sig .tc} (hr : r ∈ kept1) : ∀ k, at1 m k c (Proc.devRef .tc r) = at1 m 0 c (Proc.devRef .tc r)
  | 0 => rfl
  | k + 1 => (trip1_kept (at1 m k c) r hr).trans (at1_kept hr k)

variable {m c} {C : Fin 4 → ℕ → Chunk}

section First

variable (hC : In0 (at0 m 0 c) C) (hR : ∀ h d x, R0 (at0 m 0 c) (ix4 0 h d x) = 0)

include hC in
theorem in0 : ∀ k, In0 (at0 m k c) C
  | 0 => hC
  | k + 1 => (in0 k).trip

include hC hR in
theorem R0_at : ∀ k ≤ 128, ∀ h d x, R0 (at0 m k c) (ix4 0 h d x) = R (C h) k d x
  | 0, _, h, d, x => hR h d x
  | k + 1, hk, h, d, x => by
    have e := R0_trip (in0 hC k) ⟨k, by omega⟩ (count0 m c k) h d x
    refine e.trans ?_
    rw [show (fun d x => R0 (at0 m k c) (ix4 0 h d x)) = R (C h) k from funext fun d => funext fun x => R0_at k (by omega) h d x]
    rfl

/-- A stack that each trip fills one row of: after `k` trips its first `k` rows are filled. -/
theorem filled {α : Type} (s : ℕ → Fin 128 → α) (v : ℕ → α) (row : ℕ → ℕ)
    (hs : ∀ k < 128, ∀ n, s (k + 1) n = if n.val = row k then v n.val else s k n) :
    ∀ k ≤ 128, ∀ n : Fin 128, (∃ j < k, n.val = row j) → s k n = v n.val
  | 0, _, _, ⟨_, h, _⟩ => absurd h (by omega)
  | k + 1, hk, n, ⟨j, hj, hn⟩ => by
    rw [hs k (by omega)]
    split
    · rfl
    · rename_i h
      refine filled s v row hs k (by omega) n ⟨j, ?_, hn⟩
      rcases Nat.lt_succ_iff_lt_or_eq.mp hj with h' | rfl
      · exact h'
      · exact absurd hn h

include hC hR in
theorem os0_end (n : Fin 128) (i : Fin 64) (h : Fin 4) (x : Fin 128) :
    os0 (at0 m 128 c) (ix5 n 0 i h x) = (C h n).o (R (C h) n) i x := by
  refine filled (fun k n => os0 (at0 m k c) (ix5 n 0 i h x)) (fun n => (C h n).o (R (C h) n) i x) id (fun k hk n => ?_) 128 le_rfl n
    ⟨n.val, n.isLt, rfl⟩
  refine (os0_trip (in0 hC k) ⟨k, hk⟩ (count0 m c k) n i h x).trans ?_
  rw [show (fun d x => R0 (at0 m k c) (ix4 0 h d x)) = R (C h) k from funext fun d => funext fun x => R0_at hC hR k (by omega) h d x]
  split
  · rename_i e
    rw [e]
    simp only [id, if_pos]
  · rename_i e
    exact (if_neg e).symm

include hC in
theorem ss0_end (n : Fin 128) (h : Fin 4) (i j : Fin 64) : ss0 (at0 m 128 c) (ix5 n 0 h i j) = (C h n).s i j := by
  refine filled (fun k n => ss0 (at0 m k c) (ix5 n 0 h i j)) (fun n => (C h n).s i j) id (fun k hk n => ?_) 128 le_rfl n
    ⟨n.val, n.isLt, rfl⟩
  refine (ss0_trip (in0 hC k) ⟨k, hk⟩ (count0 m c k) n h i j).trans ?_
  split
  · rename_i e
    rw [e]
    simp only [id, if_pos]
  · rename_i e
    exact (if_neg e).symm

include hC hR in
theorem Rs0_end (n : Fin 128) (h : Fin 4) (d x : Fin 128) : Rs0 (at0 m 128 c) (ix5 n 0 h d x) = R (C h) n d x := by
  refine filled (fun k n => Rs0 (at0 m k c) (ix5 n 0 h d x)) (fun n => R (C h) n d x) id (fun k hk n => ?_) 128 le_rfl n
    ⟨n.val, n.isLt, rfl⟩
  refine (Rs0_trip (in0 hC k) ⟨k, hk⟩ (count0 m c k) n h d x).trans ?_
  rw [R0_at hC hR k (by omega)]
  split
  · rename_i e
    rw [e]
    simp only [id, if_pos]
  · rename_i e
    exact (if_neg e).symm

include hC in
theorem kks0_end (n : Fin 128) (i : Fin 64) (h : Fin 4) (d : Fin 128) :
    kks0 (at0 m 128 c) (ix5 n 0 i h d) = (C h n).k i d * (C h n).kd i := by
  refine filled (fun k n => kks0 (at0 m k c) (ix5 n 0 i h d)) (fun n => (C h n).k i d * (C h n).kd i) id (fun k hk n => ?_) 128 le_rfl n
    ⟨n.val, n.isLt, rfl⟩
  refine (kks0_trip (in0 hC k) ⟨k, hk⟩ (count0 m c k) n i h d).trans ?_
  split
  · rename_i e
    rw [e]
    simp only [id, if_pos]
  · rename_i e
    exact (if_neg e).symm

end First

section Second

variable (hC : In1 (at1 m 0 c) C (fun h => R (C h))) (hE : ∀ h d x, E1 (at1 m 0 c) (ix4 0 h d x) = 0)

include hC in
theorem in1 : ∀ k, In1 (at1 m k c) C (fun h => R (C h))
  | 0 => hC
  | k + 1 => (in1 k).trip

include hC hE in
theorem E1_at : ∀ k ≤ 128, ∀ h d x, E1 (at1 m k c) (ix4 0 h d x) = E (C h) k d x
  | 0, _, h, d, x => hE h d x
  | k + 1, hk, h, d, x => by
    have e := E1_trip (in1 hC k) ⟨127 - k, by omega⟩ (k := k) (by show 127 - k + k = 127; omega) (count1 m c k) h d x
    refine e.trans ?_
    rw [show (fun d x => E1 (at1 m k c) (ix4 0 h d x)) = E (C h) k from funext fun d => funext fun x => E1_at k (by omega) h d x]
    rfl

include hC in
theorem dq1_end (n : Fin 128) (i : Fin 64) (h : Fin 4) (d : Fin 128) :
    dq1 (at1 m 128 c) (ix5 n 0 i h d) = (C h n).dq (R (C h) n) i d := by
  refine filled (fun k n => dq1 (at1 m k c) (ix5 n 0 i h d)) (fun n => (C h n).dq (R (C h) n) i d) (127 - ·) (fun k hk n => ?_) 128 le_rfl n
    ⟨127 - n.val, by omega, by omega⟩
  refine (dq1_trip (in1 hC k) ⟨127 - k, by omega⟩ (k := k) (by show 127 - k + k = 127; omega) (count1 m c k) n i h d).trans ?_
  split
  · rename_i e
    rw [e]
  · rfl

include hC hE in
theorem dk1_end (n : Fin 128) (i : Fin 64) (h : Fin 4) (d : Fin 128) :
    dk1 (at1 m 128 c) (ix5 n 0 i h d) = (C h n).dk (R (C h) n) (E (C h) (127 - n)) i d := by
  refine filled (fun k n => dk1 (at1 m k c) (ix5 n 0 i h d)) (fun n => (C h n).dk (R (C h) n) (E (C h) (127 - n)) i d) (127 - ·)
    (fun k hk n => ?_) 128 le_rfl n ⟨127 - n.val, by omega, by omega⟩
  refine (dk1_trip (in1 hC k) ⟨127 - k, by omega⟩ (k := k) (by show 127 - k + k = 127; omega) (count1 m c k) n i h d).trans ?_
  rw [show (fun d x => E1 (at1 m k c) (ix4 0 h d x)) = E (C h) k from funext fun d => funext fun x => E1_at hC hE k (by omega) h d x]
  split
  · rename_i e
    rw [e]
    simp only [if_pos, show 127 - (127 - k) = k by omega]
  · rfl

include hC hE in
theorem dv1_end (n : Fin 128) (i : Fin 64) (h : Fin 4) (x : Fin 128) :
    dv1 (at1 m 128 c) (ix5 n 0 i h x) = (C h n).dv (R (C h) n) (E (C h) (127 - n)) i x := by
  refine filled (fun k n => dv1 (at1 m k c) (ix5 n 0 i h x)) (fun n => (C h n).dv (R (C h) n) (E (C h) (127 - n)) i x) (127 - ·)
    (fun k hk n => ?_) 128 le_rfl n ⟨127 - n.val, by omega, by omega⟩
  refine (dv1_trip (in1 hC k) ⟨127 - k, by omega⟩ (k := k) (by show 127 - k + k = 127; omega) (count1 m c k) n i h x).trans ?_
  rw [show (fun d x => E1 (at1 m k c) (ix4 0 h d x)) = E (C h) k from funext fun d => funext fun x => E1_at hC hE k (by omega) h d x]
  split
  · rename_i e
    rw [e]
    simp only [if_pos, show 127 - (127 - k) = k by omega]
  · rfl

end Second

end Cert.Ret

end
-- ==== Proof.RefStart.lean ====
/- What the reference's first loop starts from: the chunks of the sequence, and a zero state. -/
module

public import proofs.«01_k».proof.Proof.RefLoops
public import proofs.«01_k».proof.Proof.RetSpec

@[expose] public section

noncomputable section

namespace Cert.Ret

open Cert.ReferenceIdeal Cert.ReferenceIdeal.Gen
open Idealize.ShloMosaic Idealize.ShloMosaic.TcCoe Idealize.ShloMosaic.StableHlo

/-- Two halves of a token's lanes, side by side. -/
def joined {α : Type} (a b : S1x8192x4x64.Idx → α) : S1x8192x4x128.Idx → α := fun j =>
  if hd : (j 3).val < 64 then a (ix4 0 (j 1) (j 2) ⟨(j 3).val, hd⟩)
  else b (ix4 0 (j 1) (j 2) ⟨(j 3).val - 64, by have := (j 3).isLt; change (j 3).val < 128 at this; omega⟩)

theorem joined_at {α : Type} (a b : S1x8192x4x64.Idx → α) (t : Fin 8192) (h : Fin 4) (d : Fin 128) :
    joined a b (ix4 0 t h d) = if hd : d.val < 64 then a (ix4 0 t h ⟨d.val, hd⟩) else b (ix4 0 t h ⟨d.val - 64, by omega⟩) := rfl

theorem concat_joined {α : Type} :
    (fun a b => concatenate (α := α) S1x8192x4x128 3 [⟨S1x8192x4x64, a⟩, ⟨S1x8192x4x64, b⟩]
      concatenates_S1x8192x4x64_S1x8192x4x64_S1x8192x4x128_d3) = joined := by
  funext a b j
  obtain ⟨z, t, h, d, rfl⟩ : ∃ z t h d, j = ix4 z t h d := ⟨j 0, j 1, j 2, j 3, by pointwise⟩
  obtain rfl : z = 0 := Subsingleton.elim _ _
  rw [joined_at]
  pointwise

variable (m : (ℓ : Loc nD τ sig) → Buf (Elt Ideal) ℓ) (c : Dev nD)

/-- The arguments the reference is launched with. -/
def proj : Fin 8192 → Fin 7168 → EReal := fun t e =>
  (launchContents m c (Proc.devRef .tc main_arg0) : S8192x7168.Idx → EReal) (ix2 t e)
def weight : Fin 128 → EReal := fun d => (launchContents m c (Proc.devRef .tc main_arg1) : S128.Idx → EReal) (ix1 d)
def dmix : Fin 8192 → Fin 2048 → EReal := fun t e =>
  (launchContents m c (Proc.devRef .tc main_arg2) : S8192x2048.Idx → EReal) (ix2 t e)

/-- The chunks the reference is launched with. -/
abbrev chunks : Fin 4 → ℕ → Chunk := chunk (proj m c) (dmix m c) (weight m c)

set_option maxRecDepth 100000 in
theorem q0_start (n : Fin 128) (i : Fin 64) (h : Fin 4) (d : Fin 128) : q0 (at0 m 0 c) (ix5 n 0 i h d)
    = rotated (tok n i) (fun d => proj m c (tok n i) (lane 0 (by decide) h d)) d := by
  simp only [at0, atTrip_zero, entryContents, afterL_cons, afterL_nil, part2, part1, part0, whereOps, List.cons_append, List.nil_append,
    concat_joined]
  after_reads_simp
  simp only [id_eq]
  pointwise
  rw [joined_at, rotated]
  simp only [tok_eq, lane, proj, cosAt, sinAt, angle, num]
  split
  · pointwise
  · pointwise

set_option maxRecDepth 100000 in
theorem k0_start (n : Fin 128) (i : Fin 64) (h : Fin 4) (d : Fin 128) : k0 (at0 m 0 c) (ix5 n 0 i h d)
    = rotated (tok n i) (fun d => proj m c (tok n i) (lane 1 (by decide) h d)) d * ksc := by
  simp only [at0, atTrip_zero, entryContents, afterL_cons, afterL_nil, part2, part1, part0, whereOps, List.cons_append, List.nil_append,
    concat_joined]
  after_reads_simp
  simp only [id_eq]
  pointwise
  refine congrArg (· * ksc) ?_
  rw [joined_at, rotated]
  simp only [tok_eq, lane, proj, cosAt, sinAt, angle, num]
  split
  · pointwise
  · pointwise

set_option maxRecDepth 100000 in
theorem v0_start (n : Fin 128) (i : Fin 64) (h : Fin 4) (d : Fin 128) : v0 (at0 m 0 c) (ix5 n 0 i h d) = proj m c (tok n i) (lane 2 (by decide) h d) := by
  simp only [at0, atTrip_zero, entryContents, afterL_cons, afterL_nil, part2, part1, part0, whereOps, List.cons_append, List.nil_append,
    concat_joined]
  after_reads_simp
  simp only [id_eq]
  pointwise
  rw [tok_eq]
  rfl

set_option maxRecDepth 100000 in
theorem dm0_start (h : Fin 4) (i j : Fin 64) : dm0 (at0 m 0 c) (ix4 0 h i j) = dmat h i j := by
  simp only [at0, atTrip_zero, entryContents, afterL_cons, afterL_nil, part2, part1, part0, whereOps, List.cons_append, List.nil_append,
    concat_joined]
  after_reads_simp
  simp only [TRef.toBuf, TRef.ofBuf, cast_eq, id_eq]
  pointwise
  rfl

set_option maxRecDepth 100000 in
theorem qd0_start (i : Fin 64) (h : Fin 4) : qd0 (at0 m 0 c) (ix4 0 i h 0) = qdec h i := by
  simp only [at0, atTrip_zero, entryContents, afterL_cons, afterL_nil, part2, part1, part0, whereOps, List.cons_append, List.nil_append,
    concat_joined]
  after_reads_simp
  simp only [id_eq]
  pointwise
  rfl

set_option maxRecDepth 100000 in
theorem kd0_start (i : Fin 64) (h : Fin 4) : kd0 (at0 m 0 c) (ix4 0 i h 0) = kdec h i := by
  simp only [at0, atTrip_zero, entryContents, afterL_cons, afterL_nil, part2, part1, part0, whereOps, List.cons_append, List.nil_append,
    concat_joined]
  after_reads_simp
  simp only [id_eq]
  pointwise
  rfl

set_option maxRecDepth 100000 in
theorem cd0_start (h : Fin 4) : cd0 (at0 m 0 c) (ix4 0 h 0 0) = cdec h := by
  simp only [at0, atTrip_zero, entryContents, afterL_cons, afterL_nil, part2, part1, part0, whereOps, List.cons_append, List.nil_append,
    concat_joined]
  after_reads_simp
  simp only [id_eq]
  pointwise
  rfl

set_option maxRecDepth 100000 in
theorem R0_start (h : Fin 4) (d x : Fin 128) : R0 (at0 m 0 c) (ix4 0 h d x) = 0 := by
  simp only [at0, atTrip_zero, entryContents, afterL_cons, afterL_nil, part2, part1, part0, whereOps, List.cons_append, List.nil_append,
    concat_joined]
  after_reads_simp
  simp only [id_eq]
  pointwise

set_option maxRecDepth 100000 in
theorem cos_start (t : Fin 8192) (e : Fin 64) : (at0 m 0 c (Proc.devRef .tc main_v51) : S1x8192x1x64.Idx → EReal) (ix4 0 t 0 e) = cosAt t e := by
  simp only [at0, atTrip_zero, entryContents, afterL_cons, afterL_nil, part2, part1, part0, whereOps, List.cons_append, List.nil_append,
    concat_joined]
  after_reads_simp
  pointwise
  rfl

set_option maxRecDepth 100000 in
theorem sin_start (t : Fin 8192) (e : Fin 64) : (at0 m 0 c (Proc.devRef .tc main_v53) : S1x8192x1x64.Idx → EReal) (ix4 0 t 0 e) = sinAt t e := by
  simp only [at0, atTrip_zero, entryContents, afterL_cons, afterL_nil, part2, part1, part0, whereOps, List.cons_append, List.nil_append,
    concat_joined]
  after_reads_simp
  pointwise
  rfl

set_option maxRecDepth 100000 in
theorem cosQ_start (t : Fin 8192) (e : Fin 64) : (at0 m 0 c (Proc.devRef .tc main_v21) : S1x8192x1x64.Idx → EReal) (ix4 0 t 0 e) = cosAt t e := by
  simp only [at0, atTrip_zero, entryContents, afterL_cons, afterL_nil, part2, part1, part0, whereOps, List.cons_append, List.nil_append,
    concat_joined]
  after_reads_simp
  pointwise
  rfl

set_option maxRecDepth 100000 in
theorem sinQ_start (t : Fin 8192) (e : Fin 64) : (at0 m 0 c (Proc.devRef .tc main_v23) : S1x8192x1x64.Idx → EReal) (ix4 0 t 0 e) = sinAt t e := by
  simp only [at0, atTrip_zero, entryContents, afterL_cons, afterL_nil, part2, part1, part0, whereOps, List.cons_append, List.nil_append,
    concat_joined]
  after_reads_simp
  pointwise
  rfl

set_option maxRecDepth 100000 in
theorem g_start (t : Fin 8192) (e : Fin 512) : (at0 m 0 c (Proc.devRef .tc main_v5) : S1x8192x512.Idx → EReal) (ix3 0 t e)
    = proj m c t ⟨1536 + e.val, by omega⟩ := by
  simp only [at0, atTrip_zero, entryContents, afterL_cons, afterL_nil, part2, part1, part0, whereOps, List.cons_append, List.nil_append,
    concat_joined]
  after_reads_simp
  pointwise
  rfl

set_option maxRecDepth 100000 in
theorem args_start : ∀ r ∈ [main_arg0, main_arg1, main_arg2, main_arg3],
    at0 m 0 c (Proc.devRef .tc r) = launchContents m c (Proc.devRef .tc r) := by
  simp only [at0, atTrip_zero, entryContents, afterL_cons, afterL_nil, part2, part1, part0, whereOps, List.cons_append, List.nil_append,
    List.forall_mem_cons]
  refine ⟨?_, ?_, ?_, ?_, by simp⟩ <;> after_reads_simp

set_option maxRecDepth 100000 in
/-- The first loop's own copies of what is read again after it. -/
theorem copies_start : at0 m 0 c (Proc.devRef .tc main_v117) = q0 (at0 m 0 c) ∧ at0 m 0 c (Proc.devRef .tc main_v119) = k0 (at0 m 0 c)
    ∧ at0 m 0 c (Proc.devRef .tc main_v121) = v0 (at0 m 0 c) ∧ at0 m 0 c (Proc.devRef .tc main_v122) = dm0 (at0 m 0 c)
    ∧ at0 m 0 c (Proc.devRef .tc main_v123) = qd0 (at0 m 0 c) ∧ at0 m 0 c (Proc.devRef .tc main_v124) = cd0 (at0 m 0 c)
    ∧ at0 m 0 c (Proc.devRef .tc main_v125) = kd0 (at0 m 0 c) := by
  simp only [at0, atTrip_zero, entryContents, afterL_cons, afterL_nil, part2]
  generalize after (part1 (F := Ideal)).1 _ = X
  refine ⟨?_, ?_, ?_, ?_, ?_, ?_, ?_⟩ <;> after_reads_simp <;> rfl

theorem in0_start : In0 (at0 m 0 c) (chunks m c) where
  q n i h d := q0_start m c n i h d
  k n i h d := k0_start m c n i h d
  v n i h d := v0_start m c n i h d
  dm _ h i j := dm0_start m c h i j
  qd _ i h := qd0_start m c i h
  kd _ i h := kd0_start m c i h
  cd _ h := cd0_start m c h

end Cert.Ret

end
-- ==== Proof.RefMid.lean ====
/- What lies between the reference's two loops: the gradient of each output before its norm, and the gradients of the gates
   and of the norm's weight. -/
module

public import proofs.«01_k».proof.Proof.RefStart

@[expose] public section

noncomputable section

namespace Cert.Ret

open Cert.ReferenceIdeal Cert.ReferenceIdeal.Gen
open Idealize.ShloMosaic Idealize.ShloMosaic.TcCoe Idealize.ShloMosaic.StableHlo

/-- A sum over two axes of one element each. -/
def unitSum (x : S1x8192x4x1.Idx → EReal) : S8192x4.Idx → EReal := fun j => x (ix4 0 (j 0) (j 1) 0)
/-- A sum over tokens and heads. -/
def tokenSum (x : S1x8192x4x128.Idx → EReal) : S1x128.Idx → EReal := fun j => ∑ t : Fin 8192, ∑ h : Fin 4, x (ix4 0 t h (j 1))
/-- A sum over three axes of one element each. -/
def rowSum1 (x : S1x1x1x128.Idx → EReal) : S128.Idx → EReal := fun j => x (ix4 0 0 0 (j 0))

/-- A reduction's sum at an index, over what names the elements that fall there. -/
theorem reduce_fiber {s t : Shape} {axes : List (Fin s.rank)} (hr : s.ReducesTo axes t) (x : s.Idx → EReal) (j : t.Idx) {ι : Type}
    [Fintype ι] (e : ι → s.Idx) (he : Function.Injective e) (hf : ∀ i, hr.drop i = j ↔ ∃ k, e k = i) :
    Ideal.hostReduceAdd hr x 0 j = ∑ k, x (e k) := by
  rw [Ideal.hostReduceAdd, zero_add]
  exact Finset.sum_filter_eq_sum_of_fiber _ e he hf x

theorem sum_one (a : EReal) : ∑ _k : Unit, a = a := by simp

theorem reduce_unitSum (x : S1x8192x4x1.Idx → EReal) (hr : S1x8192x4x1.ReducesTo [0, 3] S8192x4) (hu) :
    Host.reduceAdd (F := Ideal) (φ := .f32) x (constant (F := Ideal) S_ FTy.f32 0#32) hr hu = unitSum x := by
  funext j
  have hf : ∀ i, hr.drop i = j ↔ ∃ _k : Unit, ix4 0 (j 0) (j 1) 0 = i := by
    intro i
    constructor
    · rintro rfl
      refine ⟨(), ?_⟩
      funext a; apply Fin.ext
      match a with
      | ⟨0, _⟩ => have := (i 0).isLt; change (i 0).val < 1 at this; show 0 = (i 0).val; omega
      | ⟨1, _⟩ => rfl
      | ⟨2, _⟩ => rfl
      | ⟨3, _⟩ => have := (i 3).isLt; change (i 3).val < 1 at this; show 0 = (i 3).val; omega
    · rintro ⟨_, rfl⟩
      funext b; apply Fin.ext
      match b with
      | ⟨0, _⟩ => rfl
      | ⟨1, _⟩ => rfl
  show Ideal.hostReduceAdd hr x (constant (F := Ideal) S_ FTy.f32 0#32 (Shape.Idx.first hu)) j = _
  rw [show (constant (F := Ideal) S_ FTy.f32 0#32) (Shape.Idx.first hu) = 0 by pointwise]
  exact (reduce_fiber hr x j (fun _ : Unit => ix4 0 (j 0) (j 1) 0) (fun _ _ _ => rfl) hf).trans (sum_one _)

theorem reduce_tokenSum (x : S1x8192x4x128.Idx → EReal) (hr : S1x8192x4x128.ReducesTo [1, 2] S1x128) (hu) :
    Host.reduceAdd (F := Ideal) (φ := .f32) x (constant (F := Ideal) S_ FTy.f32 0#32) hr hu = tokenSum x := by
  funext j
  have hf : ∀ i, hr.drop i = j ↔ ∃ k : Fin 8192 × Fin 4, ix4 0 k.1 k.2 (j 1) = i := by
    intro i
    constructor
    · rintro rfl
      refine ⟨(i 1, i 2), ?_⟩
      funext a; apply Fin.ext
      match a with
      | ⟨0, _⟩ => have := (i 0).isLt; change (i 0).val < 1 at this; show 0 = (i 0).val; omega
      | ⟨1, _⟩ => rfl
      | ⟨2, _⟩ => rfl
      | ⟨3, _⟩ => rfl
    · rintro ⟨_, rfl⟩
      funext b; apply Fin.ext
      match b with
      | ⟨0, _⟩ => have := (j 0).isLt; change (j 0).val < 1 at this; show 0 = (j 0).val; omega
      | ⟨1, _⟩ => rfl
  show Ideal.hostReduceAdd hr x (constant (F := Ideal) S_ FTy.f32 0#32 (Shape.Idx.first hu)) j = _
  rw [show (constant (F := Ideal) S_ FTy.f32 0#32) (Shape.Idx.first hu) = 0 by pointwise]
  rw [tokenSum, ← Fintype.sum_prod_type (f := fun k : Fin 8192 × Fin 4 => x (ix4 0 k.1 k.2 (j 1)))]
  exact reduce_fiber hr x j (fun k : Fin 8192 × Fin 4 => ix4 0 k.1 k.2 (j 1))
    (fun k k' e => Prod.ext (show k.1 = k'.1 from congrFun e 1) (show k.2 = k'.2 from congrFun e 2)) hf

theorem reduce_rowSum1 (x : S1x1x1x128.Idx → EReal) (hr : S1x1x1x128.ReducesTo [0, 1, 2] S128) (hu) :
    Host.reduceAdd (F := Ideal) (φ := .f32) x (constant (F := Ideal) S_ FTy.f32 0#32) hr hu = rowSum1 x := by
  funext j
  have hf : ∀ i, hr.drop i = j ↔ ∃ _k : Unit, ix4 0 0 0 (j 0) = i := by
    intro i
    constructor
    · rintro rfl
      refine ⟨(), ?_⟩
      funext a; apply Fin.ext
      match a with
      | ⟨0, _⟩ => have := (i 0).isLt; change (i 0).val < 1 at this; show 0 = (i 0).val; omega
      | ⟨1, _⟩ => have := (i 1).isLt; change (i 1).val < 1 at this; show 0 = (i 1).val; omega
      | ⟨2, _⟩ => have := (i 2).isLt; change (i 2).val < 1 at this; show 0 = (i 2).val; omega
      | ⟨3, _⟩ => rfl
    · rintro ⟨_, rfl⟩
      funext b; apply Fin.ext
      match b with
      | ⟨0, _⟩ => rfl
  show Ideal.hostReduceAdd hr x (constant (F := Ideal) S_ FTy.f32 0#32 (Shape.Idx.first hu)) j = _
  rw [show (constant (F := Ideal) S_ FTy.f32 0#32) (Shape.Idx.first hu) = 0 by pointwise]
  exact (reduce_fiber hr x j (fun _ : Unit => ix4 0 0 0 (j 0)) (fun _ _ _ => rfl) hf).trans (sum_one _)

/-- The operations between the loops. -/
def between1 (Y : Valuation τ sig (Elt Ideal)) : Valuation τ sig (Elt Ideal) :=
  after part4.1 (after part3.1 (after part2.2.1 (after cond0 Y)))

theorem tokDiv (n : Fin 128) (i : Fin 64) (h) : (⟨(n.val * 64 + i.val) / 64, h⟩ : Fin 128) = n := Fin.ext (by show _ / 64 = _; omega)
theorem tokMod (n : Fin 128) (i : Fin 64) (h) : (⟨(n.val * 64 + i.val) % 64, h⟩ : Fin 64) = i := Fin.ext (by show _ % 64 = _; omega)

/-- A sum over tokens is a sum over chunks and the tokens of each. -/
theorem sum_tokens (f : Fin 8192 → EReal) : ∑ t, f t = ∑ n : Fin 128, ∑ i : Fin 64, f ⟨n.val * 64 + i.val, by omega⟩ := by
  rw [← Fintype.sum_prod_type (f := fun k : Fin 128 × Fin 64 => f ⟨k.1.val * 64 + k.2.val, by omega⟩)]
  refine (Fintype.sum_equiv (finProdFinEquiv (m := 128) (n := 64)) _ _ fun k => congrArg f (Fin.ext ?_)).symm
  show k.1.val * 64 + k.2.val = k.2.val + 64 * k.1.val
  omega

variable {Y : Valuation τ sig (Elt Ideal)} {C : Fin 4 → ℕ → Chunk} {r : Fin 4 → ℕ → State}

/-- What the first loop leaves: the outputs, and the data that the operations between the loops read. -/
structure Out0 (Y : Valuation τ sig (Elt Ideal)) (C : Fin 4 → ℕ → Chunk) (r : Fin 4 → ℕ → State) : Prop where
  o : ∀ (n : Fin 128) i h x, os0 Y (ix5 n 0 i h x) = (C h n).o (r h n) i x
  g : ∀ (n : Fin 128) (i : Fin 64) (h : Fin 4) (d : Fin 128), (Y (Proc.devRef .tc main_v5) : S1x8192x512.Idx → EReal)
    (ix3 0 ⟨n.val * 64 + i.val, by omega⟩ ⟨h.val * 128 + d.val, by omega⟩) = (C h n).g i d
  t : ∀ (n : Fin 128) (i : Fin 64) (h : Fin 4) (d : Fin 128), (Y (Proc.devRef .tc main_arg2) : S8192x2048.Idx → EReal)
    (ix2 ⟨n.val * 64 + i.val, by omega⟩ ⟨1536 + (h.val * 128 + d.val), by omega⟩) = (C h n).t i d
  w : ∀ (n : Fin 128) (h : Fin 4) (d : Fin 128), (Y (Proc.devRef .tc main_arg1) : S128.Idx → EReal) (ix1 d) = (C h n).nw d

variable (hY : Out0 Y C r)

set_option maxRecDepth 100000 in
include hY in
theorem dO_mid (n : Fin 128) (i : Fin 64) (h : Fin 4) (d : Fin 128) :
    dO1 (between1 Y) (ix5 n 0 i h d) = (C h n).dO (r h n) i d := by
  simp only [between1, part2, part3, part4, siluOps, siluGradOps, List.cons_append, List.nil_append]
  after_reads_simp
  simp only [TRef.toBuf, TRef.ofBuf, cast_eq, id_eq, reduce_unitSum]
  pointwise [unitSum]
  have ho := hY.o; have hg := hY.g; have ht := hY.t; have hw := hY.w n h
  simp only [tokDiv, tokMod, ho, hg, ht, hw]
  rfl

set_option maxRecDepth 100000 in
include hY in
theorem dg_mid (n : Fin 128) (i : Fin 64) (h : Fin 4) (d : Fin 128) :
    (between1 Y (Proc.devRef .tc main_v160) : S1x8192x512.Idx → EReal)
      (ix3 0 ⟨n.val * 64 + i.val, by omega⟩ ⟨h.val * 128 + d.val, by omega⟩) = (C h n).dg (r h n) i d := by
  simp only [between1, part2, part3, part4, siluOps, siluGradOps, List.cons_append, List.nil_append]
  after_reads_simp
  simp only [TRef.toBuf, TRef.ofBuf, cast_eq, id_eq]
  pointwise
  have ho := hY.o; have hg := hY.g; have ht := hY.t; have hw := hY.w n h
  simp only [tokDiv, tokMod, ho, hg, ht, hw]
  rfl

set_option maxRecDepth 100000 in
include hY in
theorem dnw_mid (d : Fin 128) :
    (between1 Y (Proc.devRef .tc main_v166) : S128.Idx → EReal) (ix1 d)
      = ∑ n : Fin 128, ∑ h : Fin 4, (C h n).dnw (r h n) d := by
  simp only [between1, part2, part3, part4, siluOps, siluGradOps, List.cons_append, List.nil_append]
  after_reads_simp
  simp only [TRef.toBuf, TRef.ofBuf, cast_eq, id_eq, reduce_tokenSum, reduce_rowSum1]
  pointwise [tokenSum, rowSum1]
  rw [sum_tokens]
  change @Eq EReal _ _
  refine Finset.sum_congr rfl fun n _ => ?_
  rw [Finset.sum_comm]
  refine Finset.sum_congr rfl fun h _ => Finset.sum_congr rfl fun i _ => ?_
  have ho := hY.o; have hg := hY.g; have ht := hY.t
  simp only [tokDiv, tokMod, ho, hg, ht]
  rfl

end Cert.Ret

end
-- ==== Proof.RefEnd.lean ====
/- What the reference returns: the gradients of the projections, beside what it was given for the other columns, and the
   gradient of the norm's weight. -/
module

public import proofs.«01_k».proof.Proof.RefMid

@[expose] public section

noncomputable section

namespace Cert.Ret

open Cert.ReferenceIdeal Cert.ReferenceIdeal.Gen
open Idealize.ShloMosaic Idealize.ShloMosaic.TcCoe Idealize.ShloMosaic.StableHlo

set_option maxRecDepth 100000 in
/-- The second loop's own copies of what is computed before it. -/
theorem copies_mid (Y : Valuation τ sig (Elt Ideal)) :
    k1 (between1 Y) = Y (Proc.devRef .tc main_v119) ∧ q1 (between1 Y) = Y (Proc.devRef .tc main_v117)
    ∧ s1 (between1 Y) = Y (Proc.devRef .tc main_v130_10) ∧ v1 (between1 Y) = Y (Proc.devRef .tc main_v121)
    ∧ R1 (between1 Y) = Y (Proc.devRef .tc main_v130_11) ∧ kk1 (between1 Y) = Y (Proc.devRef .tc main_v130_12)
    ∧ dm1 (between1 Y) = Y (Proc.devRef .tc main_v122) ∧ qd1 (between1 Y) = Y (Proc.devRef .tc main_v123)
    ∧ cd1 (between1 Y) = Y (Proc.devRef .tc main_v124) ∧ kd1 (between1 Y) = Y (Proc.devRef .tc main_v125) := by
  simp only [between1, part2, part3, part4, siluOps, siluGradOps, List.cons_append, List.nil_append]
  refine ⟨?_, ?_, ?_, ?_, ?_, ?_, ?_, ?_, ?_, ?_⟩ <;> after_reads_simp <;> rfl

set_option maxRecDepth 100000 in
theorem E1_mid (Y : Valuation τ sig (Elt Ideal)) (h : Fin 4) (d x : Fin 128) : E1 (between1 Y) (ix4 0 h d x) = 0 := by
  simp only [between1, part3, part4, siluOps, siluGradOps, List.cons_append, List.nil_append]
  after_reads_simp
  simp only [id_eq]
  pointwise

set_option maxRecDepth 100000 in
theorem kept_mid (Y : Valuation τ sig (Elt Ideal)) : ∀ r ∈ [main_arg0, main_arg1, main_arg2, main_arg3, main_v21, main_v23, main_v51, main_v53],
    between1 Y (Proc.devRef .tc r) = Y (Proc.devRef .tc r) := by
  simp only [between1, part2, part3, part4, siluOps, siluGradOps, List.cons_append, List.nil_append, List.forall_mem_cons]
  refine ⟨?_, ?_, ?_, ?_, ?_, ?_, ?_, ?_, by simp⟩ <;> after_reads_simp

variable (m : (ℓ : Loc nD τ sig) → Buf (Elt Ideal) ℓ) (c : Dev nD)

/-- The states of the chunks the reference is launched with. -/
abbrev states : Fin 4 → ℕ → State := fun h => R (chunks m c h)

theorem out0 : Out0 (at0 m 128 c) (chunks m c) (states m c) where
  o n i h x := os0_end (in0_start m c) (R0_start m c) n i h x
  g n i h d := by
    rw [at0_kept m c (r := main_v5) (by simp) 128]
    refine (g_start m c _ _).trans ?_
    simp only [chunks, chunk, tok_eq, lane]
  t n i h d := by
    rw [at0_kept m c (r := main_arg2) (by simp) 128, args_start m c main_arg2 (by simp)]
    simp only [chunks, chunk, tok_eq, mixLane, dmix]
  w n h d := by
    rw [at0_kept m c (r := main_arg1) (by simp) 128, args_start m c main_arg1 (by simp)]
    rfl

theorem in1_start : In1 (at1 m 0 c) (chunks m c) (states m c) := by
  change In1 (between1 (at0 m 128 c)) _ _
  obtain ⟨ek, eq, es, ev, eR, ekk, edm, eqd, ecd, ekd⟩ := copies_mid (at0 m 128 c)
  obtain ⟨fq, fk, fv, fdm, fqd, fcd, fkd⟩ := copies_start m c
  have kept {r : Ref sig .tc} (hr : r ∈ kept0) := at0_kept m c hr 128
  have h0 := in0_start m c
  constructor
  · exact dO_mid (out0 m c)
  · intro n i h d; rw [ek, kept (by simp), fk]; exact h0.k n i h d
  · intro n i h d; rw [eq, kept (by simp), fq]; exact h0.q n i h d
  · intro n h i j; rw [es]; exact ss0_end h0 n h i j
  · intro n i h d; rw [ev, kept (by simp), fv]; exact h0.v n i h d
  · intro n h d x; rw [eR]; exact Rs0_end h0 (R0_start m c) n h d x
  · intro n i h d; rw [ekk]; exact kks0_end h0 n i h d
  · intro n h i j; rw [edm, kept (by simp), fdm]; exact h0.dm n h i j
  · intro n i h; rw [eqd, kept (by simp), fqd]; exact h0.qd n i h
  · intro n h; rw [ecd, kept (by simp), fcd]; exact h0.cd n h
  · intro n i h; rw [ekd, kept (by simp), fkd]; exact h0.kd n i h

/-- The operations after the loops. -/
def after1 (Z : Valuation τ sig (Elt Ideal)) : Valuation τ sig (Elt Ideal) :=
  after part5.1 (after part4.2.1 (after cond1 Z))

theorem final_eq : final m c = after1 (at1 m 128 c) := rfl

set_option maxRecDepth 100000 in
theorem kept_end (Z : Valuation τ sig (Elt Ideal)) : ∀ r ∈ [main_arg0, main_arg1, main_arg2, main_arg3],
    after1 Z (Proc.devRef .tc r) = Z (Proc.devRef .tc r) := by
  simp only [after1, part4, part5, List.forall_mem_cons]
  refine ⟨?_, ?_, ?_, ?_, by simp⟩ <;> after_reads_simp

set_option maxRecDepth 100000 in
theorem dnw_end (Z : Valuation τ sig (Elt Ideal)) (d : Fin 128) :
    (after1 Z (Proc.devRef .tc main_v242) : S1x128.Idx → EReal) (ix2 0 d) = (Z (Proc.devRef .tc main_v166) : S128.Idx → EReal) (ix1 d) := by
  simp only [after1, part4, part5]
  after_reads_simp
  pointwise

/-- Four arrays of 512 columns and one of 5120, side by side. -/
def beside {α : Type} (a b c d : S8192x512.Idx → α) (e : S8192x5120.Idx → α) : S8192x7168.Idx → α := fun j =>
  if h0 : (j 1).val < 512 then a (ix2 (j 0) ⟨(j 1).val, h0⟩)
  else if h1 : (j 1).val - 512 < 512 then b (ix2 (j 0) ⟨(j 1).val - 512, h1⟩)
  else if h2 : (j 1).val - 512 - 512 < 512 then c (ix2 (j 0) ⟨(j 1).val - 512 - 512, h2⟩)
  else if h3 : (j 1).val - 512 - 512 - 512 < 512 then d (ix2 (j 0) ⟨(j 1).val - 512 - 512 - 512, h3⟩)
  else e (ix2 (j 0) ⟨(j 1).val - 512 - 512 - 512 - 512, by have := (j 1).isLt; change (j 1).val < 7168 at this; omega⟩)

theorem concat_beside {α : Type} (a b c d : S8192x512.Idx → α) (e : S8192x5120.Idx → α) :
    concatenate (α := α) S8192x7168 1 [⟨S8192x512, a⟩, ⟨S8192x512, b⟩, ⟨S8192x512, c⟩, ⟨S8192x512, d⟩, ⟨S8192x5120, e⟩]
      concatenates_S8192x512_S8192x512_S8192x512_S8192x512_S8192x5120_S8192x7168_d1 = beside a b c d e := by
  funext j
  obtain ⟨t, k, rfl⟩ : ∃ t k, j = ix2 t k := ⟨j 0, j 1, by pointwise⟩
  pointwise
  rfl

set_option maxRecDepth 100000 in
theorem columns_end (Z : Valuation τ sig (Elt Ideal)) :
    (after1 Z (Proc.devRef .tc main_v241) : S8192x7168.Idx → EReal)
      = beside (after1 Z (Proc.devRef .tc main_v233)) (after1 Z (Proc.devRef .tc main_v235)) (after1 Z (Proc.devRef .tc main_v237))
        (after1 Z (Proc.devRef .tc main_v239)) (after1 Z (Proc.devRef .tc main_v240)) := by
  simp only [after1, part5]
  generalize after (part4 (F := Ideal)).2.1 _ = X
  after_reads_simp
  refine (concat_beside _ _ _ _ _).trans ?_
  refine congr (congr (congr (congr (congrArg beside ?_) ?_) ?_) ?_) ?_
  · change upto _ _ _ (Proc.devRef .tc main_v233) = _; after_reads_simp
  · change upto _ _ _ (Proc.devRef .tc main_v235) = _; after_reads_simp
  · change upto _ _ _ (Proc.devRef .tc main_v237) = _; after_reads_simp
  · change upto _ _ _ (Proc.devRef .tc main_v239) = _; after_reads_simp
  · change upto _ _ _ (Proc.devRef .tc main_v240) = _; after_reads_simp

/-- The chunks' cosines and sines, where the gradients are rotated back. -/
structure Turns (Z : Valuation τ sig (Elt Ideal)) : Prop where
  cq : ∀ t e, (Z (Proc.devRef .tc main_v21) : S1x8192x1x64.Idx → EReal) (ix4 0 t 0 e) = cosAt t e
  sq : ∀ t e, (Z (Proc.devRef .tc main_v23) : S1x8192x1x64.Idx → EReal) (ix4 0 t 0 e) = sinAt t e
  ck : ∀ t e, (Z (Proc.devRef .tc main_v51) : S1x8192x1x64.Idx → EReal) (ix4 0 t 0 e) = cosAt t e
  sk : ∀ t e, (Z (Proc.devRef .tc main_v53) : S1x8192x1x64.Idx → EReal) (ix4 0 t 0 e) = sinAt t e

section Columns

variable {Z : Valuation τ sig (Elt Ideal)} (hZ : Turns Z) (n : Fin 128) (i : Fin 64) (h : Fin 4) (d : Fin 128)

set_option maxRecDepth 100000 in
include hZ in
theorem dq_end : (after1 Z (Proc.devRef .tc main_v233) : S8192x512.Idx → EReal)
      (ix2 ⟨n.val * 64 + i.val, by omega⟩ ⟨h.val * 128 + d.val, by omega⟩)
    = unrotated (tok n i) (fun d => dq1 Z (ix5 n 0 i h d)) d := by
  simp only [after1, part4, part5]
  after_reads_simp
  pointwise
  have hc := hZ.cq; have hs := hZ.sq
  simp only [tokDiv, tokMod, hc, hs, unrotated, tok_eq]
  by_cases hd : d.val < 64
  · rw [dif_neg (by omega), dif_pos ⟨by omega, hd⟩, dif_pos hd, zero_add]
  · rw [dif_pos ⟨by omega, by omega, by omega⟩, dif_neg (by omega), dif_neg hd, add_zero]

set_option maxRecDepth 100000 in
include hZ in
theorem dk_end : (after1 Z (Proc.devRef .tc main_v235) : S8192x512.Idx → EReal)
      (ix2 ⟨n.val * 64 + i.val, by omega⟩ ⟨h.val * 128 + d.val, by omega⟩)
    = unrotated (tok n i) (fun d => dk1 Z (ix5 n 0 i h d) * ksc) d := by
  simp only [after1, part4, part5]
  after_reads_simp
  pointwise
  have hc := hZ.ck; have hs := hZ.sk
  simp only [tokDiv, tokMod, hc, hs, unrotated, tok_eq]
  by_cases hd : d.val < 64
  · rw [dif_neg (by omega), dif_pos ⟨by omega, hd⟩, dif_pos hd, zero_add]
    rfl
  · rw [dif_pos ⟨by omega, by omega, by omega⟩, dif_neg (by omega), dif_neg hd, add_zero]
    rfl

set_option maxRecDepth 100000 in
theorem dv_end : (after1 Z (Proc.devRef .tc main_v237) : S8192x512.Idx → EReal)
      (ix2 ⟨n.val * 64 + i.val, by omega⟩ ⟨h.val * 128 + d.val, by omega⟩) = dv1 Z (ix5 n 0 i h d) := by
  simp only [after1, part4, part5]
  after_reads_simp
  pointwise

set_option maxRecDepth 100000 in
theorem dg_end (t : Fin 8192) (e : Fin 512) : (after1 Z (Proc.devRef .tc main_v239) : S8192x512.Idx → EReal) (ix2 t e)
    = (Z (Proc.devRef .tc main_v160) : S1x8192x512.Idx → EReal) (ix3 0 t e) := by
  simp only [after1, part4, part5]
  after_reads_simp
  pointwise

set_option maxRecDepth 100000 in
theorem rest_end (t : Fin 8192) (e : Fin 5120) : (after1 Z (Proc.devRef .tc main_v240) : S8192x5120.Idx → EReal) (ix2 t e)
    = (Z (Proc.devRef .tc main_arg3) : S8192x7168.Idx → EReal) (ix2 t ⟨2048 + e.val, by omega⟩) := by
  simp only [after1, part4, part5]
  after_reads_simp
  pointwise

end Columns

theorem turns : Turns (at1 m 128 c) := by
  have e {r : Ref sig .tc} (h1 : r ∈ kept1) (h2 : r ∈ [main_arg0, main_arg1, main_arg2, main_arg3, main_v21, main_v23, main_v51, main_v53]) (h3 : r ∈ kept0) :
      at1 m 128 c (Proc.devRef .tc r) = at0 m 0 c (Proc.devRef .tc r) :=
    (at1_kept m c h1 128).trans ((kept_mid (at0 m 128 c) r h2).trans (at0_kept m c h3 128))
  constructor
  · intro t a; rw [e (by simp) (by simp) (by simp)]; exact cosQ_start m c t a
  · intro t a; rw [e (by simp) (by simp) (by simp)]; exact sinQ_start m c t a
  · intro t a; rw [e (by simp) (by simp) (by simp)]; exact cos_start m c t a
  · intro t a; rw [e (by simp) (by simp) (by simp)]; exact sin_start m c t a

/-- The reference's first result, as a function of token and column. -/
def refCols : Fin 8192 → Fin 7168 → EReal := fun t e =>
  (final m c (Proc.devRef .tc main_v241) : S8192x7168.Idx → EReal) (ix2 t e)

theorem refCols_eq (t : Fin 8192) (e : Fin 7168) : refCols m c t e
    = beside (after1 (at1 m 128 c) (Proc.devRef .tc main_v233)) (after1 (at1 m 128 c) (Proc.devRef .tc main_v235))
        (after1 (at1 m 128 c) (Proc.devRef .tc main_v237)) (after1 (at1 m 128 c) (Proc.devRef .tc main_v239))
        (after1 (at1 m 128 c) (Proc.devRef .tc main_v240)) (ix2 t e) := by
  rw [← columns_end]
  rfl

variable (n : Fin 128) (i : Fin 64) (h : Fin 4) (d : Fin 128)

theorem refCols_q : refCols m c (tok n i) (lane 0 (by decide) h d) = outQ (proj m c) (dmix m c) (weight m c) h n i d := by
  refine (refCols_eq m c (tok n i) (lane 0 (by decide) h d)).trans
    ((dif_pos (show (lane 0 (by decide) h d).val < 512 by simp only [lane]; omega)).trans ?_)
  refine Eq.trans (congrArg _ (congrArg₂ ix2 (tok_eq n i) (Fin.ext ?_))) ((dq_end (turns m c) n i h d).trans ?_)
  · show 512 * 0 + (h.val * 128 + d.val) = h.val * 128 + d.val
    omega
  · simp only [dq1_end (in1_start m c) n i h]
    rfl

theorem refCols_k : refCols m c (tok n i) (lane 1 (by decide) h d) = outK (proj m c) (dmix m c) (weight m c) h n i d := by
  refine (refCols_eq m c (tok n i) (lane 1 (by decide) h d)).trans
    ((dif_neg (show ¬(lane 1 (by decide) h d).val < 512 by simp only [lane]; omega)).trans
      ((dif_pos (show (lane 1 (by decide) h d).val - 512 < 512 by simp only [lane]; omega)).trans ?_))
  refine Eq.trans (congrArg _ (congrArg₂ ix2 (tok_eq n i) (Fin.ext ?_))) ((dk_end (turns m c) n i h d).trans ?_)
  · show 512 * 1 + (h.val * 128 + d.val) - 512 = h.val * 128 + d.val
    omega
  · simp only [dk1_end (in1_start m c) (E1_mid _) n i h]
    rfl

theorem refCols_v : refCols m c (tok n i) (lane 2 (by decide) h d) = outV (proj m c) (dmix m c) (weight m c) h n i d := by
  refine (refCols_eq m c (tok n i) (lane 2 (by decide) h d)).trans
    ((dif_neg (show ¬(lane 2 (by decide) h d).val < 512 by simp only [lane]; omega)).trans
      ((dif_neg (show ¬(lane 2 (by decide) h d).val - 512 < 512 by simp only [lane]; omega)).trans
        ((dif_pos (show (lane 2 (by decide) h d).val - 512 - 512 < 512 by simp only [lane]; omega)).trans ?_)))
  refine Eq.trans (congrArg _ (congrArg₂ ix2 (tok_eq n i) (Fin.ext ?_))) ((dv_end n i h d).trans
    (dv1_end (in1_start m c) (E1_mid _) n i h d))
  show 512 * 2 + (h.val * 128 + d.val) - 512 - 512 = h.val * 128 + d.val
  omega

theorem refCols_g : refCols m c (tok n i) (lane 3 (by decide) h d) = outG (proj m c) (dmix m c) (weight m c) h n i d := by
  refine (refCols_eq m c (tok n i) (lane 3 (by decide) h d)).trans
    ((dif_neg (show ¬(lane 3 (by decide) h d).val < 512 by simp only [lane]; omega)).trans
      ((dif_neg (show ¬(lane 3 (by decide) h d).val - 512 < 512 by simp only [lane]; omega)).trans
        ((dif_neg (show ¬(lane 3 (by decide) h d).val - 512 - 512 < 512 by simp only [lane]; omega)).trans
          ((dif_pos (show (lane 3 (by decide) h d).val - 512 - 512 - 512 < 512 by simp only [lane]; omega)).trans ?_))))
  refine Eq.trans (congrArg _ (congrArg₂ ix2 (tok_eq n i) (Fin.ext ?_))) ((dg_end _ ⟨h.val * 128 + d.val, by omega⟩).trans ?_)
  · show 512 * 3 + (h.val * 128 + d.val) - 512 - 512 - 512 = h.val * 128 + d.val
    omega
  · rw [at1_kept m c (r := main_v160) (by simp) 128]
    exact dg_mid (out0 m c) n i h d

theorem refCols_rest (t : Fin 8192) (e : Fin 7168) (he : 2048 ≤ e.val) : refCols m c t e
    = (launchContents m c (Proc.devRef .tc main_arg3) : S8192x7168.Idx → EReal) (ix2 t e) := by
  refine (refCols_eq m c t e).trans ((dif_neg (show ¬e.val < 512 by omega)).trans ((dif_neg (show ¬e.val - 512 < 512 by omega)).trans
    ((dif_neg (show ¬e.val - 512 - 512 < 512 by omega)).trans ((dif_neg (show ¬e.val - 512 - 512 - 512 < 512 by omega)).trans ?_))))
  refine (rest_end t ⟨e.val - 512 - 512 - 512 - 512, by omega⟩).trans ?_
  rw [at1_kept m c (r := main_arg3) (by simp) 128]
  refine (congrFun ((kept_mid (at0 m 128 c) main_arg3 (by simp)).trans ((at0_kept m c (by simp) 128).trans
    (args_start m c main_arg3 (by simp)))) _).trans (congrArg _ (congrArg _ (Fin.ext ?_)))
  show 2048 + (e.val - 512 - 512 - 512 - 512) = e.val
  omega

/-- The reference's second result. -/
theorem refWeight_eq : (final m c (Proc.devRef .tc main_v242) : S1x128.Idx → EReal) (ix2 0 d)
    = outW (proj m c) (dmix m c) (weight m c) d := by
  refine (dnw_end (at1 m 128 c) d).trans ?_
  rw [at1_kept m c (r := main_v166) (by simp) 128]
  exact dnw_mid (out0 m c) d

/-- The reference's run leaves its arguments. -/
theorem ref_args {r : Ref sig .tc} (hr : r ∈ [main_arg0, main_arg1, main_arg2, main_arg3]) :
    final m c (Proc.devRef .tc r) = launchContents m c (Proc.devRef .tc r) := by
  have sub {l : List (Ref sig .tc)} (hl : [main_arg0, main_arg1, main_arg2, main_arg3] ⊆ l) : r ∈ l := hl hr
  rw [final_eq, kept_end _ r hr, at1_kept m c (sub (by decide)) 128, show at1 m 0 c = between1 (at0 m 128 c) from rfl,
    kept_mid _ r (sub (by decide)), at0_kept m c (sub (by decide)) 128, args_start m c r hr]

end Cert.Ret

end
-- ==== Proof.RetAlg.lean ====
/-
  The gradient of the retention: the claim that the kernel and the reference leave equal arrays, and that the
  reference's run ends with its arguments as they were.
-/
module

public import proofs.«01_k».proof.Defs
public import proofs.«01_k».proof.Proof.RetFinal
public import proofs.«01_k».proof.Proof.RefEnd
public import Idealize.ShloMosaic.Adequacy
public import Idealize.ShloMosaic.Init

@[expose] public section

noncomputable section

namespace Cert.Ret

open Idealize.ShloMosaic Idealize.ShloMosaic.TcCoe Idealize.ShloMosaic.StableHlo Idealize.SL.Sem
open Cert.ReferenceIdeal

section Reference

variable (m : (ℓ : Loc nD τ sig) → Buf (Elt Ideal) ℓ) (c : Dev nD)

/-- The reference's first result on the columns that hold the four gradients, at a place. -/
theorem refCols_out (t : Fin 8192) (e : Fin 7168) (he : e.val < 2048) : refCols m c t e
    = outAt (proj m c) (dmix m c) (weight m c) (e.val / 512) ⟨e.val % 512 / 128, by omega⟩ (t.val / 64)
        ⟨t.val % 64, Nat.mod_lt _ (by decide)⟩ ⟨e.val % 128, Nat.mod_lt _ (by decide)⟩ := by
  have key : ∀ (p : ℕ) (hp : p < 4) (n : Fin 128) (i : Fin 64) (h : Fin 4) (d : Fin 128),
      refCols m c (tok n i) (lane p hp h d) = outAt (proj m c) (dmix m c) (weight m c) p h n i d
    | 0, _, n, i, h, d => refCols_q m c n i h d
    | 1, _, n, i, h, d => refCols_k m c n i h d
    | 2, _, n, i, h, d => refCols_v m c n i h d
    | 3, _, n, i, h, d => refCols_g m c n i h d
  have ht := t.isLt
  refine Eq.trans (congrArg₂ (refCols m c) (Fin.ext ?_) (Fin.ext ?_)) (key (e.val / 512) (by omega) ⟨t.val / 64, by omega⟩
    ⟨t.val % 64, Nat.mod_lt _ (by decide)⟩ ⟨e.val % 512 / 128, by omega⟩ ⟨e.val % 128, Nat.mod_lt _ (by decide)⟩)
  · show t.val = (t.val / 64 * 64 + t.val % 64) % 8192
    omega
  · show e.val = 512 * (e.val / 512) + (e.val % 512 / 128 * 128 + e.val % 128)
    omega

/-- The reference ends with its arguments as they were. -/
theorem reference_keeps (ρ : Dev nD → PrngReg) :
    θ_run (defs (F := Ideal)) (onTc (τ := τ) (main (F := Ideal))) ⟨m, fun _ => 0, ρ⟩ (fun r => ∀ c : Dev nD,
      r.2.mem ((c.tc : Thread nD τ).loc main_v241) = final m c (Proc.devRef .tc main_v241)
      ∧ r.2.mem ((c.tc : Thread nD τ).loc main_v242) = final m c (Proc.devRef .tc main_v242)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨h c main_v241 rfl, h c main_v242 rfl,
    (h c main_arg0 rfl).trans (ref_args m c (by simp)), (h c main_arg1 rfl).trans (ref_args m c (by simp)),
    (h c main_arg2 rfl).trans (ref_args m c (by simp)), (h c main_arg3 rfl).trans (ref_args m c (by simp))⟩)
    (run_reference m ρ)

end Reference

section Both

variable (m : (ℓ : Loc Cert.KernelIdeal.nD Cert.KernelIdeal.τ Cert.KernelIdeal.sig) → Buf (Elt Ideal) ℓ)
  (m' : (ℓ : Loc nD τ sig) → Buf (Elt Ideal) ℓ) (c : Dev Cert.KernelIdeal.nD)

/-- Launched with equal projections, weights and incoming gradients, the two read the same numbers. -/
theorem same_reads (h0 : m' ((c.tc : Thread nD τ).loc main_arg0) = m (c, Proc.devRef .tc Cert.KernelIdeal.main_arg0))
    (h1 : m' ((c.tc : Thread nD τ).loc main_arg1) = m (c, Proc.devRef .tc Cert.KernelIdeal.main_arg1))
    (h2 : m' ((c.tc : Thread nD τ).loc main_arg2) = m (c, Proc.devRef .tc Cert.KernelIdeal.main_arg2)) :
    proj m' c = kProj m c ∧ weight m' c = kWeight m c ∧ dmix m' c = kDmix m c :=
  ⟨funext fun t => funext fun e => congrFun (β := fun _ : S8192x7168.Idx => EReal) h0 (ix2 t e),
    funext fun d => congrFun (β := fun _ : S128.Idx => EReal) h1 (ix1 d),
    funext fun t => funext fun e => congrFun (β := fun _ : S8192x2048.Idx => EReal) h2 (ix2 t e)⟩

/-- The first result: the four gradients in its first columns, the incoming array in the others. -/
theorem same_cols (h : proj m' c = kProj m c ∧ weight m' c = kWeight m c ∧ dmix m' c = kDmix m c)
    (h3 : m' ((c.tc : Thread nD τ).loc main_arg3) = m (c, Proc.devRef .tc Cert.KernelIdeal.main_arg3)) (i : S8192x7168.Idx) :
    (final m' c (Proc.devRef .tc main_v241) : S8192x7168.Idx → EReal) i
      = ((Cert.KernelIdeal.Gen.dats (F := Ideal) m 0 c).arrAt 13 Cert.KernelIdeal.cfg0.N : S8192x7168.Idx → EReal) i := by
  obtain ⟨t, e, rfl⟩ : ∃ (t : Fin 8192) (e : Fin 7168), i = ix2 t e := ⟨i 0, i 1, by funext a; fin_cases a <;> rfl⟩
  by_cases he : e.val < 2048
  · refine (refCols_out m' c t e he).trans (Eq.trans ?_ (cols_out m c (ix2 t e) he).symm)
    rw [h.1, h.2.1, h.2.2]
    rfl
  · exact (refCols_rest m' c t e (by omega)).trans ((congrFun (β := fun _ : S8192x7168.Idx => EReal) h3 (ix2 t e)).trans
      (cols_kept m c (ix2 t e) he).symm)

/-- The second result: the gradient of the norm's weight. -/
theorem same_row (h : proj m' c = kProj m c ∧ weight m' c = kWeight m c ∧ dmix m' c = kDmix m c) (i : S1x128.Idx) :
    (final m' c (Proc.devRef .tc main_v242) : S1x128.Idx → EReal) i = (gradRow m c : S1x128.Idx → EReal) i := by
  obtain ⟨d, rfl⟩ : ∃ d : Fin 128, i = ix2 0 d :=
    ⟨i 1, by funext a; fin_cases a; exacts [Fin.ext (Nat.lt_one_iff.1 (i 0).isLt), rfl]⟩
  refine (refWeight_eq m' c d).trans ?_
  rw [h.1, h.2.1, h.2.2]
  rfl

end Both

end Cert.Ret

namespace Cert.Proof

open Idealize.ShloMosaic Idealize.ShloMosaic.TcCoe Idealize.SL.Sem Cert.Ret

/-- The reference leaves its arguments as they were; it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (reference_keeps m ρ)

/-- The kernel and the reference leave equal arrays. -/
theorem algebraic : Cert.algebraic_KernelIdeal_ReferenceIdeal := by
  intro m g m' g' _ hargs
  have reads c := same_reads m m' c (hargs c).1 (hargs c).2.1 (hargs c).2.2.1
  refine ⟨fun c => (Cert.KernelIdeal.Gen.dats (F := Ideal) m 0 c).arrAt 13 Cert.KernelIdeal.cfg0.N, fun c => gradRow m c, ?_, ?_⟩
  · exact (θ_run _ _ _).mono (fun r h c => ⟨(h c).1, (h c).2.1.trans (row_out m c), (h c).2.2⟩)
      (Cert.KernelIdeal.Value.run_blocks (F := Ideal) m g)
  · exact (θ_run _ _ _).mono (fun r h c => ⟨(h c).1.trans (funext (same_cols m m' c (reads c) (hargs c).2.2.2)),
      (h c).2.1.trans (funext (same_row m m' c (reads c))), (h c).2.2⟩) (reference_keeps m' g')

end Cert.Proof

end
-- ==== Proof.Mm2.lean ====
/-
  The value of the input projection: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel2Ideal.Value
public import proofs.«01_k».proof.Proof.Gen.Reference2Ideal.Run
public import proofs.«01_k».proof.Proof.Mm
public import Idealize.ShloMosaic.Lib.Pointwise

@[expose] public section

noncomputable section

namespace Cert.Kernel2Ideal.Mm

open Cert.Kernel2Ideal Cert.Kernel2Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x1024.Idx → EReal := m ((c : Thread nD τ).loc main_arg0)
abbrev W (c : Dev nD) : S7168x1024.Idx → EReal := m ((c : Thread nD τ).loc main_arg1)

/-- The product at row `r` and column `q`. -/
def prod (c : Dev nD) (r q : ℕ) : EReal :=
  ∑ k ∈ Finset.range 1024, at2 (X m c) (r) (k) * at2 (W m c) (q) (k)

/-- The part of the product that grid point `p` adds at its block's place `(r, q)`. -/
def part (c : Dev nD) (p r q : ℕ) : EReal :=
  ∑ j ∈ Finset.range 1024, at2 (X m c) (p / 7 * 1024 + r) (p % 1 * 1024 + j) * at2 (W m c) (p / 1 % 7 * 1024 + q) (p % 1 * 1024 + j)

/-- The grid's block indices in closed form. -/
theorem index0 : ∀ t : Fin cfg0.N, win0_0.index t (0 : Fin 2) = t.val / 7 ∧ win0_0.index t (1 : Fin 2) = t.val % 1 :=
  (by decide +kernel : ∀ t : Fin grid0.N, _)
theorem index1 : ∀ t : Fin cfg0.N, win0_1.index t (0 : Fin 2) = t.val / 1 % 7 ∧ win0_1.index t (1 : Fin 2) = t.val % 1 :=
  (by decide +kernel : ∀ t : Fin grid0.N, _)
theorem index2 : ∀ t : Fin cfg0.N, win0_2.index t (0 : Fin 2) = t.val / 7 ∧ win0_2.index t (1 : Fin 2) = t.val / 1 % 7 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val / 7 * 1024 + r) (t.val % 1 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val / 1 % 7 * 1024 + r) (t.val % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) ((y 0).val) (j) * at2 (w : S1024x1024.Idx → EReal) ((y 1).val) (j) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ h0 hj) (block1 m c t _ _ h1 hj)

theorem hz : (![0, 0] : Fin 2 → Nat) = fun _ => 0 := funext fun a => by fin_cases a <;> rfl

/-- What a point leaves in the output block. -/
theorem out_eq (x : Vec Ideal S1024x1024 .bf16) (w : Vec Ideal S1024x1024 .bf16) : out0_2 (F := Ideal) x w = k0_pay1 x w := by
  unfold out0_2
  rw [View.canon_unit_zero hz, View.ld_unit_zero (S := S1024x1024) hz, View.ld_unit_zero (S := S1024x1024) hz]

/-- … read at a place. -/
theorem left (c : Dev nD) (t : Fin cfg0.N) (y : S1024x1024.Idx) :
    out0_2 (F := Ideal) (iblk m c 0 t) (iblk m c 1 t) y = ∑ s ∈ Finset.range 1, part m c (1 * (t.val / 1) + s) (y 0).val (y 1).val := by
  rw [out_eq, pay1_part, Finset.sum_range_one, Nat.div_one, Nat.one_mul, Nat.add_zero]

/-- The parts of an output block's points make the whole product. -/
theorem sum_parts (c : Dev nD) (t r q : ℕ) :
    ∑ s ∈ Finset.range 1, part m c (1 * (t / 1) + s) r q = prod m c (t / 7 * 1024 + r) (t / 1 % 7 * 1024 + q) := by
  unfold prod
  refine Eq.trans ?_ (sum_tiles (fun k => at2 (X m c) (t / 7 * 1024 + r) (k) * at2 (W m c) (t / 1 % 7 * 1024 + q) (k)) 1 1024)
  refine Finset.sum_congr rfl fun s hs => ?_
  have hs := Finset.mem_range.mp hs
  unfold part
  have e1 : (1 * (t / 1) + s) / 7 = t / 7 := by omega
  have e2 : (1 * (t / 1) + s) / 1 % 7 = t / 1 % 7 := by omega
  have e3 : (1 * (t / 1) + s) % 1 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  show out0_2 (F := Ideal) (iblk m c 0 t) (iblk m c 1 t) ((cfg0.win 2).xinj (grid0.coords t) y) = _
  rw [left]
  have e : (∑ s ∈ Finset.range 1, part m c (1 * (t.val / 1) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S8192x7168.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S8192x7168.Idx) : ∃ t : Fin cfg0.N, (cfg0.win 2).flush t = true ∧ i ∈ ((cfg0.win 2).blk t).view.set := by
  have h0 : (i 0).val < 8192 := (i 0).isLt
  have h1 : (i 1).val < 7168 := (i 1).isLt
  have hp : ((i 0).val / 1024 * 7 + (i 1).val / 1024) * 1 + 0 < cfg0.N := lt_of_lt_of_eq (by omega) (show 56 = cfg0.N from N_0.symm)
  refine ⟨⟨((i 0).val / 1024 * 7 + (i 1).val / 1024) * 1 + 0, hp⟩, flush0_2 _, ?_⟩
  obtain ⟨e0, e1⟩ := index2 ⟨((i 0).val / 1024 * 7 + (i 1).val / 1024) * 1 + 0, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x1024.Idx → EReal) (w : S7168x1024.Idx → EReal) (i : S8192x7168.Idx) :
    (∑ k : Fin 1024, x (ValueIdx.ix2 (i 0) k) * w (ValueIdx.ix2 (i 1) k))
      = ∑ k ∈ Finset.range 1024, at2 x ((i 0).val) (k) * at2 w ((i 1).val) (k) := by
  rw [Finset.sum_range]
  exact Finset.sum_congr rfl fun j _ => congrArg₂ (· * ·) (at2_ix x _ _) (at2_ix w _ _)

end Cert.Kernel2Ideal.Mm

end
-- ==== Proof.Alg2.lean ====
/-
  The input projection: the plain product that the reference prints, read at a place, and the claim that the kernel
  and the reference leave equal arrays.
-/
module

public import proofs.«01_k».proof.Proof.Mm2

@[expose] public section

noncomputable section

namespace Cert.Reference2Ideal.Mm

open Cert.Reference2Ideal Cert.Reference2Ideal.Gen Idealize.ShloMosaic Idealize.ShloMosaic.TcCoe Idealize.SL.Sem
open Cert.Proof.Mm
open scoped BigOperators

/-- The reference's product at a place is the sum over the contracted axis. -/
theorem term_apply (x : FVec Ideal S8192x1024 .bf16) (w : FVec Ideal S7168x1024 .bf16) (i : S8192x7168.Idx) :
    (shapeCast _ (Host.dotGeneral (F := Ideal) dot_S1x8192x1024_S1024x7168_S1x8192x7168_2_0_01_1_n_n none (broadcastInDim S1x8192x1024 ![1, 2] bcast_S8192x1024_S1x8192x1024_1_2 (extf (F := Ideal) .f32 x bitsLt_bf16_f32)) (extf (F := Ideal) .f32 (transpose S1024x7168 [1, 0] w transposes_S7168x1024_S1024x7168_1_0) bitsLt_bf16_f32)) shapeCasts_S1x8192x7168_S8192x7168 : FVec Ideal S8192x7168 .f32) i
      = ∑ k ∈ Finset.range 1024, at2 (x : S8192x1024.Idx → EReal) ((i 0).val) (k) * at2 (w : S7168x1024.Idx → EReal) ((i 1).val) (k) := by
  simp only [pointwise]
  rw [zero_add, Finset.sum_range]
  refine Finset.sum_congr rfl fun j _ => ?_
  have h0 : (i 0).val < 8192 := (i 0).isLt
  have h1 : (i 1).val < 7168 := (i 1).isLt
  refine congrArg₂ (· * ·) (at2_of _ _ _ _ ?_ ?_) (at2_of _ _ _ _ ?_ ?_)
  all_goals first | rfl | (dsimp; omega)

end Cert.Reference2Ideal.Mm

namespace Cert.Proof

open Idealize.ShloMosaic Idealize.ShloMosaic.TcCoe Idealize.SL.Sem

theorem algebraic_2 : Cert.algebraic_Kernel2Ideal_Reference2Ideal := by
  intro m g m' g' _ hargs
  refine ⟨fun c => Cert.Kernel2Ideal.Mm.G m c, ?_, ?_⟩
  · refine (θ_run _ _ _).mono (fun r h c => ?_) (Cert.Kernel2Ideal.Value.run_blocks (F := Ideal) m g)
    exact ⟨(h c).1.trans (Cert.Kernel2Ideal.Mm.final m c), (h c).2⟩
  · refine (θ_run _ _ _).mono (fun r h c => ?_) (Cert.Reference2Ideal.Value.run (F := Ideal) m' g')
    refine ⟨(h c).1.trans ?_, (h c).2⟩
    rw [(hargs c).1, (hargs c).2]
    funext i
    exact Cert.Reference2Ideal.Mm.term_apply _ _ i

end Cert.Proof

end
-- ==== Proof.Mm3.lean ====
/-
  The value of the output projection: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel3Ideal.Value
public import proofs.«01_k».proof.Proof.Gen.Reference3Ideal.Run
public import proofs.«01_k».proof.Proof.Mm
public import Idealize.ShloMosaic.Lib.Pointwise

@[expose] public section

noncomputable section

namespace Cert.Kernel3Ideal.Mm

open Cert.Kernel3Ideal Cert.Kernel3Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x2048.Idx → EReal := m ((c : Thread nD τ).loc main_arg0)
abbrev W (c : Dev nD) : S2048x1024.Idx → EReal := m ((c : Thread nD τ).loc main_arg1)

/-- The product at row `r` and column `q`. -/
def prod (c : Dev nD) (r q : ℕ) : EReal :=
  ∑ k ∈ Finset.range 2048, at2 (X m c) (r) (k) * at2 (W m c) (k) (q)

/-- The part of the product that grid point `p` adds at its block's place `(r, q)`. -/
def part (c : Dev nD) (p r q : ℕ) : EReal :=
  ∑ j ∈ Finset.range 1024, at2 (X m c) (p / 2 * 1024 + r) (p % 2 * 1024 + j) * at2 (W m c) (p % 2 * 1024 + j) (p / 2 % 1 * 1024 + q)

/-- The grid's block indices in closed form. -/
theorem index0 : ∀ t : Fin cfg0.N, win0_0.index t (0 : Fin 2) = t.val / 2 ∧ win0_0.index t (1 : Fin 2) = t.val % 2 :=
  (by decide +kernel : ∀ t : Fin grid0.N, _)
theorem index1 : ∀ t : Fin cfg0.N, win0_1.index t (0 : Fin 2) = t.val % 2 ∧ win0_1.index t (1 : Fin 2) = t.val / 2 % 1 :=
  (by decide +kernel : ∀ t : Fin grid0.N, _)
theorem index2 : ∀ t : Fin cfg0.N, win0_2.index t (0 : Fin 2) = t.val / 2 ∧ win0_2.index t (1 : Fin 2) = t.val / 2 % 1 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val / 2 * 1024 + r) (t.val % 2 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val % 2 * 1024 + r) (t.val / 2 % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) ((y 0).val) (j) * at2 (w : S1024x1024.Idx → EReal) (j) ((y 1).val) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ h0 hj) (block1 m c t _ _ hj h1)

theorem hz : (![0, 0] : Fin 2 → Nat) = fun _ => 0 := funext fun a => by fin_cases a <;> rfl

/-- The first point of an output block leaves its product. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x : Vec Ideal S1024x1024 .bf16) (w : Vec Ideal S1024x1024 .bf16) :
    out0_A_2 (F := Ideal) c i a3 h3 a4 h4 a5 h5 hc0 hc1 x w = k0_pay1 x w := by
  unfold out0_A_2
  rw [View.read_writes_eq_canon _ _ _ (cover0_A_2 c i a3 h3 a4 h4 a5 h5 hc0 hc1 x w)]
  unfold kernelRun0_A
  dsimp only
  sl_unfold_words
  rw [View.canon_unit_zero hz]
  simp only [View.readAt_eq_ld, h3.read_unread, h4.read_unread, View.ld_unit_zero (S := S1024x1024) hz, View.ld_unit_zero (S := S1024x1024) hz]

/-- A later point adds its product. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x : Vec Ideal S1024x1024 .bf16) (w : Vec Ideal S1024x1024 .bf16) (xo : Vec Ideal S1024x1024 .f32) :
    out0_B_2 (F := Ideal) c i a3 h3 a4 h4 a5 h5 hc0 hc1 x w xo = addf xo (k0_pay1 x w) := by
  unfold out0_B_2
  rw [View.read_writes_eq_canon _ _ _ (cover0_B_2 c i a3 h3 a4 h4 a5 h5 hc0 hc1 x w xo)]
  unfold kernelRun0_B
  dsimp only
  sl_unfold_words
  rw [View.canon_unit_zero hz]
  unfold k0_pay2
  simp only [View.readAt_eq_ld, h3.read_unread, h4.read_unread, h5.read_unread, View.ld_unit_zero (S := S1024x1024) hz,
    View.ld_unit_zero (S := S1024x1024) hz, View.ld_unit_zero (S := S1024x1024) hz, shapeCast_self]

theorem points : cfg0.N = 16 := N_0

/-- What the output block holds after a point: the parts of the block's points so far. -/
theorem left (c : Dev nD) (y : S1024x1024.Idx) (n : ℕ) (h : n < cfg0.N) :
    outsAt0 (F := Ideal) m c n h y = ∑ s ∈ Finset.range (n % 2 + 1), part m c (2 * (n / 2) + s) (y 0).val (y 1).val := by
  refine fold_runs (fun n h => outsAt0 (F := Ideal) m c n h y) (fun p => part m c p (y 0).val (y 1).val) 2 (by decide)
    (fun n h hz => ?_) (fun n h hz => ?_) n h
  · have hN := lt_of_lt_of_eq h points
    have e := outsAt0_A (F := Ideal) m c ⟨n, h⟩ hz (by dsimp only; omega)
    dsimp only at e ⊢
    rw [e, out_A, pay1_part]
  · have hN := lt_of_lt_of_eq h points
    have e := outsAt0_B (F := Ideal) m c ⟨n + 1, h⟩ hz (by dsimp only; omega)
    dsimp only at e ⊢
    rw [e, out_B]
    exact congrArg₂ (· + ·) rfl (pay1_part m c ⟨n + 1, h⟩ y)

/-- The parts of an output block's points make the whole product. -/
theorem sum_parts (c : Dev nD) (t r q : ℕ) :
    ∑ s ∈ Finset.range 2, part m c (2 * (t / 2) + s) r q = prod m c (t / 2 * 1024 + r) (t / 2 % 1 * 1024 + q) := by
  unfold prod
  refine Eq.trans ?_ (sum_tiles (fun k => at2 (X m c) (t / 2 * 1024 + r) (k) * at2 (W m c) (k) (t / 2 % 1 * 1024 + q)) 2 1024)
  refine Finset.sum_congr rfl fun s hs => ?_
  have hs := Finset.mem_range.mp hs
  unfold part
  have e1 : (2 * (t / 2) + s) / 2 = t / 2 := by omega
  have e2 : (2 * (t / 2) + s) / 2 % 1 = t / 2 % 1 := by omega
  have e3 : (2 * (t / 2) + s) % 2 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  have hm : t.val % 2 = 1 := (flush0_2 t).mp hf
  show outsAt0 (F := Ideal) m c t.val t.isLt ((cfg0.win 2).xinj (grid0.coords t) y) = _
  rw [left, hm]
  have e : (∑ s ∈ Finset.range 2, part m c (2 * (t.val / 2) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hp : ((i 0).val / 1024 * 1 + (i 1).val / 1024) * 2 + 1 < cfg0.N := lt_of_lt_of_eq (by omega) (show 16 = cfg0.N from N_0.symm)
  refine ⟨⟨((i 0).val / 1024 * 1 + (i 1).val / 1024) * 2 + 1, hp⟩, (flush0_2 _).mpr (by dsimp only; omega), ?_⟩
  obtain ⟨e0, e1⟩ := index2 ⟨((i 0).val / 1024 * 1 + (i 1).val / 1024) * 2 + 1, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x2048.Idx → EReal) (w : S2048x1024.Idx → EReal) (i : S8192x1024.Idx) :
    (∑ k : Fin 2048, x (ValueIdx.ix2 (i 0) k) * w (ValueIdx.ix2 k (i 1)))
      = ∑ k ∈ Finset.range 2048, at2 x ((i 0).val) (k) * at2 w (k) ((i 1).val) := by
  rw [Finset.sum_range]
  exact Finset.sum_congr rfl fun j _ => congrArg₂ (· * ·) (at2_ix x _ _) (at2_ix w _ _)

end Cert.Kernel3Ideal.Mm

end
-- ==== Proof.Alg3.lean ====
/-
  The output projection: the plain product that the reference prints, read at a place, and the claim that the kernel
  and the reference leave equal arrays.
-/
module

public import proofs.«01_k».proof.Proof.Mm3

@[expose] public section

noncomputable section

namespace Cert.Reference3Ideal.Mm

open Cert.Reference3Ideal Cert.Reference3Ideal.Gen Idealize.ShloMosaic Idealize.ShloMosaic.TcCoe Idealize.SL.Sem
open Cert.Proof.Mm
open scoped BigOperators

/-- The reference's product at a place is the sum over the contracted axis. -/
theorem term_apply (x : FVec Ideal S8192x2048 .bf16) (w : FVec Ideal S2048x1024 .bf16) (i : S8192x1024.Idx) :
    (shapeCast _ (Host.dotGeneral (F := Ideal) dot_S1x8192x2048_S2048x1024_S1x8192x1024_2_0_01_1_n_n none (broadcastInDim S1x8192x2048 ![1, 2] bcast_S8192x2048_S1x8192x2048_1_2 (extf (F := Ideal) .f32 x bitsLt_bf16_f32)) (extf (F := Ideal) .f32 w bitsLt_bf16_f32)) shapeCasts_S1x8192x1024_S8192x1024 : FVec Ideal S8192x1024 .f32) i
      = ∑ k ∈ Finset.range 2048, at2 (x : S8192x2048.Idx → EReal) ((i 0).val) (k) * at2 (w : S2048x1024.Idx → EReal) (k) ((i 1).val) := by
  simp only [pointwise]
  rw [zero_add, Finset.sum_range]
  refine Finset.sum_congr rfl fun j _ => ?_
  have h0 : (i 0).val < 8192 := (i 0).isLt
  have h1 : (i 1).val < 1024 := (i 1).isLt
  refine congrArg₂ (· * ·) (at2_of _ _ _ _ ?_ ?_) (at2_of _ _ _ _ ?_ ?_)
  all_goals first | rfl | (dsimp; omega)

end Cert.Reference3Ideal.Mm

namespace Cert.Proof

open Idealize.ShloMosaic Idealize.ShloMosaic.TcCoe Idealize.SL.Sem

theorem algebraic_3 : Cert.algebraic_Kernel3Ideal_Reference3Ideal := by
  intro m g m' g' _ hargs
  refine ⟨fun c => Cert.Kernel3Ideal.Mm.G m c, ?_, ?_⟩
  · refine (θ_run _ _ _).mono (fun r h c => ?_) (Cert.Kernel3Ideal.Value.run_blocks (F := Ideal) m g)
    exact ⟨(h c).1.trans (Cert.Kernel3Ideal.Mm.final m c), (h c).2⟩
  · refine (θ_run _ _ _).mono (fun r h c => ?_) (Cert.Reference3Ideal.Value.run (F := Ideal) m' g')
    refine ⟨(h c).1.trans ?_, (h c).2⟩
    rw [(hargs c).1, (hargs c).2]
    funext i
    exact Cert.Reference3Ideal.Mm.term_apply _ _ i

end Cert.Proof

end
-- ==== Proof.Mm4.lean ====
/-
  The value of the gradient that the output projection passes to its input: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel4Ideal.Value
public import proofs.«01_k».proof.Proof.Gen.Reference4Ideal.Run
public import proofs.«01_k».proof.Proof.Mm
public import Idealize.ShloMosaic.Lib.Pointwise

@[expose] public section

noncomputable section

namespace Cert.Kernel4Ideal.Mm

open Cert.Kernel4Ideal Cert.Kernel4Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x1024.Idx → EReal := m ((c : Thread nD τ).loc main_arg0)
abbrev W (c : Dev nD) : S2048x1024.Idx → EReal := m ((c : Thread nD τ).loc main_arg1)

/-- The product at row `r` and column `q`. -/
def prod (c : Dev nD) (r q : ℕ) : EReal :=
  ∑ k ∈ Finset.range 1024, at2 (X m c) (r) (k) * at2 (W m c) (q) (k)

/-- The part of the product that grid point `p` adds at its block's place `(r, q)`. -/
def part (c : Dev nD) (p r q : ℕ) : EReal :=
  ∑ j ∈ Finset.range 1024, at2 (X m c) (p / 2 * 1024 + r) (p % 1 * 1024 + j) * at2 (W m c) (p / 1 % 2 * 1024 + q) (p % 1 * 1024 + j)

/-- The grid's block indices in closed form. -/
theorem index0 : ∀ t : Fin cfg0.N, win0_0.index t (0 : Fin 2) = t.val / 2 ∧ win0_0.index t (1 : Fin 2) = t.val % 1 :=
  (by decide +kernel : ∀ t : Fin grid0.N, _)
theorem index1 : ∀ t : Fin cfg0.N, win0_1.index t (0 : Fin 2) = t.val / 1 % 2 ∧ win0_1.index t (1 : Fin 2) = t.val % 1 :=
  (by decide +kernel : ∀ t : Fin grid0.N, _)
theorem index2 : ∀ t : Fin cfg0.N, win0_2.index t (0 : Fin 2) = t.val / 2 ∧ win0_2.index t (1 : Fin 2) = t.val / 1 % 2 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val / 2 * 1024 + r) (t.val % 1 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val / 1 % 2 * 1024 + r) (t.val % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) ((y 0).val) (j) * at2 (w : S1024x1024.Idx → EReal) ((y 1).val) (j) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ h0 hj) (block1 m c t _ _ h1 hj)

theorem hz : (![0, 0] : Fin 2 → Nat) = fun _ => 0 := funext fun a => by fin_cases a <;> rfl

/-- What a point leaves in the output block. -/
theorem out_eq (x : Vec Ideal S1024x1024 .bf16) (w : Vec Ideal S1024x1024 .bf16) : out0_2 (F := Ideal) x w = k0_pay1 x w := by
  unfold out0_2
  rw [View.canon_unit_zero hz, View.ld_unit_zero (S := S1024x1024) hz, View.ld_unit_zero (S := S1024x1024) hz]

/-- … read at a place. -/
theorem left (c : Dev nD) (t : Fin cfg0.N) (y : S1024x1024.Idx) :
    out0_2 (F := Ideal) (iblk m c 0 t) (iblk m c 1 t) y = ∑ s ∈ Finset.range 1, part m c (1 * (t.val / 1) + s) (y 0).val (y 1).val := by
  rw [out_eq, pay1_part, Finset.sum_range_one, Nat.div_one, Nat.one_mul, Nat.add_zero]

/-- The parts of an output block's points make the whole product. -/
theorem sum_parts (c : Dev nD) (t r q : ℕ) :
    ∑ s ∈ Finset.range 1, part m c (1 * (t / 1) + s) r q = prod m c (t / 2 * 1024 + r) (t / 1 % 2 * 1024 + q) := by
  unfold prod
  refine Eq.trans ?_ (sum_tiles (fun k => at2 (X m c) (t / 2 * 1024 + r) (k) * at2 (W m c) (t / 1 % 2 * 1024 + q) (k)) 1 1024)
  refine Finset.sum_congr rfl fun s hs => ?_
  have hs := Finset.mem_range.mp hs
  unfold part
  have e1 : (1 * (t / 1) + s) / 2 = t / 2 := by omega
  have e2 : (1 * (t / 1) + s) / 1 % 2 = t / 1 % 2 := by omega
  have e3 : (1 * (t / 1) + s) % 1 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  show out0_2 (F := Ideal) (iblk m c 0 t) (iblk m c 1 t) ((cfg0.win 2).xinj (grid0.coords t) y) = _
  rw [left]
  have e : (∑ s ∈ Finset.range 1, part m c (1 * (t.val / 1) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S8192x2048.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hp : ((i 0).val / 1024 * 2 + (i 1).val / 1024) * 1 + 0 < cfg0.N := lt_of_lt_of_eq (by omega) (show 16 = cfg0.N from N_0.symm)
  refine ⟨⟨((i 0).val / 1024 * 2 + (i 1).val / 1024) * 1 + 0, hp⟩, flush0_2 _, ?_⟩
  obtain ⟨e0, e1⟩ := index2 ⟨((i 0).val / 1024 * 2 + (i 1).val / 1024) * 1 + 0, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x1024.Idx → EReal) (w : S2048x1024.Idx → EReal) (i : S8192x2048.Idx) :
    (∑ k : Fin 1024, x (ValueIdx.ix2 (i 0) k) * w (ValueIdx.ix2 (i 1) k))
      = ∑ k ∈ Finset.range 1024, at2 x ((i 0).val) (k) * at2 w ((i 1).val) (k) := by
  rw [Finset.sum_range]
  exact Finset.sum_congr rfl fun j _ => congrArg₂ (· * ·) (at2_ix x _ _) (at2_ix w _ _)

end Cert.Kernel4Ideal.Mm

end
-- ==== Proof.Alg4.lean ====
/-
  The gradient that the output projection passes to its input: the plain product that the reference prints, read at a place, and the claim that the kernel
  and the reference leave equal arrays.
-/
module

public import proofs.«01_k».proof.Proof.Mm4

@[expose] public section

noncomputable section

namespace Cert.Reference4Ideal.Mm

open Cert.Reference4Ideal Cert.Reference4Ideal.Gen Idealize.ShloMosaic Idealize.ShloMosaic.TcCoe Idealize.SL.Sem
open Cert.Proof.Mm
open scoped BigOperators

/-- The reference's product at a place is the sum over the contracted axis. -/
theorem term_apply (x : FVec Ideal S8192x1024 .bf16) (w : FVec Ideal S2048x1024 .bf16) (i : S8192x2048.Idx) :
    (shapeCast _ (Host.dotGeneral (F := Ideal) dot_S1x8192x1024_S2048x1024_S1x8192x2048_2_1_01_0_n_n none (broadcastInDim S1x8192x1024 ![1, 2] bcast_S8192x1024_S1x8192x1024_1_2 (extf (F := Ideal) .f32 x bitsLt_bf16_f32)) (extf (F := Ideal) .f32 w bitsLt_bf16_f32)) shapeCasts_S1x8192x2048_S8192x2048 : FVec Ideal S8192x2048 .f32) i
      = ∑ k ∈ Finset.range 1024, at2 (x : S8192x1024.Idx → EReal) ((i 0).val) (k) * at2 (w : S2048x1024.Idx → EReal) ((i 1).val) (k) := by
  simp only [pointwise]
  rw [zero_add, Finset.sum_range]
  refine Finset.sum_congr rfl fun j _ => ?_
  have h0 : (i 0).val < 8192 := (i 0).isLt
  have h1 : (i 1).val < 2048 := (i 1).isLt
  refine congrArg₂ (· * ·) (at2_of _ _ _ _ ?_ ?_) (at2_of _ _ _ _ ?_ ?_)
  all_goals first | rfl | (dsimp; omega)

end Cert.Reference4Ideal.Mm

namespace Cert.Proof

open Idealize.ShloMosaic Idealize.ShloMosaic.TcCoe Idealize.SL.Sem

theorem algebraic_4 : Cert.algebraic_Kernel4Ideal_Reference4Ideal := by
  intro m g m' g' _ hargs
  refine ⟨fun c => Cert.Kernel4Ideal.Mm.G m c, ?_, ?_⟩
  · refine (θ_run _ _ _).mono (fun r h c => ?_) (Cert.Kernel4Ideal.Value.run_blocks (F := Ideal) m g)
    exact ⟨(h c).1.trans (Cert.Kernel4Ideal.Mm.final m c), (h c).2⟩
  · refine (θ_run _ _ _).mono (fun r h c => ?_) (Cert.Reference4Ideal.Value.run (F := Ideal) m' g')
    refine ⟨(h c).1.trans ?_, (h c).2⟩
    rw [(hargs c).1, (hargs c).2]
    funext i
    exact Cert.Reference4Ideal.Mm.term_apply _ _ i

end Cert.Proof

end
-- ==== Proof.Mm5.lean ====
/-
  The value of the gradient of the output projection's weight: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel5Ideal.Value
public import proofs.«01_k».proof.Proof.Gen.Reference5Ideal.Run
public import proofs.«01_k».proof.Proof.Mm
public import Idealize.ShloMosaic.Lib.Pointwise

@[expose] public section

noncomputable section

namespace Cert.Kernel5Ideal.Mm

open Cert.Kernel5Ideal Cert.Kernel5Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x2048.Idx → EReal := m ((c : Thread nD τ).loc main_arg0)
abbrev W (c : Dev nD) : S8192x1024.Idx → EReal := m ((c : Thread nD τ).loc main_arg1)

/-- The product at row `r` and column `q`. -/
def prod (c : Dev nD) (r q : ℕ) : EReal :=
  ∑ k ∈ Finset.range 8192, at2 (X m c) (k) (r) * at2 (W m c) (k) (q)

/-- The part of the product that grid point `p` adds at its block's place `(r, q)`. -/
def part (c : Dev nD) (p r q : ℕ) : EReal :=
  ∑ j ∈ Finset.range 1024, at2 (X m c) (p % 8 * 1024 + j) (p / 8 * 1024 + r) * at2 (W m c) (p % 8 * 1024 + j) (p / 8 % 1 * 1024 + q)

/-- The grid's block indices in closed form. -/
theorem index0 : ∀ t : Fin cfg0.N, win0_0.index t (0 : Fin 2) = t.val % 8 ∧ win0_0.index t (1 : Fin 2) = t.val / 8 :=
  (by decide +kernel : ∀ t : Fin grid0.N, _)
theorem index1 : ∀ t : Fin cfg0.N, win0_1.index t (0 : Fin 2) = t.val % 8 ∧ win0_1.index t (1 : Fin 2) = t.val / 8 % 1 :=
  (by decide +kernel : ∀ t : Fin grid0.N, _)
theorem index2 : ∀ t : Fin cfg0.N, win0_2.index t (0 : Fin 2) = t.val / 8 ∧ win0_2.index t (1 : Fin 2) = t.val / 8 % 1 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val % 8 * 1024 + r) (t.val / 8 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val % 8 * 1024 + r) (t.val / 8 % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) (j) ((y 0).val) * at2 (w : S1024x1024.Idx → EReal) (j) ((y 1).val) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ hj h0) (block1 m c t _ _ hj h1)

theorem hz : (![0, 0] : Fin 2 → Nat) = fun _ => 0 := funext fun a => by fin_cases a <;> rfl

/-- The first point of an output block leaves its product in the accumulator. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : ¬cond0_2 i) (x : Vec Ideal S1024x1024 .bf16) (w : Vec Ideal S1024x1024 .bf16) :
    sout0_A_0 (F := Ideal) c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, h6.read_unread, View.ld_unit_zero (S := S1024x1024) hz,
    View.ld_unit_zero (S := S1024x1024) hz, View.ld_unit_zero (S := S1024x1024) hz, shapeCast_self]

/-- A later point adds its product. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : ¬cond0_2 i) (x : Vec Ideal S1024x1024 .bf16) (w : Vec Ideal S1024x1024 .bf16) (xs : Vec Ideal S1024x1024 .f32) :
    sout0_B_0 (F := Ideal) c i a3 h3 a4 h4 a5 h5 a6 h6 hc0 hc1 hc2 x w xs = addf xs (k0_pay1 x w) := by
  unfold sout0_B_0
  rw [View.read_writes_eq_canon _ _ _ (scover0_B_0 c i a3 h3 a4 h4 a5 h5 a6 h6 hc0 hc1 hc2 x w xs)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

theorem acc_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x : Vec Ideal S1024x1024 .bf16) (w : Vec Ideal S1024x1024 .bf16) (xs : Vec Ideal S1024x1024 .f32) :
    sout0_C_0 (F := Ideal) c i a3 h3 a4 h4 a5 h5 a6 h6 hc0 hc1 hc2 x w xs = addf xs (k0_pay1 x w) := by
  unfold sout0_C_0
  rw [View.read_writes_eq_canon _ _ _ (scover0_C_0 c i a3 h3 a4 h4 a5 h5 a6 h6 hc0 hc1 hc2 x w xs)]
  unfold kernelRun0_C
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

/-- The last point writes the accumulator out, cast. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x : Vec Ideal S1024x1024 .bf16) (w : Vec Ideal S1024x1024 .bf16) (xs : Vec Ideal S1024x1024 .f32) :
    out0_C_2 (F := Ideal) c i a3 h3 a4 h4 a5 h5 a6 h6 hc0 hc1 hc2 x w xs = truncf .bf16 (addf xs (k0_pay1 x w)) bitsLt_bf16_f32 := by
  unfold out0_C_2
  rw [View.read_writes_eq_canon _ _ _ (cover0_C_2 c i a3 h3 a4 h4 a5 h5 a6 h6 hc0 hc1 hc2 x w xs)]
  unfold kernelRun0_C
  dsimp only
  sl_unfold_words
  rw [View.canon_unit_zero hz, View.readCov_unit_zero (S := S1024x1024) _ hz]
  unfold k0_pay4 k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

theorem points : cfg0.N = 16 := N_0

/-- What the accumulator holds after a point: the parts of the output block's points so far. -/
theorem acc (c : Dev nD) (y : S1024x1024.Idx) (n : ℕ) (h : n < cfg0.N) :
    (outsAt0 (F := Ideal) m c n h).2 y = ∑ s ∈ Finset.range (n % 8 + 1), part m c (8 * (n / 8) + s) (y 0).val (y 1).val := by
  refine fold_runs (fun n h => (outsAt0 (F := Ideal) m c n h).2 y) (fun p => part m c p (y 0).val (y 1).val) 8 (by decide)
    (fun n h hz => ?_) (fun n h hz => ?_) n h
  · have hN := lt_of_lt_of_eq h points
    have e := outsAt0_A (F := Ideal) m c ⟨n, h⟩ hz (by dsimp only; omega) (by dsimp only; omega)
    dsimp only at e ⊢
    rw [e]
    dsimp only
    rw [acc_A, pay1_part]
  · have hN := lt_of_lt_of_eq h points
    by_cases hl : (n + 1) % 8 = 7
    · have e := outsAt0_C (F := Ideal) m c ⟨n + 1, h⟩ hz (by dsimp only; omega) hl
      dsimp only at e ⊢
      rw [e]
      dsimp only
      rw [acc_C]
      exact congrArg₂ (· + ·) rfl (pay1_part m c ⟨n + 1, h⟩ y)
    · have e := outsAt0_B (F := Ideal) m c ⟨n + 1, h⟩ hz (by dsimp only; omega) hl
      dsimp only at e ⊢
      rw [e]
      dsimp only
      rw [acc_B]
      exact congrArg₂ (· + ·) rfl (pay1_part m c ⟨n + 1, h⟩ y)

/-- What the last point of an output block writes back is the accumulator. -/
theorem left (c : Dev nD) (t : Fin cfg0.N) (hm : t.val % 8 = 7) (y : S1024x1024.Idx) :
    (outsAt0 (F := Ideal) m c t.val t.isLt).1 y = ∑ s ∈ Finset.range (t.val % 8 + 1), part m c (8 * (t.val / 8) + s) (y 0).val (y 1).val := by
  rw [← acc m c y t.val t.isLt]
  rw [outsAt0_C (F := Ideal) m c t (by omega) (by omega) hm]
  dsimp only
  rw [out_C, acc_C]
  rfl

/-- The parts of an output block's points make the whole product. -/
theorem sum_parts (c : Dev nD) (t r q : ℕ) :
    ∑ s ∈ Finset.range 8, part m c (8 * (t / 8) + s) r q = prod m c (t / 8 * 1024 + r) (t / 8 % 1 * 1024 + q) := by
  unfold prod
  refine Eq.trans ?_ (sum_tiles (fun k => at2 (X m c) (k) (t / 8 * 1024 + r) * at2 (W m c) (k) (t / 8 % 1 * 1024 + q)) 8 1024)
  refine Finset.sum_congr rfl fun s hs => ?_
  have hs := Finset.mem_range.mp hs
  unfold part
  have e1 : (8 * (t / 8) + s) / 8 = t / 8 := by omega
  have e2 : (8 * (t / 8) + s) / 8 % 1 = t / 8 % 1 := by omega
  have e3 : (8 * (t / 8) + s) % 8 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  have hm : t.val % 8 = 7 := (flush0_2 t).mp hf
  show (outsAt0 (F := Ideal) m c t.val t.isLt).1 ((cfg0.win 2).xinj (grid0.coords t) y) = _
  rw [left m c t hm, hm]
  have e : (∑ s ∈ Finset.range 8, part m c (8 * (t.val / 8) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S2048x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  have hp : ((i 0).val / 1024 * 1 + (i 1).val / 1024) * 8 + 7 < cfg0.N := lt_of_lt_of_eq (by omega) (show 16 = cfg0.N from N_0.symm)
  refine ⟨⟨((i 0).val / 1024 * 1 + (i 1).val / 1024) * 8 + 7, hp⟩, (flush0_2 _).mpr (by dsimp only; omega), ?_⟩
  obtain ⟨e0, e1⟩ := index2 ⟨((i 0).val / 1024 * 1 + (i 1).val / 1024) * 8 + 7, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x2048.Idx → EReal) (w : S8192x1024.Idx → EReal) (i : S2048x1024.Idx) :
    (∑ k : Fin 8192, x (ValueIdx.ix2 k (i 0)) * w (ValueIdx.ix2 k (i 1)))
      = ∑ k ∈ Finset.range 8192, at2 x (k) ((i 0).val) * at2 w (k) ((i 1).val) := by
  rw [Finset.sum_range]
  exact Finset.sum_congr rfl fun j _ => congrArg₂ (· * ·) (at2_ix x _ _) (at2_ix w _ _)

end Cert.Kernel5Ideal.Mm

end
-- ==== Proof.Alg5.lean ====
/-
  The gradient of the output projection's weight: the plain product that the reference prints, read at a place, and the claim that the kernel
  and the reference leave equal arrays.
-/
module

public import proofs.«01_k».proof.Proof.Mm5

@[expose] public section

noncomputable section

namespace Cert.Reference5Ideal.Mm

open Cert.Reference5Ideal Cert.Reference5Ideal.Gen Idealize.ShloMosaic Idealize.ShloMosaic.TcCoe Idealize.SL.Sem
open Cert.Proof.Mm
open scoped BigOperators

/-- The reference's product at a place is the sum over the contracted axis. -/
theorem term_apply (x : FVec Ideal S8192x2048 .bf16) (w : FVec Ideal S8192x1024 .bf16) (i : S2048x1024.Idx) :
    (truncf (F := Ideal) .bf16 (transpose S2048x1024 [1, 0] (Host.dotGeneral (F := Ideal) dot_S1x8192x1024_S1x8192x2048_S1024x2048_01_01_2_2_n_n none (broadcastInDim S1x8192x1024 ![1, 2] bcast_S8192x1024_S1x8192x1024_1_2 (extf (F := Ideal) .f32 w bitsLt_bf16_f32)) (broadcastInDim S1x8192x2048 ![1, 2] bcast_S8192x2048_S1x8192x2048_1_2 (extf (F := Ideal) .f32 x bitsLt_bf16_f32))) transposes_S1024x2048_S2048x1024_1_0) bitsLt_bf16_f32 : FVec Ideal S2048x1024 .bf16) i
      = ∑ k ∈ Finset.range 8192, at2 (x : S8192x2048.Idx → EReal) (k) ((i 0).val) * at2 (w : S8192x1024.Idx → EReal) (k) ((i 1).val) := by
  simp only [pointwise]
  rw [zero_add, Fintype.sum_unique, Finset.sum_range]
  refine Finset.sum_congr rfl fun j _ => ?_
  rw [mul_comm]
  exact congrArg₂ (· * ·) (at2_of _ _ _ _ rfl rfl) (at2_of _ _ _ _ rfl rfl)

end Cert.Reference5Ideal.Mm

namespace Cert.Proof

open Idealize.ShloMosaic Idealize.ShloMosaic.TcCoe Idealize.SL.Sem

theorem algebraic_5 : Cert.algebraic_Kernel5Ideal_Reference5Ideal := by
  intro m g m' g' _ hargs
  refine ⟨fun c => Cert.Kernel5Ideal.Mm.G m c, ?_, ?_⟩
  · refine (θ_run _ _ _).mono (fun r h c => ?_) (Cert.Kernel5Ideal.Value.run_blocks (F := Ideal) m g)
    exact ⟨(h c).1.trans (Cert.Kernel5Ideal.Mm.final m c), (h c).2⟩
  · refine (θ_run _ _ _).mono (fun r h c => ?_) (Cert.Reference5Ideal.Value.run (F := Ideal) m' g')
    refine ⟨(h c).1.trans ?_, (h c).2⟩
    rw [(hargs c).1, (hargs c).2]
    funext i
    exact Cert.Reference5Ideal.Mm.term_apply _ _ i

end Cert.Proof

end
-- ==== Proof.Mm6.lean ====
/-
  The value of the gradient of the input projection's weight: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel6Ideal.Value
public import proofs.«01_k».proof.Proof.Gen.Reference6Ideal.Run
public import proofs.«01_k».proof.Proof.Mm
public import Idealize.ShloMosaic.Lib.Pointwise

@[expose] public section

noncomputable section

namespace Cert.Kernel6Ideal.Mm

open Cert.Kernel6Ideal Cert.Kernel6Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x7168.Idx → EReal := m ((c : Thread nD τ).loc main_arg0)
abbrev W (c : Dev nD) : S8192x1024.Idx → EReal := m ((c : Thread nD τ).loc main_arg1)

/-- The product at row `r` and column `q`. -/
def prod (c : Dev nD) (r q : ℕ) : EReal :=
  ∑ k ∈ Finset.range 8192, at2 (X m c) (k) (r) * at2 (W m c) (k) (q)

/-- The part of the product that grid point `p` adds at its block's place `(r, q)`. -/
def part (c : Dev nD) (p r q : ℕ) : EReal :=
  ∑ j ∈ Finset.range 1024, at2 (X m c) (p % 8 * 1024 + j) (p / 8 * 1024 + r) * at2 (W m c) (p % 8 * 1024 + j) (p / 8 % 1 * 1024 + q)

/-- The grid's block indices in closed form. -/
theorem index0 : ∀ t : Fin cfg0.N, win0_0.index t (0 : Fin 2) = t.val % 8 ∧ win0_0.index t (1 : Fin 2) = t.val / 8 :=
  (by decide +kernel : ∀ t : Fin grid0.N, _)
theorem index1 : ∀ t : Fin cfg0.N, win0_1.index t (0 : Fin 2) = t.val % 8 ∧ win0_1.index t (1 : Fin 2) = t.val / 8 % 1 :=
  (by decide +kernel : ∀ t : Fin grid0.N, _)
theorem index2 : ∀ t : Fin cfg0.N, win0_2.index t (0 : Fin 2) = t.val / 8 ∧ win0_2.index t (1 : Fin 2) = t.val / 8 % 1 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val % 8 * 1024 + r) (t.val / 8 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val % 8 * 1024 + r) (t.val / 8 % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) (j) ((y 0).val) * at2 (w : S1024x1024.Idx → EReal) (j) ((y 1).val) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ hj h0) (block1 m c t _ _ hj h1)

theorem hz : (![0, 0] : Fin 2 → Nat) = fun _ => 0 := funext fun a => by fin_cases a <;> rfl

/-- The first point of an output block leaves its product in the accumulator. -/
theorem acc_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : cond0_0 i) (hc1 : ¬cond0_1 i) (hc2 : ¬cond0_2 i) (x : Vec Ideal S1024x1024 .bf16) (w : Vec Ideal S1024x1024 .bf16) :
    sout0_A_0 (F := Ideal) c i a3 h3 a4 h4 a5 h5 a6 h6 hc0 hc1 hc2 x w = k0_pay1 x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero hz]
  unfold k0_pay2
  simp only [View.readAt_eq_ld, h3.read_unread, h4.read_unread, h6.read_unread, View.ld_unit_zero (S := S1024x1024) hz,
    View.ld_unit_zero (S := S1024x1024) hz, View.ld_unit_zero (S := S1024x1024) hz, shapeCast_self]

/-- A later point adds its product. -/
theorem acc_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : ¬cond0_2 i) (x : Vec Ideal S1024x1024 .bf16) (w : Vec Ideal S1024x1024 .bf16) (xs : Vec Ideal S1024x1024 .f32) :
    sout0_B_0 (F := Ideal) c i a3 h3 a4 h4 a5 h5 a6 h6 hc0 hc1 hc2 x w xs = addf xs (k0_pay1 x w) := by
  unfold sout0_B_0
  rw [View.read_writes_eq_canon _ _ _ (scover0_B_0 c i a3 h3 a4 h4 a5 h5 a6 h6 hc0 hc1 hc2 x w xs)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

theorem acc_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x : Vec Ideal S1024x1024 .bf16) (w : Vec Ideal S1024x1024 .bf16) (xs : Vec Ideal S1024x1024 .f32) :
    sout0_C_0 (F := Ideal) c i a3 h3 a4 h4 a5 h5 a6 h6 hc0 hc1 hc2 x w xs = addf xs (k0_pay1 x w) := by
  unfold sout0_C_0
  rw [View.read_writes_eq_canon _ _ _ (scover0_C_0 c i a3 h3 a4 h4 a5 h5 a6 h6 hc0 hc1 hc2 x w xs)]
  unfold kernelRun0_C
  dsimp only
  sl_unfold_words
  rw [View.canon_unit_zero hz]
  unfold k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

/-- The last point writes the accumulator out, cast. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole)
    (hc0 : ¬cond0_0 i) (hc1 : cond0_1 i) (hc2 : cond0_2 i) (x : Vec Ideal S1024x1024 .bf16) (w : Vec Ideal S1024x1024 .bf16) (xs : Vec Ideal S1024x1024 .f32) :
    out0_C_2 (F := Ideal) c i a3 h3 a4 h4 a5 h5 a6 h6 hc0 hc1 hc2 x w xs = truncf .bf16 (addf xs (k0_pay1 x w)) bitsLt_bf16_f32 := by
  unfold out0_C_2
  rw [View.read_writes_eq_canon _ _ _ (cover0_C_2 c i a3 h3 a4 h4 a5 h5 a6 h6 hc0 hc1 hc2 x w xs)]
  unfold kernelRun0_C
  dsimp only
  sl_unfold_words
  rw [View.canon_unit_zero hz, View.readCov_unit_zero (S := S1024x1024) _ hz]
  unfold k0_pay4 k0_pay3
  simp only [View.readAt_eq_ld, h3.read_unread, h4.read_unread, h6.read_unread, View.ld_unit_zero (S := S1024x1024) hz,
    View.ld_unit_zero (S := S1024x1024) hz, View.ld_unit_zero (S := S1024x1024) hz, shapeCast_self]

theorem points : cfg0.N = 56 := N_0

/-- What the accumulator holds after a point: the parts of the output block's points so far. -/
theorem acc (c : Dev nD) (y : S1024x1024.Idx) (n : ℕ) (h : n < cfg0.N) :
    (outsAt0 (F := Ideal) m c n h).2 y = ∑ s ∈ Finset.range (n % 8 + 1), part m c (8 * (n / 8) + s) (y 0).val (y 1).val := by
  refine fold_runs (fun n h => (outsAt0 (F := Ideal) m c n h).2 y) (fun p => part m c p (y 0).val (y 1).val) 8 (by decide)
    (fun n h hz => ?_) (fun n h hz => ?_) n h
  · have hN := lt_of_lt_of_eq h points
    have e := outsAt0_A (F := Ideal) m c ⟨n, h⟩ hz (by dsimp only; omega) (by dsimp only; omega)
    dsimp only at e ⊢
    rw [e]
    dsimp only
    rw [acc_A, pay1_part]
  · have hN := lt_of_lt_of_eq h points
    by_cases hl : (n + 1) % 8 = 7
    · have e := outsAt0_C (F := Ideal) m c ⟨n + 1, h⟩ hz (by dsimp only; omega) hl
      dsimp only at e ⊢
      rw [e]
      dsimp only
      rw [acc_C]
      exact congrArg₂ (· + ·) rfl (pay1_part m c ⟨n + 1, h⟩ y)
    · have e := outsAt0_B (F := Ideal) m c ⟨n + 1, h⟩ hz (by dsimp only; omega) hl
      dsimp only at e ⊢
      rw [e]
      dsimp only
      rw [acc_B]
      exact congrArg₂ (· + ·) rfl (pay1_part m c ⟨n + 1, h⟩ y)

/-- What the last point of an output block writes back is the accumulator. -/
theorem left (c : Dev nD) (t : Fin cfg0.N) (hm : t.val % 8 = 7) (y : S1024x1024.Idx) :
    (outsAt0 (F := Ideal) m c t.val t.isLt).1 y = ∑ s ∈ Finset.range (t.val % 8 + 1), part m c (8 * (t.val / 8) + s) (y 0).val (y 1).val := by
  rw [← acc m c y t.val t.isLt]
  rw [outsAt0_C (F := Ideal) m c t (by omega) (by omega) hm]
  dsimp only
  rw [out_C, acc_C]
  rfl

/-- The parts of an output block's points make the whole product. -/
theorem sum_parts (c : Dev nD) (t r q : ℕ) :
    ∑ s ∈ Finset.range 8, part m c (8 * (t / 8) + s) r q = prod m c (t / 8 * 1024 + r) (t / 8 % 1 * 1024 + q) := by
  unfold prod
  refine Eq.trans ?_ (sum_tiles (fun k => at2 (X m c) (k) (t / 8 * 1024 + r) * at2 (W m c) (k) (t / 8 % 1 * 1024 + q)) 8 1024)
  refine Finset.sum_congr rfl fun s hs => ?_
  have hs := Finset.mem_range.mp hs
  unfold part
  have e1 : (8 * (t / 8) + s) / 8 = t / 8 := by omega
  have e2 : (8 * (t / 8) + s) / 8 % 1 = t / 8 % 1 := by omega
  have e3 : (8 * (t / 8) + s) % 8 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  have hm : t.val % 8 = 7 := (flush0_2 t).mp hf
  show (outsAt0 (F := Ideal) m c t.val t.isLt).1 ((cfg0.win 2).xinj (grid0.coords t) y) = _
  rw [left m c t hm, hm]
  have e : (∑ s ∈ Finset.range 8, part m c (8 * (t.val / 8) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S7168x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S7168x1024.Idx) : ∃ t : Fin cfg0.N, (cfg0.win 2).flush t = true ∧ i ∈ ((cfg0.win 2).blk t).view.set := by
  have h0 : (i 0).val < 7168 := (i 0).isLt
  have h1 : (i 1).val < 1024 := (i 1).isLt
  have hp : ((i 0).val / 1024 * 1 + (i 1).val / 1024) * 8 + 7 < cfg0.N := lt_of_lt_of_eq (by omega) (show 56 = cfg0.N from N_0.symm)
  refine ⟨⟨((i 0).val / 1024 * 1 + (i 1).val / 1024) * 8 + 7, hp⟩, (flush0_2 _).mpr (by dsimp only; omega), ?_⟩
  obtain ⟨e0, e1⟩ := index2 ⟨((i 0).val / 1024 * 1 + (i 1).val / 1024) * 8 + 7, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x7168.Idx → EReal) (w : S8192x1024.Idx → EReal) (i : S7168x1024.Idx) :
    (∑ k : Fin 8192, x (ValueIdx.ix2 k (i 0)) * w (ValueIdx.ix2 k (i 1)))
      = ∑ k ∈ Finset.range 8192, at2 x (k) ((i 0).val) * at2 w (k) ((i 1).val) := by
  rw [Finset.sum_range]
  exact Finset.sum_congr rfl fun j _ => congrArg₂ (· * ·) (at2_ix x _ _) (at2_ix w _ _)

end Cert.Kernel6Ideal.Mm

end
-- ==== Proof.Alg6.lean ====
/-
  The gradient of the input projection's weight: the plain product that the reference prints, read at a place, and the claim that the kernel
  and the reference leave equal arrays.
-/
module

public import proofs.«01_k».proof.Proof.Mm6

@[expose] public section

noncomputable section

namespace Cert.Reference6Ideal.Mm

open Cert.Reference6Ideal Cert.Reference6Ideal.Gen Idealize.ShloMosaic Idealize.ShloMosaic.TcCoe Idealize.SL.Sem
open Cert.Proof.Mm
open scoped BigOperators

/-- The reference's product at a place is the sum over the contracted axis. -/
theorem term_apply (x : FVec Ideal S8192x7168 .bf16) (w : FVec Ideal S8192x1024 .bf16) (i : S7168x1024.Idx) :
    (transpose S7168x1024 [1, 0] (truncf (F := Ideal) .bf16 (transpose S1024x7168 [1, 0] (Host.dotGeneral (F := Ideal) dot_S1x8192x7168_S1x8192x1024_S7168x1024_01_01_2_2_n_n none (broadcastInDim S1x8192x7168 ![1, 2] bcast_S8192x7168_S1x8192x7168_1_2 (extf (F := Ideal) .f32 x bitsLt_bf16_f32)) (broadcastInDim S1x8192x1024 ![1, 2] bcast_S8192x1024_S1x8192x1024_1_2 (extf (F := Ideal) .f32 w bitsLt_bf16_f32))) transposes_S7168x1024_S1024x7168_1_0) bitsLt_bf16_f32) transposes_S1024x7168_S7168x1024_1_0 : FVec Ideal S7168x1024 .bf16) i
      = ∑ k ∈ Finset.range 8192, at2 (x : S8192x7168.Idx → EReal) (k) ((i 0).val) * at2 (w : S8192x1024.Idx → EReal) (k) ((i 1).val) := by
  simp only [pointwise]
  rw [zero_add, Fintype.sum_unique, Finset.sum_range]
  refine Finset.sum_congr rfl fun j _ => ?_
  exact congrArg₂ (· * ·) (at2_of _ _ _ _ rfl rfl) (at2_of _ _ _ _ rfl rfl)

end Cert.Reference6Ideal.Mm

namespace Cert.Proof

open Idealize.ShloMosaic Idealize.ShloMosaic.TcCoe Idealize.SL.Sem

theorem algebraic_6 : Cert.algebraic_Kernel6Ideal_Reference6Ideal := by
  intro m g m' g' _ hargs
  refine ⟨fun c => Cert.Kernel6Ideal.Mm.G m c, ?_, ?_⟩
  · refine (θ_run _ _ _).mono (fun r h c => ?_) (Cert.Kernel6Ideal.Value.run_blocks (F := Ideal) m g)
    exact ⟨(h c).1.trans (Cert.Kernel6Ideal.Mm.final m c), (h c).2⟩
  · refine (θ_run _ _ _).mono (fun r h c => ?_) (Cert.Reference6Ideal.Value.run (F := Ideal) m' g')
    refine ⟨(h c).1.trans ?_, (h c).2⟩
    rw [(hargs c).1, (hargs c).2]
    funext i
    exact Cert.Reference6Ideal.Mm.term_apply _ _ i

end Cert.Proof

end
-- ==== Proof.Mm7.lean ====
/-
  The value of the gradient that the input projection passes to its input: the kernel's tiled product is the textbook product, at exact real arithmetic.
  Each grid point multiplies one block of each operand; the points of one output block add their products.
  The sum over the whole contracted axis is the sum over its tiles of the sums inside the tiles.
-/
module

public import proofs.«01_k».proof.Defs
public import proofs.«01_k».proof.Proof.Gen.Kernel7Ideal.Value
public import proofs.«01_k».proof.Proof.Gen.Reference7Ideal.Run
public import proofs.«01_k».proof.Proof.Mm
public import Idealize.ShloMosaic.Lib.Pointwise

@[expose] public section

noncomputable section

namespace Cert.Kernel7Ideal.Mm

open Cert.Kernel7Ideal Cert.Kernel7Ideal.Gen Idealize.ShloMosaic Idealize.ShloMosaic.TcCoe Idealize.SL.Sem Idealize.ShloMosaic.ValueIdx
open Idealize.ShloMosaic.Pipeline (Dat)
open Cert.Proof.Mm
open scoped BigOperators

variable (m : (ℓ : Loc nD τ sig) → Buf (Elt Ideal) ℓ)

/-- The two operands, as matrices. -/
abbrev X (c : Dev nD) : S8192x7168.Idx → EReal := m ((c : Thread nD τ).loc main_arg0)
abbrev W (c : Dev nD) : S7168x1024.Idx → EReal := m ((c : Thread nD τ).loc main_arg1)

/-- The product at row `r` and column `q`. -/
def prod (c : Dev nD) (r q : ℕ) : EReal :=
  ∑ k ∈ Finset.range 7168, at2 (X m c) (r) (k) * at2 (W m c) (k) (q)

/-- The part of the product that grid point `p` adds at its block's place `(r, q)`. -/
def part (c : Dev nD) (p r q : ℕ) : EReal :=
  ∑ j ∈ Finset.range 1024, at2 (X m c) (p / 7 * 1024 + r) (p % 7 * 1024 + j) * at2 (W m c) (p % 7 * 1024 + j) (p / 7 % 1 * 1024 + q)

/-- The grid's block indices in closed form. -/
theorem index0 : ∀ t : Fin cfg0.N, win0_0.index t (0 : Fin 2) = t.val / 7 ∧ win0_0.index t (1 : Fin 2) = t.val % 7 :=
  (by decide +kernel : ∀ t : Fin grid0.N, _)
theorem index1 : ∀ t : Fin cfg0.N, win0_1.index t (0 : Fin 2) = t.val % 7 ∧ win0_1.index t (1 : Fin 2) = t.val / 7 % 1 :=
  (by decide +kernel : ∀ t : Fin grid0.N, _)
theorem index2 : ∀ t : Fin cfg0.N, win0_2.index t (0 : Fin 2) = t.val / 7 ∧ win0_2.index t (1 : Fin 2) = t.val / 7 % 1 :=
  (by decide +kernel : ∀ t : Fin grid0.N, _)

/-- The operands' blocks at a point. -/
theorem block0 (c : Dev nD) (t : Fin cfg0.N) (r q : ℕ) (hr : r < 1024) (hq : q < 1024) :
    at2 (a := 1024) (b := 1024) (iblk (F := Ideal) m c 0 t) r q = at2 (X m c) (t.val / 7 * 1024 + r) (t.val % 7 * 1024 + q) := by
  refine at2_block (X m c) _ _ _ (fun i => ?_) r q hr hq
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 1024 + 1 * (i 1).val = _
    rw [e1, Nat.one_mul]

theorem block1 (c : Dev nD) (t : Fin cfg0.N) (r q : ℕ) (hr : r < 1024) (hq : q < 1024) :
    at2 (a := 1024) (b := 1024) (iblk (F := Ideal) m c 1 t) r q = at2 (W m c) (t.val % 7 * 1024 + r) (t.val / 7 % 1 * 1024 + q) := by
  refine at2_block (W m c) _ _ _ (fun i => ?_) r q hr hq
  obtain ⟨e0, e1⟩ := index1 t
  unfold iblk
  rw [View.read_apply]
  show V m c main_arg1 _ = _
  rw [V_main_arg1]
  refine at2_of _ _ _ _ ?_ ?_
  · show win0_1.index t (0 : Fin 2) * 1024 + 1 * (i 0).val = _
    rw [e0, Nat.one_mul]
  · show win0_1.index t (1 : Fin 2) * 1024 + 1 * (i 1).val = _
    rw [e1, Nat.one_mul]

/-- One block product at a place. -/
theorem pay1_apply (x : Vec Ideal S1024x1024 .bf16) (w : Vec Ideal S1024x1024 .bf16) (y : S1024x1024.Idx) :
    k0_pay1 (F := Ideal) x w y = ∑ j ∈ Finset.range 1024, at2 (x : S1024x1024.Idx → EReal) ((y 0).val) (j) * at2 (w : S1024x1024.Idx → EReal) (j) ((y 1).val) := by
  unfold k0_pay1
  simp only [pointwise, Ideal.ofBits_zero_f32, zero_add]
  rw [Finset.sum_range]
  exact Finset.sum_congr rfl fun j _ => congrArg₂ (· * ·) (at2_ix x _ _) (at2_ix w _ _)

/-- One point's block product is its part of the whole. -/
theorem pay1_part (c : Dev nD) (t : Fin cfg0.N) (y : S1024x1024.Idx) :
    k0_pay1 (F := Ideal) (iblk m c 0 t) (iblk m c 1 t) y = part m c t.val (y 0).val (y 1).val := by
  have h0 : (y 0).val < 1024 := (y 0).isLt
  have h1 : (y 1).val < 1024 := (y 1).isLt
  rw [pay1_apply]
  unfold part
  refine Finset.sum_congr rfl fun j hj => ?_
  have hj := Finset.mem_range.mp hj
  exact congrArg₂ (· * ·) (block0 m c t _ _ h0 hj) (block1 m c t _ _ hj h1)

theorem hz : (![0, 0] : Fin 2 → Nat) = fun _ => 0 := funext fun a => by fin_cases a <;> rfl

/-- The first point of an output block leaves its product. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x : Vec Ideal S1024x1024 .bf16) (w : Vec Ideal S1024x1024 .bf16) :
    out0_A_2 (F := Ideal) c i a3 h3 a4 h4 a5 h5 hc0 hc1 x w = k0_pay1 x w := by
  unfold out0_A_2
  rw [View.read_writes_eq_canon _ _ _ (cover0_A_2 c i a3 h3 a4 h4 a5 h5 hc0 hc1 x w)]
  unfold kernelRun0_A
  dsimp only
  sl_unfold_words
  rw [View.canon_unit_zero hz]
  simp only [View.readAt_eq_ld, h3.read_unread, h4.read_unread, View.ld_unit_zero (S := S1024x1024) hz, View.ld_unit_zero (S := S1024x1024) hz]

/-- A later point adds its product. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x : Vec Ideal S1024x1024 .bf16) (w : Vec Ideal S1024x1024 .bf16) (xo : Vec Ideal S1024x1024 .f32) :
    out0_B_2 (F := Ideal) c i a3 h3 a4 h4 a5 h5 hc0 hc1 x w xo = addf xo (k0_pay1 x w) := by
  unfold out0_B_2
  rw [View.read_writes_eq_canon _ _ _ (cover0_B_2 c i a3 h3 a4 h4 a5 h5 hc0 hc1 x w xo)]
  unfold kernelRun0_B
  dsimp only
  sl_unfold_words
  rw [View.canon_unit_zero hz]
  unfold k0_pay2
  simp only [View.readAt_eq_ld, h3.read_unread, h4.read_unread, h5.read_unread, View.ld_unit_zero (S := S1024x1024) hz,
    View.ld_unit_zero (S := S1024x1024) hz, View.ld_unit_zero (S := S1024x1024) hz, shapeCast_self]

theorem points : cfg0.N = 56 := N_0

/-- What the output block holds after a point: the parts of the block's points so far. -/
theorem left (c : Dev nD) (y : S1024x1024.Idx) (n : ℕ) (h : n < cfg0.N) :
    outsAt0 (F := Ideal) m c n h y = ∑ s ∈ Finset.range (n % 7 + 1), part m c (7 * (n / 7) + s) (y 0).val (y 1).val := by
  refine fold_runs (fun n h => outsAt0 (F := Ideal) m c n h y) (fun p => part m c p (y 0).val (y 1).val) 7 (by decide)
    (fun n h hz => ?_) (fun n h hz => ?_) n h
  · have hN := lt_of_lt_of_eq h points
    have e := outsAt0_A (F := Ideal) m c ⟨n, h⟩ hz (by dsimp only; omega)
    dsimp only at e ⊢
    rw [e, out_A, pay1_part]
  · have hN := lt_of_lt_of_eq h points
    have e := outsAt0_B (F := Ideal) m c ⟨n + 1, h⟩ hz (by dsimp only; omega)
    dsimp only at e ⊢
    rw [e, out_B]
    exact congrArg₂ (· + ·) rfl (pay1_part m c ⟨n + 1, h⟩ y)

/-- The parts of an output block's points make the whole product. -/
theorem sum_parts (c : Dev nD) (t r q : ℕ) :
    ∑ s ∈ Finset.range 7, part m c (7 * (t / 7) + s) r q = prod m c (t / 7 * 1024 + r) (t / 7 % 1 * 1024 + q) := by
  unfold prod
  refine Eq.trans ?_ (sum_tiles (fun k => at2 (X m c) (t / 7 * 1024 + r) (k) * at2 (W m c) (k) (t / 7 % 1 * 1024 + q)) 7 1024)
  refine Finset.sum_congr rfl fun s hs => ?_
  have hs := Finset.mem_range.mp hs
  unfold part
  have e1 : (7 * (t / 7) + s) / 7 = t / 7 := by omega
  have e2 : (7 * (t / 7) + s) / 7 % 1 = t / 7 % 1 := by omega
  have e3 : (7 * (t / 7) + s) % 7 = s := by omega
  rw [e2, e1, e3]

/-- The result array: the product of the two operands. -/
def G (c : Dev nD) : Buf (Elt Ideal) ((c : Thread nD τ).loc main_v0) := fun i => prod m c (i 0).val (i 1).val

theorem flushed_eq (c : Dev nD) (t : Fin cfg0.N) (hf : (cfg0.win 2).flush t = true) :
    (dats (F := Ideal) m 0 c).flushed 2 t = ((cfg0.win 2).blk t).view.read (Elt Ideal) (G m c) := by
  obtain ⟨e0, e1⟩ := index2 t
  rw [Value.flushed2]
  funext y
  have hm : t.val % 7 = 6 := (flush0_2 t).mp hf
  show outsAt0 (F := Ideal) m c t.val t.isLt ((cfg0.win 2).xinj (grid0.coords t) y) = _
  rw [left, hm]
  have e : (∑ s ∈ Finset.range 7, part m c (7 * (t.val / 7) + s) (y 0).val (y 1).val) = _ := sum_parts m c t.val _ _
  refine Eq.trans e ?_
  rw [View.read_apply]
  refine Eq.trans ?_ (cast_eq _ (G m c (((cfg0.win 2).blk t).view.emb y))).symm
  unfold G
  have h0 : (((cfg0.win 2).blk t).view.emb y 0).val = win0_2.index t (0 : Fin 2) * 1024 + 1 * (y 0).val := rfl
  have h1 : (((cfg0.win 2).blk t).view.emb y 1).val = win0_2.index t (1 : Fin 2) * 1024 + 1 * (y 1).val := rfl
  rw [h0, h1, e0, e1, Nat.one_mul, Nat.one_mul]

theorem mem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every element lies in a block that is written back. -/
theorem covered (i : S8192x1024.Idx) : ∃ t : Fin cfg0.N, (cfg0.win 2).flush t = true ∧ i ∈ ((cfg0.win 2).blk t).view.set := by
  have h0 : (i 0).val < 8192 := (i 0).isLt
  have h1 : (i 1).val < 1024 := (i 1).isLt
  have hp : ((i 0).val / 1024 * 1 + (i 1).val / 1024) * 7 + 6 < cfg0.N := lt_of_lt_of_eq (by omega) (show 56 = cfg0.N from N_0.symm)
  refine ⟨⟨((i 0).val / 1024 * 1 + (i 1).val / 1024) * 7 + 6, hp⟩, (flush0_2 _).mpr (by dsimp only; omega), ?_⟩
  obtain ⟨e0, e1⟩ := index2 ⟨((i 0).val / 1024 * 1 + (i 1).val / 1024) * 7 + 6, hp⟩
  dsimp only at e0 e1
  rw [mem_blk]
  intro a
  match a with
  | ⟨0, _⟩ =>
    show win0_2.index _ (0 : Fin 2) * 1024 ≤ (i 0).val ∧ (i 0).val < win0_2.index _ (0 : Fin 2) * 1024 + 1024
    rw [e0]; omega
  | ⟨1, _⟩ =>
    show win0_2.index _ (1 : Fin 2) * 1024 ≤ (i 1).val ∧ (i 1).val < win0_2.index _ (1 : Fin 2) * 1024 + 1024
    rw [e1]; omega

theorem final (c : Dev nD) : (dats (F := Ideal) m 0 c).arrAt 2 cfg0.N = G m c :=
  (dats (F := Ideal) m 0 c).arrAt_eq_of_cover 2 _ (flushed_eq m c) covered

/-- The reference's term is the same product. -/
theorem ref_eq (x : S8192x7168.Idx → EReal) (w : S7168x1024.Idx → EReal) (i : S8192x1024.Idx) :
    (∑ k : Fin 7168, x (ValueIdx.ix2 (i 0) k) * w (ValueIdx.ix2 k (i 1)))
      = ∑ k ∈ Finset.range 7168, at2 x ((i 0).val) (k) * at2 w (k) ((i 1).val) := by
  rw [Finset.sum_range]
  exact Finset.sum_congr rfl fun j _ => congrArg₂ (· * ·) (at2_ix x _ _) (at2_ix w _ _)

end Cert.Kernel7Ideal.Mm

end
-- ==== Proof.Alg7.lean ====
/-
  The gradient that the input projection passes to its input: the plain product that the reference prints, read at a place, and the claim that the kernel
  and the reference leave equal arrays.
-/
module

public import proofs.«01_k».proof.Proof.Mm7

@[expose] public section

noncomputable section

namespace Cert.Reference7Ideal.Mm

open Cert.Reference7Ideal Cert.Reference7Ideal.Gen Idealize.ShloMosaic Idealize.ShloMosaic.TcCoe Idealize.SL.Sem
open Cert.Proof.Mm
open scoped BigOperators

/-- The reference's product at a place is the sum over the contracted axis. -/
theorem term_apply (x : FVec Ideal S8192x7168 .bf16) (w : FVec Ideal S7168x1024 .bf16) (i : S8192x1024.Idx) :
    (shapeCast _ (Host.dotGeneral (F := Ideal) dot_S1x8192x7168_S1024x7168_S1x8192x1024_2_1_01_0_n_n none (broadcastInDim S1x8192x7168 ![1, 2] bcast_S8192x7168_S1x8192x7168_1_2 (extf (F := Ideal) .f32 x bitsLt_bf16_f32)) (extf (F := Ideal) .f32 (transpose S1024x7168 [1, 0] w transposes_S7168x1024_S1024x7168_1_0) bitsLt_bf16_f32)) shapeCasts_S1x8192x1024_S8192x1024 : FVec Ideal S8192x1024 .f32) i
      = ∑ k ∈ Finset.range 7168, at2 (x : S8192x7168.Idx → EReal) ((i 0).val) (k) * at2 (w : S7168x1024.Idx → EReal) (k) ((i 1).val) := by
  simp only [pointwise]
  rw [zero_add, Finset.sum_range]
  refine Finset.sum_congr rfl fun j _ => ?_
  have h0 : (i 0).val < 8192 := (i 0).isLt
  have h1 : (i 1).val < 1024 := (i 1).isLt
  refine congrArg₂ (· * ·) (at2_of _ _ _ _ ?_ ?_) (at2_of _ _ _ _ ?_ ?_)
  all_goals first | rfl | (dsimp; omega)

end Cert.Reference7Ideal.Mm

namespace Cert.Proof

open Idealize.ShloMosaic Idealize.ShloMosaic.TcCoe Idealize.SL.Sem

theorem algebraic_7 : Cert.algebraic_Kernel7Ideal_Reference7Ideal := by
  intro m g m' g' _ hargs
  refine ⟨fun c => Cert.Kernel7Ideal.Mm.G m c, ?_, ?_⟩
  · refine (θ_run _ _ _).mono (fun r h c => ?_) (Cert.Kernel7Ideal.Value.run_blocks (F := Ideal) m g)
    exact ⟨(h c).1.trans (Cert.Kernel7Ideal.Mm.final m c), (h c).2⟩
  · refine (θ_run _ _ _).mono (fun r h c => ?_) (Cert.Reference7Ideal.Value.run (F := Ideal) m' g')
    refine ⟨(h c).1.trans ?_, (h c).2⟩
    rw [(hargs c).1, (hargs c).2]
    funext i
    exact Cert.Reference7Ideal.Mm.term_apply _ _ i

end Cert.Proof

end
-- ==== Proof.Norm8.lean ====
/-
  The gradient of the norm before a layer: what a grid point leaves, and the two result arrays. A point holds 512 rows;
  it writes their gradients and adds their parts to the weight's gradient, which the first point starts from zero.
-/
module

public import proofs.«01_k».proof.Proof.NormMath
public import proofs.«01_k».proof.Proof.Gen.Kernel8Ideal.Value
public import Idealize.ShloMosaic.Lib.StableHlo.RunRead
public import Idealize.ShloMosaic.Lib.VecWindow

@[expose] public section

noncomputable section

namespace Cert.Kernel8Ideal.Norm

open Cert.Kernel8Ideal Cert.Kernel8Ideal.Gen Idealize.ShloMosaic Idealize.ShloMosaic.TcCoe Idealize.SL.Sem
open Idealize.ShloMosaic.Pipeline (Dat)
open Cert.Norm
open Cert.Proof.Mm (at2 at2_of at2_ix sum_tiles fold_runs)
open scoped BigOperators

/-- The gradients of a block's rows. -/
theorem rows_apply (x : Vec Ideal S512x1024 .f32) (w : Vec Ideal S1x1024 .f32) (g y : Vec Ideal S512x1024 .f32) (r : Fin 512) (j : Fin 1024) :
    (k0_pay6 (F := Ideal) x w g y (ix2 r j) : EReal)
      = gradEntry (rowOf x r.val) (rowOf w 0) (rowOf g r.val) (rowOf y r.val j + passed (rowOf x r.val) (rowOf w 0) (rowOf g r.val) j) j := by
  unfold k0_pay6 k0_pay4 k0_pay3
  pointwise
  simp only [Finset.univ_unique, Finset.sum_singleton, rowOf_apply (a := 512), show ∀ j, (w (ix2 0 j) : EReal) = rowOf w 0 j from fun j => rowOf_apply w 0 j]
  rfl

/-- A block's part of the weight's gradient. -/
theorem part_apply (x g : Vec Ideal S512x1024 .f32) (j : Fin 1024) :
    (k0_pay5 (F := Ideal) x g (ix2 0 j) : EReal) = ∑ r ∈ Finset.range 512, weightPart (rowOf x r) (rowOf g r) j := by
  unfold k0_pay5 k0_pay4 k0_pay3
  pointwise
  rw [Finset.sum_range]
  simp only [rowOf_apply (a := 512)]
  rfl

theorem hz : (![0, 0] : Fin 2 → Nat) = fun _ => 0 := funext fun a => by fin_cases a <;> rfl

section Point

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S512x1024 .f32) (h5 : a5.IsWhole)
  (a6 : Memref sig .tc .vmem S1x1024 .f32) (h6 : a6.IsWhole)
  (x : Vec Ideal S512x1024 .f32) (w : Vec Ideal S1x1024 .f32) (g y : Vec Ideal S512x1024 .f32) (o : Vec Ideal S1x1024 .f32)

/-- What a point leaves in its block, at the first point and at a later one. -/
theorem block_A (hc : cond0_0 i) :
    out0_A_4 (F := Ideal) c i a1 h1 a2 h2 a3 h3 a4 h4 a5 h5 a6 h6 hc x w g y = k0_pay6 x w g y := by
  unfold out0_A_4
  rw [View.read_writes_eq_canon _ _ _ (cover0_A_4 c i a1 h1 a2 h2 a3 h3 a4 h4 a5 h5 a6 h6 hc x w g y)]
  unfold kernelRun0_A
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

theorem block_B (hc : ¬cond0_0 i) :
    out0_B_4 (F := Ideal) c i a1 h1 a2 h2 a3 h3 a4 h4 a5 h5 a6 h6 hc x w g y o = k0_pay6 x w g y := by
  unfold out0_B_4
  rw [View.read_writes_eq_canon _ _ _ (cover0_B_4 c i a1 h1 a2 h2 a3 h3 a4 h4 a5 h5 a6 h6 hc x w g y o)]
  unfold kernelRun0_B
  dsimp only
  sl_unfold_words
  rw [View.canon_unit_zero hz]
  simp only [View.readAt_eq_ld, h1.read_unread, h2.read_unread, h3.read_unread, h4.read_unread, View.ld_unit_zero (S := S512x1024) hz, View.ld_unit_zero (S := S1x1024) hz]

/-- What a point leaves in the weight's gradient. -/
theorem row_A (hc : cond0_0 i) (j : Fin 1024) :
    (out0_A_5 (F := Ideal) c i a1 h1 a2 h2 a3 h3 a4 h4 a5 h5 a6 h6 hc x w g y (ix2 0 j) : EReal) = k0_pay5 x g (ix2 0 j) := by
  unfold out0_A_5
  rw [View.read_writes_eq_canon _ _ _ (cover0_A_5 c i a1 h1 a2 h2 a3 h3 a4 h4 a5 h5 a6 h6 hc x w g y)]
  unfold kernelRun0_A
  dsimp only
  sl_unfold_words
  rw [View.canon_cons_unit_zero hz, View.readCov_full]
  unfold k0_pay2 k0_pay1
  simp only [View.readAt_eq_ld, h1.read_unread, h3.read_unread, View.ld_unit_zero (S := S512x1024) hz, shapeCast_self]
  refine Eq.trans (congrArg (· + _) (Ideal.ofBits_zero_f32)) (zero_add _)

theorem row_B (hc : ¬cond0_0 i) (j : Fin 1024) :
    (out0_B_5 (F := Ideal) c i a1 h1 a2 h2 a3 h3 a4 h4 a5 h5 a6 h6 hc x w g y o (ix2 0 j) : EReal) = o (ix2 0 j) + k0_pay5 x g (ix2 0 j) := by
  unfold out0_B_5
  rw [View.read_writes_eq_canon _ _ _ (cover0_B_5 c i a1 h1 a2 h2 a3 h3 a4 h4 a5 h5 a6 h6 hc x w g y o)]
  unfold kernelRun0_B
  dsimp only
  sl_unfold_words
  rw [View.canon_unit_zero hz]
  unfold k0_pay2
  simp only [View.readAt_eq_ld, h1.read_unread, h3.read_unread, h6.read_unread, View.ld_unit_zero (S := S512x1024) hz, View.ld_unit_zero (S := S1x1024) hz, shapeCast_self]
  rfl

end Point

variable (m : (ℓ : Loc nD τ sig) → Buf (Elt Ideal) ℓ) (c : Dev nD)

/-- The rows, the weight, the gradients that the rows' norms receive, and the gradients past the norm. -/
abbrev X : S8192x1024.Idx → EReal := m ((c : Thread nD τ).loc main_arg0)
abbrev W : S1024.Idx → EReal := m ((c : Thread nD τ).loc main_arg1)
abbrev DH : S8192x1024.Idx → EReal := m ((c : Thread nD τ).loc main_arg2)
abbrev DY : S8192x1024.Idx → EReal := m ((c : Thread nD τ).loc main_arg3)

/-- The grid's block indices. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem flush4 : ∀ t : Fin cfg0.N, (cfg0.win 4).flush t = true := (by decide +kernel : ∀ t : Fin grid0.N, _)
theorem flush5 : ∀ t : Fin cfg0.N, (cfg0.win 5).flush t = true ↔ t.val = 15 := (by decide +kernel : ∀ t : Fin grid0.N, _)

/-- The rows of the blocks at a point. -/
theorem rows0 (t : Fin cfg0.N) (r : Fin 512) : rowOf (a := 512) (iblk (F := Ideal) m c 0 t) r.val = rowOf (X m c) (t.val * 512 + r.val) := by
  refine rowOf_block (X m c) _ _ (fun i => ?_) r
  obtain ⟨e0, e1⟩ := index0 t
  unfold iblk
  rw [View.read_apply]
  show V m c main_arg0 _ = _
  rw [V_main_arg0]
  refine at2_of _ _ _ _ ?_ ?_
  · show win0_0.index t (0 : Fin 2) * 512 + 1 * (i 0).val = _
    rw [e0, Nat.one_mul]
  · show win0_0.index t (1 : Fin 2) * 1024 + 1 * (i 1).val = _
    rw [e1, Nat.one_mul, Nat.zero_mul, Nat.zero_add]

theorem rows2 (t : Fin cfg0.N) (r : Fin 512) : rowOf (a := 512) (iblk (F := Ideal) m c 2 t) r.val = rowOf (DH m c) (t.val * 512 + r.val) := by
  refine rowOf_block (DH m c) _ _ (fun i => ?_) r
  obtain ⟨e0, e1⟩ := index2 t
  unfold iblk
  rw [View.read_apply]
  show V m c main_arg2 _ = _
  rw [V_main_arg2]
  refine at2_of _ _ _ _ ?_ ?_
  · show win0_2.index t (0 : Fin 2) * 512 + 1 * (i 0).val = _
    rw [e0, Nat.one_mul]
  · show win0_2.index t (1 : Fin 2) * 1024 + 1 * (i 1).val = _
    rw [e1, Nat.one_mul, Nat.zero_mul, Nat.zero_add]

theorem rows3 (t : Fin cfg0.N) (r : Fin 512) : rowOf (a := 512) (iblk (F := Ideal) m c 3 t) r.val = rowOf (DY m c) (t.val * 512 + r.val) := by
  refine rowOf_block (DY m c) _ _ (fun i => ?_) r
  obtain ⟨e0, e1⟩ := index3 t
  unfold iblk
  rw [View.read_apply]
  show V m c main_arg3 _ = _
  rw [V_main_arg3]
  refine at2_of _ _ _ _ ?_ ?_
  · show win0_3.index t (0 : Fin 2) * 512 + 1 * (i 0).val = _
    rw [e0, Nat.one_mul]
  · show win0_3.index t (1 : Fin 2) * 1024 + 1 * (i 1).val = _
    rw [e1, Nat.one_mul, Nat.zero_mul, Nat.zero_add]

/-- The weight, laid out as a row. -/
theorem host_weight (i : S1x1024.Idx) : (V m c main_v0 : S1x1024.Idx → EReal) i = W m c (ix1 (i 1)) := by
  simp only [V, hostOps0]
  after_reads_simp
  pointwise

theorem weights (t : Fin cfg0.N) : rowOf (a := 1) (iblk (F := Ideal) m c 1 t) 0 = entries (W m c) := by
  obtain ⟨e0, e1⟩ := index1 t
  funext j
  refine (rowOf_apply (a := 1) (iblk (F := Ideal) m c 1 t) 0 j).symm.trans ?_
  unfold iblk
  rw [View.read_apply]
  show V m c main_v0 _ = _
  rw [host_weight]
  unfold entries
  congr 2
  apply Fin.ext
  show win0_1.index t (1 : Fin 2) * 1024 + 1 * j.val = _
  rw [e1]; omega

/-- The two results: the gradient of the entry at row `r`, and the weight's gradient. -/
def dxAt (r : ℕ) (j : Fin 1024) : EReal :=
  gradEntry (rowOf (X m c) r) (entries (W m c)) (rowOf (DH m c) r)
    (rowOf (DY m c) r j + passed (rowOf (X m c) r) (entries (W m c)) (rowOf (DH m c) r) j) j
def dwAt (j : Fin 1024) : EReal := ∑ r ∈ Finset.range 8192, weightPart (rowOf (X m c) r) (rowOf (DH m c) r) j

/-- What a point leaves in its block. -/
theorem block_left (t : Fin cfg0.N) (r : Fin 512) (j : Fin 1024) :
    ((outsAt0 (F := Ideal) m c t.val t.isLt).1 (ix2 r j) : EReal) = dxAt m c (t.val * 512 + r.val) j := by
  have e : (k0_pay6 (F := Ideal) (iblk m c 0 t) (iblk m c 1 t) (iblk m c 2 t) (iblk m c 3 t) (ix2 r j) : EReal) = dxAt m c (t.val * 512 + r.val) j := by
    rw [rows_apply, rows0, rows2, rows3, weights]; rfl
  by_cases h : t.val % 16 = 0
  · rw [outsAt0_A (F := Ideal) m c t h]
    dsimp only
    rw [block_A, e]
  · rw [outsAt0_B (F := Ideal) m c t h]
    dsimp only
    rw [block_B, e]

/-- A point's part of the weight's gradient. -/
def partAt (t : ℕ) (j : Fin 1024) : EReal :=
  ∑ r ∈ Finset.range 512, weightPart (rowOf (X m c) (t * 512 + r)) (rowOf (DH m c) (t * 512 + r)) j

theorem part_at (t : Fin cfg0.N) (j : Fin 1024) :
    (k0_pay5 (F := Ideal) (iblk m c 0 t) (iblk m c 2 t) (ix2 0 j) : EReal) = partAt m c t.val j := by
  rw [part_apply]
  unfold partAt
  refine Finset.sum_congr rfl fun r hr => ?_
  have hr := Finset.mem_range.1 hr
  rw [show rowOf (a := 512) (iblk (F := Ideal) m c 0 t) r = _ from rows0 m c t ⟨r, hr⟩,
    show rowOf (a := 512) (iblk (F := Ideal) m c 2 t) r = _ from rows2 m c t ⟨r, hr⟩]

/-- The weight's gradient after a point: the parts of the points so far. -/
theorem row_left (j : Fin 1024) (n : ℕ) (h : n < cfg0.N) :
    ((outsAt0 (F := Ideal) m c n h).2 (ix2 0 j) : EReal) = ∑ s ∈ Finset.range (n % 16 + 1), partAt m c (16 * (n / 16) + s) j := by
  refine fold_runs (fun n h => ((outsAt0 (F := Ideal) m c n h).2 (ix2 0 j) : EReal)) (fun p => partAt m c p j) 16 (by decide)
    (fun n h hz => ?_) (fun n h hz => ?_) n h
  · have e := outsAt0_A (F := Ideal) m c ⟨n, h⟩ hz
    dsimp only at e ⊢
    rw [e]
    dsimp only
    rw [row_A]
    exact part_at m c ⟨n, h⟩ j
  · have e := outsAt0_B (F := Ideal) m c ⟨n + 1, h⟩ hz
    dsimp only at e ⊢
    rw [e]
    dsimp only
    rw [row_B]
    exact congrArg₂ (· + ·) rfl (part_at m c ⟨n + 1, h⟩ j)

/-- The two result arrays. -/
def GX : Buf (Elt Ideal) ((c : Thread nD τ).loc main_v1_0) := fun i : S8192x1024.Idx => dxAt m c (i 0).val (i 1)
def GW : Buf (Elt Ideal) ((c : Thread nD τ).loc main_v1_1) := fun i : S1x1024.Idx => dwAt m c (i 1)

theorem flushed_dx (t : Fin cfg0.N) (hf : (cfg0.win 4).flush t = true) :
    (dats (F := Ideal) m 0 c).flushed 4 t = ((cfg0.win 4).blk t).view.read (Elt Ideal) (GX m c) := by
  obtain ⟨e0, e1⟩ := index4 t
  rw [Value.flushed4]
  funext y
  obtain ⟨r, j, rfl⟩ : ∃ (r : Fin 512) (j : Fin 1024), y = (ix2 r j : S512x1024.Idx) := ⟨y 0, y 1, by funext a; fin_cases a <;> rfl⟩
  rw [View.read_apply]
  refine Eq.trans ?_ (cast_eq _ (GX m c _)).symm
  refine Eq.trans (block_left m c t r j) ?_
  unfold GX
  refine congrArg₂ (dxAt m c) ?_ (Fin.ext ?_)
  · show _ = win0_4.index t (0 : Fin 2) * 512 + 1 * r.val
    rw [e0]; omega
  · show j.val = win0_4.index t (1 : Fin 2) * 1024 + 1 * j.val
    rw [e1]; omega

theorem dx_out : (dats (F := Ideal) m 0 c).arrAt 4 cfg0.N = GX m c := by
  refine (dats (F := Ideal) m 0 c).arrAt_eq_of_cover 4 _ (flushed_dx m c) fun i => ?_
  have h0 : (i 0).val < 8192 := (i 0).isLt
  have h1 : (i 1).val < 1024 := (i 1).isLt
  have hN : (i 0).val / 512 < cfg0.N := by rw [show cfg0.N = 16 from N_0]; omega
  refine ⟨⟨(i 0).val / 512, hN⟩, flush4 _, ?_⟩
  obtain ⟨e0, e1⟩ := index4 ⟨(i 0).val / 512, hN⟩
  show i ∈ ((View.whole main_v1_0).slice (win0_4.rect ⟨(i 0).val / 512, hN⟩)).set
  rw [View.set_slice_whole, Rect.mem_set_unit]
  intro a
  fin_cases a
  · show win0_4.index ⟨(i 0).val / 512, hN⟩ (0 : Fin 2) * 512 ≤ (i 0).val ∧ (i 0).val < win0_4.index ⟨(i 0).val / 512, hN⟩ (0 : Fin 2) * 512 + 512
    rw [e0]; dsimp only; omega
  · show win0_4.index ⟨(i 0).val / 512, hN⟩ (1 : Fin 2) * 1024 ≤ (i 1).val ∧ (i 1).val < win0_4.index ⟨(i 0).val / 512, hN⟩ (1 : Fin 2) * 1024 + 1024
    rw [e1]; omega

theorem flushed_dw (t : Fin cfg0.N) (hf : (cfg0.win 5).flush t = true) :
    (dats (F := Ideal) m 0 c).flushed 5 t = ((cfg0.win 5).blk t).view.read (Elt Ideal) (GW m c) := by
  obtain ⟨e0, e1⟩ := index5 t
  have ht := (flush5 t).1 hf
  rw [Value.flushed5]
  funext y
  obtain ⟨u, j, rfl⟩ : ∃ (u : Fin 1) (j : Fin 1024), y = (ix2 u j : S1x1024.Idx) := ⟨y 0, y 1, by funext a; fin_cases a <;> rfl⟩
  obtain rfl : u = 0 := Subsingleton.elim _ _
  rw [View.read_apply]
  refine Eq.trans ?_ (cast_eq _ (GW m c _)).symm
  refine Eq.trans (row_left m c j t.val t.isLt) ?_
  rw [ht]
  refine Eq.trans ?_ (Eq.trans (sum_tiles (fun r => weightPart (rowOf (X m c) r) (rowOf (DH m c) r) j) 16 512) ?_)
  · refine Finset.sum_congr rfl fun s _ => ?_
    unfold partAt
    norm_num
  · unfold GW
    refine congrArg (dwAt m c) (Fin.ext ?_)
    show j.val = win0_5.index t (1 : Fin 2) * 1024 + 1 * j.val
    rw [e1]; omega

theorem dw_out : (dats (F := Ideal) m 0 c).arrAt 5 cfg0.N = GW m c := by
  refine (dats (F := Ideal) m 0 c).arrAt_eq_of_cover 5 _ (flushed_dw m c) fun i => ?_
  have hN : 15 < cfg0.N := by rw [show cfg0.N = 16 from N_0]; decide
  refine ⟨⟨15, hN⟩, (flush5 _).2 rfl, ?_⟩
  obtain ⟨e0, e1⟩ := index5 ⟨15, hN⟩
  show i ∈ ((View.whole main_v1_1).slice (win0_5.rect ⟨15, hN⟩)).set
  rw [View.set_slice_whole, Rect.mem_set_unit]
  intro a
  have hi := (i a).isLt
  fin_cases a
  · show win0_5.index ⟨15, hN⟩ (0 : Fin 2) * 1 ≤ (i 0).val ∧ (i 0).val < win0_5.index ⟨15, hN⟩ (0 : Fin 2) * 1 + 1
    change (i 0).val < 1 at hi
    rw [e0]; omega
  · show win0_5.index ⟨15, hN⟩ (1 : Fin 2) * 1024 ≤ (i 1).val ∧ (i 1).val < win0_5.index ⟨15, hN⟩ (1 : Fin 2) * 1024 + 1024
    change (i 1).val < 1024 at hi
    rw [e1]; omega

end Cert.Kernel8Ideal.Norm

end
-- ==== Proof.NormRef8.lean ====
/-
  The reference's gradient of the norm before a layer, read at a place.
-/
module

public import proofs.«01_k».proof.Proof.NormMath
public import proofs.«01_k».proof.Proof.Gen.Reference8Ideal.Run

@[expose] public section

noncomputable section

namespace Cert.Reference8Ideal.Norm

open Cert.Reference8Ideal Cert.Reference8Ideal.Gen Idealize.ShloMosaic Idealize.ShloMosaic.TcCoe Idealize.SL.Sem
open Cert.Norm
open scoped BigOperators

variable (m : (ℓ : Loc nD τ sig) → Buf (Elt Ideal) ℓ) (c : Dev nD)

abbrev X : S8192x1024.Idx → EReal := m ((c : Thread nD τ).loc main_arg0)
abbrev W : S1024.Idx → EReal := m ((c : Thread nD τ).loc main_arg1)
abbrev DH : S8192x1024.Idx → EReal := m ((c : Thread nD τ).loc main_arg2)
abbrev DY : S8192x1024.Idx → EReal := m ((c : Thread nD τ).loc main_arg3)

/-- The gradient of the entry at row `r` and column `j`. -/
theorem dx_apply (r : Fin 8192) (j : Fin 1024) :
    (Cert.Reference8Ideal.Value.res_main_v41 (F := Ideal) m c (ix2 r j) : EReal)
      = gradEntry (rowOf (X m c) r.val) (entries (W m c)) (rowOf (DH m c) r.val)
          (rowOf (DY m c) r.val j + passed (rowOf (X m c) r.val) (entries (W m c)) (rowOf (DH m c) r.val) j) j := by
  unfold Cert.Reference8Ideal.Value.res_main_v41
  simp only [pointwise, reduce_outer, zero_add]
  simp only [show ¬(8192 = 1) by decide, show ¬(1024 = 1) by decide, dite_false, if_false, ↓reduceDIte,
    show ∀ (r : Fin 8192) (j : Fin 1024), m (c.tc.loc main_arg0) (ix2 r j) = rowOf (X m c) r.val j from fun r j => rowOf_apply (X m c) r j,
    show ∀ (r : Fin 8192) (j : Fin 1024), m (c.tc.loc main_arg2) (ix2 r j) = rowOf (DH m c) r.val j from fun r j => rowOf_apply (DH m c) r j,
    show ∀ (r : Fin 8192) (j : Fin 1024), m (c.tc.loc main_arg3) (ix2 r j) = rowOf (DY m c) r.val j from fun r j => rowOf_apply (DY m c) r j]
  rfl

/-- The weight's gradient at an entry: the rows' parts. -/
theorem dw_apply (x g : FVec Ideal S8192x1024 .f32) (i : S1x1024.Idx) :
    (broadcastInDim S1x1024 ![1] bcast_S1024_S1x1024_1 (Host.reduceAdd (F := Ideal) (shapeCast _ (Host.reduceAdd (mulf (mulf (broadcastInDim S1x8192x1024 ![1, 2] bcast_S8192x1024_S1x8192x1024_1_2 x) (broadcastInDim S1x8192x1024 ![0, 1, 2] bcast_S1x8192x1_S1x8192x1024_0_1_2 (Host.rsqrt (addf (Host.divf (broadcastInDim S1x8192x1 ![0, 1] bcast_S1x8192_S1x8192x1_0_1 (Host.reduceAdd (mulf (broadcastInDim S1x8192x1024 ![1, 2] bcast_S8192x1024_S1x8192x1024_1_2 x) (broadcastInDim S1x8192x1024 ![1, 2] bcast_S8192x1024_S1x8192x1024_1_2 x)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32)))))) (broadcastInDim S1x8192x1024 ![1, 2] bcast_S8192x1024_S1x8192x1024_1_2 g)) (constant S_ .f32 0x00000000#32) reducesTo_S1x8192x1024_S1x1024_d1 h_S_) shapeCasts_S1x1024_S1x1x1024) (constant S_ .f32 0x00000000#32) reducesTo_S1x1x1024_S1024_d0_1 h_S_) i)
      = ∑ r ∈ Finset.range 8192, weightPart (rowOf x r) (rowOf g r) (i 1) := by
  simp only [pointwise, reduce_leading, zero_add]
  simp only [show ¬(8192 = 1) by decide, show ¬(1024 = 1) by decide, dite_false, if_false, ↓reduceDIte,
    show ∀ (r : Fin 8192) (j : Fin 1024), (x (ix2 r j) : EReal) = rowOf x r.val j from fun r j => rowOf_apply x r j,
    show ∀ (r : Fin 8192) (j : Fin 1024), (g (ix2 r j) : EReal) = rowOf g r.val j from fun r j => rowOf_apply g r j]
  refine Eq.trans ?_ (Finset.sum_range _).symm
  exact Finset.sum_congr rfl fun r _ => congrArg₂ (· * ·) (congrArg (· * _) (rowOf_apply x r (i 1))) (rowOf_apply g r (i 1))

end Cert.Reference8Ideal.Norm

end
-- ==== Proof.NormAlg8.lean ====
/-
  The gradient of the norm before a layer: the claim that the kernel and the reference leave equal arrays.
-/
module

public import proofs.«01_k».proof.Defs
public import proofs.«01_k».proof.Proof.Norm8
public import proofs.«01_k».proof.Proof.NormRef8

@[expose] public section

noncomputable section

namespace Cert.Proof

open Idealize.ShloMosaic Idealize.ShloMosaic.TcCoe Idealize.SL.Sem

theorem algebraic_8 : Cert.algebraic_Kernel8Ideal_Reference8Ideal := by
  intro m g m' g' _ hargs
  refine ⟨fun c => Cert.Kernel8Ideal.Norm.GX m c, fun c => Cert.Kernel8Ideal.Norm.GW m c, ?_, ?_⟩
  · refine (θ_run _ _ _).mono (fun r h c => ?_) (Cert.Kernel8Ideal.Value.run_blocks (F := Ideal) m g)
    exact ⟨(h c).1.trans (Cert.Kernel8Ideal.Norm.dx_out m c), (h c).2.1.trans (Cert.Kernel8Ideal.Norm.dw_out m c), (h c).2.2⟩
  · refine (θ_run _ _ _).mono (fun r h c => ?_) (Cert.Reference8Ideal.Value.run (F := Ideal) m' g')
    obtain ⟨a0, a1, a2, a3⟩ := hargs c
    refine ⟨(h c).1.trans ?_, (h c).2.1.trans ?_, (h c).2.2⟩
    · funext i
      obtain ⟨q, j, rfl⟩ : ∃ (q : Fin 8192) (j : Fin 1024), i = (ix2 q j : Cert.Kernel8Ideal.S8192x1024.Idx) := ⟨i 0, i 1, by funext a; fin_cases a <;> rfl⟩
      refine (Cert.Reference8Ideal.Norm.dx_apply m' c q j).trans ?_
      unfold Cert.Reference8Ideal.Norm.X Cert.Reference8Ideal.Norm.W Cert.Reference8Ideal.Norm.DH Cert.Reference8Ideal.Norm.DY
      rw [a0, a1, a2, a3]
      rfl
    · rw [a0, a2]
      funext i
      exact Cert.Reference8Ideal.Norm.dw_apply _ _ i

end Cert.Proof

end
-- ==== Proof.Norm9.lean ====
/-
  The gradient of the norm on a layer's result: what a grid point leaves, and the two result arrays. A point holds 512 rows;
  it writes their gradients and adds their parts to the weight's gradient, which the first point starts from zero.
-/
module

public import proofs.«01_k».proof.Proof.NormMath
public import proofs.«01_k».proof.Proof.Gen.Kernel9Ideal.Value
public import Idealize.ShloMosaic.Lib.StableHlo.RunRead
public import Idealize.ShloMosaic.Lib.VecWindow

@[expose] public section

noncomputable section

namespace Cert.Kernel9Ideal.Norm

open Cert.Kernel9Ideal Cert.Kernel9Ideal.Gen Idealize.ShloMosaic Idealize.ShloMosaic.TcCoe Idealize.SL.Sem
open Idealize.ShloMosaic.Pipeline (Dat)
open Cert.Norm
open Cert.Proof.Mm (at2 at2_of at2_ix sum_tiles fold_runs)
open scoped BigOperators

/-- The gradients of a block's rows. -/
theorem rows_apply (x : Vec Ideal S512x1024 .f32) (w : Vec Ideal S1x1024 .f32) (g : Vec Ideal S512x1024 .f32) (r : Fin 512) (j : Fin 1024) :
    (k0_pay6 (F := Ideal) x w g (ix2 r j) : EReal)
      = gradEntry (rowOf x r.val) (rowOf w 0) (rowOf g r.val) (passed (rowOf x r.val) (rowOf w 0) (rowOf g r.val) j) j := by
  unfold k0_pay6 k0_pay4 k0_pay3
  pointwise
  simp only [Finset.univ_unique, Finset.sum_singleton, rowOf_apply (a := 512), show ∀ j, (w (ix2 0 j) : EReal) = rowOf w 0 j from fun j => rowOf_apply w 0 j]
  rfl

/-- A block's part of the weight's gradient. -/
theorem part_apply (x g : Vec Ideal S512x1024 .f32) (j : Fin 1024) :
    (k0_pay5 (F := Ideal) x g (ix2 0 j) : EReal) = ∑ r ∈ Finset.range 512, weightPart (rowOf x r) (rowOf g r) j := by
  unfold k0_pay5 k0_pay4 k0_pay3
  pointwise
  rw [Finset.sum_range]
  simp only [rowOf_apply (a := 512)]
  rfl

theorem hz : (![0, 0] : Fin 2 → Nat) = fun _ => 0 := funext fun a => by fin_cases a <;> rfl

section Point

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .bf16) (h4 : a4.IsWhole) (a5 : Memref sig .tc .vmem S1x1024 .f32) (h5 : a5.IsWhole)
  (x : Vec Ideal S512x1024 .f32) (w : Vec Ideal S1x1024 .f32) (g : Vec Ideal S512x1024 .f32) (o : Vec Ideal S1x1024 .f32)

/-- What a point leaves in its block, at the first point and at a later one. -/
theorem block_A (hc : cond0_0 i) :
    out0_A_3 (F := Ideal) c i a1 h1 a2 h2 a3 h3 a4 h4 a5 h5 hc x w g = k0_pay6 x w g := by
  unfold out0_A_3
  rw [View.read_writes_eq_canon _ _ _ (cover0_A_3 c i a1 h1 a2 h2 a3 h3 a4 h4 a5 h5 hc x w g)]
  unfold kernelRun0_A
  dsimp only
  sl_unfold_words
  rw [View.canon_unit_zero hz]
  simp only [View.readAt_eq_ld, h1.read_unread, h2.read_unread, h3.read_unread, View.ld_unit_zero (S := S512x1024) hz, View.ld_unit_zero (S := S1x1024) hz]

theorem block_B (hc : ¬cond0_0 i) :
    out0_B_3 (F := Ideal) c i a1 h1 a2 h2 a3 h3 a4 h4 a5 h5 hc x w g o = k0_pay6 x w g := by
  unfold out0_B_3
  rw [View.read_writes_eq_canon _ _ _ (cover0_B_3 c i a1 h1 a2 h2 a3 h3 a4 h4 a5 h5 hc x w g o)]
  unfold kernelRun0_B
  dsimp only
  sl_unfold_words
  rw [View.canon_unit_zero hz]
  simp only [View.readAt_eq_ld, h1.read_unread, h2.read_unread, h3.read_unread, View.ld_unit_zero (S := S512x1024) hz, View.ld_unit_zero (S := S1x1024) hz]

/-- What a point leaves in the weight's gradient. -/
theorem row_A (hc : cond0_0 i) (j : Fin 1024) :
    (out0_A_4 (F := Ideal) c i a1 h1 a2 h2 a3 h3 a4 h4 a5 h5 hc x w g (ix2 0 j) : EReal) = k0_pay5 x g (ix2 0 j) := by
  unfold out0_A_4
  rw [View.read_writes_eq_canon _ _ _ (cover0_A_4 c i a1 h1 a2 h2 a3 h3 a4 h4 a5 h5 hc x w g)]
  unfold kernelRun0_A
  dsimp only
  sl_unfold_words
  rw [View.canon_cons_unit_zero hz, View.readCov_full]
  unfold k0_pay2 k0_pay1
  simp only [View.readAt_eq_ld, h1.read_unread, h3.read_unread, View.ld_unit_zero (S := S512x1024) hz, shapeCast_self]
  refine Eq.trans (congrArg (· + _) (Ideal.ofBits_zero_f32)) (zero_add _)

theorem row_B (hc : ¬cond0_0 i) (j : Fin 1024) :
    (out0_B_4 (F := Ideal) c i a1 h1 a2 h2 a3 h3 a4 h4 a5 h5 hc x w g o (ix2 0 j) : EReal) = o (ix2 0 j) + k0_pay5 x g (ix2 0 j) := by
  unfold out0_B_4
  rw [View.read_writes_eq_canon _ _ _ (cover0_B_4 c i a1 h1 a2 h2 a3 h3 a4 h4 a5 h5 hc x w g o)]
  unfold kernelRun0_B
  dsimp only
  sl_unfold_words
  rw [View.canon_unit_zero hz]
  unfold k0_pay2
  simp only [View.readAt_eq_ld, h1.read_unread, h3.read_unread, h5.read_unread, View.ld_unit_zero (S := S512x1024) hz, View.ld_unit_zero (S := S1x1024) hz, shapeCast_self]
  rfl

end Point

variable (m : (ℓ : Loc nD τ sig) → Buf (Elt Ideal) ℓ) (c : Dev nD)

/-- The rows, the weight, and the gradients that the rows' norms receive. -/
abbrev X : S8192x1024.Idx → EReal := m ((c : Thread nD τ).loc main_arg0)
abbrev W : S1024.Idx → EReal := m ((c : Thread nD τ).loc main_arg1)
abbrev DH : S8192x1024.Idx → EReal := m ((c : Thread nD τ).loc main_arg2)

/-- The grid's block indices. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem flush3 : ∀ t : Fin cfg0.N, (cfg0.win 3).flush t = true := (by decide +kernel : ∀ t : Fin grid0.N, _)
theorem flush4 : ∀ t : Fin cfg0.N, (cfg0.win 4).flush t = true ↔ t.val = 15 := (by decide +kernel : ∀ t : Fin grid0.N, _)

/-- The rows of the blocks at a point. -/
theorem rows0 (t : Fin cfg0.N) (r : Fin 512) : rowOf (a := 512) (iblk (F := Ideal) m c 0 t) r.val = rowOf (X m c) (t.val * 512 + r.val) := by
  refine rowOf_block (X m c) _ _ (fun i => ?_) r
  obtain ⟨e0, e1⟩ := index0 t
  unfold iblk
  rw [View.read_apply]
  show V m c main_arg0 _ = _
  rw [V_main_arg0]
  refine at2_of _ _ _ _ ?_ ?_
  · show win0_0.index t (0 : Fin 2) * 512 + 1 * (i 0).val = _
    rw [e0, Nat.one_mul]
  · show win0_0.index t (1 : Fin 2) * 1024 + 1 * (i 1).val = _
    rw [e1, Nat.one_mul, Nat.zero_mul, Nat.zero_add]

theorem rows2 (t : Fin cfg0.N) (r : Fin 512) : rowOf (a := 512) (iblk (F := Ideal) m c 2 t) r.val = rowOf (DH m c) (t.val * 512 + r.val) := by
  refine rowOf_block (DH m c) _ _ (fun i => ?_) r
  obtain ⟨e0, e1⟩ := index2 t
  unfold iblk
  rw [View.read_apply]
  show V m c main_arg2 _ = _
  rw [V_main_arg2]
  refine at2_of _ _ _ _ ?_ ?_
  · show win0_2.index t (0 : Fin 2) * 512 + 1 * (i 0).val = _
    rw [e0, Nat.one_mul]
  · show win0_2.index t (1 : Fin 2) * 1024 + 1 * (i 1).val = _
    rw [e1, Nat.one_mul, Nat.zero_mul, Nat.zero_add]

/-- The weight, laid out as a row. -/
theorem host_weight (i : S1x1024.Idx) : (V m c main_v0 : S1x1024.Idx → EReal) i = W m c (ix1 (i 1)) := by
  simp only [V, hostOps0]
  after_reads_simp
  pointwise

theorem weights (t : Fin cfg0.N) : rowOf (a := 1) (iblk (F := Ideal) m c 1 t) 0 = entries (W m c) := by
  obtain ⟨e0, e1⟩ := index1 t
  funext j
  refine (rowOf_apply (a := 1) (iblk (F := Ideal) m c 1 t) 0 j).symm.trans ?_
  unfold iblk
  rw [View.read_apply]
  show V m c main_v0 _ = _
  rw [host_weight]
  unfold entries
  congr 2
  apply Fin.ext
  show win0_1.index t (1 : Fin 2) * 1024 + 1 * j.val = _
  rw [e1]; omega

/-- The two results: the gradient of the entry at row `r`, and the weight's gradient. -/
def dxAt (r : ℕ) (j : Fin 1024) : EReal :=
  gradEntry (rowOf (X m c) r) (entries (W m c)) (rowOf (DH m c) r)
    (passed (rowOf (X m c) r) (entries (W m c)) (rowOf (DH m c) r) j) j
def dwAt (j : Fin 1024) : EReal := ∑ r ∈ Finset.range 8192, weightPart (rowOf (X m c) r) (rowOf (DH m c) r) j

/-- What a point leaves in its block. -/
theorem block_left (t : Fin cfg0.N) (r : Fin 512) (j : Fin 1024) :
    ((outsAt0 (F := Ideal) m c t.val t.isLt).1 (ix2 r j) : EReal) = dxAt m c (t.val * 512 + r.val) j := by
  have e : (k0_pay6 (F := Ideal) (iblk m c 0 t) (iblk m c 1 t) (iblk m c 2 t) (ix2 r j) : EReal) = dxAt m c (t.val * 512 + r.val) j := by
    rw [rows_apply, rows0, rows2, weights]; rfl
  by_cases h : t.val % 16 = 0
  · rw [outsAt0_A (F := Ideal) m c t h]
    dsimp only
    rw [block_A, e]
  · rw [outsAt0_B (F := Ideal) m c t h]
    dsimp only
    rw [block_B, e]

/-- A point's part of the weight's gradient. -/
def partAt (t : ℕ) (j : Fin 1024) : EReal :=
  ∑ r ∈ Finset.range 512, weightPart (rowOf (X m c) (t * 512 + r)) (rowOf (DH m c) (t * 512 + r)) j

theorem part_at (t : Fin cfg0.N) (j : Fin 1024) :
    (k0_pay5 (F := Ideal) (iblk m c 0 t) (iblk m c 2 t) (ix2 0 j) : EReal) = partAt m c t.val j := by
  rw [part_apply]
  unfold partAt
  refine Finset.sum_congr rfl fun r hr => ?_
  have hr := Finset.mem_range.1 hr
  rw [show rowOf (a := 512) (iblk (F := Ideal) m c 0 t) r = _ from rows0 m c t ⟨r, hr⟩,
    show rowOf (a := 512) (iblk (F := Ideal) m c 2 t) r = _ from rows2 m c t ⟨r, hr⟩]

/-- The weight's gradient after a point: the parts of the points so far. -/
theorem row_left (j : Fin 1024) (n : ℕ) (h : n < cfg0.N) :
    ((outsAt0 (F := Ideal) m c n h).2 (ix2 0 j) : EReal) = ∑ s ∈ Finset.range (n % 16 + 1), partAt m c (16 * (n / 16) + s) j := by
  refine fold_runs (fun n h => ((outsAt0 (F := Ideal) m c n h).2 (ix2 0 j) : EReal)) (fun p => partAt m c p j) 16 (by decide)
    (fun n h hz => ?_) (fun n h hz => ?_) n h
  · have e := outsAt0_A (F := Ideal) m c ⟨n, h⟩ hz
    dsimp only at e ⊢
    rw [e]
    dsimp only
    rw [row_A]
    exact part_at m c ⟨n, h⟩ j
  · have e := outsAt0_B (F := Ideal) m c ⟨n + 1, h⟩ hz
    dsimp only at e ⊢
    rw [e]
    dsimp only
    rw [row_B]
    exact congrArg₂ (· + ·) rfl (part_at m c ⟨n + 1, h⟩ j)

/-- The two result arrays. -/
def GX : Buf (Elt Ideal) ((c : Thread nD τ).loc main_v1_0) := fun i : S8192x1024.Idx => dxAt m c (i 0).val (i 1)
def GW : Buf (Elt Ideal) ((c : Thread nD τ).loc main_v1_1) := fun i : S1x1024.Idx => dwAt m c (i 1)

theorem flushed_dx (t : Fin cfg0.N) (hf : (cfg0.win 3).flush t = true) :
    (dats (F := Ideal) m 0 c).flushed 3 t = ((cfg0.win 3).blk t).view.read (Elt Ideal) (GX m c) := by
  obtain ⟨e0, e1⟩ := index3 t
  rw [Value.flushed3]
  funext y
  obtain ⟨r, j, rfl⟩ : ∃ (r : Fin 512) (j : Fin 1024), y = (ix2 r j : S512x1024.Idx) := ⟨y 0, y 1, by funext a; fin_cases a <;> rfl⟩
  rw [View.read_apply]
  refine Eq.trans ?_ (cast_eq _ (GX m c _)).symm
  refine Eq.trans (block_left m c t r j) ?_
  unfold GX
  refine congrArg₂ (dxAt m c) ?_ (Fin.ext ?_)
  · show _ = win0_3.index t (0 : Fin 2) * 512 + 1 * r.val
    rw [e0]; omega
  · show j.val = win0_3.index t (1 : Fin 2) * 1024 + 1 * j.val
    rw [e1]; omega

theorem dx_out : (dats (F := Ideal) m 0 c).arrAt 3 cfg0.N = GX m c := by
  refine (dats (F := Ideal) m 0 c).arrAt_eq_of_cover 3 _ (flushed_dx m c) fun i => ?_
  have h0 : (i 0).val < 8192 := (i 0).isLt
  have h1 : (i 1).val < 1024 := (i 1).isLt
  have hN : (i 0).val / 512 < cfg0.N := by rw [show cfg0.N = 16 from N_0]; omega
  refine ⟨⟨(i 0).val / 512, hN⟩, flush3 _, ?_⟩
  obtain ⟨e0, e1⟩ := index3 ⟨(i 0).val / 512, hN⟩
  show i ∈ ((View.whole main_v1_0).slice (win0_3.rect ⟨(i 0).val / 512, hN⟩)).set
  rw [View.set_slice_whole, Rect.mem_set_unit]
  intro a
  fin_cases a
  · show win0_3.index ⟨(i 0).val / 512, hN⟩ (0 : Fin 2) * 512 ≤ (i 0).val ∧ (i 0).val < win0_3.index ⟨(i 0).val / 512, hN⟩ (0 : Fin 2) * 512 + 512
    rw [e0]; dsimp only; omega
  · show win0_3.index ⟨(i 0).val / 512, hN⟩ (1 : Fin 2) * 1024 ≤ (i 1).val ∧ (i 1).val < win0_3.index ⟨(i 0).val / 512, hN⟩ (1 : Fin 2) * 1024 + 1024
    rw [e1]; omega

theorem flushed_dw (t : Fin cfg0.N) (hf : (cfg0.win 4).flush t = true) :
    (dats (F := Ideal) m 0 c).flushed 4 t = ((cfg0.win 4).blk t).view.read (Elt Ideal) (GW m c) := by
  obtain ⟨e0, e1⟩ := index4 t
  have ht := (flush4 t).1 hf
  rw [Value.flushed4]
  funext y
  obtain ⟨u, j, rfl⟩ : ∃ (u : Fin 1) (j : Fin 1024), y = (ix2 u j : S1x1024.Idx) := ⟨y 0, y 1, by funext a; fin_cases a <;> rfl⟩
  obtain rfl : u = 0 := Subsingleton.elim _ _
  rw [View.read_apply]
  refine Eq.trans ?_ (cast_eq _ (GW m c _)).symm
  refine Eq.trans (row_left m c j t.val t.isLt) ?_
  rw [ht]
  refine Eq.trans ?_ (Eq.trans (sum_tiles (fun r => weightPart (rowOf (X m c) r) (rowOf (DH m c) r) j) 16 512) ?_)
  · refine Finset.sum_congr rfl fun s _ => ?_
    unfold partAt
    norm_num
  · unfold GW
    refine congrArg (dwAt m c) (Fin.ext ?_)
    show j.val = win0_4.index t (1 : Fin 2) * 1024 + 1 * j.val
    rw [e1]; omega

theorem dw_out : (dats (F := Ideal) m 0 c).arrAt 4 cfg0.N = GW m c := by
  refine (dats (F := Ideal) m 0 c).arrAt_eq_of_cover 4 _ (flushed_dw m c) fun i => ?_
  have hN : 15 < cfg0.N := by rw [show cfg0.N = 16 from N_0]; decide
  refine ⟨⟨15, hN⟩, (flush4 _).2 rfl, ?_⟩
  obtain ⟨e0, e1⟩ := index4 ⟨15, hN⟩
  show i ∈ ((View.whole main_v1_1).slice (win0_4.rect ⟨15, hN⟩)).set
  rw [View.set_slice_whole, Rect.mem_set_unit]
  intro a
  have hi := (i a).isLt
  fin_cases a
  · show win0_4.index ⟨15, hN⟩ (0 : Fin 2) * 1 ≤ (i 0).val ∧ (i 0).val < win0_4.index ⟨15, hN⟩ (0 : Fin 2) * 1 + 1
    change (i 0).val < 1 at hi
    rw [e0]; omega
  · show win0_4.index ⟨15, hN⟩ (1 : Fin 2) * 1024 ≤ (i 1).val ∧ (i 1).val < win0_4.index ⟨15, hN⟩ (1 : Fin 2) * 1024 + 1024
    change (i 1).val < 1024 at hi
    rw [e1]; omega

end Cert.Kernel9Ideal.Norm

end
-- ==== Proof.NormRef9.lean ====
/-
  The reference's gradient of the norm on a layer's result, read at a place.
-/
module

public import proofs.«01_k».proof.Proof.NormMath
public import proofs.«01_k».proof.Proof.Gen.Reference9Ideal.Run

@[expose] public section

noncomputable section

namespace Cert.Reference9Ideal.Norm

open Cert.Reference9Ideal Cert.Reference9Ideal.Gen Idealize.ShloMosaic Idealize.ShloMosaic.TcCoe Idealize.SL.Sem
open Cert.Norm
open scoped BigOperators

variable (m : (ℓ : Loc nD τ sig) → Buf (Elt Ideal) ℓ) (c : Dev nD)

abbrev X : S8192x1024.Idx → EReal := m ((c : Thread nD τ).loc main_arg0)
abbrev W : S1024.Idx → EReal := m ((c : Thread nD τ).loc main_arg1)
abbrev DH : S8192x1024.Idx → EReal := m ((c : Thread nD τ).loc main_arg2)

/-- The gradient of the entry at row `r` and column `j`. -/
theorem dx_apply (r : Fin 8192) (j : Fin 1024) :
    (Cert.Reference9Ideal.Value.res_main_v40 (F := Ideal) m c (ix2 r j) : EReal)
      = gradEntry (rowOf (X m c) r.val) (entries (W m c)) (rowOf (DH m c) r.val)
          (passed (rowOf (X m c) r.val) (entries (W m c)) (rowOf (DH m c) r.val) j) j := by
  unfold Cert.Reference9Ideal.Value.res_main_v40
  simp only [pointwise, reduce_outer, zero_add]
  simp only [show ¬(8192 = 1) by decide, show ¬(1024 = 1) by decide, dite_false, if_false, ↓reduceDIte,
    show ∀ (r : Fin 8192) (j : Fin 1024), m (c.tc.loc main_arg0) (ix2 r j) = rowOf (X m c) r.val j from fun r j => rowOf_apply (X m c) r j,
    show ∀ (r : Fin 8192) (j : Fin 1024), m (c.tc.loc main_arg2) (ix2 r j) = rowOf (DH m c) r.val j from fun r j => rowOf_apply (DH m c) r j]
  rfl

/-- The weight's gradient at an entry: the rows' parts. -/
theorem dw_apply (x g : FVec Ideal S8192x1024 .f32) (i : S1x1024.Idx) :
    (broadcastInDim S1x1024 ![1] bcast_S1024_S1x1024_1 (Host.reduceAdd (F := Ideal) (shapeCast _ (Host.reduceAdd (mulf (mulf (broadcastInDim S1x8192x1024 ![1, 2] bcast_S8192x1024_S1x8192x1024_1_2 x) (broadcastInDim S1x8192x1024 ![0, 1, 2] bcast_S1x8192x1_S1x8192x1024_0_1_2 (Host.rsqrt (addf (Host.divf (broadcastInDim S1x8192x1 ![0, 1] bcast_S1x8192_S1x8192x1_0_1 (Host.reduceAdd (mulf (broadcastInDim S1x8192x1024 ![1, 2] bcast_S8192x1024_S1x8192x1024_1_2 x) (broadcastInDim S1x8192x1024 ![1, 2] bcast_S8192x1024_S1x8192x1024_1_2 x)) (constant S_ .f32 0x00000000#32) reducesTo_S1x8192x1024_S1x8192_d2 h_S_)) (broadcastInDim S1x8192x1 ![] bcast_S_S1x8192x1 (constant S_ .f32 0x44800000#32))) (broadcastInDim S1x8192x1 ![] bcast_S_S1x8192x1 (constant S_ .f32 0x358637BD#32)))))) (broadcastInDim S1x8192x1024 ![1, 2] bcast_S8192x1024_S1x8192x1024_1_2 g)) (constant S_ .f32 0x00000000#32) reducesTo_S1x8192x1024_S1x1024_d1 h_S_) shapeCasts_S1x1024_S1x1x1024) (constant S_ .f32 0x00000000#32) reducesTo_S1x1x1024_S1024_d0_1 h_S_) i)
      = ∑ r ∈ Finset.range 8192, weightPart (rowOf x r) (rowOf g r) (i 1) := by
  simp only [pointwise, reduce_leading, zero_add]
  simp only [show ¬(8192 = 1) by decide, show ¬(1024 = 1) by decide, dite_false, if_false, ↓reduceDIte,
    show ∀ (r : Fin 8192) (j : Fin 1024), (x (ix2 r j) : EReal) = rowOf x r.val j from fun r j => rowOf_apply x r j,
    show ∀ (r : Fin 8192) (j : Fin 1024), (g (ix2 r j) : EReal) = rowOf g r.val j from fun r j => rowOf_apply g r j]
  refine Eq.trans ?_ (Finset.sum_range _).symm
  exact Finset.sum_congr rfl fun r _ => congrArg₂ (· * ·) (congrArg (· * _) (rowOf_apply x r (i 1))) (rowOf_apply g r (i 1))

end Cert.Reference9Ideal.Norm

end
-- ==== Proof.NormAlg9.lean ====
/-
  The gradient of the norm on a layer's result: the claim that the kernel and the reference leave equal arrays.
-/
module

public import proofs.«01_k».proof.Defs
public import proofs.«01_k».proof.Proof.Norm9
public import proofs.«01_k».proof.Proof.NormRef9

@[expose] public section

noncomputable section

namespace Cert.Proof

open Idealize.ShloMosaic Idealize.ShloMosaic.TcCoe Idealize.SL.Sem

theorem algebraic_9 : Cert.algebraic_Kernel9Ideal_Reference9Ideal := by
  intro m g m' g' _ hargs
  refine ⟨fun c => Cert.Kernel9Ideal.Norm.GX m c, fun c => Cert.Kernel9Ideal.Norm.GW m c, ?_, ?_⟩
  · refine (θ_run _ _ _).mono (fun r h c => ?_) (Cert.Kernel9Ideal.Value.run_blocks (F := Ideal) m g)
    exact ⟨(h c).1.trans (Cert.Kernel9Ideal.Norm.dx_out m c), (h c).2.1.trans (Cert.Kernel9Ideal.Norm.dw_out m c), (h c).2.2⟩
  · refine (θ_run _ _ _).mono (fun r h c => ?_) (Cert.Reference9Ideal.Value.run (F := Ideal) m' g')
    obtain ⟨a0, a1, a2⟩ := hargs c
    refine ⟨(h c).1.trans ?_, (h c).2.1.trans ?_, (h c).2.2⟩
    · funext i
      obtain ⟨q, j, rfl⟩ : ∃ (q : Fin 8192) (j : Fin 1024), i = (ix2 q j : Cert.Kernel9Ideal.S8192x1024.Idx) := ⟨i 0, i 1, by funext a; fin_cases a <;> rfl⟩
      refine (Cert.Reference9Ideal.Norm.dx_apply m' c q j).trans ?_
      unfold Cert.Reference9Ideal.Norm.X Cert.Reference9Ideal.Norm.W Cert.Reference9Ideal.Norm.DH
      rw [a0, a1, a2]
      rfl
    · rw [a0, a2]
      funext i
      exact Cert.Reference9Ideal.Norm.dw_apply _ _ i

end Cert.Proof

end
-- ==== Proof.Conv10.lean ====
/-
  The gradient of the convolution with respect to its input: what a grid point leaves, and the result array. A point
  holds 1024 rows of 512 columns and the next block's first 8 rows, of which it reads 3.
-/
module

public import proofs.«01_k».proof.Proof.ConvMath
public import proofs.«01_k».proof.Proof.Gen.Kernel10Ideal.Value
public import Idealize.ShloMosaic.Lib.StableHlo.RunRead
public import Idealize.ShloMosaic.Lib.VecWindow

@[expose] public section

noncomputable section

namespace Cert.Kernel10Ideal.Conv

open Cert.Kernel10Ideal Cert.Kernel10Ideal.Gen Idealize.ShloMosaic Idealize.ShloMosaic.TcCoe Idealize.SL.Sem
open Idealize.ShloMosaic.Pipeline (Dat)
open Cert.Conv
open Cert.Proof.Mm (at2 at2_of at2_ix)
open scoped BigOperators

/-- What lies past the block: the next block's first rows, and zero at the last block. -/
theorem past (b : ℕ) (hb : b < 8) (z a : EReal) :
    Scalar.select (Scalar.cmpi CmpIPredicate.eq (BitVec.ofNat 32 b) 7#32) z a = if b = 7 then z else a := by
  interval_cases b <;> rfl

section Point

variable (X : S8192x3072.Idx → EReal) (W : S4x3072.Idx → EReal) (b q : ℕ) (hb : b < 8) (hq : q < 6)
  (h : Vec Ideal S8x512 .f32) (x : Vec Ideal S1024x512 .f32) (w : Vec Ideal S4x512 .f32)
  (hh : b ≠ 7 → ∀ i : S8x512.Idx, h i = at2 X ((b + 1) * 1024 + (i 0).val) (q * 512 + (i 1).val))
  (hx : ∀ i : S1024x512.Idx, x i = at2 X (b * 1024 + (i 0).val) (q * 512 + (i 1).val))
  (hw : ∀ i : S4x512.Idx, w i = at2 W (i 0).val (q * 512 + (i 1).val))

include hb hh hx in
/-- The row `d` rows further on, from the block or from what lies past it. -/
theorem shifted (s d : ℕ) (hs : s + d = 1032) (hd : d ≤ 3) (r : Fin 1024) (j : Fin 512)
    (h8 : ∀ p : (r.val + 1032 - s) % 1032 < 1024 → False, (r.val + 1032 - s) % 1032 - 1024 < 8) :
    (if p : (r.val + 1032 - s) % 1032 < 1024 then x (ix2 ⟨(r.val + 1032 - s) % 1032, p⟩ j)
      else Scalar.select (Scalar.cmpi CmpIPredicate.eq (BitVec.ofNat 32 b) 7#32) (0 : EReal) (h (ix2 ⟨(r.val + 1032 - s) % 1032 - 1024, h8 p⟩ j)))
      = at2 X (b * 1024 + r.val + d) (q * 512 + j.val) := by
  have e : (r.val + 1032 - s) % 1032 = r.val + d := by have := r.isLt; omega
  split
  · rw [hx]
    exact congrArg (fun n => at2 X n (q * 512 + j.val)) ((congrArg (b * 1024 + ·) e).trans (Nat.add_assoc _ _ _).symm)
  · rename_i p
    rw [past b hb]
    split
    · rename_i hl
      unfold at2
      rw [dif_neg]
      omega
    · rename_i hl
      rw [hh hl]
      refine congrArg (fun n => at2 X n (q * 512 + j.val)) ?_
      show (b + 1) * 1024 + ((r.val + 1032 - s) % 1032 - 1024) = _
      omega

include hb hh hx hw in
/-- A point's entries. -/
theorem pay_apply (i : grid0.Coords) (hi : (i 0).val = b) (r : Fin 1024) (j : Fin 512) :
    (k0_pay1 (F := Ideal) i h x w (ix2 r j) : EReal) = back X W (b * 1024 + r.val) (q * 512 + j.val) := by
  unfold k0_pay1
  pointwise
  unfold back
  simp only [hi]
  refine congrArg₂ (· + ·) (congrArg₂ (· + ·) (congrArg₂ (· + ·) (congrArg₂ (· * ·) ?_ (hw _)) (congrArg₂ (· * ·) ?_ (hw _)))
    (congrArg₂ (· * ·) ?_ (hw _))) (congrArg₂ (· * ·) (hx _) (hw _))
  · exact shifted X b q hb h x hh hx 1029 3 rfl (by decide) r j _
  · exact shifted X b q hb h x hh hx 1030 2 rfl (by decide) r j _
  · exact shifted X b q hb h x hh hx 1031 1 rfl (by decide) r j _

end Point

theorem hz : (![0, 0] : Fin 2 → Nat) = fun _ => 0 := funext fun a => by fin_cases a <;> rfl

/-- What a point leaves in its block. -/
theorem block (c : Dev nD) (i : grid0.Coords) (a2 : Memref sig .tc .vmem S1024x512 .f32) (h2 : a2.IsWhole)
    (a3 : Memref sig .tc .vmem S8x512 .f32) (h3 : a3.IsWhole) (a4 : Memref sig .tc .vmem S4x512 .f32) (h4 : a4.IsWhole)
    (a6 : Memref sig .tc .vmem S1024x512 .bf16) (h6 : a6.IsWhole)
    (x : Vec Ideal S1024x512 .f32) (h : Vec Ideal S8x512 .f32) (w : Vec Ideal S4x512 .f32) :
    out0_A_3 (F := Ideal) c i a2 h2 a3 h3 a4 h4 a6 h6 x h w = k0_pay1 i h x w := by
  unfold out0_A_3
  rw [View.read_writes_eq_canon _ _ _ (cover0_A_3 c i a2 h2 a3 h3 a4 h4 a6 h6 x h w)]
  unfold kernelRun0_A
  dsimp only
  sl_unfold_words
  rw [View.canon_unit_zero hz]
  simp only [View.readAt_eq_ld, h2.read_unread, h3.read_unread, h4.read_unread, View.ld_unit_zero (S := S1024x512) hz,
    View.ld_unit_zero (S := S8x512) hz, View.ld_unit_zero (S := S4x512) hz]

variable (m : (ℓ : Loc nD τ sig) → Buf (Elt Ideal) ℓ) (c : Dev nD)

/-- The gradients that the convolution's result receives, the taps, and the array whose middle columns are written. -/
abbrev X : S8192x3072.Idx → EReal := m ((c : Thread nD τ).loc main_arg0)
abbrev W : S4x3072.Idx → EReal := m ((c : Thread nD τ).loc main_arg1)
abbrev P : S8192x7168.Idx → EReal := m ((c : Thread nD τ).loc main_arg2)

/-- The grid's block indices. -/
theorem index0 : ∀ t : Fin cfg0.N, win0_0.index t (0 : Fin 2) = t.val / 6 ∧ win0_0.index t (1 : Fin 2) = t.val % 6 :=
  (by decide +kernel : ∀ t : Fin grid0.N, _)
theorem index1 : ∀ t : Fin cfg0.N, win0_1.index t (0 : Fin 2) = min ((t.val / 6 + 1) * 128) 1023 ∧ win0_1.index t (1 : Fin 2) = t.val % 6 :=
  (by decide +kernel : ∀ t : Fin grid0.N, _)
theorem index2 : ∀ t : Fin cfg0.N, win0_2.index t (0 : Fin 2) = 0 ∧ win0_2.index t (1 : Fin 2) = t.val % 6 :=
  (by decide +kernel : ∀ t : Fin grid0.N, _)
theorem index3 : ∀ t : Fin cfg0.N, win0_3.index t (0 : Fin 2) = t.val / 6 ∧ win0_3.index t (1 : Fin 2) = 4 + t.val % 6 :=
  (by decide +kernel : ∀ t : Fin grid0.N, _)
theorem coord0 : ∀ t : Fin cfg0.N, (grid0.coords t (0 : Fin 2)).val = t.val / 6 :=
  (by decide +kernel : ∀ t : Fin grid0.N, _)

/-- The blocks at a point. -/
theorem in0 (t : Fin cfg0.N) (i : S1024x512.Idx) :
    (iblk (F := Ideal) m c 0 t : S1024x512.Idx → EReal) i = at2 (X m c) (t.val / 6 * 1024 + (i 0).val) (t.val % 6 * 512 + (i 1).val) := by
  obtain ⟨e0, e1⟩ := index0 t
  unfold iblk
  rw [View.read_apply]
  show V m c main_arg0 _ = _
  rw [V_main_arg0]
  refine at2_of _ _ _ _ ?_ ?_
  · show win0_0.index t (0 : Fin 2) * 1024 + 1 * (i 0).val = _
    rw [e0, Nat.one_mul]
  · show win0_0.index t (1 : Fin 2) * 512 + 1 * (i 1).val = _
    rw [e1, Nat.one_mul]

theorem in1 (t : Fin cfg0.N) (hl : t.val / 6 ≠ 7) (i : S8x512.Idx) :
    (iblk (F := Ideal) m c 1 t : S8x512.Idx → EReal) i = at2 (X m c) ((t.val / 6 + 1) * 1024 + (i 0).val) (t.val % 6 * 512 + (i 1).val) := by
  obtain ⟨e0, e1⟩ := index1 t
  have hN : t.val < 48 := t.isLt
  unfold iblk
  rw [View.read_apply]
  show V m c main_arg0 _ = _
  rw [V_main_arg0]
  refine at2_of _ _ _ _ ?_ ?_
  · show win0_1.index t (0 : Fin 2) * 8 + 1 * (i 0).val = _
    rw [e0, Nat.one_mul]; omega
  · show win0_1.index t (1 : Fin 2) * 512 + 1 * (i 1).val = _
    rw [e1, Nat.one_mul]

theorem in2 (t : Fin cfg0.N) (i : S4x512.Idx) :
    (iblk (F := Ideal) m c 2 t : S4x512.Idx → EReal) i = at2 (W m c) (i 0).val (t.val % 6 * 512 + (i 1).val) := by
  obtain ⟨e0, e1⟩ := index2 t
  unfold iblk
  rw [View.read_apply]
  show V m c main_arg1 _ = _
  rw [V_main_arg1]
  refine at2_of _ _ _ _ ?_ ?_
  · show win0_2.index t (0 : Fin 2) * 4 + 1 * (i 0).val = _
    rw [e0, Nat.one_mul, Nat.zero_mul, Nat.zero_add]
  · show win0_2.index t (1 : Fin 2) * 512 + 1 * (i 1).val = _
    rw [e1, Nat.one_mul]

theorem left (t : Fin cfg0.N) (r : Fin 1024) (j : Fin 512) :
    (outsAt0 (F := Ideal) m c t (ix2 r j) : EReal) = back (X m c) (W m c) (t.val / 6 * 1024 + r.val) (t.val % 6 * 512 + j.val) := by
  have hN : t.val < 48 := t.isLt
  unfold outsAt0
  rw [block]
  exact pay_apply (X m c) (W m c) (t.val / 6) (t.val % 6) (by omega) _ _ _ (in1 m c t) (in0 m c t) (in2 m c t) _ (coord0 t) r j

/-- The result array: the gradients in columns 2048 to 5120, the given array elsewhere. -/
def G : Buf (Elt Ideal) ((c : Thread nD τ).loc main_v0) := fun i : S8192x7168.Idx =>
  if 2048 ≤ (i 1).val ∧ (i 1).val < 5120 then back (X m c) (W m c) (i 0).val ((i 1).val - 2048) else P m c i

theorem flushed (t : Fin cfg0.N) :
    (dats (F := Ideal) m 0 c).flushed 3 t = ((cfg0.win 3).blk t).view.read (Elt Ideal) (G m c) := by
  obtain ⟨e0, e1⟩ := index3 t
  have hN : t.val < 48 := t.isLt
  rw [Value.flushed3]
  funext y
  obtain ⟨r, j, rfl⟩ : ∃ (r : Fin 1024) (j : Fin 512), y = (ix2 r j : S1024x512.Idx) := ⟨y 0, y 1, by funext a; fin_cases a <;> rfl⟩
  rw [View.read_apply]
  refine Eq.trans ?_ (cast_eq _ (G m c _)).symm
  have hr := r.isLt
  have hj := j.isLt
  refine (left m c t r j).trans ?_
  have a0 : win0_3.index t (0 : Fin 2) * 1024 + 1 * r.val = t.val / 6 * 1024 + r.val := by rw [e0, Nat.one_mul]
  have a1 : win0_3.index t (1 : Fin 2) * 512 + 1 * j.val = (4 + t.val % 6) * 512 + j.val := by rw [e1, Nat.one_mul]
  unfold G
  refine Eq.trans ?_ (if_pos (c := 2048 ≤ win0_3.index t (1 : Fin 2) * 512 + 1 * j.val ∧ win0_3.index t (1 : Fin 2) * 512 + 1 * j.val < 5120)
    (by rw [a1]; omega)).symm
  refine congrArg₂ (back (X m c) (W m c)) a0.symm ?_
  show _ = win0_3.index t (1 : Fin 2) * 512 + 1 * j.val - 2048
  rw [a1]; omega

/-- The columns outside the blocks are as the given array has them. -/
theorem host_array (i : S8192x7168.Idx) : (V m c main_v0 : S8192x7168.Idx → EReal) i = P m c i := by
  simp only [V, hostOps0]
  after_reads_simp
  rfl

theorem out : (dats (F := Ideal) m 0 c).arrAt 3 cfg0.N = G m c := by
  funext i
  have h0 : (i 0).val < 8192 := (i 0).isLt
  rw [(dats (F := Ideal) m 0 c).arrAt_eq_piecewise 3 (G m c) (fun t _ => flushed m c t) i]
  by_cases h : 2048 ≤ (i 1).val ∧ (i 1).val < 5120
  · refine if_pos ?_
    have hN : (i 0).val / 1024 * 6 + ((i 1).val - 2048) / 512 < cfg0.N := by rw [show cfg0.N = 48 from N_0]; omega
    refine ⟨⟨(i 0).val / 1024 * 6 + ((i 1).val - 2048) / 512, hN⟩, flush0_3 _, ?_⟩
    obtain ⟨e0, e1⟩ := index3 ⟨(i 0).val / 1024 * 6 + ((i 1).val - 2048) / 512, hN⟩
    show i ∈ ((View.whole main_v0).slice (win0_3.rect ⟨(i 0).val / 1024 * 6 + ((i 1).val - 2048) / 512, hN⟩)).set
    rw [View.set_slice_whole, Rect.mem_set_unit]
    intro a
    fin_cases a
    · show win0_3.index ⟨(i 0).val / 1024 * 6 + ((i 1).val - 2048) / 512, hN⟩ (0 : Fin 2) * 1024 ≤ (i 0).val
        ∧ (i 0).val < win0_3.index ⟨(i 0).val / 1024 * 6 + ((i 1).val - 2048) / 512, hN⟩ (0 : Fin 2) * 1024 + 1024
      rw [e0]; dsimp only; omega
    · show win0_3.index ⟨(i 0).val / 1024 * 6 + ((i 1).val - 2048) / 512, hN⟩ (1 : Fin 2) * 512 ≤ (i 1).val
        ∧ (i 1).val < win0_3.index ⟨(i 0).val / 1024 * 6 + ((i 1).val - 2048) / 512, hN⟩ (1 : Fin 2) * 512 + 512
      rw [e1]; dsimp only; omega
  · refine Eq.trans (if_neg ?_) ?_
    · rintro ⟨t, -, hi⟩
      obtain ⟨e0, e1⟩ := index3 t
      have hN : t.val < 48 := t.isLt
      change i ∈ ((View.whole main_v0).slice (win0_3.rect t)).set at hi
      rw [View.set_slice_whole, Rect.mem_set_unit] at hi
      have h1 : win0_3.index t (1 : Fin 2) * 512 ≤ (i 1).val ∧ (i 1).val < win0_3.index t (1 : Fin 2) * 512 + 512 := hi 1
      rw [e1] at h1
      omega
    · rw [A_eq]
      refine (host_array m c i).trans ?_
      unfold G
      exact (if_neg h).symm

end Cert.Kernel10Ideal.Conv

end
-- ==== Proof.ConvRef10.lean ====
/-
  The reference's gradient of the convolution with respect to its input, read at a place.
-/
module

public import proofs.«01_k».proof.Proof.ConvMath
public import proofs.«01_k».proof.Proof.Gen.Reference10Ideal.Run

@[expose] public section

noncomputable section

namespace Cert.Reference10Ideal.Conv

open Cert.Reference10Ideal Cert.Reference10Ideal.Gen Idealize.ShloMosaic Idealize.ShloMosaic.TcCoe Idealize.SL.Sem
open Cert.Conv
open Cert.Proof.Mm (at2 at2_of at2_ix)
open scoped BigOperators

/-- The gradients' four parts, each zero where its row is past the end. -/
theorem parts_sum (x : FVec Ideal S8192x3072 .f32) (w : FVec Ideal S4x3072 .f32) (r : Fin 8192) (j : Fin 3072) :
    (((x (ix2 r j) * w (ix2 3 j)
      + if h : 2 ≤ 3 + r.val ∧ 3 + r.val - 2 < 8192 then x (ix2 ⟨3 + r.val - 2, h.2⟩ j) * w (ix2 2 j) else 0)
      + if h : 1 ≤ 3 + r.val ∧ 3 + r.val - 1 < 8192 then x (ix2 ⟨3 + r.val - 1, h.2⟩ j) * w (ix2 1 j) else 0)
      + if h : 3 + r.val < 8192 then x (ix2 ⟨3 + r.val, h⟩ j) * w (ix2 0 j) else 0 : EReal) = back x w r.val j.val := by
  unfold back
  have e : ∀ (d : ℕ) (v : EReal), (if h : 3 + r.val - d < 8192 then x (ix2 ⟨3 + r.val - d, h⟩ j) * v else 0) = at2 x (3 + r.val - d) j.val * v :=
    fun d v => by rw [← at2_dite x (3 + r.val - d) j]; by_cases h : 3 + r.val - d < 8192 <;> simp only [h, dite_true, dite_false, zero_mul]
  have e2 := e 2 (w (ix2 2 j))
  have e1 := e 1 (w (ix2 1 j))
  have e0 := e 0 (w (ix2 0 j))
  simp only [show (2 ≤ 3 + r.val) = True from eq_true (by omega), show (1 ≤ 3 + r.val) = True from eq_true (by omega), true_and, Nat.sub_zero] at e0 e1 e2 ⊢
  refine (congrArg₂ (· + ·) (congrArg₂ (· + ·) (congrArg₂ (· + ·) rfl e2) e1) e0).trans ?_
  rw [show 3 + r.val - 2 = r.val + 1 by omega, show 3 + r.val - 1 = r.val + 2 by omega, Nat.add_comm 3,
    show w (ix2 0 j) = at2 w 0 j.val from at2_ix w 0 j, show w (ix2 1 j) = at2 w 1 j.val from at2_ix w 1 j,
    show w (ix2 2 j) = at2 w 2 j.val from at2_ix w 2 j, show w (ix2 3 j) = at2 w 3 j.val from at2_ix w 3 j,
    show x (ix2 r j) = at2 x r.val j.val from at2_ix x r j]
  generalize at2 x r.val j.val * at2 w 3 j.val = p3
  generalize at2 x (r.val + 1) j.val * at2 w 2 j.val = p2
  generalize at2 x (r.val + 2) j.val * at2 w 1 j.val = p1
  generalize at2 x (r.val + 3) j.val * at2 w 0 j.val = p0
  rw [add_comm (p3 + p2 + p1) p0, add_comm (p3 + p2) p1, add_comm p3 p2]
  simp only [add_assoc]

/-- The reference's result at an entry: the gradients in columns 2048 to 5120, the given array elsewhere. -/
theorem out_apply (x : FVec Ideal S8192x3072 .f32) (w : FVec Ideal S4x3072 .f32) (p : FVec Ideal S8192x7168 .bf16) (r : Fin 8192) (j : Fin 7168) :
    ((concatenate S8192x7168 1 [⟨S8192x2048, ((extractStridedSlice S8192x2048 ![0, 0] p slices_S8192x7168_S8192x2048_0_0) : (⟨S8192x2048, .bf16⟩ : BufTy).Contents (Elt Ideal))⟩, ⟨S8192x3072, ((truncf .bf16 (shapeCast _ (extractStridedSlice S1x8192x3072 ![0, 3, 0] (addf (addf (addf (pad S1x8195x3072 ![0, 3, 0] ![0, 0, 0] ![0, 0, 0] (mulf (broadcastInDim S1x8192x3072 ![1, 2] bcast_S8192x3072_S1x8192x3072_1_2 x) (broadcastInDim S1x8192x3072 ![0, 1, 2] bcast_S1x1x3072_S1x8192x3072_0_1_2 (broadcastInDim S1x1x3072 ![2] bcast_S3072_S1x1x3072_2 (shapeCast _ (extractStridedSlice S1x3072 ![3, 0] w slices_S4x3072_S1x3072_3_0) shapeCasts_S1x3072_S3072)))) (constant S_ .f32 0x00000000#32) pads_S1x8192x3072_S1x8195x3072_000_300_000 h_S_) (pad S1x8195x3072 ![0, 2, 0] ![0, 1, 0] ![0, 0, 0] (mulf (broadcastInDim S1x8192x3072 ![1, 2] bcast_S8192x3072_S1x8192x3072_1_2 x) (broadcastInDim S1x8192x3072 ![0, 1, 2] bcast_S1x1x3072_S1x8192x3072_0_1_2 (broadcastInDim S1x1x3072 ![2] bcast_S3072_S1x1x3072_2 (shapeCast _ (extractStridedSlice S1x3072 ![2, 0] w slices_S4x3072_S1x3072_2_0) shapeCasts_S1x3072_S3072)))) (constant S_ .f32 0x00000000#32) pads_S1x8192x3072_S1x8195x3072_000_210_000 h_S_)) (pad S1x8195x3072 ![0, 1, 0] ![0, 2, 0] ![0, 0, 0] (mulf (broadcastInDim S1x8192x3072 ![1, 2] bcast_S8192x3072_S1x8192x3072_1_2 x) (broadcastInDim S1x8192x3072 ![0, 1, 2] bcast_S1x1x3072_S1x8192x3072_0_1_2 (broadcastInDim S1x1x3072 ![2] bcast_S3072_S1x1x3072_2 (shapeCast _ (extractStridedSlice S1x3072 ![1, 0] w slices_S4x3072_S1x3072_1_0) shapeCasts_S1x3072_S3072)))) (constant S_ .f32 0x00000000#32) pads_S1x8192x3072_S1x8195x3072_000_120_000 h_S_)) (pad S1x8195x3072 ![0, 0, 0] ![0, 3, 0] ![0, 0, 0] (mulf (broadcastInDim S1x8192x3072 ![1, 2] bcast_S8192x3072_S1x8192x3072_1_2 x) (broadcastInDim S1x8192x3072 ![0, 1, 2] bcast_S1x1x3072_S1x8192x3072_0_1_2 (broadcastInDim S1x1x3072 ![2] bcast_S3072_S1x1x3072_2 (shapeCast _ (extractStridedSlice S1x3072 ![0, 0] w slices_S4x3072_S1x3072_0_0) shapeCasts_S1x3072_S3072)))) (constant S_ .f32 0x00000000#32) pads_S1x8192x3072_S1x8195x3072_000_030_000 h_S_)) slices_S1x8195x3072_S1x8192x3072_0_3_0) shapeCasts_S1x8192x3072_S8192x3072) bitsLt_bf16_f32) : (⟨S8192x3072, .bf16⟩ : BufTy).Contents (Elt Ideal))⟩, ⟨S8192x2048, ((extractStridedSlice S8192x2048 ![0, 5120] p slices_S8192x7168_S8192x2048_0_5120) : (⟨S8192x2048, .bf16⟩ : BufTy).Contents (Elt Ideal))⟩] concatenates_S8192x2048_S8192x3072_S8192x2048_S8192x7168_d1) (ix2 r j) : EReal)
      = if 2048 ≤ j.val ∧ j.val < 5120 then back x w r.val (j.val - 2048) else p (ix2 r j) := by
  pointwise
  by_cases h0 : j.val < 2048
  · exact (dif_pos h0).trans (if_neg (show ¬(2048 ≤ j.val ∧ j.val < 5120) by omega)).symm
  · refine (dif_neg h0).trans ?_
    by_cases h1 : j.val - 2048 < 3072
    · refine (dif_pos h1).trans (Eq.trans ?_ (if_pos (show 2048 ≤ j.val ∧ j.val < 5120 by omega)).symm)
      simp only [h1, and_true, dite_true]
      exact parts_sum x w r ⟨j.val - 2048, h1⟩
    · refine (dif_neg h1).trans (Eq.trans ?_ (if_neg (show ¬(2048 ≤ j.val ∧ j.val < 5120) by omega)).symm)
      refine congrArg (fun q => p (ix2 r q)) (Fin.ext ?_)
      show 5120 + (j.val - 2048 - 3072) = j.val
      omega

end Cert.Reference10Ideal.Conv

end
-- ==== Proof.ConvAlg10.lean ====
/-
  The gradient of the convolution with respect to its input: the claim that the kernel and the reference leave equal arrays.
-/
module

public import proofs.«01_k».proof.Defs
public import proofs.«01_k».proof.Proof.Conv10
public import proofs.«01_k».proof.Proof.ConvRef10

@[expose] public section

noncomputable section

namespace Cert.Proof

open Idealize.ShloMosaic Idealize.ShloMosaic.TcCoe Idealize.SL.Sem

theorem algebraic_10 : Cert.algebraic_Kernel10Ideal_Reference10Ideal := by
  intro m g m' g' _ hargs
  refine ⟨fun c => Cert.Kernel10Ideal.Conv.G m c, ?_, ?_⟩
  · refine (θ_run _ _ _).mono (fun r h c => ?_) (Cert.Kernel10Ideal.Value.run_blocks (F := Ideal) m g)
    exact ⟨(h c).1.trans (Cert.Kernel10Ideal.Conv.out m c), (h c).2⟩
  · refine (θ_run _ _ _).mono (fun r h c => ?_) (Cert.Reference10Ideal.Value.run (F := Ideal) m' g')
    obtain ⟨a0, a1, a2⟩ := hargs c
    refine ⟨(h c).1.trans ?_, (h c).2⟩
    rw [a0, a1, a2]
    funext i
    obtain ⟨q, j, rfl⟩ : ∃ (q : Fin 8192) (j : Fin 7168), i = (ix2 q j : Cert.Kernel10Ideal.S8192x7168.Idx) := ⟨i 0, i 1, by funext a; fin_cases a <;> rfl⟩
    exact Cert.Reference10Ideal.Conv.out_apply _ _ _ q j

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.ConvAlg11
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.ConvAlg12
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.NormAlg13
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.NormAlg14
public import Idealize.ShloMosaic.Adequacy
public import Idealize.ShloMosaic.Init
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.RetAlg
public import proofs.«01_k».proof.Proof.Alg2
public import proofs.«01_k».proof.Proof.Alg3
public import proofs.«01_k».proof.Proof.Alg4
public import proofs.«01_k».proof.Proof.Alg5
public import proofs.«01_k».proof.Proof.Alg6
public import proofs.«01_k».proof.Proof.Alg7
public import proofs.«01_k».proof.Proof.NormAlg8
public import proofs.«01_k».proof.Proof.NormAlg9
public import proofs.«01_k».proof.Proof.ConvAlg10

@[expose] public section

noncomputable section

namespace Cert.Proof

open Idealize.ShloMosaic Idealize.SL.Sem Cert.Kernel2

/-- The reference leaves its arguments as they were; it declares no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference leaves its arguments as they were; it declares no semaphore. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference leaves its arguments as they were; it declares no semaphore. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference leaves its arguments as they were; it declares no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference leaves its arguments as they were; it declares no semaphore. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference leaves its arguments as they were; it declares no semaphore. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem frame_reference9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference leaves its arguments as they were; it declares no semaphore. -/
theorem frame_reference11 : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The reference leaves its arguments as they were; it declares no semaphore. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference leaves its arguments as they were; it declares no semaphore. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The reference leaves its arguments as they were; it declares no semaphore. -/
theorem frame_reference14 : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, finite_facts,
  fun m ρ _ => Cert.Kernel.Gen.frame m ρ,
  fun m ρ _ => Cert.KernelIdeal.Gen.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  fun m ρ _ => Cert.Kernel11Ideal.Gen.frame m ρ,
  frame_reference11,
  fun m ρ _ => frame_reference11 m ρ trivial,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  trivial,
  algebraic,
  trivial,
  algebraic_2,
  trivial,
  algebraic_3,
  trivial,
  algebraic_4,
  trivial,
  algebraic_5,
  trivial,
  algebraic_6,
  trivial,
  algebraic_7,
  trivial,
  algebraic_8,
  trivial,
  algebraic_9,
  trivial,
  algebraic_10,
  trivial,
  algebraic_11,
  trivial,
  algebraic_12,
  trivial,
  algebraic_13,
  trivial,
  algebraic_14⟩

end Cert.Proof

end
